-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelIn1 (m : (ℓ : Loc Cert.KernelIn1.nD Cert.KernelIn1.τ Cert.KernelIn1.sig) → Buf (Elt Bits) ℓ) : Prop :=
  True

def Pre_KernelIn1Ideal (m : (ℓ : Loc Cert.KernelIn1Ideal.nD Cert.KernelIn1Ideal.τ Cert.KernelIn1Ideal.sig) → Buf (Elt Ideal) ℓ) : Prop :=
  True

def Pre_ReferenceIn1Ideal (m : (ℓ : Loc Cert.ReferenceIn1Ideal.nD Cert.ReferenceIn1Ideal.τ Cert.ReferenceIn1Ideal.sig) → Buf (Elt Ideal) ℓ) : Prop :=
  True

def Pre_KernelIn0 (m : (ℓ : Loc Cert.KernelIn0.nD Cert.KernelIn0.τ Cert.KernelIn0.sig) → Buf (Elt Bits) ℓ) : Prop :=
  True

def Pre_KernelIn0Ideal (m : (ℓ : Loc Cert.KernelIn0Ideal.nD Cert.KernelIn0Ideal.τ Cert.KernelIn0Ideal.sig) → Buf (Elt Ideal) ℓ) : Prop :=
  True

def Pre_ReferenceIn0Ideal (m : (ℓ : Loc Cert.ReferenceIn0Ideal.nD Cert.ReferenceIn0Ideal.τ Cert.ReferenceIn0Ideal.sig) → Buf (Elt Ideal) ℓ) : Prop :=
  True

def Pre_KernelOutS (m : (ℓ : Loc Cert.KernelOutS.nD Cert.KernelOutS.τ Cert.KernelOutS.sig) → Buf (Elt Bits) ℓ) : Prop :=
  True

def Pre_KernelOutSIdeal (m : (ℓ : Loc Cert.KernelOutSIdeal.nD Cert.KernelOutSIdeal.τ Cert.KernelOutSIdeal.sig) → Buf (Elt Ideal) ℓ) : Prop :=
  True

def Pre_ReferenceOutSIdeal (m : (ℓ : Loc Cert.ReferenceOutSIdeal.nD Cert.ReferenceOutSIdeal.τ Cert.ReferenceOutSIdeal.sig) → Buf (Elt Ideal) ℓ) : Prop :=
  True

def Pre_KernelTail (m : (ℓ : Loc Cert.KernelTail.nD Cert.KernelTail.τ Cert.KernelTail.sig) → Buf (Elt Bits) ℓ) : Prop :=
  True

def Pre_KernelTailIdeal (m : (ℓ : Loc Cert.KernelTailIdeal.nD Cert.KernelTailIdeal.τ Cert.KernelTailIdeal.sig) → Buf (Elt Ideal) ℓ) : Prop :=
  True

def Pre_ReferenceTailIdeal (m : (ℓ : Loc Cert.ReferenceTailIdeal.nD Cert.ReferenceTailIdeal.τ Cert.ReferenceTailIdeal.sig) → Buf (Elt Ideal) ℓ) : Prop :=
  True

def Pre_KernelCast0 (m : (ℓ : Loc Cert.KernelCast0.nD Cert.KernelCast0.τ Cert.KernelCast0.sig) → Buf (Elt Bits) ℓ) : Prop :=
  True

def Pre_KernelCast0Ideal (m : (ℓ : Loc Cert.KernelCast0Ideal.nD Cert.KernelCast0Ideal.τ Cert.KernelCast0Ideal.sig) → Buf (Elt Ideal) ℓ) : Prop :=
  True

def Pre_ReferenceCast0Ideal (m : (ℓ : Loc Cert.ReferenceCast0Ideal.nD Cert.ReferenceCast0Ideal.τ Cert.ReferenceCast0Ideal.sig) → Buf (Elt Ideal) ℓ) : Prop :=
  True

def Pre_KernelCast1 (m : (ℓ : Loc Cert.KernelCast1.nD Cert.KernelCast1.τ Cert.KernelCast1.sig) → Buf (Elt Bits) ℓ) : Prop :=
  True

def Pre_KernelCast1Ideal (m : (ℓ : Loc Cert.KernelCast1Ideal.nD Cert.KernelCast1Ideal.τ Cert.KernelCast1Ideal.sig) → Buf (Elt Ideal) ℓ) : Prop :=
  True

def Pre_ReferenceCast1Ideal (m : (ℓ : Loc Cert.ReferenceCast1Ideal.nD Cert.ReferenceCast1Ideal.τ Cert.ReferenceCast1Ideal.sig) → Buf (Elt Ideal) ℓ) : Prop :=
  True

def Pre_KernelStep (m : (ℓ : Loc Cert.KernelStep.nD Cert.KernelStep.τ Cert.KernelStep.sig) → Buf (Elt Bits) ℓ) : Prop :=
  True

def Pre_KernelStepIdeal (m : (ℓ : Loc Cert.KernelStepIdeal.nD Cert.KernelStepIdeal.τ Cert.KernelStepIdeal.sig) → Buf (Elt Ideal) ℓ) : Prop :=
  True

def Pre_KernelStepIdeal_finite_step [hPre_finite_step : Cert.Pre_finite_step.Facts] (m : (ℓ : Loc Cert.KernelStepIdeal.nD Cert.KernelStepIdeal.τ Cert.KernelStepIdeal.sig) → Buf (Elt Ideal) ℓ) : Prop :=
  ∀ c : Dev Cert.KernelStepIdeal.nD,
    (Cert.Pre_finite_step.fn (F := Ideal) (m ((c.tc : Thread Cert.KernelStepIdeal.nD Cert.KernelStepIdeal.τ).loc Cert.KernelStepIdeal.main_arg0)) (m ((c.tc : Thread Cert.KernelStepIdeal.nD Cert.KernelStepIdeal.τ).loc Cert.KernelStepIdeal.main_arg1)) (m ((c.tc : Thread Cert.KernelStepIdeal.nD Cert.KernelStepIdeal.τ).loc Cert.KernelStepIdeal.main_arg2)) (m ((c.tc : Thread Cert.KernelStepIdeal.nD Cert.KernelStepIdeal.τ).loc Cert.KernelStepIdeal.main_arg3))) = (fun _ => 1#1)

def Pre_ReferenceStepIdeal (m : (ℓ : Loc Cert.ReferenceStepIdeal.nD Cert.ReferenceStepIdeal.τ Cert.ReferenceStepIdeal.sig) → Buf (Elt Ideal) ℓ) : Prop :=
  True

def Pre_ReferenceStepIdeal_finite_step [hPre_finite_step : Cert.Pre_finite_step.Facts] (m : (ℓ : Loc Cert.ReferenceStepIdeal.nD Cert.ReferenceStepIdeal.τ Cert.ReferenceStepIdeal.sig) → Buf (Elt Ideal) ℓ) : Prop :=
  ∀ c : Dev Cert.ReferenceStepIdeal.nD,
    (Cert.Pre_finite_step.fn (F := Ideal) (m ((c.tc : Thread Cert.ReferenceStepIdeal.nD Cert.ReferenceStepIdeal.τ).loc Cert.ReferenceStepIdeal.main_arg0)) (m ((c.tc : Thread Cert.ReferenceStepIdeal.nD Cert.ReferenceStepIdeal.τ).loc Cert.ReferenceStepIdeal.main_arg1)) (m ((c.tc : Thread Cert.ReferenceStepIdeal.nD Cert.ReferenceStepIdeal.τ).loc Cert.ReferenceStepIdeal.main_arg2)) (m ((c.tc : Thread Cert.ReferenceStepIdeal.nD Cert.ReferenceStepIdeal.τ).loc Cert.ReferenceStepIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2)
      ∧ r.2.mem ((c.tc : Thread Cert.KernelOut.nD Cert.KernelOut.τ).loc Cert.KernelOut.main_arg3) = m ((c.tc : Thread Cert.KernelOut.nD Cert.KernelOut.τ).loc Cert.KernelOut.main_arg3)
      ∧ r.2.mem ((c.tc : Thread Cert.KernelOut.nD Cert.KernelOut.τ).loc Cert.KernelOut.main_arg4) = m ((c.tc : Thread Cert.KernelOut.nD Cert.KernelOut.τ).loc Cert.KernelOut.main_arg4))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
      ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
      ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2)
      ∧ r.2.mem ((c.tc : Thread Cert.ReferenceOutIdeal.nD Cert.ReferenceOutIdeal.τ).loc Cert.ReferenceOutIdeal.main_arg3) = m ((c.tc : Thread Cert.ReferenceOutIdeal.nD Cert.ReferenceOutIdeal.τ).loc Cert.ReferenceOutIdeal.main_arg3)
      ∧ r.2.mem ((c.tc : Thread Cert.ReferenceOutIdeal.nD Cert.ReferenceOutIdeal.τ).loc Cert.ReferenceOutIdeal.main_arg4) = m ((c.tc : Thread Cert.ReferenceOutIdeal.nD Cert.ReferenceOutIdeal.τ).loc Cert.ReferenceOutIdeal.main_arg4))
      ∧ r.2.sem = fun _ => 0)

def quiescent_KernelIn1 [hKernelIn1 : Cert.KernelIn1.Facts] : Prop :=
  ∀ (m : (ℓ : Loc Cert.KernelIn1.nD Cert.KernelIn1.τ Cert.KernelIn1.sig) → Buf (Elt Bits) ℓ) (g : Dev Cert.KernelIn1.nD → PrngReg), Pre_KernelIn1 m →
    θ_run (Cert.KernelIn1.defs (F := Bits)) (onTc (τ := Cert.KernelIn1.τ) (Cert.KernelIn1.main (F := Bits))) ⟨m, fun _ => 0, g⟩ (fun r => (∀ c : Dev Cert.KernelIn1.nD,
      r.2.mem ((c.tc : Thread Cert.KernelIn1.nD Cert.KernelIn1.τ).loc Cert.KernelIn1.main_arg0) = m ((c.tc : Thread Cert.KernelIn1.nD Cert.KernelIn1.τ).loc Cert.KernelIn1.main_arg0)
      ∧ r.2.mem ((c.tc : Thread Cert.KernelIn1.nD Cert.KernelIn1.τ).loc Cert.KernelIn1.main_arg1) = m ((c.tc : Thread Cert.KernelIn1.nD Cert.KernelIn1.τ).loc Cert.KernelIn1.main_arg1))
      ∧ r.2.sem = fun _ => 0)

def quiescent_KernelIn1Ideal [hKernelIn1Ideal : Cert.KernelIn1Ideal.Facts] : Prop :=
  ∀ (m : (ℓ : Loc Cert.KernelIn1Ideal.nD Cert.KernelIn1Ideal.τ Cert.KernelIn1Ideal.sig) → Buf (Elt Ideal) ℓ) (g : Dev Cert.KernelIn1Ideal.nD → PrngReg), Pre_KernelIn1Ideal m →
    θ_run (Cert.KernelIn1Ideal.defs (F := Ideal)) (onTc (τ := Cert.KernelIn1Ideal.τ) (Cert.KernelIn1Ideal.main (F := Ideal))) ⟨m, fun _ => 0, g⟩ (fun r => (∀ c : Dev Cert.KernelIn1Ideal.nD,
      r.2.mem ((c.tc : Thread Cert.KernelIn1Ideal.nD Cert.KernelIn1Ideal.τ).loc Cert.KernelIn1Ideal.main_arg0) = m ((c.tc : Thread Cert.KernelIn1Ideal.nD Cert.KernelIn1Ideal.τ).loc Cert.KernelIn1Ideal.main_arg0)
      ∧ r.2.mem ((c.tc : Thread Cert.KernelIn1Ideal.nD Cert.KernelIn1Ideal.τ).loc Cert.KernelIn1Ideal.main_arg1) = m ((c.tc : Thread Cert.KernelIn1Ideal.nD Cert.KernelIn1Ideal.τ).loc Cert.KernelIn1Ideal.main_arg1))
      ∧ r.2.sem = fun _ => 0)

def quiescent_ReferenceIn1Ideal [hReferenceIn1Ideal : Cert.ReferenceIn1Ideal.Facts] : Prop :=
  ∀ (m : (ℓ : Loc Cert.ReferenceIn1Ideal.nD Cert.ReferenceIn1Ideal.τ Cert.ReferenceIn1Ideal.sig) → Buf (Elt Ideal) ℓ) (g : Dev Cert.ReferenceIn1Ideal.nD → PrngReg), Pre_ReferenceIn1Ideal m →
    θ_run (Cert.ReferenceIn1Ideal.defs (F := Ideal)) (onTc (τ := Cert.ReferenceIn1Ideal.τ) (Cert.ReferenceIn1Ideal.main (F := Ideal))) ⟨m, fun _ => 0, g⟩ (fun r => (∀ c : Dev Cert.ReferenceIn1Ideal.nD,
      r.2.mem ((c.tc : Thread Cert.ReferenceIn1Ideal.nD Cert.ReferenceIn1Ideal.τ).loc Cert.ReferenceIn1Ideal.main_arg0) = m ((c.tc : Thread Cert.ReferenceIn1Ideal.nD Cert.ReferenceIn1Ideal.τ).loc Cert.ReferenceIn1Ideal.main_arg0)
      ∧ r.2.mem ((c.tc : Thread Cert.ReferenceIn1Ideal.nD Cert.ReferenceIn1Ideal.τ).loc Cert.ReferenceIn1Ideal.main_arg1) = m ((c.tc : Thread Cert.ReferenceIn1Ideal.nD Cert.ReferenceIn1Ideal.τ).loc Cert.ReferenceIn1Ideal.main_arg1))
      ∧ r.2.sem = fun _ => 0)

def quiescent_KernelIn0 [hKernelIn0 : Cert.KernelIn0.Facts] : Prop :=
  ∀ (m : (ℓ : Loc Cert.KernelIn0.nD Cert.KernelIn0.τ Cert.KernelIn0.sig) → Buf (Elt Bits) ℓ) (g : Dev Cert.KernelIn0.nD → PrngReg), Pre_KernelIn0 m →
    θ_run (Cert.KernelIn0.defs (F := Bits)) (onTc (τ := Cert.KernelIn0.τ) (Cert.KernelIn0.main (F := Bits))) ⟨m, fun _ => 0, g⟩ (fun r => (∀ c : Dev Cert.KernelIn0.nD,
      r.2.mem ((c.tc : Thread Cert.KernelIn0.nD Cert.KernelIn0.τ).loc Cert.KernelIn0.main_arg0) = m ((c.tc : Thread Cert.KernelIn0.nD Cert.KernelIn0.τ).loc Cert.KernelIn0.main_arg0)
      ∧ r.2.mem ((c.tc : Thread Cert.KernelIn0.nD Cert.KernelIn0.τ).loc Cert.KernelIn0.main_arg1) = m ((c.tc : Thread Cert.KernelIn0.nD Cert.KernelIn0.τ).loc Cert.KernelIn0.main_arg1)
      ∧ r.2.mem ((c.tc : Thread Cert.KernelIn0.nD Cert.KernelIn0.τ).loc Cert.KernelIn0.main_arg2) = m ((c.tc : Thread Cert.KernelIn0.nD Cert.KernelIn0.τ).loc Cert.KernelIn0.main_arg2)
      ∧ r.2.mem ((c.tc : Thread Cert.KernelIn0.nD Cert.KernelIn0.τ).loc Cert.KernelIn0.main_arg3) = m ((c.tc : Thread Cert.KernelIn0.nD Cert.KernelIn0.τ).loc Cert.KernelIn0.main_arg3))
      ∧ r.2.sem = fun _ => 0)

def quiescent_KernelIn0Ideal [hKernelIn0Ideal : Cert.KernelIn0Ideal.Facts] : Prop :=
  ∀ (m : (ℓ : Loc Cert.KernelIn0Ideal.nD Cert.KernelIn0Ideal.τ Cert.KernelIn0Ideal.sig) → Buf (Elt Ideal) ℓ) (g : Dev Cert.KernelIn0Ideal.nD → PrngReg), Pre_KernelIn0Ideal m →
    θ_run (Cert.KernelIn0Ideal.defs (F := Ideal)) (onTc (τ := Cert.KernelIn0Ideal.τ) (Cert.KernelIn0Ideal.main (F := Ideal))) ⟨m, fun _ => 0, g⟩ (fun r => (∀ c : Dev Cert.KernelIn0Ideal.nD,
      r.2.mem ((c.tc : Thread Cert.KernelIn0Ideal.nD Cert.KernelIn0Ideal.τ).loc Cert.KernelIn0Ideal.main_arg0) = m ((c.tc : Thread Cert.KernelIn0Ideal.nD Cert.KernelIn0Ideal.τ).loc Cert.KernelIn0Ideal.main_arg0)
      ∧ r.2.mem ((c.tc : Thread Cert.KernelIn0Ideal.nD Cert.KernelIn0Ideal.τ).loc Cert.KernelIn0Ideal.main_arg1) = m ((c.tc : Thread Cert.KernelIn0Ideal.nD Cert.KernelIn0Ideal.τ).loc Cert.KernelIn0Ideal.main_arg1)
      ∧ r.2.mem ((c.tc : Thread Cert.KernelIn0Ideal.nD Cert.KernelIn0Ideal.τ).loc Cert.KernelIn0Ideal.main_arg2) = m ((c.tc : Thread Cert.KernelIn0Ideal.nD Cert.KernelIn0Ideal.τ).loc Cert.KernelIn0Ideal.main_arg2)
      ∧ r.2.mem ((c.tc : Thread Cert.KernelIn0Ideal.nD Cert.KernelIn0Ideal.τ).loc Cert.KernelIn0Ideal.main_arg3) = m ((c.tc : Thread Cert.KernelIn0Ideal.nD Cert.KernelIn0Ideal.τ).loc Cert.KernelIn0Ideal.main_arg3))
      ∧ r.2.sem = fun _ => 0)

def quiescent_ReferenceIn0Ideal [hReferenceIn0Ideal : Cert.ReferenceIn0Ideal.Facts] : Prop :=
  ∀ (m : (ℓ : Loc Cert.ReferenceIn0Ideal.nD Cert.ReferenceIn0Ideal.τ Cert.ReferenceIn0Ideal.sig) → Buf (Elt Ideal) ℓ) (g : Dev Cert.ReferenceIn0Ideal.nD → PrngReg), Pre_ReferenceIn0Ideal m →
    θ_run (Cert.ReferenceIn0Ideal.defs (F := Ideal)) (onTc (τ := Cert.ReferenceIn0Ideal.τ) (Cert.ReferenceIn0Ideal.main (F := Ideal))) ⟨m, fun _ => 0, g⟩ (fun r => (∀ c : Dev Cert.ReferenceIn0Ideal.nD,
      r.2.mem ((c.tc : Thread Cert.ReferenceIn0Ideal.nD Cert.ReferenceIn0Ideal.τ).loc Cert.ReferenceIn0Ideal.main_arg0) = m ((c.tc : Thread Cert.ReferenceIn0Ideal.nD Cert.ReferenceIn0Ideal.τ).loc Cert.ReferenceIn0Ideal.main_arg0)
      ∧ r.2.mem ((c.tc : Thread Cert.ReferenceIn0Ideal.nD Cert.ReferenceIn0Ideal.τ).loc Cert.ReferenceIn0Ideal.main_arg1) = m ((c.tc : Thread Cert.ReferenceIn0Ideal.nD Cert.ReferenceIn0Ideal.τ).loc Cert.ReferenceIn0Ideal.main_arg1)
      ∧ r.2.mem ((c.tc : Thread Cert.ReferenceIn0Ideal.nD Cert.ReferenceIn0Ideal.τ).loc Cert.ReferenceIn0Ideal.main_arg2) = m ((c.tc : Thread Cert.ReferenceIn0Ideal.nD Cert.ReferenceIn0Ideal.τ).loc Cert.ReferenceIn0Ideal.main_arg2)
      ∧ r.2.mem ((c.tc : Thread Cert.ReferenceIn0Ideal.nD Cert.ReferenceIn0Ideal.τ).loc Cert.ReferenceIn0Ideal.main_arg3) = m ((c.tc : Thread Cert.ReferenceIn0Ideal.nD Cert.ReferenceIn0Ideal.τ).loc Cert.ReferenceIn0Ideal.main_arg3))
      ∧ r.2.sem = fun _ => 0)

def quiescent_KernelOutS [hKernelOutS : Cert.KernelOutS.Facts] : Prop :=
  ∀ (m : (ℓ : Loc Cert.KernelOutS.nD Cert.KernelOutS.τ Cert.KernelOutS.sig) → Buf (Elt Bits) ℓ) (g : Dev Cert.KernelOutS.nD → PrngReg), Pre_KernelOutS m →
    θ_run (Cert.KernelOutS.defs (F := Bits)) (onTc (τ := Cert.KernelOutS.τ) (Cert.KernelOutS.main (F := Bits))) ⟨m, fun _ => 0, g⟩ (fun r => (∀ c : Dev Cert.KernelOutS.nD,
      r.2.mem ((c.tc : Thread Cert.KernelOutS.nD Cert.KernelOutS.τ).loc Cert.KernelOutS.main_arg0) = m ((c.tc : Thread Cert.KernelOutS.nD Cert.KernelOutS.τ).loc Cert.KernelOutS.main_arg0)
      ∧ r.2.mem ((c.tc : Thread Cert.KernelOutS.nD Cert.KernelOutS.τ).loc Cert.KernelOutS.main_arg1) = m ((c.tc : Thread Cert.KernelOutS.nD Cert.KernelOutS.τ).loc Cert.KernelOutS.main_arg1)
      ∧ r.2.mem ((c.tc : Thread Cert.KernelOutS.nD Cert.KernelOutS.τ).loc Cert.KernelOutS.main_arg2) = m ((c.tc : Thread Cert.KernelOutS.nD Cert.KernelOutS.τ).loc Cert.KernelOutS.main_arg2)
      ∧ r.2.mem ((c.tc : Thread Cert.KernelOutS.nD Cert.KernelOutS.τ).loc Cert.KernelOutS.main_arg3) = m ((c.tc : Thread Cert.KernelOutS.nD Cert.KernelOutS.τ).loc Cert.KernelOutS.main_arg3)
      ∧ r.2.mem ((c.tc : Thread Cert.KernelOutS.nD Cert.KernelOutS.τ).loc Cert.KernelOutS.main_arg4) = m ((c.tc : Thread Cert.KernelOutS.nD Cert.KernelOutS.τ).loc Cert.KernelOutS.main_arg4))
      ∧ r.2.sem = fun _ => 0)

def quiescent_KernelOutSIdeal [hKernelOutSIdeal : Cert.KernelOutSIdeal.Facts] : Prop :=
  ∀ (m : (ℓ : Loc Cert.KernelOutSIdeal.nD Cert.KernelOutSIdeal.τ Cert.KernelOutSIdeal.sig) → Buf (Elt Ideal) ℓ) (g : Dev Cert.KernelOutSIdeal.nD → PrngReg), Pre_KernelOutSIdeal m →
    θ_run (Cert.KernelOutSIdeal.defs (F := Ideal)) (onTc (τ := Cert.KernelOutSIdeal.τ) (Cert.KernelOutSIdeal.main (F := Ideal))) ⟨m, fun _ => 0, g⟩ (fun r => (∀ c : Dev Cert.KernelOutSIdeal.nD,
      r.2.mem ((c.tc : Thread Cert.KernelOutSIdeal.nD Cert.KernelOutSIdeal.τ).loc Cert.KernelOutSIdeal.main_arg0) = m ((c.tc : Thread Cert.KernelOutSIdeal.nD Cert.KernelOutSIdeal.τ).loc Cert.KernelOutSIdeal.main_arg0)
      ∧ r.2.mem ((c.tc : Thread Cert.KernelOutSIdeal.nD Cert.KernelOutSIdeal.τ).loc Cert.KernelOutSIdeal.main_arg1) = m ((c.tc : Thread Cert.KernelOutSIdeal.nD Cert.KernelOutSIdeal.τ).loc Cert.KernelOutSIdeal.main_arg1)
      ∧ r.2.mem ((c.tc : Thread Cert.KernelOutSIdeal.nD Cert.KernelOutSIdeal.τ).loc Cert.KernelOutSIdeal.main_arg2) = m ((c.tc : Thread Cert.KernelOutSIdeal.nD Cert.KernelOutSIdeal.τ).loc Cert.KernelOutSIdeal.main_arg2)
      ∧ r.2.mem ((c.tc : Thread Cert.KernelOutSIdeal.nD Cert.KernelOutSIdeal.τ).loc Cert.KernelOutSIdeal.main_arg3) = m ((c.tc : Thread Cert.KernelOutSIdeal.nD Cert.KernelOutSIdeal.τ).loc Cert.KernelOutSIdeal.main_arg3)
      ∧ r.2.mem ((c.tc : Thread Cert.KernelOutSIdeal.nD Cert.KernelOutSIdeal.τ).loc Cert.KernelOutSIdeal.main_arg4) = m ((c.tc : Thread Cert.KernelOutSIdeal.nD Cert.KernelOutSIdeal.τ).loc Cert.KernelOutSIdeal.main_arg4))
      ∧ r.2.sem = fun _ => 0)

def quiescent_ReferenceOutSIdeal [hReferenceOutSIdeal : Cert.ReferenceOutSIdeal.Facts] : Prop :=
  ∀ (m : (ℓ : Loc Cert.ReferenceOutSIdeal.nD Cert.ReferenceOutSIdeal.τ Cert.ReferenceOutSIdeal.sig) → Buf (Elt Ideal) ℓ) (g : Dev Cert.ReferenceOutSIdeal.nD → PrngReg), Pre_ReferenceOutSIdeal m →
    θ_run (Cert.ReferenceOutSIdeal.defs (F := Ideal)) (onTc (τ := Cert.ReferenceOutSIdeal.τ) (Cert.ReferenceOutSIdeal.main (F := Ideal))) ⟨m, fun _ => 0, g⟩ (fun r => (∀ c : Dev Cert.ReferenceOutSIdeal.nD,
      r.2.mem ((c.tc : Thread Cert.ReferenceOutSIdeal.nD Cert.ReferenceOutSIdeal.τ).loc Cert.ReferenceOutSIdeal.main_arg0) = m ((c.tc : Thread Cert.ReferenceOutSIdeal.nD Cert.ReferenceOutSIdeal.τ).loc Cert.ReferenceOutSIdeal.main_arg0)
      ∧ r.2.mem ((c.tc : Thread Cert.ReferenceOutSIdeal.nD Cert.ReferenceOutSIdeal.τ).loc Cert.ReferenceOutSIdeal.main_arg1) = m ((c.tc : Thread Cert.ReferenceOutSIdeal.nD Cert.ReferenceOutSIdeal.τ).loc Cert.ReferenceOutSIdeal.main_arg1)
      ∧ r.2.mem ((c.tc : Thread Cert.ReferenceOutSIdeal.nD Cert.ReferenceOutSIdeal.τ).loc Cert.ReferenceOutSIdeal.main_arg2) = m ((c.tc : Thread Cert.ReferenceOutSIdeal.nD Cert.ReferenceOutSIdeal.τ).loc Cert.ReferenceOutSIdeal.main_arg2)
      ∧ r.2.mem ((c.tc : Thread Cert.ReferenceOutSIdeal.nD Cert.ReferenceOutSIdeal.τ).loc Cert.ReferenceOutSIdeal.main_arg3) = m ((c.tc : Thread Cert.ReferenceOutSIdeal.nD Cert.ReferenceOutSIdeal.τ).loc Cert.ReferenceOutSIdeal.main_arg3)
      ∧ r.2.mem ((c.tc : Thread Cert.ReferenceOutSIdeal.nD Cert.ReferenceOutSIdeal.τ).loc Cert.ReferenceOutSIdeal.main_arg4) = m ((c.tc : Thread Cert.ReferenceOutSIdeal.nD Cert.ReferenceOutSIdeal.τ).loc Cert.ReferenceOutSIdeal.main_arg4))
      ∧ r.2.sem = fun _ => 0)

def quiescent_KernelTail [hKernelTail : Cert.KernelTail.Facts] : Prop :=
  ∀ (m : (ℓ : Loc Cert.KernelTail.nD Cert.KernelTail.τ Cert.KernelTail.sig) → Buf (Elt Bits) ℓ) (g : Dev Cert.KernelTail.nD → PrngReg), Pre_KernelTail m →
    θ_run (Cert.KernelTail.defs (F := Bits)) (onTc (τ := Cert.KernelTail.τ) (Cert.KernelTail.main (F := Bits))) ⟨m, fun _ => 0, g⟩ (fun r => (∀ c : Dev Cert.KernelTail.nD,
      r.2.mem ((c.tc : Thread Cert.KernelTail.nD Cert.KernelTail.τ).loc Cert.KernelTail.main_arg0) = m ((c.tc : Thread Cert.KernelTail.nD Cert.KernelTail.τ).loc Cert.KernelTail.main_arg0)
      ∧ r.2.mem ((c.tc : Thread Cert.KernelTail.nD Cert.KernelTail.τ).loc Cert.KernelTail.main_arg1) = m ((c.tc : Thread Cert.KernelTail.nD Cert.KernelTail.τ).loc Cert.KernelTail.main_arg1)
      ∧ r.2.mem ((c.tc : Thread Cert.KernelTail.nD Cert.KernelTail.τ).loc Cert.KernelTail.main_arg2) = m ((c.tc : Thread Cert.KernelTail.nD Cert.KernelTail.τ).loc Cert.KernelTail.main_arg2)
      ∧ r.2.mem ((c.tc : Thread Cert.KernelTail.nD Cert.KernelTail.τ).loc Cert.KernelTail.main_arg3) = m ((c.tc : Thread Cert.KernelTail.nD Cert.KernelTail.τ).loc Cert.KernelTail.main_arg3)
      ∧ r.2.mem ((c.tc : Thread Cert.KernelTail.nD Cert.KernelTail.τ).loc Cert.KernelTail.main_arg4) = m ((c.tc : Thread Cert.KernelTail.nD Cert.KernelTail.τ).loc Cert.KernelTail.main_arg4)
      ∧ r.2.mem ((c.tc : Thread Cert.KernelTail.nD Cert.KernelTail.τ).loc Cert.KernelTail.main_arg5) = m ((c.tc : Thread Cert.KernelTail.nD Cert.KernelTail.τ).loc Cert.KernelTail.main_arg5)
      ∧ r.2.mem ((c.tc : Thread Cert.KernelTail.nD Cert.KernelTail.τ).loc Cert.KernelTail.main_arg6) = m ((c.tc : Thread Cert.KernelTail.nD Cert.KernelTail.τ).loc Cert.KernelTail.main_arg6))
      ∧ r.2.sem = fun _ => 0)

def quiescent_KernelTailIdeal [hKernelTailIdeal : Cert.KernelTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg), Pre_KernelTailIdeal m →
    θ_run (Cert.KernelTailIdeal.defs (F := Ideal)) (onTc (τ := Cert.KernelTailIdeal.τ) (Cert.KernelTailIdeal.main (F := Ideal))) ⟨m, fun _ => 0, g⟩ (fun r => (∀ c : Dev Cert.KernelTailIdeal.nD,
      r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
      ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
      ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
      ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
      ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
      ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
      ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6))
      ∧ r.2.sem = fun _ => 0)

def quiescent_ReferenceTailIdeal [hReferenceTailIdeal : Cert.ReferenceTailIdeal.Facts] : Prop :=
  ∀ (m : (ℓ : Loc Cert.ReferenceTailIdeal.nD Cert.ReferenceTailIdeal.τ Cert.ReferenceTailIdeal.sig) → Buf (Elt Ideal) ℓ) (g : Dev Cert.ReferenceTailIdeal.nD → PrngReg), Pre_ReferenceTailIdeal m →
    θ_run (Cert.ReferenceTailIdeal.defs (F := Ideal)) (onTc (τ := Cert.ReferenceTailIdeal.τ) (Cert.ReferenceTailIdeal.main (F := Ideal))) ⟨m, fun _ => 0, g⟩ (fun r => (∀ c : Dev Cert.ReferenceTailIdeal.nD,
      r.2.mem ((c.tc : Thread Cert.ReferenceTailIdeal.nD Cert.ReferenceTailIdeal.τ).loc Cert.ReferenceTailIdeal.main_arg0) = m ((c.tc : Thread Cert.ReferenceTailIdeal.nD Cert.ReferenceTailIdeal.τ).loc Cert.ReferenceTailIdeal.main_arg0)
      ∧ r.2.mem ((c.tc : Thread Cert.ReferenceTailIdeal.nD Cert.ReferenceTailIdeal.τ).loc Cert.ReferenceTailIdeal.main_arg1) = m ((c.tc : Thread Cert.ReferenceTailIdeal.nD Cert.ReferenceTailIdeal.τ).loc Cert.ReferenceTailIdeal.main_arg1)
      ∧ r.2.mem ((c.tc : Thread Cert.ReferenceTailIdeal.nD Cert.ReferenceTailIdeal.τ).loc Cert.ReferenceTailIdeal.main_arg2) = m ((c.tc : Thread Cert.ReferenceTailIdeal.nD Cert.ReferenceTailIdeal.τ).loc Cert.ReferenceTailIdeal.main_arg2)
      ∧ r.2.mem ((c.tc : Thread Cert.ReferenceTailIdeal.nD Cert.ReferenceTailIdeal.τ).loc Cert.ReferenceTailIdeal.main_arg3) = m ((c.tc : Thread Cert.ReferenceTailIdeal.nD Cert.ReferenceTailIdeal.τ).loc Cert.ReferenceTailIdeal.main_arg3)
      ∧ r.2.mem ((c.tc : Thread Cert.ReferenceTailIdeal.nD Cert.ReferenceTailIdeal.τ).loc Cert.ReferenceTailIdeal.main_arg4) = m ((c.tc : Thread Cert.ReferenceTailIdeal.nD Cert.ReferenceTailIdeal.τ).loc Cert.ReferenceTailIdeal.main_arg4)
      ∧ r.2.mem ((c.tc : Thread Cert.ReferenceTailIdeal.nD Cert.ReferenceTailIdeal.τ).loc Cert.ReferenceTailIdeal.main_arg5) = m ((c.tc : Thread Cert.ReferenceTailIdeal.nD Cert.ReferenceTailIdeal.τ).loc Cert.ReferenceTailIdeal.main_arg5)
      ∧ r.2.mem ((c.tc : Thread Cert.ReferenceTailIdeal.nD Cert.ReferenceTailIdeal.τ).loc Cert.ReferenceTailIdeal.main_arg6) = m ((c.tc : Thread Cert.ReferenceTailIdeal.nD Cert.ReferenceTailIdeal.τ).loc Cert.ReferenceTailIdeal.main_arg6))
      ∧ r.2.sem = fun _ => 0)

def quiescent_KernelCast0 [hKernelCast0 : Cert.KernelCast0.Facts] : Prop :=
  ∀ (m : (ℓ : Loc Cert.KernelCast0.nD Cert.KernelCast0.τ Cert.KernelCast0.sig) → Buf (Elt Bits) ℓ) (g : Dev Cert.KernelCast0.nD → PrngReg), Pre_KernelCast0 m →
    θ_run (Cert.KernelCast0.defs (F := Bits)) (onTc (τ := Cert.KernelCast0.τ) (Cert.KernelCast0.main (F := Bits))) ⟨m, fun _ => 0, g⟩ (fun r => (∀ c : Dev Cert.KernelCast0.nD,
      r.2.mem ((c.tc : Thread Cert.KernelCast0.nD Cert.KernelCast0.τ).loc Cert.KernelCast0.main_arg0) = m ((c.tc : Thread Cert.KernelCast0.nD Cert.KernelCast0.τ).loc Cert.KernelCast0.main_arg0)
      ∧ r.2.mem ((c.tc : Thread Cert.KernelCast0.nD Cert.KernelCast0.τ).loc Cert.KernelCast0.main_arg1) = m ((c.tc : Thread Cert.KernelCast0.nD Cert.KernelCast0.τ).loc Cert.KernelCast0.main_arg1)
      ∧ r.2.mem ((c.tc : Thread Cert.KernelCast0.nD Cert.KernelCast0.τ).loc Cert.KernelCast0.main_arg2) = m ((c.tc : Thread Cert.KernelCast0.nD Cert.KernelCast0.τ).loc Cert.KernelCast0.main_arg2))
      ∧ r.2.sem = fun _ => 0)

def quiescent_KernelCast0Ideal [hKernelCast0Ideal : Cert.KernelCast0Ideal.Facts] : Prop :=
  ∀ (m : (ℓ : Loc Cert.KernelCast0Ideal.nD Cert.KernelCast0Ideal.τ Cert.KernelCast0Ideal.sig) → Buf (Elt Ideal) ℓ) (g : Dev Cert.KernelCast0Ideal.nD → PrngReg), Pre_KernelCast0Ideal m →
    θ_run (Cert.KernelCast0Ideal.defs (F := Ideal)) (onTc (τ := Cert.KernelCast0Ideal.τ) (Cert.KernelCast0Ideal.main (F := Ideal))) ⟨m, fun _ => 0, g⟩ (fun r => (∀ c : Dev Cert.KernelCast0Ideal.nD,
      r.2.mem ((c.tc : Thread Cert.KernelCast0Ideal.nD Cert.KernelCast0Ideal.τ).loc Cert.KernelCast0Ideal.main_arg0) = m ((c.tc : Thread Cert.KernelCast0Ideal.nD Cert.KernelCast0Ideal.τ).loc Cert.KernelCast0Ideal.main_arg0)
      ∧ r.2.mem ((c.tc : Thread Cert.KernelCast0Ideal.nD Cert.KernelCast0Ideal.τ).loc Cert.KernelCast0Ideal.main_arg1) = m ((c.tc : Thread Cert.KernelCast0Ideal.nD Cert.KernelCast0Ideal.τ).loc Cert.KernelCast0Ideal.main_arg1)
      ∧ r.2.mem ((c.tc : Thread Cert.KernelCast0Ideal.nD Cert.KernelCast0Ideal.τ).loc Cert.KernelCast0Ideal.main_arg2) = m ((c.tc : Thread Cert.KernelCast0Ideal.nD Cert.KernelCast0Ideal.τ).loc Cert.KernelCast0Ideal.main_arg2))
      ∧ r.2.sem = fun _ => 0)

def quiescent_ReferenceCast0Ideal [hReferenceCast0Ideal : Cert.ReferenceCast0Ideal.Facts] : Prop :=
  ∀ (m : (ℓ : Loc Cert.ReferenceCast0Ideal.nD Cert.ReferenceCast0Ideal.τ Cert.ReferenceCast0Ideal.sig) → Buf (Elt Ideal) ℓ) (g : Dev Cert.ReferenceCast0Ideal.nD → PrngReg), Pre_ReferenceCast0Ideal m →
    θ_run (Cert.ReferenceCast0Ideal.defs (F := Ideal)) (onTc (τ := Cert.ReferenceCast0Ideal.τ) (Cert.ReferenceCast0Ideal.main (F := Ideal))) ⟨m, fun _ => 0, g⟩ (fun r => (∀ c : Dev Cert.ReferenceCast0Ideal.nD,
      r.2.mem ((c.tc : Thread Cert.ReferenceCast0Ideal.nD Cert.ReferenceCast0Ideal.τ).loc Cert.ReferenceCast0Ideal.main_arg0) = m ((c.tc : Thread Cert.ReferenceCast0Ideal.nD Cert.ReferenceCast0Ideal.τ).loc Cert.ReferenceCast0Ideal.main_arg0)
      ∧ r.2.mem ((c.tc : Thread Cert.ReferenceCast0Ideal.nD Cert.ReferenceCast0Ideal.τ).loc Cert.ReferenceCast0Ideal.main_arg1) = m ((c.tc : Thread Cert.ReferenceCast0Ideal.nD Cert.ReferenceCast0Ideal.τ).loc Cert.ReferenceCast0Ideal.main_arg1)
      ∧ r.2.mem ((c.tc : Thread Cert.ReferenceCast0Ideal.nD Cert.ReferenceCast0Ideal.τ).loc Cert.ReferenceCast0Ideal.main_arg2) = m ((c.tc : Thread Cert.ReferenceCast0Ideal.nD Cert.ReferenceCast0Ideal.τ).loc Cert.ReferenceCast0Ideal.main_arg2))
      ∧ r.2.sem = fun _ => 0)

def quiescent_KernelCast1 [hKernelCast1 : Cert.KernelCast1.Facts] : Prop :=
  ∀ (m : (ℓ : Loc Cert.KernelCast1.nD Cert.KernelCast1.τ Cert.KernelCast1.sig) → Buf (Elt Bits) ℓ) (g : Dev Cert.KernelCast1.nD → PrngReg), Pre_KernelCast1 m →
    θ_run (Cert.KernelCast1.defs (F := Bits)) (onTc (τ := Cert.KernelCast1.τ) (Cert.KernelCast1.main (F := Bits))) ⟨m, fun _ => 0, g⟩ (fun r => (∀ c : Dev Cert.KernelCast1.nD,
      r.2.mem ((c.tc : Thread Cert.KernelCast1.nD Cert.KernelCast1.τ).loc Cert.KernelCast1.main_arg0) = m ((c.tc : Thread Cert.KernelCast1.nD Cert.KernelCast1.τ).loc Cert.KernelCast1.main_arg0)
      ∧ r.2.mem ((c.tc : Thread Cert.KernelCast1.nD Cert.KernelCast1.τ).loc Cert.KernelCast1.main_arg1) = m ((c.tc : Thread Cert.KernelCast1.nD Cert.KernelCast1.τ).loc Cert.KernelCast1.main_arg1))
      ∧ r.2.sem = fun _ => 0)

def quiescent_KernelCast1Ideal [hKernelCast1Ideal : Cert.KernelCast1Ideal.Facts] : Prop :=
  ∀ (m : (ℓ : Loc Cert.KernelCast1Ideal.nD Cert.KernelCast1Ideal.τ Cert.KernelCast1Ideal.sig) → Buf (Elt Ideal) ℓ) (g : Dev Cert.KernelCast1Ideal.nD → PrngReg), Pre_KernelCast1Ideal m →
    θ_run (Cert.KernelCast1Ideal.defs (F := Ideal)) (onTc (τ := Cert.KernelCast1Ideal.τ) (Cert.KernelCast1Ideal.main (F := Ideal))) ⟨m, fun _ => 0, g⟩ (fun r => (∀ c : Dev Cert.KernelCast1Ideal.nD,
      r.2.mem ((c.tc : Thread Cert.KernelCast1Ideal.nD Cert.KernelCast1Ideal.τ).loc Cert.KernelCast1Ideal.main_arg0) = m ((c.tc : Thread Cert.KernelCast1Ideal.nD Cert.KernelCast1Ideal.τ).loc Cert.KernelCast1Ideal.main_arg0)
      ∧ r.2.mem ((c.tc : Thread Cert.KernelCast1Ideal.nD Cert.KernelCast1Ideal.τ).loc Cert.KernelCast1Ideal.main_arg1) = m ((c.tc : Thread Cert.KernelCast1Ideal.nD Cert.KernelCast1Ideal.τ).loc Cert.KernelCast1Ideal.main_arg1))
      ∧ r.2.sem = fun _ => 0)

def quiescent_ReferenceCast1Ideal [hReferenceCast1Ideal : Cert.ReferenceCast1Ideal.Facts] : Prop :=
  ∀ (m : (ℓ : Loc Cert.ReferenceCast1Ideal.nD Cert.ReferenceCast1Ideal.τ Cert.ReferenceCast1Ideal.sig) → Buf (Elt Ideal) ℓ) (g : Dev Cert.ReferenceCast1Ideal.nD → PrngReg), Pre_ReferenceCast1Ideal m →
    θ_run (Cert.ReferenceCast1Ideal.defs (F := Ideal)) (onTc (τ := Cert.ReferenceCast1Ideal.τ) (Cert.ReferenceCast1Ideal.main (F := Ideal))) ⟨m, fun _ => 0, g⟩ (fun r => (∀ c : Dev Cert.ReferenceCast1Ideal.nD,
      r.2.mem ((c.tc : Thread Cert.ReferenceCast1Ideal.nD Cert.ReferenceCast1Ideal.τ).loc Cert.ReferenceCast1Ideal.main_arg0) = m ((c.tc : Thread Cert.ReferenceCast1Ideal.nD Cert.ReferenceCast1Ideal.τ).loc Cert.ReferenceCast1Ideal.main_arg0)
      ∧ r.2.mem ((c.tc : Thread Cert.ReferenceCast1Ideal.nD Cert.ReferenceCast1Ideal.τ).loc Cert.ReferenceCast1Ideal.main_arg1) = m ((c.tc : Thread Cert.ReferenceCast1Ideal.nD Cert.ReferenceCast1Ideal.τ).loc Cert.ReferenceCast1Ideal.main_arg1))
      ∧ r.2.sem = fun _ => 0)

def quiescent_KernelStep [hKernelStep : Cert.KernelStep.Facts] : Prop :=
  ∀ (m : (ℓ : Loc Cert.KernelStep.nD Cert.KernelStep.τ Cert.KernelStep.sig) → Buf (Elt Bits) ℓ) (g : Dev Cert.KernelStep.nD → PrngReg), Pre_KernelStep m →
    θ_run (Cert.KernelStep.defs (F := Bits)) (onTc (τ := Cert.KernelStep.τ) (Cert.KernelStep.main (F := Bits))) ⟨m, fun _ => 0, g⟩ (fun r => (∀ c : Dev Cert.KernelStep.nD,
      r.2.mem ((c.tc : Thread Cert.KernelStep.nD Cert.KernelStep.τ).loc Cert.KernelStep.main_arg0) = m ((c.tc : Thread Cert.KernelStep.nD Cert.KernelStep.τ).loc Cert.KernelStep.main_arg0)
      ∧ r.2.mem ((c.tc : Thread Cert.KernelStep.nD Cert.KernelStep.τ).loc Cert.KernelStep.main_arg1) = m ((c.tc : Thread Cert.KernelStep.nD Cert.KernelStep.τ).loc Cert.KernelStep.main_arg1)
      ∧ r.2.mem ((c.tc : Thread Cert.KernelStep.nD Cert.KernelStep.τ).loc Cert.KernelStep.main_arg2) = m ((c.tc : Thread Cert.KernelStep.nD Cert.KernelStep.τ).loc Cert.KernelStep.main_arg2)
      ∧ r.2.mem ((c.tc : Thread Cert.KernelStep.nD Cert.KernelStep.τ).loc Cert.KernelStep.main_arg3) = m ((c.tc : Thread Cert.KernelStep.nD Cert.KernelStep.τ).loc Cert.KernelStep.main_arg3))
      ∧ r.2.sem = fun _ => 0)

def quiescent_KernelStepIdeal [hKernelStepIdeal : Cert.KernelStepIdeal.Facts] : Prop :=
  ∀ (m : (ℓ : Loc Cert.KernelStepIdeal.nD Cert.KernelStepIdeal.τ Cert.KernelStepIdeal.sig) → Buf (Elt Ideal) ℓ) (g : Dev Cert.KernelStepIdeal.nD → PrngReg), Pre_KernelStepIdeal m →
    θ_run (Cert.KernelStepIdeal.defs (F := Ideal)) (onTc (τ := Cert.KernelStepIdeal.τ) (Cert.KernelStepIdeal.main (F := Ideal))) ⟨m, fun _ => 0, g⟩ (fun r => (∀ c : Dev Cert.KernelStepIdeal.nD,
      r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
      ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1)
      ∧ r.2.mem ((c.tc : Thread Cert.KernelStepIdeal.nD Cert.KernelStepIdeal.τ).loc Cert.KernelStepIdeal.main_arg2) = m ((c.tc : Thread Cert.KernelStepIdeal.nD Cert.KernelStepIdeal.τ).loc Cert.KernelStepIdeal.main_arg2)
      ∧ r.2.mem ((c.tc : Thread Cert.KernelStepIdeal.nD Cert.KernelStepIdeal.τ).loc Cert.KernelStepIdeal.main_arg3) = m ((c.tc : Thread Cert.KernelStepIdeal.nD Cert.KernelStepIdeal.τ).loc Cert.KernelStepIdeal.main_arg3))
      ∧ r.2.sem = fun _ => 0)

def quiescent_KernelStepIdeal_pre_finite_step [hKernelStepIdeal : Cert.KernelStepIdeal.Facts] [hPre_finite_step : Cert.Pre_finite_step.Facts] : Prop :=
  ∀ (m : (ℓ : Loc Cert.KernelStepIdeal.nD Cert.KernelStepIdeal.τ Cert.KernelStepIdeal.sig) → Buf (Elt Ideal) ℓ) (g : Dev Cert.KernelStepIdeal.nD → PrngReg), Pre_KernelStepIdeal_finite_step m →
    θ_run (Cert.KernelStepIdeal.defs (F := Ideal)) (onTc (τ := Cert.KernelStepIdeal.τ) (Cert.KernelStepIdeal.main (F := Ideal))) ⟨m, fun _ => 0, g⟩ (fun r => (∀ c : Dev Cert.KernelStepIdeal.nD,
      r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
      ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1)
      ∧ r.2.mem ((c.tc : Thread Cert.KernelStepIdeal.nD Cert.KernelStepIdeal.τ).loc Cert.KernelStepIdeal.main_arg2) = m ((c.tc : Thread Cert.KernelStepIdeal.nD Cert.KernelStepIdeal.τ).loc Cert.KernelStepIdeal.main_arg2)
      ∧ r.2.mem ((c.tc : Thread Cert.KernelStepIdeal.nD Cert.KernelStepIdeal.τ).loc Cert.KernelStepIdeal.main_arg3) = m ((c.tc : Thread Cert.KernelStepIdeal.nD Cert.KernelStepIdeal.τ).loc Cert.KernelStepIdeal.main_arg3))
      ∧ r.2.sem = fun _ => 0)

def quiescent_ReferenceStepIdeal [hReferenceStepIdeal : Cert.ReferenceStepIdeal.Facts] : Prop :=
  ∀ (m : (ℓ : Loc Cert.ReferenceStepIdeal.nD Cert.ReferenceStepIdeal.τ Cert.ReferenceStepIdeal.sig) → Buf (Elt Ideal) ℓ) (g : Dev Cert.ReferenceStepIdeal.nD → PrngReg), Pre_ReferenceStepIdeal m →
    θ_run (Cert.ReferenceStepIdeal.defs (F := Ideal)) (onTc (τ := Cert.ReferenceStepIdeal.τ) (Cert.ReferenceStepIdeal.main (F := Ideal))) ⟨m, fun _ => 0, g⟩ (fun r => (∀ c : Dev Cert.ReferenceStepIdeal.nD,
      r.2.mem ((c.tc : Thread Cert.ReferenceStepIdeal.nD Cert.ReferenceStepIdeal.τ).loc Cert.ReferenceStepIdeal.main_arg0) = m ((c.tc : Thread Cert.ReferenceStepIdeal.nD Cert.ReferenceStepIdeal.τ).loc Cert.ReferenceStepIdeal.main_arg0)
      ∧ r.2.mem ((c.tc : Thread Cert.ReferenceStepIdeal.nD Cert.ReferenceStepIdeal.τ).loc Cert.ReferenceStepIdeal.main_arg1) = m ((c.tc : Thread Cert.ReferenceStepIdeal.nD Cert.ReferenceStepIdeal.τ).loc Cert.ReferenceStepIdeal.main_arg1)
      ∧ r.2.mem ((c.tc : Thread Cert.ReferenceStepIdeal.nD Cert.ReferenceStepIdeal.τ).loc Cert.ReferenceStepIdeal.main_arg2) = m ((c.tc : Thread Cert.ReferenceStepIdeal.nD Cert.ReferenceStepIdeal.τ).loc Cert.ReferenceStepIdeal.main_arg2)
      ∧ r.2.mem ((c.tc : Thread Cert.ReferenceStepIdeal.nD Cert.ReferenceStepIdeal.τ).loc Cert.ReferenceStepIdeal.main_arg3) = m ((c.tc : Thread Cert.ReferenceStepIdeal.nD Cert.ReferenceStepIdeal.τ).loc Cert.ReferenceStepIdeal.main_arg3))
      ∧ r.2.sem = fun _ => 0)

def quiescent_ReferenceStepIdeal_pre_finite_step [hReferenceStepIdeal : Cert.ReferenceStepIdeal.Facts] [hPre_finite_step : Cert.Pre_finite_step.Facts] : Prop :=
  ∀ (m : (ℓ : Loc Cert.ReferenceStepIdeal.nD Cert.ReferenceStepIdeal.τ Cert.ReferenceStepIdeal.sig) → Buf (Elt Ideal) ℓ) (g : Dev Cert.ReferenceStepIdeal.nD → PrngReg), Pre_ReferenceStepIdeal_finite_step m →
    θ_run (Cert.ReferenceStepIdeal.defs (F := Ideal)) (onTc (τ := Cert.ReferenceStepIdeal.τ) (Cert.ReferenceStepIdeal.main (F := Ideal))) ⟨m, fun _ => 0, g⟩ (fun r => (∀ c : Dev Cert.ReferenceStepIdeal.nD,
      r.2.mem ((c.tc : Thread Cert.ReferenceStepIdeal.nD Cert.ReferenceStepIdeal.τ).loc Cert.ReferenceStepIdeal.main_arg0) = m ((c.tc : Thread Cert.ReferenceStepIdeal.nD Cert.ReferenceStepIdeal.τ).loc Cert.ReferenceStepIdeal.main_arg0)
      ∧ r.2.mem ((c.tc : Thread Cert.ReferenceStepIdeal.nD Cert.ReferenceStepIdeal.τ).loc Cert.ReferenceStepIdeal.main_arg1) = m ((c.tc : Thread Cert.ReferenceStepIdeal.nD Cert.ReferenceStepIdeal.τ).loc Cert.ReferenceStepIdeal.main_arg1)
      ∧ r.2.mem ((c.tc : Thread Cert.ReferenceStepIdeal.nD Cert.ReferenceStepIdeal.τ).loc Cert.ReferenceStepIdeal.main_arg2) = m ((c.tc : Thread Cert.ReferenceStepIdeal.nD Cert.ReferenceStepIdeal.τ).loc Cert.ReferenceStepIdeal.main_arg2)
      ∧ r.2.mem ((c.tc : Thread Cert.ReferenceStepIdeal.nD Cert.ReferenceStepIdeal.τ).loc Cert.ReferenceStepIdeal.main_arg3) = m ((c.tc : Thread Cert.ReferenceStepIdeal.nD Cert.ReferenceStepIdeal.τ).loc Cert.ReferenceStepIdeal.main_arg3))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)
      ∧ m' ((c.tc : Thread Cert.ReferenceOutIdeal.nD Cert.ReferenceOutIdeal.τ).loc Cert.ReferenceOutIdeal.main_arg3) = m ((c.tc : Thread Cert.KernelOutIdeal.nD Cert.KernelOutIdeal.τ).loc Cert.KernelOutIdeal.main_arg3)
      ∧ m' ((c.tc : Thread Cert.ReferenceOutIdeal.nD Cert.ReferenceOutIdeal.τ).loc Cert.ReferenceOutIdeal.main_arg4) = m ((c.tc : Thread Cert.KernelOutIdeal.nD Cert.KernelOutIdeal.τ).loc Cert.KernelOutIdeal.main_arg4)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2)
          ∧ r.2.mem ((c.tc : Thread Cert.KernelOutIdeal.nD Cert.KernelOutIdeal.τ).loc Cert.KernelOutIdeal.main_arg3) = m ((c.tc : Thread Cert.KernelOutIdeal.nD Cert.KernelOutIdeal.τ).loc Cert.KernelOutIdeal.main_arg3)
          ∧ r.2.mem ((c.tc : Thread Cert.KernelOutIdeal.nD Cert.KernelOutIdeal.τ).loc Cert.KernelOutIdeal.main_arg4) = m ((c.tc : Thread Cert.KernelOutIdeal.nD Cert.KernelOutIdeal.τ).loc Cert.KernelOutIdeal.main_arg4))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v27) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2)
          ∧ r.2.mem ((c.tc : Thread Cert.ReferenceOutIdeal.nD Cert.ReferenceOutIdeal.τ).loc Cert.ReferenceOutIdeal.main_arg3) = m' ((c.tc : Thread Cert.ReferenceOutIdeal.nD Cert.ReferenceOutIdeal.τ).loc Cert.ReferenceOutIdeal.main_arg3)
          ∧ r.2.mem ((c.tc : Thread Cert.ReferenceOutIdeal.nD Cert.ReferenceOutIdeal.τ).loc Cert.ReferenceOutIdeal.main_arg4) = m' ((c.tc : Thread Cert.ReferenceOutIdeal.nD Cert.ReferenceOutIdeal.τ).loc Cert.ReferenceOutIdeal.main_arg4))

def preserves_KernelIn1_KernelIn1Ideal : Prop :=
  True

def algebraic_KernelIn1Ideal_ReferenceIn1Ideal [hKernelIn1Ideal : Cert.KernelIn1Ideal.Facts] [hReferenceIn1Ideal : Cert.ReferenceIn1Ideal.Facts] : Prop :=
  ∀ (m : (ℓ : Loc Cert.KernelIn1Ideal.nD Cert.KernelIn1Ideal.τ Cert.KernelIn1Ideal.sig) → Buf (Elt Ideal) ℓ) (g : Dev Cert.KernelIn1Ideal.nD → PrngReg)
    (m' : (ℓ : Loc Cert.ReferenceIn1Ideal.nD Cert.ReferenceIn1Ideal.τ Cert.ReferenceIn1Ideal.sig) → Buf (Elt Ideal) ℓ) (g' : Dev Cert.ReferenceIn1Ideal.nD → PrngReg), Pre_KernelIn1Ideal m →
    (∀ c : Dev Cert.KernelIn1Ideal.nD,
      m' ((c.tc : Thread Cert.ReferenceIn1Ideal.nD Cert.ReferenceIn1Ideal.τ).loc Cert.ReferenceIn1Ideal.main_arg0) = m ((c.tc : Thread Cert.KernelIn1Ideal.nD Cert.KernelIn1Ideal.τ).loc Cert.KernelIn1Ideal.main_arg0)
      ∧ m' ((c.tc : Thread Cert.ReferenceIn1Ideal.nD Cert.ReferenceIn1Ideal.τ).loc Cert.ReferenceIn1Ideal.main_arg1) = m ((c.tc : Thread Cert.KernelIn1Ideal.nD Cert.KernelIn1Ideal.τ).loc Cert.KernelIn1Ideal.main_arg1)) →
    ∃ (v0 : (c : Dev Cert.KernelIn1Ideal.nD) → Buf (Elt Ideal) ((c.tc : Thread Cert.KernelIn1Ideal.nD Cert.KernelIn1Ideal.τ).loc Cert.KernelIn1Ideal.main_v0)) (v1 : (c : Dev Cert.KernelIn1Ideal.nD) → Buf (Elt Ideal) ((c.tc : Thread Cert.KernelIn1Ideal.nD Cert.KernelIn1Ideal.τ).loc Cert.KernelIn1Ideal.main_v4)) (v2 : (c : Dev Cert.KernelIn1Ideal.nD) → Buf (Elt Ideal) ((c.tc : Thread Cert.KernelIn1Ideal.nD Cert.KernelIn1Ideal.τ).loc Cert.KernelIn1Ideal.main_v6)),
      θ_run (Cert.KernelIn1Ideal.defs (F := Ideal)) (onTc (τ := Cert.KernelIn1Ideal.τ) (Cert.KernelIn1Ideal.main (F := Ideal))) ⟨m, fun _ => 0, g⟩ (fun r => ∀ c : Dev Cert.KernelIn1Ideal.nD,
          r.2.mem ((c.tc : Thread Cert.KernelIn1Ideal.nD Cert.KernelIn1Ideal.τ).loc Cert.KernelIn1Ideal.main_v0) = v0 c
          ∧ r.2.mem ((c.tc : Thread Cert.KernelIn1Ideal.nD Cert.KernelIn1Ideal.τ).loc Cert.KernelIn1Ideal.main_v4) = v1 c
          ∧ r.2.mem ((c.tc : Thread Cert.KernelIn1Ideal.nD Cert.KernelIn1Ideal.τ).loc Cert.KernelIn1Ideal.main_v6) = v2 c
          ∧ r.2.mem ((c.tc : Thread Cert.KernelIn1Ideal.nD Cert.KernelIn1Ideal.τ).loc Cert.KernelIn1Ideal.main_arg0) = m ((c.tc : Thread Cert.KernelIn1Ideal.nD Cert.KernelIn1Ideal.τ).loc Cert.KernelIn1Ideal.main_arg0)
          ∧ r.2.mem ((c.tc : Thread Cert.KernelIn1Ideal.nD Cert.KernelIn1Ideal.τ).loc Cert.KernelIn1Ideal.main_arg1) = m ((c.tc : Thread Cert.KernelIn1Ideal.nD Cert.KernelIn1Ideal.τ).loc Cert.KernelIn1Ideal.main_arg1))
      ∧ θ_run (Cert.ReferenceIn1Ideal.defs (F := Ideal)) (onTc (τ := Cert.ReferenceIn1Ideal.τ) (Cert.ReferenceIn1Ideal.main (F := Ideal))) ⟨m', fun _ => 0, g'⟩ (fun r => ∀ c : Dev Cert.ReferenceIn1Ideal.nD,
          r.2.mem ((c.tc : Thread Cert.ReferenceIn1Ideal.nD Cert.ReferenceIn1Ideal.τ).loc Cert.ReferenceIn1Ideal.main_v1) = v0 c
          ∧ r.2.mem ((c.tc : Thread Cert.ReferenceIn1Ideal.nD Cert.ReferenceIn1Ideal.τ).loc Cert.ReferenceIn1Ideal.main_v8) = v1 c
          ∧ r.2.mem ((c.tc : Thread Cert.ReferenceIn1Ideal.nD Cert.ReferenceIn1Ideal.τ).loc Cert.ReferenceIn1Ideal.main_v10) = v2 c
          ∧ r.2.mem ((c.tc : Thread Cert.ReferenceIn1Ideal.nD Cert.ReferenceIn1Ideal.τ).loc Cert.ReferenceIn1Ideal.main_arg0) = m' ((c.tc : Thread Cert.ReferenceIn1Ideal.nD Cert.ReferenceIn1Ideal.τ).loc Cert.ReferenceIn1Ideal.main_arg0)
          ∧ r.2.mem ((c.tc : Thread Cert.ReferenceIn1Ideal.nD Cert.ReferenceIn1Ideal.τ).loc Cert.ReferenceIn1Ideal.main_arg1) = m' ((c.tc : Thread Cert.ReferenceIn1Ideal.nD Cert.ReferenceIn1Ideal.τ).loc Cert.ReferenceIn1Ideal.main_arg1))

def preserves_KernelIn0_KernelIn0Ideal : Prop :=
  True

def algebraic_KernelIn0Ideal_ReferenceIn0Ideal [hKernelIn0Ideal : Cert.KernelIn0Ideal.Facts] [hReferenceIn0Ideal : Cert.ReferenceIn0Ideal.Facts] : Prop :=
  ∀ (m : (ℓ : Loc Cert.KernelIn0Ideal.nD Cert.KernelIn0Ideal.τ Cert.KernelIn0Ideal.sig) → Buf (Elt Ideal) ℓ) (g : Dev Cert.KernelIn0Ideal.nD → PrngReg)
    (m' : (ℓ : Loc Cert.ReferenceIn0Ideal.nD Cert.ReferenceIn0Ideal.τ Cert.ReferenceIn0Ideal.sig) → Buf (Elt Ideal) ℓ) (g' : Dev Cert.ReferenceIn0Ideal.nD → PrngReg), Pre_KernelIn0Ideal m →
    (∀ c : Dev Cert.KernelIn0Ideal.nD,
      m' ((c.tc : Thread Cert.ReferenceIn0Ideal.nD Cert.ReferenceIn0Ideal.τ).loc Cert.ReferenceIn0Ideal.main_arg0) = m ((c.tc : Thread Cert.KernelIn0Ideal.nD Cert.KernelIn0Ideal.τ).loc Cert.KernelIn0Ideal.main_arg0)
      ∧ m' ((c.tc : Thread Cert.ReferenceIn0Ideal.nD Cert.ReferenceIn0Ideal.τ).loc Cert.ReferenceIn0Ideal.main_arg1) = m ((c.tc : Thread Cert.KernelIn0Ideal.nD Cert.KernelIn0Ideal.τ).loc Cert.KernelIn0Ideal.main_arg1)
      ∧ m' ((c.tc : Thread Cert.ReferenceIn0Ideal.nD Cert.ReferenceIn0Ideal.τ).loc Cert.ReferenceIn0Ideal.main_arg2) = m ((c.tc : Thread Cert.KernelIn0Ideal.nD Cert.KernelIn0Ideal.τ).loc Cert.KernelIn0Ideal.main_arg2)
      ∧ m' ((c.tc : Thread Cert.ReferenceIn0Ideal.nD Cert.ReferenceIn0Ideal.τ).loc Cert.ReferenceIn0Ideal.main_arg3) = m ((c.tc : Thread Cert.KernelIn0Ideal.nD Cert.KernelIn0Ideal.τ).loc Cert.KernelIn0Ideal.main_arg3)) →
    ∃ (v0 : (c : Dev Cert.KernelIn0Ideal.nD) → Buf (Elt Ideal) ((c.tc : Thread Cert.KernelIn0Ideal.nD Cert.KernelIn0Ideal.τ).loc Cert.KernelIn0Ideal.main_v0_0)) (v1 : (c : Dev Cert.KernelIn0Ideal.nD) → Buf (Elt Ideal) ((c.tc : Thread Cert.KernelIn0Ideal.nD Cert.KernelIn0Ideal.τ).loc Cert.KernelIn0Ideal.main_v0_1)) (v2 : (c : Dev Cert.KernelIn0Ideal.nD) → Buf (Elt Ideal) ((c.tc : Thread Cert.KernelIn0Ideal.nD Cert.KernelIn0Ideal.τ).loc Cert.KernelIn0Ideal.main_v0_2)),
      θ_run (Cert.KernelIn0Ideal.defs (F := Ideal)) (onTc (τ := Cert.KernelIn0Ideal.τ) (Cert.KernelIn0Ideal.main (F := Ideal))) ⟨m, fun _ => 0, g⟩ (fun r => ∀ c : Dev Cert.KernelIn0Ideal.nD,
          r.2.mem ((c.tc : Thread Cert.KernelIn0Ideal.nD Cert.KernelIn0Ideal.τ).loc Cert.KernelIn0Ideal.main_v0_0) = v0 c
          ∧ r.2.mem ((c.tc : Thread Cert.KernelIn0Ideal.nD Cert.KernelIn0Ideal.τ).loc Cert.KernelIn0Ideal.main_v0_1) = v1 c
          ∧ r.2.mem ((c.tc : Thread Cert.KernelIn0Ideal.nD Cert.KernelIn0Ideal.τ).loc Cert.KernelIn0Ideal.main_v0_2) = v2 c
          ∧ r.2.mem ((c.tc : Thread Cert.KernelIn0Ideal.nD Cert.KernelIn0Ideal.τ).loc Cert.KernelIn0Ideal.main_arg0) = m ((c.tc : Thread Cert.KernelIn0Ideal.nD Cert.KernelIn0Ideal.τ).loc Cert.KernelIn0Ideal.main_arg0)
          ∧ r.2.mem ((c.tc : Thread Cert.KernelIn0Ideal.nD Cert.KernelIn0Ideal.τ).loc Cert.KernelIn0Ideal.main_arg1) = m ((c.tc : Thread Cert.KernelIn0Ideal.nD Cert.KernelIn0Ideal.τ).loc Cert.KernelIn0Ideal.main_arg1)
          ∧ r.2.mem ((c.tc : Thread Cert.KernelIn0Ideal.nD Cert.KernelIn0Ideal.τ).loc Cert.KernelIn0Ideal.main_arg2) = m ((c.tc : Thread Cert.KernelIn0Ideal.nD Cert.KernelIn0Ideal.τ).loc Cert.KernelIn0Ideal.main_arg2)
          ∧ r.2.mem ((c.tc : Thread Cert.KernelIn0Ideal.nD Cert.KernelIn0Ideal.τ).loc Cert.KernelIn0Ideal.main_arg3) = m ((c.tc : Thread Cert.KernelIn0Ideal.nD Cert.KernelIn0Ideal.τ).loc Cert.KernelIn0Ideal.main_arg3))
      ∧ θ_run (Cert.ReferenceIn0Ideal.defs (F := Ideal)) (onTc (τ := Cert.ReferenceIn0Ideal.τ) (Cert.ReferenceIn0Ideal.main (F := Ideal))) ⟨m', fun _ => 0, g'⟩ (fun r => ∀ c : Dev Cert.ReferenceIn0Ideal.nD,
          r.2.mem ((c.tc : Thread Cert.ReferenceIn0Ideal.nD Cert.ReferenceIn0Ideal.τ).loc Cert.ReferenceIn0Ideal.main_v1) = v0 c
          ∧ r.2.mem ((c.tc : Thread Cert.ReferenceIn0Ideal.nD Cert.ReferenceIn0Ideal.τ).loc Cert.ReferenceIn0Ideal.main_v2) = v1 c
          ∧ r.2.mem ((c.tc : Thread Cert.ReferenceIn0Ideal.nD Cert.ReferenceIn0Ideal.τ).loc Cert.ReferenceIn0Ideal.main_v3) = v2 c
          ∧ r.2.mem ((c.tc : Thread Cert.ReferenceIn0Ideal.nD Cert.ReferenceIn0Ideal.τ).loc Cert.ReferenceIn0Ideal.main_arg0) = m' ((c.tc : Thread Cert.ReferenceIn0Ideal.nD Cert.ReferenceIn0Ideal.τ).loc Cert.ReferenceIn0Ideal.main_arg0)
          ∧ r.2.mem ((c.tc : Thread Cert.ReferenceIn0Ideal.nD Cert.ReferenceIn0Ideal.τ).loc Cert.ReferenceIn0Ideal.main_arg1) = m' ((c.tc : Thread Cert.ReferenceIn0Ideal.nD Cert.ReferenceIn0Ideal.τ).loc Cert.ReferenceIn0Ideal.main_arg1)
          ∧ r.2.mem ((c.tc : Thread Cert.ReferenceIn0Ideal.nD Cert.ReferenceIn0Ideal.τ).loc Cert.ReferenceIn0Ideal.main_arg2) = m' ((c.tc : Thread Cert.ReferenceIn0Ideal.nD Cert.ReferenceIn0Ideal.τ).loc Cert.ReferenceIn0Ideal.main_arg2)
          ∧ r.2.mem ((c.tc : Thread Cert.ReferenceIn0Ideal.nD Cert.ReferenceIn0Ideal.τ).loc Cert.ReferenceIn0Ideal.main_arg3) = m' ((c.tc : Thread Cert.ReferenceIn0Ideal.nD Cert.ReferenceIn0Ideal.τ).loc Cert.ReferenceIn0Ideal.main_arg3))

def preserves_KernelOutS_KernelOutSIdeal : Prop :=
  True

def algebraic_KernelOutSIdeal_ReferenceOutSIdeal [hKernelOutSIdeal : Cert.KernelOutSIdeal.Facts] [hReferenceOutSIdeal : Cert.ReferenceOutSIdeal.Facts] : Prop :=
  ∀ (m : (ℓ : Loc Cert.KernelOutSIdeal.nD Cert.KernelOutSIdeal.τ Cert.KernelOutSIdeal.sig) → Buf (Elt Ideal) ℓ) (g : Dev Cert.KernelOutSIdeal.nD → PrngReg)
    (m' : (ℓ : Loc Cert.ReferenceOutSIdeal.nD Cert.ReferenceOutSIdeal.τ Cert.ReferenceOutSIdeal.sig) → Buf (Elt Ideal) ℓ) (g' : Dev Cert.ReferenceOutSIdeal.nD → PrngReg), Pre_KernelOutSIdeal m →
    (∀ c : Dev Cert.KernelOutSIdeal.nD,
      m' ((c.tc : Thread Cert.ReferenceOutSIdeal.nD Cert.ReferenceOutSIdeal.τ).loc Cert.ReferenceOutSIdeal.main_arg0) = m ((c.tc : Thread Cert.KernelOutSIdeal.nD Cert.KernelOutSIdeal.τ).loc Cert.KernelOutSIdeal.main_arg0)
      ∧ m' ((c.tc : Thread Cert.ReferenceOutSIdeal.nD Cert.ReferenceOutSIdeal.τ).loc Cert.ReferenceOutSIdeal.main_arg1) = m ((c.tc : Thread Cert.KernelOutSIdeal.nD Cert.KernelOutSIdeal.τ).loc Cert.KernelOutSIdeal.main_arg1)
      ∧ m' ((c.tc : Thread Cert.ReferenceOutSIdeal.nD Cert.ReferenceOutSIdeal.τ).loc Cert.ReferenceOutSIdeal.main_arg2) = m ((c.tc : Thread Cert.KernelOutSIdeal.nD Cert.KernelOutSIdeal.τ).loc Cert.KernelOutSIdeal.main_arg2)
      ∧ m' ((c.tc : Thread Cert.ReferenceOutSIdeal.nD Cert.ReferenceOutSIdeal.τ).loc Cert.ReferenceOutSIdeal.main_arg3) = m ((c.tc : Thread Cert.KernelOutSIdeal.nD Cert.KernelOutSIdeal.τ).loc Cert.KernelOutSIdeal.main_arg3)
      ∧ m' ((c.tc : Thread Cert.ReferenceOutSIdeal.nD Cert.ReferenceOutSIdeal.τ).loc Cert.ReferenceOutSIdeal.main_arg4) = m ((c.tc : Thread Cert.KernelOutSIdeal.nD Cert.KernelOutSIdeal.τ).loc Cert.KernelOutSIdeal.main_arg4)) →
    ∃ (v0 : (c : Dev Cert.KernelOutSIdeal.nD) → Buf (Elt Ideal) ((c.tc : Thread Cert.KernelOutSIdeal.nD Cert.KernelOutSIdeal.τ).loc Cert.KernelOutSIdeal.main_v0)),
      θ_run (Cert.KernelOutSIdeal.defs (F := Ideal)) (onTc (τ := Cert.KernelOutSIdeal.τ) (Cert.KernelOutSIdeal.main (F := Ideal))) ⟨m, fun _ => 0, g⟩ (fun r => ∀ c : Dev Cert.KernelOutSIdeal.nD,
          r.2.mem ((c.tc : Thread Cert.KernelOutSIdeal.nD Cert.KernelOutSIdeal.τ).loc Cert.KernelOutSIdeal.main_v0) = v0 c
          ∧ r.2.mem ((c.tc : Thread Cert.KernelOutSIdeal.nD Cert.KernelOutSIdeal.τ).loc Cert.KernelOutSIdeal.main_arg0) = m ((c.tc : Thread Cert.KernelOutSIdeal.nD Cert.KernelOutSIdeal.τ).loc Cert.KernelOutSIdeal.main_arg0)
          ∧ r.2.mem ((c.tc : Thread Cert.KernelOutSIdeal.nD Cert.KernelOutSIdeal.τ).loc Cert.KernelOutSIdeal.main_arg1) = m ((c.tc : Thread Cert.KernelOutSIdeal.nD Cert.KernelOutSIdeal.τ).loc Cert.KernelOutSIdeal.main_arg1)
          ∧ r.2.mem ((c.tc : Thread Cert.KernelOutSIdeal.nD Cert.KernelOutSIdeal.τ).loc Cert.KernelOutSIdeal.main_arg2) = m ((c.tc : Thread Cert.KernelOutSIdeal.nD Cert.KernelOutSIdeal.τ).loc Cert.KernelOutSIdeal.main_arg2)
          ∧ r.2.mem ((c.tc : Thread Cert.KernelOutSIdeal.nD Cert.KernelOutSIdeal.τ).loc Cert.KernelOutSIdeal.main_arg3) = m ((c.tc : Thread Cert.KernelOutSIdeal.nD Cert.KernelOutSIdeal.τ).loc Cert.KernelOutSIdeal.main_arg3)
          ∧ r.2.mem ((c.tc : Thread Cert.KernelOutSIdeal.nD Cert.KernelOutSIdeal.τ).loc Cert.KernelOutSIdeal.main_arg4) = m ((c.tc : Thread Cert.KernelOutSIdeal.nD Cert.KernelOutSIdeal.τ).loc Cert.KernelOutSIdeal.main_arg4))
      ∧ θ_run (Cert.ReferenceOutSIdeal.defs (F := Ideal)) (onTc (τ := Cert.ReferenceOutSIdeal.τ) (Cert.ReferenceOutSIdeal.main (F := Ideal))) ⟨m', fun _ => 0, g'⟩ (fun r => ∀ c : Dev Cert.ReferenceOutSIdeal.nD,
          r.2.mem ((c.tc : Thread Cert.ReferenceOutSIdeal.nD Cert.ReferenceOutSIdeal.τ).loc Cert.ReferenceOutSIdeal.main_v27) = v0 c
          ∧ r.2.mem ((c.tc : Thread Cert.ReferenceOutSIdeal.nD Cert.ReferenceOutSIdeal.τ).loc Cert.ReferenceOutSIdeal.main_arg0) = m' ((c.tc : Thread Cert.ReferenceOutSIdeal.nD Cert.ReferenceOutSIdeal.τ).loc Cert.ReferenceOutSIdeal.main_arg0)
          ∧ r.2.mem ((c.tc : Thread Cert.ReferenceOutSIdeal.nD Cert.ReferenceOutSIdeal.τ).loc Cert.ReferenceOutSIdeal.main_arg1) = m' ((c.tc : Thread Cert.ReferenceOutSIdeal.nD Cert.ReferenceOutSIdeal.τ).loc Cert.ReferenceOutSIdeal.main_arg1)
          ∧ r.2.mem ((c.tc : Thread Cert.ReferenceOutSIdeal.nD Cert.ReferenceOutSIdeal.τ).loc Cert.ReferenceOutSIdeal.main_arg2) = m' ((c.tc : Thread Cert.ReferenceOutSIdeal.nD Cert.ReferenceOutSIdeal.τ).loc Cert.ReferenceOutSIdeal.main_arg2)
          ∧ r.2.mem ((c.tc : Thread Cert.ReferenceOutSIdeal.nD Cert.ReferenceOutSIdeal.τ).loc Cert.ReferenceOutSIdeal.main_arg3) = m' ((c.tc : Thread Cert.ReferenceOutSIdeal.nD Cert.ReferenceOutSIdeal.τ).loc Cert.ReferenceOutSIdeal.main_arg3)
          ∧ r.2.mem ((c.tc : Thread Cert.ReferenceOutSIdeal.nD Cert.ReferenceOutSIdeal.τ).loc Cert.ReferenceOutSIdeal.main_arg4) = m' ((c.tc : Thread Cert.ReferenceOutSIdeal.nD Cert.ReferenceOutSIdeal.τ).loc Cert.ReferenceOutSIdeal.main_arg4))

def preserves_KernelTail_KernelTailIdeal : Prop :=
  True

def algebraic_KernelTailIdeal_ReferenceTailIdeal [hKernelTailIdeal : Cert.KernelTailIdeal.Facts] [hReferenceTailIdeal : Cert.ReferenceTailIdeal.Facts] : Prop :=
  ∀ (m : (ℓ : Loc Cert.KernelTailIdeal.nD Cert.KernelTailIdeal.τ Cert.KernelTailIdeal.sig) → Buf (Elt Ideal) ℓ) (g : Dev Cert.KernelTailIdeal.nD → PrngReg)
    (m' : (ℓ : Loc Cert.ReferenceTailIdeal.nD Cert.ReferenceTailIdeal.τ Cert.ReferenceTailIdeal.sig) → Buf (Elt Ideal) ℓ) (g' : Dev Cert.ReferenceTailIdeal.nD → PrngReg), Pre_KernelTailIdeal m →
    (∀ c : Dev Cert.KernelTailIdeal.nD,
      m' ((c.tc : Thread Cert.ReferenceTailIdeal.nD Cert.ReferenceTailIdeal.τ).loc Cert.ReferenceTailIdeal.main_arg0) = m ((c.tc : Thread Cert.KernelTailIdeal.nD Cert.KernelTailIdeal.τ).loc Cert.KernelTailIdeal.main_arg0)
      ∧ m' ((c.tc : Thread Cert.ReferenceTailIdeal.nD Cert.ReferenceTailIdeal.τ).loc Cert.ReferenceTailIdeal.main_arg1) = m ((c.tc : Thread Cert.KernelTailIdeal.nD Cert.KernelTailIdeal.τ).loc Cert.KernelTailIdeal.main_arg1)
      ∧ m' ((c.tc : Thread Cert.ReferenceTailIdeal.nD Cert.ReferenceTailIdeal.τ).loc Cert.ReferenceTailIdeal.main_arg2) = m ((c.tc : Thread Cert.KernelTailIdeal.nD Cert.KernelTailIdeal.τ).loc Cert.KernelTailIdeal.main_arg2)
      ∧ m' ((c.tc : Thread Cert.ReferenceTailIdeal.nD Cert.ReferenceTailIdeal.τ).loc Cert.ReferenceTailIdeal.main_arg3) = m ((c.tc : Thread Cert.KernelTailIdeal.nD Cert.KernelTailIdeal.τ).loc Cert.KernelTailIdeal.main_arg3)
      ∧ m' ((c.tc : Thread Cert.ReferenceTailIdeal.nD Cert.ReferenceTailIdeal.τ).loc Cert.ReferenceTailIdeal.main_arg4) = m ((c.tc : Thread Cert.KernelTailIdeal.nD Cert.KernelTailIdeal.τ).loc Cert.KernelTailIdeal.main_arg4)
      ∧ m' ((c.tc : Thread Cert.ReferenceTailIdeal.nD Cert.ReferenceTailIdeal.τ).loc Cert.ReferenceTailIdeal.main_arg5) = m ((c.tc : Thread Cert.KernelTailIdeal.nD Cert.KernelTailIdeal.τ).loc Cert.KernelTailIdeal.main_arg5)
      ∧ m' ((c.tc : Thread Cert.ReferenceTailIdeal.nD Cert.ReferenceTailIdeal.τ).loc Cert.ReferenceTailIdeal.main_arg6) = m ((c.tc : Thread Cert.KernelTailIdeal.nD Cert.KernelTailIdeal.τ).loc Cert.KernelTailIdeal.main_arg6)) →
    ∃ (v0 : (c : Dev Cert.KernelTailIdeal.nD) → Buf (Elt Ideal) ((c.tc : Thread Cert.KernelTailIdeal.nD Cert.KernelTailIdeal.τ).loc Cert.KernelTailIdeal.main_v0)),
      θ_run (Cert.KernelTailIdeal.defs (F := Ideal)) (onTc (τ := Cert.KernelTailIdeal.τ) (Cert.KernelTailIdeal.main (F := Ideal))) ⟨m, fun _ => 0, g⟩ (fun r => ∀ c : Dev Cert.KernelTailIdeal.nD,
          r.2.mem ((c.tc : Thread Cert.KernelTailIdeal.nD Cert.KernelTailIdeal.τ).loc Cert.KernelTailIdeal.main_v0) = v0 c
          ∧ r.2.mem ((c.tc : Thread Cert.KernelTailIdeal.nD Cert.KernelTailIdeal.τ).loc Cert.KernelTailIdeal.main_arg0) = m ((c.tc : Thread Cert.KernelTailIdeal.nD Cert.KernelTailIdeal.τ).loc Cert.KernelTailIdeal.main_arg0)
          ∧ r.2.mem ((c.tc : Thread Cert.KernelTailIdeal.nD Cert.KernelTailIdeal.τ).loc Cert.KernelTailIdeal.main_arg1) = m ((c.tc : Thread Cert.KernelTailIdeal.nD Cert.KernelTailIdeal.τ).loc Cert.KernelTailIdeal.main_arg1)
          ∧ r.2.mem ((c.tc : Thread Cert.KernelTailIdeal.nD Cert.KernelTailIdeal.τ).loc Cert.KernelTailIdeal.main_arg2) = m ((c.tc : Thread Cert.KernelTailIdeal.nD Cert.KernelTailIdeal.τ).loc Cert.KernelTailIdeal.main_arg2)
          ∧ r.2.mem ((c.tc : Thread Cert.KernelTailIdeal.nD Cert.KernelTailIdeal.τ).loc Cert.KernelTailIdeal.main_arg3) = m ((c.tc : Thread Cert.KernelTailIdeal.nD Cert.KernelTailIdeal.τ).loc Cert.KernelTailIdeal.main_arg3)
          ∧ r.2.mem ((c.tc : Thread Cert.KernelTailIdeal.nD Cert.KernelTailIdeal.τ).loc Cert.KernelTailIdeal.main_arg4) = m ((c.tc : Thread Cert.KernelTailIdeal.nD Cert.KernelTailIdeal.τ).loc Cert.KernelTailIdeal.main_arg4)
          ∧ r.2.mem ((c.tc : Thread Cert.KernelTailIdeal.nD Cert.KernelTailIdeal.τ).loc Cert.KernelTailIdeal.main_arg5) = m ((c.tc : Thread Cert.KernelTailIdeal.nD Cert.KernelTailIdeal.τ).loc Cert.KernelTailIdeal.main_arg5)
          ∧ r.2.mem ((c.tc : Thread Cert.KernelTailIdeal.nD Cert.KernelTailIdeal.τ).loc Cert.KernelTailIdeal.main_arg6) = m ((c.tc : Thread Cert.KernelTailIdeal.nD Cert.KernelTailIdeal.τ).loc Cert.KernelTailIdeal.main_arg6))
      ∧ θ_run (Cert.ReferenceTailIdeal.defs (F := Ideal)) (onTc (τ := Cert.ReferenceTailIdeal.τ) (Cert.ReferenceTailIdeal.main (F := Ideal))) ⟨m', fun _ => 0, g'⟩ (fun r => ∀ c : Dev Cert.ReferenceTailIdeal.nD,
          r.2.mem ((c.tc : Thread Cert.ReferenceTailIdeal.nD Cert.ReferenceTailIdeal.τ).loc Cert.ReferenceTailIdeal.main_v30) = v0 c
          ∧ r.2.mem ((c.tc : Thread Cert.ReferenceTailIdeal.nD Cert.ReferenceTailIdeal.τ).loc Cert.ReferenceTailIdeal.main_arg0) = m' ((c.tc : Thread Cert.ReferenceTailIdeal.nD Cert.ReferenceTailIdeal.τ).loc Cert.ReferenceTailIdeal.main_arg0)
          ∧ r.2.mem ((c.tc : Thread Cert.ReferenceTailIdeal.nD Cert.ReferenceTailIdeal.τ).loc Cert.ReferenceTailIdeal.main_arg1) = m' ((c.tc : Thread Cert.ReferenceTailIdeal.nD Cert.ReferenceTailIdeal.τ).loc Cert.ReferenceTailIdeal.main_arg1)
          ∧ r.2.mem ((c.tc : Thread Cert.ReferenceTailIdeal.nD Cert.ReferenceTailIdeal.τ).loc Cert.ReferenceTailIdeal.main_arg2) = m' ((c.tc : Thread Cert.ReferenceTailIdeal.nD Cert.ReferenceTailIdeal.τ).loc Cert.ReferenceTailIdeal.main_arg2)
          ∧ r.2.mem ((c.tc : Thread Cert.ReferenceTailIdeal.nD Cert.ReferenceTailIdeal.τ).loc Cert.ReferenceTailIdeal.main_arg3) = m' ((c.tc : Thread Cert.ReferenceTailIdeal.nD Cert.ReferenceTailIdeal.τ).loc Cert.ReferenceTailIdeal.main_arg3)
          ∧ r.2.mem ((c.tc : Thread Cert.ReferenceTailIdeal.nD Cert.ReferenceTailIdeal.τ).loc Cert.ReferenceTailIdeal.main_arg4) = m' ((c.tc : Thread Cert.ReferenceTailIdeal.nD Cert.ReferenceTailIdeal.τ).loc Cert.ReferenceTailIdeal.main_arg4)
          ∧ r.2.mem ((c.tc : Thread Cert.ReferenceTailIdeal.nD Cert.ReferenceTailIdeal.τ).loc Cert.ReferenceTailIdeal.main_arg5) = m' ((c.tc : Thread Cert.ReferenceTailIdeal.nD Cert.ReferenceTailIdeal.τ).loc Cert.ReferenceTailIdeal.main_arg5)
          ∧ r.2.mem ((c.tc : Thread Cert.ReferenceTailIdeal.nD Cert.ReferenceTailIdeal.τ).loc Cert.ReferenceTailIdeal.main_arg6) = m' ((c.tc : Thread Cert.ReferenceTailIdeal.nD Cert.ReferenceTailIdeal.τ).loc Cert.ReferenceTailIdeal.main_arg6))

def preserves_KernelCast0_KernelCast0Ideal : Prop :=
  True

def algebraic_KernelCast0Ideal_ReferenceCast0Ideal [hKernelCast0Ideal : Cert.KernelCast0Ideal.Facts] [hReferenceCast0Ideal : Cert.ReferenceCast0Ideal.Facts] : Prop :=
  ∀ (m : (ℓ : Loc Cert.KernelCast0Ideal.nD Cert.KernelCast0Ideal.τ Cert.KernelCast0Ideal.sig) → Buf (Elt Ideal) ℓ) (g : Dev Cert.KernelCast0Ideal.nD → PrngReg)
    (m' : (ℓ : Loc Cert.ReferenceCast0Ideal.nD Cert.ReferenceCast0Ideal.τ Cert.ReferenceCast0Ideal.sig) → Buf (Elt Ideal) ℓ) (g' : Dev Cert.ReferenceCast0Ideal.nD → PrngReg), Pre_KernelCast0Ideal m →
    (∀ c : Dev Cert.KernelCast0Ideal.nD,
      m' ((c.tc : Thread Cert.ReferenceCast0Ideal.nD Cert.ReferenceCast0Ideal.τ).loc Cert.ReferenceCast0Ideal.main_arg0) = m ((c.tc : Thread Cert.KernelCast0Ideal.nD Cert.KernelCast0Ideal.τ).loc Cert.KernelCast0Ideal.main_arg0)
      ∧ m' ((c.tc : Thread Cert.ReferenceCast0Ideal.nD Cert.ReferenceCast0Ideal.τ).loc Cert.ReferenceCast0Ideal.main_arg1) = m ((c.tc : Thread Cert.KernelCast0Ideal.nD Cert.KernelCast0Ideal.τ).loc Cert.KernelCast0Ideal.main_arg1)
      ∧ m' ((c.tc : Thread Cert.ReferenceCast0Ideal.nD Cert.ReferenceCast0Ideal.τ).loc Cert.ReferenceCast0Ideal.main_arg2) = m ((c.tc : Thread Cert.KernelCast0Ideal.nD Cert.KernelCast0Ideal.τ).loc Cert.KernelCast0Ideal.main_arg2)) →
    ∃ (v0 : (c : Dev Cert.KernelCast0Ideal.nD) → Buf (Elt Ideal) ((c.tc : Thread Cert.KernelCast0Ideal.nD Cert.KernelCast0Ideal.τ).loc Cert.KernelCast0Ideal.main_v0_0)) (v1 : (c : Dev Cert.KernelCast0Ideal.nD) → Buf (Elt Ideal) ((c.tc : Thread Cert.KernelCast0Ideal.nD Cert.KernelCast0Ideal.τ).loc Cert.KernelCast0Ideal.main_v0_1)),
      θ_run (Cert.KernelCast0Ideal.defs (F := Ideal)) (onTc (τ := Cert.KernelCast0Ideal.τ) (Cert.KernelCast0Ideal.main (F := Ideal))) ⟨m, fun _ => 0, g⟩ (fun r => ∀ c : Dev Cert.KernelCast0Ideal.nD,
          r.2.mem ((c.tc : Thread Cert.KernelCast0Ideal.nD Cert.KernelCast0Ideal.τ).loc Cert.KernelCast0Ideal.main_v0_0) = v0 c
          ∧ r.2.mem ((c.tc : Thread Cert.KernelCast0Ideal.nD Cert.KernelCast0Ideal.τ).loc Cert.KernelCast0Ideal.main_v0_1) = v1 c
          ∧ r.2.mem ((c.tc : Thread Cert.KernelCast0Ideal.nD Cert.KernelCast0Ideal.τ).loc Cert.KernelCast0Ideal.main_arg0) = m ((c.tc : Thread Cert.KernelCast0Ideal.nD Cert.KernelCast0Ideal.τ).loc Cert.KernelCast0Ideal.main_arg0)
          ∧ r.2.mem ((c.tc : Thread Cert.KernelCast0Ideal.nD Cert.KernelCast0Ideal.τ).loc Cert.KernelCast0Ideal.main_arg1) = m ((c.tc : Thread Cert.KernelCast0Ideal.nD Cert.KernelCast0Ideal.τ).loc Cert.KernelCast0Ideal.main_arg1)
          ∧ r.2.mem ((c.tc : Thread Cert.KernelCast0Ideal.nD Cert.KernelCast0Ideal.τ).loc Cert.KernelCast0Ideal.main_arg2) = m ((c.tc : Thread Cert.KernelCast0Ideal.nD Cert.KernelCast0Ideal.τ).loc Cert.KernelCast0Ideal.main_arg2))
      ∧ θ_run (Cert.ReferenceCast0Ideal.defs (F := Ideal)) (onTc (τ := Cert.ReferenceCast0Ideal.τ) (Cert.ReferenceCast0Ideal.main (F := Ideal))) ⟨m', fun _ => 0, g'⟩ (fun r => ∀ c : Dev Cert.ReferenceCast0Ideal.nD,
          r.2.mem ((c.tc : Thread Cert.ReferenceCast0Ideal.nD Cert.ReferenceCast0Ideal.τ).loc Cert.ReferenceCast0Ideal.main_v1) = v0 c
          ∧ r.2.mem ((c.tc : Thread Cert.ReferenceCast0Ideal.nD Cert.ReferenceCast0Ideal.τ).loc Cert.ReferenceCast0Ideal.main_v2) = v1 c
          ∧ r.2.mem ((c.tc : Thread Cert.ReferenceCast0Ideal.nD Cert.ReferenceCast0Ideal.τ).loc Cert.ReferenceCast0Ideal.main_arg0) = m' ((c.tc : Thread Cert.ReferenceCast0Ideal.nD Cert.ReferenceCast0Ideal.τ).loc Cert.ReferenceCast0Ideal.main_arg0)
          ∧ r.2.mem ((c.tc : Thread Cert.ReferenceCast0Ideal.nD Cert.ReferenceCast0Ideal.τ).loc Cert.ReferenceCast0Ideal.main_arg1) = m' ((c.tc : Thread Cert.ReferenceCast0Ideal.nD Cert.ReferenceCast0Ideal.τ).loc Cert.ReferenceCast0Ideal.main_arg1)
          ∧ r.2.mem ((c.tc : Thread Cert.ReferenceCast0Ideal.nD Cert.ReferenceCast0Ideal.τ).loc Cert.ReferenceCast0Ideal.main_arg2) = m' ((c.tc : Thread Cert.ReferenceCast0Ideal.nD Cert.ReferenceCast0Ideal.τ).loc Cert.ReferenceCast0Ideal.main_arg2))

def preserves_KernelCast1_KernelCast1Ideal : Prop :=
  True

def algebraic_KernelCast1Ideal_ReferenceCast1Ideal [hKernelCast1Ideal : Cert.KernelCast1Ideal.Facts] [hReferenceCast1Ideal : Cert.ReferenceCast1Ideal.Facts] : Prop :=
  ∀ (m : (ℓ : Loc Cert.KernelCast1Ideal.nD Cert.KernelCast1Ideal.τ Cert.KernelCast1Ideal.sig) → Buf (Elt Ideal) ℓ) (g : Dev Cert.KernelCast1Ideal.nD → PrngReg)
    (m' : (ℓ : Loc Cert.ReferenceCast1Ideal.nD Cert.ReferenceCast1Ideal.τ Cert.ReferenceCast1Ideal.sig) → Buf (Elt Ideal) ℓ) (g' : Dev Cert.ReferenceCast1Ideal.nD → PrngReg), Pre_KernelCast1Ideal m →
    (∀ c : Dev Cert.KernelCast1Ideal.nD,
      m' ((c.tc : Thread Cert.ReferenceCast1Ideal.nD Cert.ReferenceCast1Ideal.τ).loc Cert.ReferenceCast1Ideal.main_arg0) = m ((c.tc : Thread Cert.KernelCast1Ideal.nD Cert.KernelCast1Ideal.τ).loc Cert.KernelCast1Ideal.main_arg0)
      ∧ m' ((c.tc : Thread Cert.ReferenceCast1Ideal.nD Cert.ReferenceCast1Ideal.τ).loc Cert.ReferenceCast1Ideal.main_arg1) = m ((c.tc : Thread Cert.KernelCast1Ideal.nD Cert.KernelCast1Ideal.τ).loc Cert.KernelCast1Ideal.main_arg1)) →
    ∃ (v0 : (c : Dev Cert.KernelCast1Ideal.nD) → Buf (Elt Ideal) ((c.tc : Thread Cert.KernelCast1Ideal.nD Cert.KernelCast1Ideal.τ).loc Cert.KernelCast1Ideal.main_v0_0)) (v1 : (c : Dev Cert.KernelCast1Ideal.nD) → Buf (Elt Ideal) ((c.tc : Thread Cert.KernelCast1Ideal.nD Cert.KernelCast1Ideal.τ).loc Cert.KernelCast1Ideal.main_v0_1)),
      θ_run (Cert.KernelCast1Ideal.defs (F := Ideal)) (onTc (τ := Cert.KernelCast1Ideal.τ) (Cert.KernelCast1Ideal.main (F := Ideal))) ⟨m, fun _ => 0, g⟩ (fun r => ∀ c : Dev Cert.KernelCast1Ideal.nD,
          r.2.mem ((c.tc : Thread Cert.KernelCast1Ideal.nD Cert.KernelCast1Ideal.τ).loc Cert.KernelCast1Ideal.main_v0_0) = v0 c
          ∧ r.2.mem ((c.tc : Thread Cert.KernelCast1Ideal.nD Cert.KernelCast1Ideal.τ).loc Cert.KernelCast1Ideal.main_v0_1) = v1 c
          ∧ r.2.mem ((c.tc : Thread Cert.KernelCast1Ideal.nD Cert.KernelCast1Ideal.τ).loc Cert.KernelCast1Ideal.main_arg0) = m ((c.tc : Thread Cert.KernelCast1Ideal.nD Cert.KernelCast1Ideal.τ).loc Cert.KernelCast1Ideal.main_arg0)
          ∧ r.2.mem ((c.tc : Thread Cert.KernelCast1Ideal.nD Cert.KernelCast1Ideal.τ).loc Cert.KernelCast1Ideal.main_arg1) = m ((c.tc : Thread Cert.KernelCast1Ideal.nD Cert.KernelCast1Ideal.τ).loc Cert.KernelCast1Ideal.main_arg1))
      ∧ θ_run (Cert.ReferenceCast1Ideal.defs (F := Ideal)) (onTc (τ := Cert.ReferenceCast1Ideal.τ) (Cert.ReferenceCast1Ideal.main (F := Ideal))) ⟨m', fun _ => 0, g'⟩ (fun r => ∀ c : Dev Cert.ReferenceCast1Ideal.nD,
          r.2.mem ((c.tc : Thread Cert.ReferenceCast1Ideal.nD Cert.ReferenceCast1Ideal.τ).loc Cert.ReferenceCast1Ideal.main_v10) = v0 c
          ∧ r.2.mem ((c.tc : Thread Cert.ReferenceCast1Ideal.nD Cert.ReferenceCast1Ideal.τ).loc Cert.ReferenceCast1Ideal.main_v11) = v1 c
          ∧ r.2.mem ((c.tc : Thread Cert.ReferenceCast1Ideal.nD Cert.ReferenceCast1Ideal.τ).loc Cert.ReferenceCast1Ideal.main_arg0) = m' ((c.tc : Thread Cert.ReferenceCast1Ideal.nD Cert.ReferenceCast1Ideal.τ).loc Cert.ReferenceCast1Ideal.main_arg0)
          ∧ r.2.mem ((c.tc : Thread Cert.ReferenceCast1Ideal.nD Cert.ReferenceCast1Ideal.τ).loc Cert.ReferenceCast1Ideal.main_arg1) = m' ((c.tc : Thread Cert.ReferenceCast1Ideal.nD Cert.ReferenceCast1Ideal.τ).loc Cert.ReferenceCast1Ideal.main_arg1))

def preserves_KernelStep_KernelStepIdeal : Prop :=
  IdealRules.named_const.Statement Cert.KernelStepIdeal.κ "log2e" .f32 0x3FB8AA3B#32 (((Real.log 2)⁻¹ : ℝ) : EReal)
  ∧ IdealRules.named_const.Statement Cert.KernelStepIdeal.κ "scale_log2e" .f32 0x3E38AA3B#32 (((1 / 8) * (Real.log 2)⁻¹ : ℝ) : EReal)

def algebraic_KernelStepIdeal_ReferenceStepIdeal_pre_finite_step [hKernelStepIdeal : Cert.KernelStepIdeal.Facts] [hReferenceStepIdeal : Cert.ReferenceStepIdeal.Facts] [hPre_finite_step : Cert.Pre_finite_step.Facts] : Prop :=
  ∀ (m : (ℓ : Loc Cert.KernelStepIdeal.nD Cert.KernelStepIdeal.τ Cert.KernelStepIdeal.sig) → Buf (Elt Ideal) ℓ) (g : Dev Cert.KernelStepIdeal.nD → PrngReg)
    (m' : (ℓ : Loc Cert.ReferenceStepIdeal.nD Cert.ReferenceStepIdeal.τ Cert.ReferenceStepIdeal.sig) → Buf (Elt Ideal) ℓ) (g' : Dev Cert.ReferenceStepIdeal.nD → PrngReg), Pre_KernelStepIdeal_finite_step m →
    (∀ c : Dev Cert.KernelStepIdeal.nD,
      m' ((c.tc : Thread Cert.ReferenceStepIdeal.nD Cert.ReferenceStepIdeal.τ).loc Cert.ReferenceStepIdeal.main_arg0) = m ((c.tc : Thread Cert.KernelStepIdeal.nD Cert.KernelStepIdeal.τ).loc Cert.KernelStepIdeal.main_arg0)
      ∧ m' ((c.tc : Thread Cert.ReferenceStepIdeal.nD Cert.ReferenceStepIdeal.τ).loc Cert.ReferenceStepIdeal.main_arg1) = m ((c.tc : Thread Cert.KernelStepIdeal.nD Cert.KernelStepIdeal.τ).loc Cert.KernelStepIdeal.main_arg1)
      ∧ m' ((c.tc : Thread Cert.ReferenceStepIdeal.nD Cert.ReferenceStepIdeal.τ).loc Cert.ReferenceStepIdeal.main_arg2) = m ((c.tc : Thread Cert.KernelStepIdeal.nD Cert.KernelStepIdeal.τ).loc Cert.KernelStepIdeal.main_arg2)
      ∧ m' ((c.tc : Thread Cert.ReferenceStepIdeal.nD Cert.ReferenceStepIdeal.τ).loc Cert.ReferenceStepIdeal.main_arg3) = m ((c.tc : Thread Cert.KernelStepIdeal.nD Cert.KernelStepIdeal.τ).loc Cert.KernelStepIdeal.main_arg3)) →
    ∃ (v0 : (c : Dev Cert.KernelStepIdeal.nD) → Buf (Elt Ideal) ((c.tc : Thread Cert.KernelStepIdeal.nD Cert.KernelStepIdeal.τ).loc Cert.KernelStepIdeal.main_v5_0)) (v1 : (c : Dev Cert.KernelStepIdeal.nD) → Buf (Elt Ideal) ((c.tc : Thread Cert.KernelStepIdeal.nD Cert.KernelStepIdeal.τ).loc Cert.KernelStepIdeal.main_v5_1)) (v2 : (c : Dev Cert.KernelStepIdeal.nD) → Buf (Elt Ideal) ((c.tc : Thread Cert.KernelStepIdeal.nD Cert.KernelStepIdeal.τ).loc Cert.KernelStepIdeal.main_v5_2)),
      θ_run (Cert.KernelStepIdeal.defs (F := Ideal)) (onTc (τ := Cert.KernelStepIdeal.τ) (Cert.KernelStepIdeal.main (F := Ideal))) ⟨m, fun _ => 0, g⟩ (fun r => ∀ c : Dev Cert.KernelStepIdeal.nD,
          r.2.mem ((c.tc : Thread Cert.KernelStepIdeal.nD Cert.KernelStepIdeal.τ).loc Cert.KernelStepIdeal.main_v5_0) = v0 c
          ∧ r.2.mem ((c.tc : Thread Cert.KernelStepIdeal.nD Cert.KernelStepIdeal.τ).loc Cert.KernelStepIdeal.main_v5_1) = v1 c
          ∧ r.2.mem ((c.tc : Thread Cert.KernelStepIdeal.nD Cert.KernelStepIdeal.τ).loc Cert.KernelStepIdeal.main_v5_2) = v2 c
          ∧ r.2.mem ((c.tc : Thread Cert.KernelStepIdeal.nD Cert.KernelStepIdeal.τ).loc Cert.KernelStepIdeal.main_arg0) = m ((c.tc : Thread Cert.KernelStepIdeal.nD Cert.KernelStepIdeal.τ).loc Cert.KernelStepIdeal.main_arg0)
          ∧ r.2.mem ((c.tc : Thread Cert.KernelStepIdeal.nD Cert.KernelStepIdeal.τ).loc Cert.KernelStepIdeal.main_arg1) = m ((c.tc : Thread Cert.KernelStepIdeal.nD Cert.KernelStepIdeal.τ).loc Cert.KernelStepIdeal.main_arg1)
          ∧ r.2.mem ((c.tc : Thread Cert.KernelStepIdeal.nD Cert.KernelStepIdeal.τ).loc Cert.KernelStepIdeal.main_arg2) = m ((c.tc : Thread Cert.KernelStepIdeal.nD Cert.KernelStepIdeal.τ).loc Cert.KernelStepIdeal.main_arg2)
          ∧ r.2.mem ((c.tc : Thread Cert.KernelStepIdeal.nD Cert.KernelStepIdeal.τ).loc Cert.KernelStepIdeal.main_arg3) = m ((c.tc : Thread Cert.KernelStepIdeal.nD Cert.KernelStepIdeal.τ).loc Cert.KernelStepIdeal.main_arg3))
      ∧ θ_run (Cert.ReferenceStepIdeal.defs (F := Ideal)) (onTc (τ := Cert.ReferenceStepIdeal.τ) (Cert.ReferenceStepIdeal.main (F := Ideal))) ⟨m', fun _ => 0, g'⟩ (fun r => ∀ c : Dev Cert.ReferenceStepIdeal.nD,
          r.2.mem ((c.tc : Thread Cert.ReferenceStepIdeal.nD Cert.ReferenceStepIdeal.τ).loc Cert.ReferenceStepIdeal.main_v50) = v0 c
          ∧ r.2.mem ((c.tc : Thread Cert.ReferenceStepIdeal.nD Cert.ReferenceStepIdeal.τ).loc Cert.ReferenceStepIdeal.main_v52) = v1 c
          ∧ r.2.mem ((c.tc : Thread Cert.ReferenceStepIdeal.nD Cert.ReferenceStepIdeal.τ).loc Cert.ReferenceStepIdeal.main_v54) = v2 c
          ∧ r.2.mem ((c.tc : Thread Cert.ReferenceStepIdeal.nD Cert.ReferenceStepIdeal.τ).loc Cert.ReferenceStepIdeal.main_arg0) = m' ((c.tc : Thread Cert.ReferenceStepIdeal.nD Cert.ReferenceStepIdeal.τ).loc Cert.ReferenceStepIdeal.main_arg0)
          ∧ r.2.mem ((c.tc : Thread Cert.ReferenceStepIdeal.nD Cert.ReferenceStepIdeal.τ).loc Cert.ReferenceStepIdeal.main_arg1) = m' ((c.tc : Thread Cert.ReferenceStepIdeal.nD Cert.ReferenceStepIdeal.τ).loc Cert.ReferenceStepIdeal.main_arg1)
          ∧ r.2.mem ((c.tc : Thread Cert.ReferenceStepIdeal.nD Cert.ReferenceStepIdeal.τ).loc Cert.ReferenceStepIdeal.main_arg2) = m' ((c.tc : Thread Cert.ReferenceStepIdeal.nD Cert.ReferenceStepIdeal.τ).loc Cert.ReferenceStepIdeal.main_arg2)
          ∧ r.2.mem ((c.tc : Thread Cert.ReferenceStepIdeal.nD Cert.ReferenceStepIdeal.τ).loc Cert.ReferenceStepIdeal.main_arg3) = m' ((c.tc : Thread Cert.ReferenceStepIdeal.nD Cert.ReferenceStepIdeal.τ).loc Cert.ReferenceStepIdeal.main_arg3))

def Claim : Prop :=
  ∃ (hKernel : Cert.Kernel.Facts) (hKernelIdeal : Cert.KernelIdeal.Facts) (hReferenceIdeal : Cert.ReferenceIdeal.Facts) (hKernelOut : Cert.KernelOut.Facts) (hKernelOutIdeal : Cert.KernelOutIdeal.Facts) (hReferenceOutIdeal : Cert.ReferenceOutIdeal.Facts) (hKernelIn1 : Cert.KernelIn1.Facts) (hKernelIn1Ideal : Cert.KernelIn1Ideal.Facts) (hReferenceIn1Ideal : Cert.ReferenceIn1Ideal.Facts) (hKernelIn0 : Cert.KernelIn0.Facts) (hKernelIn0Ideal : Cert.KernelIn0Ideal.Facts) (hReferenceIn0Ideal : Cert.ReferenceIn0Ideal.Facts) (hKernelOutS : Cert.KernelOutS.Facts) (hKernelOutSIdeal : Cert.KernelOutSIdeal.Facts) (hReferenceOutSIdeal : Cert.ReferenceOutSIdeal.Facts) (hKernelTail : Cert.KernelTail.Facts) (hKernelTailIdeal : Cert.KernelTailIdeal.Facts) (hReferenceTailIdeal : Cert.ReferenceTailIdeal.Facts) (hKernelCast0 : Cert.KernelCast0.Facts) (hKernelCast0Ideal : Cert.KernelCast0Ideal.Facts) (hReferenceCast0Ideal : Cert.ReferenceCast0Ideal.Facts) (hKernelCast1 : Cert.KernelCast1.Facts) (hKernelCast1Ideal : Cert.KernelCast1Ideal.Facts) (hReferenceCast1Ideal : Cert.ReferenceCast1Ideal.Facts) (hKernelStep : Cert.KernelStep.Facts) (hKernelStepIdeal : Cert.KernelStepIdeal.Facts) (hReferenceStepIdeal : Cert.ReferenceStepIdeal.Facts) (hPre_finite : Cert.Pre_finite.Facts) (hPre_finite_step : Cert.Pre_finite_step.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelIn1 (hKernelIn1 := hKernelIn1)
    ∧ quiescent_KernelIn1Ideal (hKernelIn1Ideal := hKernelIn1Ideal)
    ∧ quiescent_ReferenceIn1Ideal (hReferenceIn1Ideal := hReferenceIn1Ideal)
    ∧ quiescent_KernelIn0 (hKernelIn0 := hKernelIn0)
    ∧ quiescent_KernelIn0Ideal (hKernelIn0Ideal := hKernelIn0Ideal)
    ∧ quiescent_ReferenceIn0Ideal (hReferenceIn0Ideal := hReferenceIn0Ideal)
    ∧ quiescent_KernelOutS (hKernelOutS := hKernelOutS)
    ∧ quiescent_KernelOutSIdeal (hKernelOutSIdeal := hKernelOutSIdeal)
    ∧ quiescent_ReferenceOutSIdeal (hReferenceOutSIdeal := hReferenceOutSIdeal)
    ∧ quiescent_KernelTail (hKernelTail := hKernelTail)
    ∧ quiescent_KernelTailIdeal (hKernelTailIdeal := hKernelTailIdeal)
    ∧ quiescent_ReferenceTailIdeal (hReferenceTailIdeal := hReferenceTailIdeal)
    ∧ quiescent_KernelCast0 (hKernelCast0 := hKernelCast0)
    ∧ quiescent_KernelCast0Ideal (hKernelCast0Ideal := hKernelCast0Ideal)
    ∧ quiescent_ReferenceCast0Ideal (hReferenceCast0Ideal := hReferenceCast0Ideal)
    ∧ quiescent_KernelCast1 (hKernelCast1 := hKernelCast1)
    ∧ quiescent_KernelCast1Ideal (hKernelCast1Ideal := hKernelCast1Ideal)
    ∧ quiescent_ReferenceCast1Ideal (hReferenceCast1Ideal := hReferenceCast1Ideal)
    ∧ quiescent_KernelStep (hKernelStep := hKernelStep)
    ∧ quiescent_KernelStepIdeal (hKernelStepIdeal := hKernelStepIdeal)
    ∧ quiescent_KernelStepIdeal_pre_finite_step (hKernelStepIdeal := hKernelStepIdeal) (hPre_finite_step := hPre_finite_step)
    ∧ quiescent_ReferenceStepIdeal (hReferenceStepIdeal := hReferenceStepIdeal)
    ∧ quiescent_ReferenceStepIdeal_pre_finite_step (hReferenceStepIdeal := hReferenceStepIdeal) (hPre_finite_step := hPre_finite_step)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelOut_KernelOutIdeal
    ∧ algebraic_KernelOutIdeal_ReferenceOutIdeal (hKernelOutIdeal := hKernelOutIdeal) (hReferenceOutIdeal := hReferenceOutIdeal)
    ∧ preserves_KernelIn1_KernelIn1Ideal
    ∧ algebraic_KernelIn1Ideal_ReferenceIn1Ideal (hKernelIn1Ideal := hKernelIn1Ideal) (hReferenceIn1Ideal := hReferenceIn1Ideal)
    ∧ preserves_KernelIn0_KernelIn0Ideal
    ∧ algebraic_KernelIn0Ideal_ReferenceIn0Ideal (hKernelIn0Ideal := hKernelIn0Ideal) (hReferenceIn0Ideal := hReferenceIn0Ideal)
    ∧ preserves_KernelOutS_KernelOutSIdeal
    ∧ algebraic_KernelOutSIdeal_ReferenceOutSIdeal (hKernelOutSIdeal := hKernelOutSIdeal) (hReferenceOutSIdeal := hReferenceOutSIdeal)
    ∧ preserves_KernelTail_KernelTailIdeal
    ∧ algebraic_KernelTailIdeal_ReferenceTailIdeal (hKernelTailIdeal := hKernelTailIdeal) (hReferenceTailIdeal := hReferenceTailIdeal)
    ∧ preserves_KernelCast0_KernelCast0Ideal
    ∧ algebraic_KernelCast0Ideal_ReferenceCast0Ideal (hKernelCast0Ideal := hKernelCast0Ideal) (hReferenceCast0Ideal := hReferenceCast0Ideal)
    ∧ preserves_KernelCast1_KernelCast1Ideal
    ∧ algebraic_KernelCast1Ideal_ReferenceCast1Ideal (hKernelCast1Ideal := hKernelCast1Ideal) (hReferenceCast1Ideal := hReferenceCast1Ideal)
    ∧ preserves_KernelStep_KernelStepIdeal
    ∧ algebraic_KernelStepIdeal_ReferenceStepIdeal_pre_finite_step (hKernelStepIdeal := hKernelStepIdeal) (hReferenceStepIdeal := hReferenceStepIdeal) (hPre_finite_step := hPre_finite_step)
-- ==== Pre_finite.lean ====
abbrev S8192x4608 : Shape := ⟨2, ![8192, 4608]⟩
abbrev S1152x4608 : Shape := ⟨2, ![1152, 4608]⟩
abbrev S32 : Shape := ⟨1, ![32]⟩
abbrev S8192x2048 : Shape := ⟨2, ![8192, 2048]⟩
abbrev S8192x256 : Shape := ⟨2, ![8192, 256]⟩
abbrev S16x256 : Shape := ⟨2, ![16, 256]⟩
abbrev S_ : Shape := ⟨0, ![]⟩

class Facts : Prop where
  slices_S8192x4608_S8192x2048_0_0 : S8192x4608.Slices ![0, 0] S8192x2048
  slices_S8192x4608_S8192x256_0_4096 : S8192x4608.Slices ![0, 4096] S8192x256
  slices_S1152x4608_S16x256_1136_4096 : S1152x4608.Slices ![1136, 4096] S16x256
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S16x256 : S_.BroadcastsInDim S16x256 (![] : Fin 0 → Fin S16x256.rank)
  reducesTo_S16x256_S_d0_1 : S16x256.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v16 : IVec S_ 1) (main_v17 : FVec F S32 .f32) : IVec S_ 1 :=
  let main_cst_4 : FVec F S_ .f32 := constant S_ .f32 0x7F800000#32
  let main_v18 : FVec F S32 .f32 := broadcastInDim S32 ![] bcast_S_S32 main_cst_4
  let main_v19 : IVec S32 1 := cmpf .olt main_v17 main_v18
  let main_c_5 : IVec S_ 1 := constantI S_ 1 1#1
  let main_v20 : IVec S_ 1 := (fun x v => Host.reduce IntOp.andi x v reducesTo_S32_S_d0 h_S_) main_v19 main_c_5
  let main_v21 : IVec S_ 1 := andi main_v16 main_v20
  main_v21

def fn {F : FTy → Type} [FloatOps F] (main_arg0 : FVec F S8192x4608 .f32) (main_arg1 : FVec F S1152x4608 .f32) (main_arg2 : FVec F S32 .f32) : IVec S_ 1 :=
  let main_v0 : FVec F S8192x2048 .f32 := (extractStridedSlice S8192x2048 ![0, 0] · slices_S8192x4608_S8192x2048_0_0) main_arg0
  let main_v1 : FVec F S8192x256 .f32 := (extractStridedSlice S8192x256 ![0, 4096] · slices_S8192x4608_S8192x256_0_4096) main_arg0
  let main_v2 : FVec F S16x256 .f32 := (extractStridedSlice S16x256 ![1136, 4096] · slices_S1152x4608_S16x256_1136_4096) main_arg1
  let main_v3 : FVec F S8192x2048 .f32 := Host.absf main_v0
  let main_cst : FVec F S_ .f32 := constant S_ .f32 0x7F800000#32
  let main_v4 : FVec F S8192x2048 .f32 := broadcastInDim S8192x2048 ![] bcast_S_S8192x2048 main_cst
  let main_v5 : IVec S8192x2048 1 := cmpf .olt main_v3 main_v4
  let main_c : IVec S_ 1 := constantI S_ 1 1#1
  let main_v6 : IVec S_ 1 := (fun x v => Host.reduce IntOp.andi x v reducesTo_S8192x2048_S_d0_1 h_S_) main_v5 main_c
  let main_v7 : FVec F S8192x256 .f32 := Host.absf main_v1
  let main_cst_0 : FVec F S_ .f32 := constant S_ .f32 0x7F800000#32
  let main_v8 : FVec F S8192x256 .f32 := broadcastInDim S8192x256 ![] bcast_S_S8192x256 main_cst_0
  let main_v9 : IVec S8192x256 1 := cmpf .olt main_v7 main_v8
  let main_c_1 : IVec S_ 1 := constantI S_ 1 1#1
  let main_v10 : IVec S_ 1 := (fun x v => Host.reduce IntOp.andi x v reducesTo_S8192x256_S_d0_1 h_S_) main_v9 main_c_1
  let main_v11 : IVec S_ 1 := andi main_v6 main_v10
  let main_v12 : FVec F S16x256 .f32 := Host.absf main_v2
  let main_cst_2 : FVec F S_ .f32 := constant S_ .f32 0x7F800000#32
  let main_v13 : FVec F S16x256 .f32 := broadcastInDim S16x256 ![] bcast_S_S16x256 main_cst_2
  let main_v14 : IVec S16x256 1 := cmpf .olt main_v12 main_v13
  let main_c_3 : IVec S_ 1 := constantI S_ 1 1#1
  let main_v15 : IVec S_ 1 := (fun x v => Host.reduce IntOp.andi x v reducesTo_S16x256_S_d0_1 h_S_) main_v14 main_c_3
  let main_v16 : IVec S_ 1 := andi main_v11 main_v15
  let main_v17 : FVec F S32 .f32 := Host.absf main_arg2
  fn_part1 (F := F) main_v16 main_v17
-- ==== Pre_finite_step.lean ====
abbrev S1152x4608 : Shape := ⟨2, ![1152, 4608]⟩
abbrev S128x128x4x64 : Shape := ⟨4, ![128, 128, 4, 64]⟩
abbrev S32 : Shape := ⟨1, ![32]⟩
abbrev S1024x2048 : Shape := ⟨2, ![1024, 2048]⟩
abbrev S1024x256 : Shape := ⟨2, ![1024, 256]⟩
abbrev S_ : Shape := ⟨0, ![]⟩
abbrev S128x127x4x64 : Shape := ⟨4, ![128, 127, 4, 64]⟩

class Facts : Prop where
  slices_S1152x4608_S1024x2048_0_0 : S1152x4608.Slices ![0, 0] S1024x2048
  slices_S1152x4608_S1024x256_0_4096 : S1152x4608.Slices ![0, 4096] S1024x256
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  slices_S128x128x4x64_S128x127x4x64_0_1_0_0 : S128x128x4x64.Slices ![0, 1, 0, 0] S128x127x4x64
  bcast_S_S128x127x4x64 : S_.BroadcastsInDim S128x127x4x64 (![] : Fin 0 → Fin S128x127x4x64.rank)
  reducesTo_S128x127x4x64_S_d0_1_2_3 : S128x127x4x64.ReducesTo [0, 1, 2, 3] S_
  bcast_S_S32 : S_.BroadcastsInDim S32 (![] : Fin 0 → Fin S32.rank)
  reducesTo_S32_S_d0 : S32.ReducesTo [0] S_

variable [Facts]

def fn_part1 {F : FTy → Type} [FloatOps F] (main_v16 : IVec S_ 1) (main_v17 : FVec F S32 .f32) : IVec S_ 1 :=
  let main_cst_4 : FVec F S_ .f32 := constant S_ .f32 0x7F800000#32
  let main_v18 : FVec F S32 .f32 := broadcastInDim S32 ![] bcast_S_S32 main_cst_4
  let main_v19 : IVec S32 1 := cmpf .olt main_v17 main_v18
  let main_c_5 : IVec S_ 1 := constantI S_ 1 1#1
  let main_v20 : IVec S_ 1 := (fun x v => Host.reduce IntOp.andi x v reducesTo_S32_S_d0 h_S_) main_v19 main_c_5
  let main_v21 : IVec S_ 1 := andi main_v16 main_v20
  main_v21

def fn {F : FTy → Type} [FloatOps F] (main_arg0 : FVec F S1152x4608 .f32) (main_arg1 : FVec F S128x128x4x64 .f32) (main_arg2 : FVec F S128x128x4x64 .f32) (main_arg3 : FVec F S32 .f32) : IVec S_ 1 :=
  let main_v0 : FVec F S1024x2048 .f32 := (extractStridedSlice S1024x2048 ![0, 0] · slices_S1152x4608_S1024x2048_0_0) main_arg0
  let main_v1 : FVec F S1024x256 .f32 := (extractStridedSlice S1024x256 ![0, 4096] · slices_S1152x4608_S1024x256_0_4096) main_arg0
  let main_v2 : FVec F S1024x2048 .f32 := Host.absf main_v0
  let main_cst : FVec F S_ .f32 := constant S_ .f32 0x7F800000#32
  let main_v3 : FVec F S1024x2048 .f32 := broadcastInDim S1024x2048 ![] bcast_S_S1024x2048 main_cst
  let main_v4 : IVec S1024x2048 1 := cmpf .olt main_v2 main_v3
  let main_c : IVec S_ 1 := constantI S_ 1 1#1
  let main_v5 : IVec S_ 1 := (fun x v => Host.reduce IntOp.andi x v reducesTo_S1024x2048_S_d0_1 h_S_) main_v4 main_c
  let main_v6 : FVec F S1024x256 .f32 := Host.absf main_v1
  let main_cst_0 : FVec F S_ .f32 := constant S_ .f32 0x7F800000#32
  let main_v7 : FVec F S1024x256 .f32 := broadcastInDim S1024x256 ![] bcast_S_S1024x256 main_cst_0
  let main_v8 : IVec S1024x256 1 := cmpf .olt main_v6 main_v7
  let main_c_1 : IVec S_ 1 := constantI S_ 1 1#1
  let main_v9 : IVec S_ 1 := (fun x v => Host.reduce IntOp.andi x v reducesTo_S1024x256_S_d0_1 h_S_) main_v8 main_c_1
  let main_v10 : IVec S_ 1 := andi main_v5 main_v9
  let main_v11 : FVec F S128x127x4x64 .f32 := (extractStridedSlice S128x127x4x64 ![0, 1, 0, 0] · slices_S128x128x4x64_S128x127x4x64_0_1_0_0) main_arg1
  let main_v12 : FVec F S128x127x4x64 .f32 := Host.absf main_v11
  let main_cst_2 : FVec F S_ .f32 := constant S_ .f32 0x7F800000#32
  let main_v13 : FVec F S128x127x4x64 .f32 := broadcastInDim S128x127x4x64 ![] bcast_S_S128x127x4x64 main_cst_2
  let main_v14 : IVec S128x127x4x64 1 := cmpf .olt main_v12 main_v13
  let main_c_3 : IVec S_ 1 := constantI S_ 1 1#1
  let main_v15 : IVec S_ 1 := (fun x v => Host.reduce IntOp.andi x v reducesTo_S128x127x4x64_S_d0_1_2_3 h_S_) main_v14 main_c_3
  let main_v16 : IVec S_ 1 := andi main_v10 main_v15
  let main_v17 : FVec F S32 .f32 := Host.absf main_arg3
  fn_part1 (F := F) main_v16 main_v17
-- ==== Kernel.lean ====
abbrev S8192x4608 : Shape := ⟨2, ![8192, 4608]⟩
abbrev S1152x4608 : Shape := ⟨2, ![1152, 4608]⟩
abbrev S32 : Shape := ⟨1, ![32]⟩
abbrev S8192x2048 : Shape := ⟨2, ![8192, 2048]⟩
abbrev S128x2048 : Shape := ⟨2, ![128, 2048]⟩
abbrev S128x256 : Shape := ⟨2, ![128, 256]⟩
abbrev S128x512 : Shape := ⟨2, ![128, 512]⟩
abbrev S256x256 : Shape := ⟨2, ![256, 256]⟩
abbrev S64x256 : Shape := ⟨2, ![64, 256]⟩
abbrev S256x128 : Shape := ⟨2, ![256, 128]⟩
abbrev S256x64 : Shape := ⟨2, ![256, 64]⟩
abbrev S128x128 : Shape := ⟨2, ![128, 128]⟩
abbrev S512x128 : Shape := ⟨2, ![512, 128]⟩
abbrev S512x512 : Shape := ⟨2, ![512, 512]⟩
abbrev S64x512 : Shape := ⟨2, ![64, 512]⟩
abbrev S2x256x128 : Shape := ⟨3, ![2, 256, 128]⟩
abbrev S1x256x128 : Shape := ⟨3, ![1, 256, 128]⟩
abbrev S1 : Shape := ⟨1, ![1]⟩
abbrev S1x1x128 : Shape := ⟨3, ![1, 1, 128]⟩
abbrev S2x1x128 : Shape := ⟨3, ![2, 1, 128]⟩
abbrev S2x128 : Shape := ⟨2, ![2, 128]⟩
abbrev S2x64x128 : Shape := ⟨3, ![2, 64, 128]⟩

abbrev nBuf : Space → Nat
  | .hbm => 4
  | .vmem => 15
  | .smem => 1
  | _ => 0

abbrev bufTy : (tb : Table) → Fin (tcTables nBuf tb) → BufTy
  | .hbm, ⟨0, _⟩ => ⟨S8192x4608, .f32⟩
  | .hbm, ⟨1, _⟩ => ⟨S1152x4608, .f32⟩
  | .hbm, ⟨2, _⟩ => ⟨S32, .f32⟩
  | .hbm, ⟨3, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x512, .f32⟩
  | .local _ .vmem, ⟨13, _⟩ => ⟨S128x2048, .bf16⟩
  | .local _ .vmem, ⟨14, _⟩ => ⟨S128x2048, .bf16⟩
  | .local _ .smem, ⟨0, _⟩ => ⟨S32, .f32⟩
  | _, _ => ⟨S8192x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg7_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c16_i32_0 : BitVec 32 := 16#32
  let c0_i32 : BitVec 32 := 0#32
  ![v1.toNat, c16_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c17_i32 : BitVec 32 := 17#32
  let c0_i32 : BitVec 32 := 0#32
  ![v1.toNat, c17_i32.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c16_i32_0 : BitVec 32 := 16#32
  let c0_i32_1 : BitVec 32 := 0#32
  ![v3.toNat, c16_i32_0.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c17_i32 : BitVec 32 := 17#32
  let c0_i32_0 : BitVec 32 := 0#32
  ![v3.toNat, c17_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let c8_i32_0 : BitVec 32 := 8#32
  let c0_i32 : BitVec 32 := 0#32
  ![c8_i32.toNat, c8_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .smem S32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "log2e" => some (((Real.log 2)⁻¹ : ℝ) : EReal)
  | "scale_log2e" => some (((1 / 8) * (Real.log 2)⁻¹ : ℝ) : EReal)
  | _ => none
-- ==== ReferenceIdeal.lean ====
abbrev S8192x4608 : Shape := ⟨2, ![8192, 4608]⟩
abbrev S1152x4608 : Shape := ⟨2, ![1152, 4608]⟩
abbrev S32 : Shape := ⟨1, ![32]⟩
abbrev S4x2048x4608 : Shape := ⟨3, ![4, 2048, 4608]⟩
abbrev S16x4608 : Shape := ⟨2, ![16, 4608]⟩
abbrev S1x16x4608 : Shape := ⟨3, ![1, 16, 4608]⟩
abbrev S4x16x4608 : Shape := ⟨3, ![4, 16, 4608]⟩
abbrev S4x2064x4608 : Shape := ⟨3, ![4, 2064, 4608]⟩
abbrev S4x2048x2048 : Shape := ⟨3, ![4, 2048, 2048]⟩
abbrev S4x2048x4x8x64 : Shape := ⟨5, ![4, 2048, 4, 8, 64]⟩
abbrev S4x2064x256 : Shape := ⟨3, ![4, 2064, 256]⟩
abbrev S4x2064x4x64 : Shape := ⟨4, ![4, 2064, 4, 64]⟩
abbrev S4x4x2064x2048x8 : Shape := ⟨5, ![4, 4, 2064, 2048, 8]⟩
abbrev S4x4x8x2048x2064 : Shape := ⟨5, ![4, 4, 8, 2048, 2064]⟩
abbrev S_ : Shape := ⟨0, ![]⟩
abbrev S2048x2064 : Shape := ⟨2, ![2048, 2064]⟩
abbrev S1x1x1x2048x2064 : Shape := ⟨5, ![1, 1, 1, 2048, 2064]⟩
abbrev S4x8 : Shape := ⟨2, ![4, 8]⟩
abbrev S1x4x8x1x1 : Shape := ⟨5, ![1, 4, 8, 1, 1]⟩
abbrev S4x4x8x2048 : Shape := ⟨4, ![4, 4, 8, 2048]⟩
abbrev S4x4x8x2048x1 : Shape := ⟨5, ![4, 4, 8, 2048, 1]⟩
abbrev S4x4x64x8x2048 : Shape := ⟨5, ![4, 4, 64, 8, 2048]⟩
abbrev S8192x2048 : Shape := ⟨2, ![8192, 2048]⟩

abbrev nBuf : Space → Nat
  | .hbm => 73
  | .vmem => 0
  | .smem => 0
  | _ => 0

abbrev bufTy : (tb : Table) → Fin (tcTables nBuf tb) → BufTy
  | .hbm, ⟨0, _⟩ => ⟨S8192x4608, .f32⟩
  | .hbm, ⟨1, _⟩ => ⟨S1152x4608, .f32⟩
  | .hbm, ⟨2, _⟩ => ⟨S32, .f32⟩
  | .hbm, ⟨3, _⟩ => ⟨S4x2048x4608, .f32⟩
  | .hbm, ⟨4, _⟩ => ⟨S16x4608, .f32⟩
  | .hbm, ⟨5, _⟩ => ⟨S1x16x4608, .f32⟩
  | .hbm, ⟨6, _⟩ => ⟨S4x16x4608, .f32⟩
  | .hbm, ⟨7, _⟩ => ⟨S4x2064x4608, .f32⟩
  | .hbm, ⟨8, _⟩ => ⟨S4x2048x2048, .f32⟩
  | .hbm, ⟨9, _⟩ => ⟨S4x2048x4x8x64, .f32⟩
  | .hbm, ⟨10, _⟩ => ⟨S4x2048x2048, .f32⟩
  | .hbm, ⟨11, _⟩ => ⟨S4x2064x256, .f32⟩
  | .hbm, ⟨12, _⟩ => ⟨S4x2064x4x64, .f32⟩
  | .hbm, ⟨13, _⟩ => ⟨S4x2064x256, .f32⟩
  | .hbm, ⟨14, _⟩ => ⟨S4x2064x4x64, .f32⟩
  | .hbm, ⟨15, _⟩ => ⟨S4x4x2064x2048x8, .f32⟩
  | .hbm, ⟨16, _⟩ => ⟨S4x4x8x2048x2064, .f32⟩
  | .hbm, ⟨17, _⟩ => ⟨S_, .f32⟩
  | .hbm, ⟨18, _⟩ => ⟨S4x4x8x2048x2064, .f32⟩
  | .hbm, ⟨19, _⟩ => ⟨S4x4x8x2048x2064, .f32⟩
  | .hbm, ⟨20, _⟩ => ⟨S2048x2064, .i32⟩
  | .hbm, ⟨21, _⟩ => ⟨S_, .i32⟩
  | .hbm, ⟨22, _⟩ => ⟨S2048x2064, .i32⟩
  | .hbm, ⟨23, _⟩ => ⟨S2048x2064, .i32⟩
  | .hbm, ⟨24, _⟩ => ⟨S2048x2064, .i32⟩
  | .hbm, ⟨25, _⟩ => ⟨S2048x2064, .i32⟩
  | .hbm, ⟨26, _⟩ => ⟨S_, .i32⟩
  | .hbm, ⟨27, _⟩ => ⟨S2048x2064, .i32⟩
  | .hbm, ⟨28, _⟩ => ⟨S2048x2064, .i1⟩
  | .hbm, ⟨29, _⟩ => ⟨S_, .i32⟩
  | .hbm, ⟨30, _⟩ => ⟨S2048x2064, .i32⟩
  | .hbm, ⟨31, _⟩ => ⟨S2048x2064, .i1⟩
  | .hbm, ⟨32, _⟩ => ⟨S2048x2064, .i1⟩
  | .hbm, ⟨33, _⟩ => ⟨S1x1x1x2048x2064, .i1⟩
  | .hbm, ⟨34, _⟩ => ⟨S_, .f32⟩
  | .hbm, ⟨35, _⟩ => ⟨S_, .f32⟩
  | .hbm, ⟨36, _⟩ => ⟨S4x4x8x2048x2064, .i1⟩
  | .hbm, ⟨37, _⟩ => ⟨S4x4x8x2048x2064, .f32⟩
  | .hbm, ⟨38, _⟩ => ⟨S4x4x8x2048x2064, .f32⟩
  | .hbm, ⟨39, _⟩ => ⟨S4x8, .f32⟩
  | .hbm, ⟨40, _⟩ => ⟨S1x4x8x1x1, .f32⟩
  | .hbm, ⟨41, _⟩ => ⟨S_, .f32⟩
  | .hbm, ⟨42, _⟩ => ⟨S4x4x8x2048, .f32⟩
  | .hbm, ⟨43, _⟩ => ⟨S4x4x8x2048x1, .f32⟩
  | .hbm, ⟨44, _⟩ => ⟨S4x4x8x2048x1, .f32⟩
  | .hbm, ⟨45, _⟩ => ⟨S4x4x8x2048x1, .f32⟩
  | .hbm, ⟨46, _⟩ => ⟨S4x4x8x2048x2064, .f32⟩
  | .hbm, ⟨47, _⟩ => ⟨S4x4x8x2048x2064, .f32⟩
  | .hbm, ⟨48, _⟩ => ⟨S4x4x8x2048x2064, .f32⟩
  | .hbm, ⟨49, _⟩ => ⟨S_, .f32⟩
  | .hbm, ⟨50, _⟩ => ⟨S4x4x8x2048, .f32⟩
  | .hbm, ⟨51, _⟩ => ⟨S4x4x8x2048x1, .f32⟩
  | .hbm, ⟨52, _⟩ => ⟨S4x4x8x2048x1, .f32⟩
  | .hbm, ⟨53, _⟩ => ⟨S4x4x8x2048x1, .f32⟩
  | .hbm, ⟨54, _⟩ => ⟨S4x4x8x2048x1, .f32⟩
  | .hbm, ⟨55, _⟩ => ⟨S4x4x8x2048x1, .f32⟩
  | .hbm, ⟨56, _⟩ => ⟨S4x4x8x2048x2064, .f32⟩
  | .hbm, ⟨57, _⟩ => ⟨S4x4x8x2048x2064, .f32⟩
  | .hbm, ⟨58, _⟩ => ⟨S4x4x64x8x2048, .f32⟩
  | .hbm, ⟨59, _⟩ => ⟨S4x2048x4x8x64, .f32⟩
  | .hbm, ⟨60, _⟩ => ⟨S4x2048x2048, .f32⟩
  | .hbm, ⟨61, _⟩ => ⟨S4x2048x2048, .f32⟩
  | .hbm, ⟨62, _⟩ => ⟨S4x2048x2048, .f32⟩
  | .hbm, ⟨63, _⟩ => ⟨S_, .f32⟩
  | .hbm, ⟨64, _⟩ => ⟨S4x2048x2048, .f32⟩
  | .hbm, ⟨65, _⟩ => ⟨S4x2048x2048, .f32⟩
  | .hbm, ⟨66, _⟩ => ⟨S_, .f32⟩
  | .hbm, ⟨67, _⟩ => ⟨S4x2048x2048, .f32⟩
  | .hbm, ⟨68, _⟩ => ⟨S4x2048x2048, .f32⟩
  | .hbm, ⟨69, _⟩ => ⟨S4x2048x2048, .f32⟩
  | .hbm, ⟨70, _⟩ => ⟨S4x2048x2048, .f32⟩
  | .hbm, ⟨71, _⟩ => ⟨S8192x2048, .f32⟩
  | .hbm, ⟨72, _⟩ => ⟨S8192x2048, .bf16⟩
  | _, _ => ⟨S8192x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]
-- ==== KernelOut.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelOutIdeal.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutIdeal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 39
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== KernelIn1.lean ====
abbrev S8192x2048 : Shape := ⟨2, ![8192, 2048]⟩
abbrev S2048x4608 : Shape := ⟨2, ![2048, 4608]⟩
abbrev S8192x4608 : Shape := ⟨2, ![8192, 4608]⟩
abbrev S1024x2048 : Shape := ⟨2, ![1024, 2048]⟩
abbrev S2048x2304 : Shape := ⟨2, ![2048, 2304]⟩
abbrev S1024x2304 : Shape := ⟨2, ![1024, 2304]⟩
abbrev S4x2048x4608 : Shape := ⟨3, ![4, 2048, 4608]⟩
abbrev S4x128x512 : Shape := ⟨3, ![4, 128, 512]⟩
abbrev S4x128x256 : Shape := ⟨3, ![4, 128, 256]⟩
abbrev S1x4x128x4x64 : Shape := ⟨5, ![1, 4, 128, 4, 64]⟩

abbrev nBuf : Space → Nat
  | .hbm => 9
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S2048x4608, .bf16⟩
  | .hbm, ⟨2, _⟩ => ⟨S8192x4608, .f32⟩
  | .hbm, ⟨3, _⟩ => ⟨S4x2048x4608, .f32⟩
  | .hbm, ⟨4, _⟩ => ⟨S4x128x512, .f32⟩
  | .hbm, ⟨5, _⟩ => ⟨S4x128x256, .f32⟩
  | .hbm, ⟨6, _⟩ => ⟨S1x4x128x4x64, .f32⟩
  | .hbm, ⟨7, _⟩ => ⟨S4x128x256, .f32⟩
  | .hbm, ⟨8, _⟩ => ⟨S1x4x128x4x64, .f32⟩
  | .local _ .vmem, ⟨0, _⟩ => ⟨S1024x2048, .f32⟩
  | .local _ .vmem, ⟨1, _⟩ => ⟨S1024x2048, .f32⟩
  | .local _ .vmem, ⟨2, _⟩ => ⟨S2048x2304, .bf16⟩
  | .local _ .vmem, ⟨3, _⟩ => ⟨S2048x2304, .bf16⟩
  | .local _ .vmem, ⟨4, _⟩ => ⟨S1024x2304, .f32⟩
  | .local _ .vmem, ⟨5, _⟩ => ⟨S1024x2304, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIn1Ideal.lean ====
abbrev S8192x2048 : Shape := ⟨2, ![8192, 2048]⟩
abbrev S2048x4608 : Shape := ⟨2, ![2048, 4608]⟩
abbrev S8192x4608 : Shape := ⟨2, ![8192, 4608]⟩
abbrev S4x2048x4608 : Shape := ⟨3, ![4, 2048, 4608]⟩
abbrev S4x2048x256 : Shape := ⟨3, ![4, 2048, 256]⟩
abbrev S4x2048x4x64 : Shape := ⟨4, ![4, 2048, 4, 64]⟩
abbrev S4x128x4x64 : Shape := ⟨4, ![4, 128, 4, 64]⟩
abbrev S1x4x128x4x64 : Shape := ⟨5, ![1, 4, 128, 4, 64]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x4608, .bf16⟩
  | .hbm, ⟨2, _⟩ => ⟨S2048x4608, .f32⟩
  | .hbm, ⟨3, _⟩ => ⟨S8192x4608, .f32⟩
  | .hbm, ⟨4, _⟩ => ⟨S4x2048x4608, .f32⟩
  | .hbm, ⟨5, _⟩ => ⟨S4x2048x256, .f32⟩
  | .hbm, ⟨6, _⟩ => ⟨S4x2048x4x64, .f32⟩
  | .hbm, ⟨7, _⟩ => ⟨S4x2048x256, .f32⟩
  | .hbm, ⟨8, _⟩ => ⟨S4x2048x4x64, .f32⟩
  | .hbm, ⟨9, _⟩ => ⟨S4x128x4x64, .f32⟩
  | .hbm, ⟨10, _⟩ => ⟨S1x4x128x4x64, .f32⟩
  | .hbm, ⟨11, _⟩ => ⟨S4x128x4x64, .f32⟩
  | .hbm, ⟨12, _⟩ => ⟨S1x4x128x4x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩

abbrev nD : Nat := 1
abbrev τ : Topo := Topo.v7x

variable {F : FTy → Type} [FloatOps F]
-- ==== KernelIn0.lean ====
abbrev S8192x2048 : Shape := ⟨2, ![8192, 2048]⟩
abbrev S2048x8192 : Shape := ⟨2, ![2048, 8192]⟩
abbrev S2048x2048 : Shape := ⟨2, ![2048, 2048]⟩
abbrev S8192x8192 : Shape := ⟨2, ![8192, 8192]⟩
abbrev S1024x2048 : Shape := ⟨2, ![1024, 2048]⟩
abbrev S64x2048 : Shape := ⟨2, ![64, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048x8192, .bf16⟩
  | .hbm, ⟨2, _⟩ => ⟨S2048x2048, .f32⟩
  | .hbm, ⟨3, _⟩ => ⟨S2048x2048, .f32⟩
  | .hbm, ⟨4, _⟩ => ⟨S8192x8192, .f32⟩
  | .hbm, ⟨5, _⟩ => ⟨S2048x2048, .bf16⟩
  | .hbm, ⟨6, _⟩ => ⟨S2048x2048, .bf16⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S1024x2048, .f32⟩
  | .local _ .vmem, ⟨9, _⟩ => ⟨S1024x2048, .f32⟩
  | .local _ .vmem, ⟨10, _⟩ => ⟨S64x2048, .bf16⟩
  | .local _ .vmem, ⟨11, _⟩ => ⟨S64x2048, .bf16⟩
  | .local _ .vmem, ⟨12, _⟩ => ⟨S64x2048, .bf16⟩
  | .local _ .vmem, ⟨13, _⟩ => ⟨S64x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIn0Ideal.lean ====
abbrev S8192x2048 : Shape := ⟨2, ![8192, 2048]⟩
abbrev S2048x8192 : Shape := ⟨2, ![2048, 8192]⟩
abbrev S2048x2048 : Shape := ⟨2, ![2048, 2048]⟩
abbrev S8192x8192 : Shape := ⟨2, ![8192, 8192]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .bf16⟩
  | .hbm, ⟨2, _⟩ => ⟨S2048x2048, .f32⟩
  | .hbm, ⟨3, _⟩ => ⟨S2048x2048, .f32⟩
  | .hbm, ⟨4, _⟩ => ⟨S2048x8192, .f32⟩
  | .hbm, ⟨5, _⟩ => ⟨S8192x8192, .f32⟩
  | .hbm, ⟨6, _⟩ => ⟨S2048x2048, .bf16⟩
  | .hbm, ⟨7, _⟩ => ⟨S2048x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== KernelOutS.lean ====
abbrev S1024x2048 : Shape := ⟨2, ![1024, 2048]⟩
abbrev S2048x2048 : Shape := ⟨2, ![2048, 2048]⟩
abbrev S1x2048 : Shape := ⟨2, ![1, 2048]⟩
abbrev S512x2048 : Shape := ⟨2, ![512, 2048]⟩
abbrev S128x2048 : Shape := ⟨2, ![128, 2048]⟩
abbrev S128 : Shape := ⟨1, ![128]⟩
abbrev S128x1 : Shape := ⟨2, ![128, 1]⟩

abbrev nBuf : Space → Nat
  | .hbm => 6
  | .vmem => 9
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .bf16⟩
  | .hbm, ⟨2, _⟩ => ⟨S1024x2048, .f32⟩
  | .hbm, ⟨3, _⟩ => ⟨S1x2048, .f32⟩
  | .hbm, ⟨4, _⟩ => ⟨S1x2048, .f32⟩
  | .hbm, ⟨5, _⟩ => ⟨S1024x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceOutSIdeal.lean ====
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩
abbrev S1024 : Shape := ⟨1, ![1024]⟩
abbrev S1024x1 : Shape := ⟨2, ![1024, 1]⟩

abbrev nBuf : Space → Nat
  | .hbm => 39
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S2048x2048, .bf16⟩
  | .hbm, ⟨2, _⟩ => ⟨S1024x2048, .f32⟩
  | .hbm, ⟨3, _⟩ => ⟨S1x2048, .f32⟩
  | .hbm, ⟨4, _⟩ => ⟨S1x2048, .f32⟩
  | .hbm, ⟨5, _⟩ => ⟨S1024x2048, .f32⟩
  | .hbm, ⟨6, _⟩ => ⟨S2048x2048, .f32⟩
  | .hbm, ⟨7, _⟩ => ⟨S1024x2048, .f32⟩
  | .hbm, ⟨8, _⟩ => ⟨S_, .f32⟩
  | .hbm, ⟨9, _⟩ => ⟨S1024x2048, .f32⟩
  | .hbm, ⟨10, _⟩ => ⟨S1024x2048, .f32⟩
  | .hbm, ⟨11, _⟩ => ⟨S1024x2048, .f32⟩
  | .hbm, ⟨12, _⟩ => ⟨S_, .f32⟩
  | .hbm, ⟨13, _⟩ => ⟨S1024, .f32⟩
  | .hbm, ⟨14, _⟩ => ⟨S1024x1, .f32⟩
  | .hbm, ⟨15, _⟩ => ⟨S_, .f32⟩
  | .hbm, ⟨16, _⟩ => ⟨S1024x1, .f32⟩
  | .hbm, ⟨17, _⟩ => ⟨S1024x1, .f32⟩
  | .hbm, ⟨18, _⟩ => ⟨S1024x2048, .f32⟩
  | .hbm, ⟨19, _⟩ => ⟨S1024x2048, .f32⟩
  | .hbm, ⟨20, _⟩ => ⟨S1024x2048, .f32⟩
  | .hbm, ⟨21, _⟩ => ⟨S_, .f32⟩
  | .hbm, ⟨22, _⟩ => ⟨S1024, .f32⟩
  | .hbm, ⟨23, _⟩ => ⟨S1024x1, .f32⟩
  | .hbm, ⟨24, _⟩ => ⟨S_, .f32⟩
  | .hbm, ⟨25, _⟩ => ⟨S1024x1, .f32⟩
  | .hbm, ⟨26, _⟩ => ⟨S1024x1, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x1, .f32⟩
  | .hbm, ⟨31, _⟩ => ⟨S1024x1, .f32⟩
  | .hbm, ⟨32, _⟩ => ⟨S1024x1, .f32⟩
  | .hbm, ⟨33, _⟩ => ⟨S1024x2048, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S1024x2048, .f32⟩
  | .hbm, ⟨38, _⟩ => ⟨S1024x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== KernelTail.lean ====
abbrev S1024x2048 : Shape := ⟨2, ![1024, 2048]⟩
abbrev S128x2048 : Shape := ⟨2, ![128, 2048]⟩
abbrev S2048x2048 : Shape := ⟨2, ![2048, 2048]⟩
abbrev S1x2048 : Shape := ⟨2, ![1, 2048]⟩
abbrev S1152x2048 : Shape := ⟨2, ![1152, 2048]⟩
abbrev S128 : Shape := ⟨1, ![128]⟩
abbrev S128x1 : Shape := ⟨2, ![128, 1]⟩

abbrev nBuf : Space → Nat
  | .hbm => 8
  | .vmem => 11
  | .smem => 0
  | _ => 0

abbrev bufTy : (tb : Table) → Fin (tcTables nBuf tb) → BufTy
  | .hbm, ⟨0, _⟩ => ⟨S1024x2048, .bf16⟩
  | .hbm, ⟨1, _⟩ => ⟨S128x2048, .bf16⟩
  | .hbm, ⟨2, _⟩ => ⟨S2048x2048, .bf16⟩
  | .hbm, ⟨3, _⟩ => ⟨S1024x2048, .f32⟩
  | .hbm, ⟨4, _⟩ => ⟨S128x2048, .f32⟩
  | .hbm, ⟨5, _⟩ => ⟨S1x2048, .f32⟩
  | .hbm, ⟨6, _⟩ => ⟨S1x2048, .f32⟩
  | .hbm, ⟨7, _⟩ => ⟨S1152x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S2048x2048, .bf16⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S1x2048, .f32⟩
  | .local _ .vmem, ⟨8, _⟩ => ⟨S1x2048, .f32⟩
  | .local _ .vmem, ⟨9, _⟩ => ⟨S128x2048, .f32⟩
  | .local _ .vmem, ⟨10, _⟩ => ⟨S128x2048, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceTailIdeal.lean ====
abbrev S1024x2048 : Shape := ⟨2, ![1024, 2048]⟩
abbrev S128x2048 : Shape := ⟨2, ![128, 2048]⟩
abbrev S2048x2048 : Shape := ⟨2, ![2048, 2048]⟩
abbrev S1x2048 : Shape := ⟨2, ![1, 2048]⟩
abbrev S1152x2048 : Shape := ⟨2, ![1152, 2048]⟩
abbrev S_ : Shape := ⟨0, ![]⟩
abbrev S1152 : Shape := ⟨1, ![1152]⟩
abbrev S1152x1 : Shape := ⟨2, ![1152, 1]⟩

abbrev nBuf : Space → Nat
  | .hbm => 44
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S128x2048, .bf16⟩
  | .hbm, ⟨2, _⟩ => ⟨S2048x2048, .bf16⟩
  | .hbm, ⟨3, _⟩ => ⟨S1024x2048, .f32⟩
  | .hbm, ⟨4, _⟩ => ⟨S128x2048, .f32⟩
  | .hbm, ⟨5, _⟩ => ⟨S1x2048, .f32⟩
  | .hbm, ⟨6, _⟩ => ⟨S1x2048, .f32⟩
  | .hbm, ⟨7, _⟩ => ⟨S1024x2048, .f32⟩
  | .hbm, ⟨8, _⟩ => ⟨S128x2048, .f32⟩
  | .hbm, ⟨9, _⟩ => ⟨S1152x2048, .f32⟩
  | .hbm, ⟨10, _⟩ => ⟨S1152x2048, .f32⟩
  | .hbm, ⟨11, _⟩ => ⟨S_, .f32⟩
  | .hbm, ⟨12, _⟩ => ⟨S1152x2048, .f32⟩
  | .hbm, ⟨13, _⟩ => ⟨S1152x2048, .f32⟩
  | .hbm, ⟨14, _⟩ => ⟨S2048x2048, .f32⟩
  | .hbm, ⟨15, _⟩ => ⟨S1152x2048, .f32⟩
  | .hbm, ⟨16, _⟩ => ⟨S1152x2048, .f32⟩
  | .hbm, ⟨17, _⟩ => ⟨S_, .f32⟩
  | .hbm, ⟨18, _⟩ => ⟨S1152, .f32⟩
  | .hbm, ⟨19, _⟩ => ⟨S1152x1, .f32⟩
  | .hbm, ⟨20, _⟩ => ⟨S_, .f32⟩
  | .hbm, ⟨21, _⟩ => ⟨S1152x1, .f32⟩
  | .hbm, ⟨22, _⟩ => ⟨S1152x1, .f32⟩
  | .hbm, ⟨23, _⟩ => ⟨S1152x2048, .f32⟩
  | .hbm, ⟨24, _⟩ => ⟨S1152x2048, .f32⟩
  | .hbm, ⟨25, _⟩ => ⟨S1152x2048, .f32⟩
  | .hbm, ⟨26, _⟩ => ⟨S_, .f32⟩
  | .hbm, ⟨27, _⟩ => ⟨S1152, .f32⟩
  | .hbm, ⟨28, _⟩ => ⟨S1152x1, .f32⟩
  | .hbm, ⟨29, _⟩ => ⟨S_, .f32⟩
  | .hbm, ⟨30, _⟩ => ⟨S1152x1, .f32⟩
  | .hbm, ⟨31, _⟩ => ⟨S1152x1, .f32⟩
  | .hbm, ⟨32, _⟩ => ⟨S1152x2048, .f32⟩
  | .hbm, ⟨33, _⟩ => ⟨S1152x2048, .f32⟩
  | .hbm, ⟨34, _⟩ => ⟨S_, .f32⟩
  | .hbm, ⟨35, _⟩ => ⟨S1152x1, .f32⟩
  | .hbm, ⟨36, _⟩ => ⟨S1152x1, .f32⟩
  | .hbm, ⟨37, _⟩ => ⟨S1152x1, .f32⟩
  | .hbm, ⟨38, _⟩ => ⟨S1152x2048, .f32⟩
  | .hbm, ⟨39, _⟩ => ⟨S1152x2048, .f32⟩
  | .hbm, ⟨40, _⟩ => ⟨S1152x2048, .f32⟩
  | .hbm, ⟨41, _⟩ => ⟨S1152x2048, .f32⟩
  | .hbm, ⟨42, _⟩ => ⟨S1152x2048, .f32⟩
  | .hbm, ⟨43, _⟩ => ⟨S1152x2048, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== KernelCast0.lean ====
abbrev S1024x2048 : Shape := ⟨2, ![1024, 2048]⟩
abbrev S128x2048 : Shape := ⟨2, ![128, 2048]⟩
abbrev S2048x8192 : Shape := ⟨2, ![2048, 8192]⟩
abbrev S1152x8192 : Shape := ⟨2, ![1152, 8192]⟩
abbrev S2048x1024 : Shape := ⟨2, ![2048, 1024]⟩
abbrev S1152x1024 : Shape := ⟨2, ![1152, 1024]⟩
abbrev S1152x2048 : Shape := ⟨2, ![1152, 2048]⟩

abbrev nBuf : Space → Nat
  | .hbm => 5
  | .vmem => 9
  | .smem => 0
  | _ => 0

abbrev bufTy : (tb : Table) → Fin (tcTables nBuf tb) → BufTy
  | .hbm, ⟨0, _⟩ => ⟨S1024x2048, .f32⟩
  | .hbm, ⟨1, _⟩ => ⟨S128x2048, .f32⟩
  | .hbm, ⟨2, _⟩ => ⟨S2048x8192, .f32⟩
  | .hbm, ⟨3, _⟩ => ⟨S1152x8192, .f32⟩
  | .hbm, ⟨4, _⟩ => ⟨S2048x8192, .bf16⟩
  | .local _ .vmem, ⟨0, _⟩ => ⟨S1024x2048, .f32⟩
  | .local _ .vmem, ⟨1, _⟩ => ⟨S128x2048, .f32⟩
  | .local _ .vmem, ⟨2, _⟩ => ⟨S2048x1024, .f32⟩
  | .local _ .vmem, ⟨3, _⟩ => ⟨S2048x1024, .f32⟩
  | .local _ .vmem, ⟨4, _⟩ => ⟨S1152x1024, .f32⟩
  | .local _ .vmem, ⟨5, _⟩ => ⟨S1152x1024, .f32⟩
  | .local _ .vmem, ⟨6, _⟩ => ⟨S2048x1024, .bf16⟩
  | .local _ .vmem, ⟨7, _⟩ => ⟨S2048x1024, .bf16⟩
  | .local _ .vmem, ⟨8, _⟩ => ⟨S1152x2048, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceCast0Ideal.lean ====
abbrev S1024x2048 : Shape := ⟨2, ![1024, 2048]⟩
abbrev S128x2048 : Shape := ⟨2, ![128, 2048]⟩
abbrev S2048x8192 : Shape := ⟨2, ![2048, 8192]⟩
abbrev S1152x2048 : Shape := ⟨2, ![1152, 2048]⟩
abbrev S1152x8192 : Shape := ⟨2, ![1152, 8192]⟩

abbrev nBuf : Space → Nat
  | .hbm => 6
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S128x2048, .f32⟩
  | .hbm, ⟨2, _⟩ => ⟨S2048x8192, .f32⟩
  | .hbm, ⟨3, _⟩ => ⟨S1152x2048, .f32⟩
  | .hbm, ⟨4, _⟩ => ⟨S1152x8192, .f32⟩
  | .hbm, ⟨5, _⟩ => ⟨S2048x8192, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelCast1.lean ====
abbrev S1152x2048 : Shape := ⟨2, ![1152, 2048]⟩
abbrev S2048x4608 : Shape := ⟨2, ![2048, 4608]⟩
abbrev S1152x4608 : Shape := ⟨2, ![1152, 4608]⟩
abbrev S1024x2048 : Shape := ⟨2, ![1024, 2048]⟩
abbrev S128x2048 : Shape := ⟨2, ![128, 2048]⟩
abbrev S2048x512 : Shape := ⟨2, ![2048, 512]⟩
abbrev S1152x512 : Shape := ⟨2, ![1152, 512]⟩

abbrev nBuf : Space → Nat
  | .hbm => 4
  | .vmem => 9
  | .smem => 0
  | _ => 0

abbrev bufTy : (tb : Table) → Fin (tcTables nBuf tb) → BufTy
  | .hbm, ⟨0, _⟩ => ⟨S1152x2048, .f32⟩
  | .hbm, ⟨1, _⟩ => ⟨S2048x4608, .f32⟩
  | .hbm, ⟨2, _⟩ => ⟨S1152x4608, .f32⟩
  | .hbm, ⟨3, _⟩ => ⟨S2048x4608, .bf16⟩
  | .local _ .vmem, ⟨0, _⟩ => ⟨S1024x2048, .f32⟩
  | .local _ .vmem, ⟨1, _⟩ => ⟨S128x2048, .f32⟩
  | .local _ .vmem, ⟨2, _⟩ => ⟨S2048x512, .f32⟩
  | .local _ .vmem, ⟨3, _⟩ => ⟨S2048x512, .f32⟩
  | .local _ .vmem, ⟨4, _⟩ => ⟨S1152x512, .f32⟩
  | .local _ .vmem, ⟨5, _⟩ => ⟨S1152x512, .f32⟩
  | .local _ .vmem, ⟨6, _⟩ => ⟨S2048x512, .bf16⟩
  | .local _ .vmem, ⟨7, _⟩ => ⟨S2048x512, .bf16⟩
  | .local _ .vmem, ⟨8, _⟩ => ⟨S1152x2048, .bf16⟩
  | _, _ => ⟨S1152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat]

def cc0_transform_2 (i : grid0.Coords) : Fin 2 → Nat :=
  let arg0 : BitVec 32 := BitVec.ofNat 32 (i 0).val
  let c4_i32 : BitVec 32 := 4#32
  let v0 : BitVec 1 := Scalar.cmpi .slt arg0 c4_i32
  let c8_i32 : BitVec 32 := 8#32
  let v1 : BitVec 1 := Scalar.cmpi .slt arg0 c8_i32
  let c1_i32 : BitVec 32 := 1#32
  let v2 : BitVec 32 := Scalar.addi arg0 c1_i32
  let c4_i32_0 : BitVec 32 := 4#32
  let v3 : BitVec 32 := Scalar.select v1 v2 c4_i32_0
  let v4 : BitVec 32 := Scalar.select v0 arg0 v3
  let c0_i32 : BitVec 32 := 0#32
  let c0_i32_1 : BitVec 32 := 0#32
  ![c0_i32.toNat, v4.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceCast1Ideal.lean ====
abbrev S1152x2048 : Shape := ⟨2, ![1152, 2048]⟩
abbrev S2048x4608 : Shape := ⟨2, ![2048, 4608]⟩
abbrev S2048x2048 : Shape := ⟨2, ![2048, 2048]⟩
abbrev S2048x256 : Shape := ⟨2, ![2048, 256]⟩
abbrev S1152x4608 : Shape := ⟨2, ![1152, 4608]⟩
abbrev S1152x256 : Shape := ⟨2, ![1152, 256]⟩

abbrev nBuf : Space → Nat
  | .hbm => 14
  | .vmem => 0
  | .smem => 0
  | _ => 0

abbrev bufTy : (tb : Table) → Fin (tcTables nBuf tb) → BufTy
  | .hbm, ⟨0, _⟩ => ⟨S1152x2048, .f32⟩
  | .hbm, ⟨1, _⟩ => ⟨S2048x4608, .f32⟩
  | .hbm, ⟨2, _⟩ => ⟨S2048x2048, .f32⟩
  | .hbm, ⟨3, _⟩ => ⟨S2048x256, .f32⟩
  | .hbm, ⟨4, _⟩ => ⟨S2048x256, .f32⟩
  | .hbm, ⟨5, _⟩ => ⟨S2048x2048, .f32⟩
  | .hbm, ⟨6, _⟩ => ⟨S2048x4608, .f32⟩
  | .hbm, ⟨7, _⟩ => ⟨S1152x4608, .f32⟩
  | .hbm, ⟨8, _⟩ => ⟨S1152x2048, .f32⟩
  | .hbm, ⟨9, _⟩ => ⟨S1152x256, .f32⟩
  | .hbm, ⟨10, _⟩ => ⟨S1152x256, .f32⟩
  | .hbm, ⟨11, _⟩ => ⟨S1152x2048, .f32⟩
  | .hbm, ⟨12, _⟩ => ⟨S1152x4608, .f32⟩
  | .hbm, ⟨13, _⟩ => ⟨S2048x4608, .bf16⟩
  | _, _ => ⟨S1152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== KernelStep.lean ====
abbrev S1152x4608 : Shape := ⟨2, ![1152, 4608]⟩
abbrev S128x128x4x64 : Shape := ⟨4, ![128, 128, 4, 64]⟩
abbrev S32 : Shape := ⟨1, ![32]⟩
abbrev S1x32 : Shape := ⟨2, ![1, 32]⟩
abbrev S1x32x8 : Shape := ⟨3, ![1, 32, 8]⟩
abbrev S1x256 : Shape := ⟨2, ![1, 256]⟩
abbrev S128x128x256 : Shape := ⟨3, ![128, 128, 256]⟩
abbrev S1024x2048 : Shape := ⟨2, ![1024, 2048]⟩
abbrev S256x2048 : Shape := ⟨2, ![256, 2048]⟩
abbrev S256x256 : Shape := ⟨2, ![256, 256]⟩
abbrev S32x128x256 : Shape := ⟨3, ![32, 128, 256]⟩
abbrev S136x256 : Shape := ⟨2, ![136, 256]⟩
abbrev S8x128 : Shape := ⟨2, ![8, 128]⟩
abbrev S1x128x256 : Shape := ⟨3, ![1, 128, 256]⟩
abbrev S128x256 : Shape := ⟨2, ![128, 256]⟩
abbrev S8x256 : Shape := ⟨2, ![8, 256]⟩
abbrev S120x256 : Shape := ⟨2, ![120, 256]⟩
abbrev S1x120x256 : Shape := ⟨3, ![1, 120, 256]⟩
abbrev S1x8x256 : Shape := ⟨3, ![1, 8, 256]⟩
abbrev S8x2048 : Shape := ⟨2, ![8, 2048]⟩
abbrev S256 : Shape := ⟨1, ![256]⟩

abbrev nBuf : Space → Nat
  | .hbm => 12
  | .vmem => 19
  | .smem => 0
  | _ => 0

abbrev bufTy : (tb : Table) → Fin (tcTables nBuf tb) → BufTy
  | .hbm, ⟨0, _⟩ => ⟨S1152x4608, .f32⟩
  | .hbm, ⟨1, _⟩ => ⟨S128x128x4x64, .f32⟩
  | .hbm, ⟨2, _⟩ => ⟨S128x128x4x64, .f32⟩
  | .hbm, ⟨3, _⟩ => ⟨S32, .f32⟩
  | .hbm, ⟨4, _⟩ => ⟨S1x32, .f32⟩
  | .hbm, ⟨5, _⟩ => ⟨S1x32x8, .f32⟩
  | .hbm, ⟨6, _⟩ => ⟨S1x256, .f32⟩
  | .hbm, ⟨7, _⟩ => ⟨S128x128x256, .f32⟩
  | .hbm, ⟨8, _⟩ => ⟨S128x128x256, .f32⟩
  | .hbm, ⟨9, _⟩ => ⟨S1024x2048, .bf16⟩
  | .hbm, ⟨10, _⟩ => ⟨S128x128x256, .f32⟩
  | .hbm, ⟨11, _⟩ => ⟨S128x128x256, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S32x128x256, .f32⟩
  | .local _ .vmem, ⟨9, _⟩ => ⟨S32x128x256, .f32⟩
  | .local _ .vmem, ⟨10, _⟩ => ⟨S32x128x256, .f32⟩
  | .local _ .vmem, ⟨11, _⟩ => ⟨S32x128x256, .f32⟩
  | .local _ .vmem, ⟨12, _⟩ => ⟨S1x256, .f32⟩
  | .local _ .vmem, ⟨13, _⟩ => ⟨S256x2048, .bf16⟩
  | .local _ .vmem, ⟨14, _⟩ => ⟨S256x2048, .bf16⟩
  | .local _ .vmem, ⟨15, _⟩ => ⟨S32x128x256, .f32⟩
  | .local _ .vmem, ⟨16, _⟩ => ⟨S32x128x256, .f32⟩
  | .local _ .vmem, ⟨17, _⟩ => ⟨S32x128x256, .f32⟩
  | .local _ .vmem, ⟨18, _⟩ => ⟨S32x128x256, .f32⟩
  | _, _ => ⟨S1152x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_8 : BitVec 32 := 0#32
  let c4_i32 : BitVec 32 := 4#32
  let v36 : BitVec 32 := Scalar.addi c0_i32_8 c4_i32
  let c1_i32_9 : BitVec 32 := 1#32
  ⟨c0_i32_8, v36, c1_i32_9⟩
def k0_mult1 (k0_t1 : Fin k0_t1_loop.trips) : BitVec 32 :=
  let c0_i32_8 : BitVec 32 := 0#32
  let c1_i32_9 : BitVec 32 := 1#32
  let arg11 : BitVec 32 := Scf.iv c0_i32_8 c1_i32_9 k0_t1
  let c8_i32_11 : BitVec 32 := 8#32
  let v37 : BitVec 32 := Scalar.muli arg11 c8_i32_11
  let c0_i32_12 : BitVec 32 := 0#32
  let v38 : BitVec 32 := Scalar.addi v37 c0_i32_12
  let c8_i32_22 : BitVec 32 := 8#32
  let v53 : BitVec 32 := Scalar.muli v38 c8_i32_22
  v53
def k0_mult2 (k0_t1 : Fin k0_t1_loop.trips) : BitVec 32 :=
  let c0_i32_8 : BitVec 32 := 0#32
  let c1_i32_9 : BitVec 32 := 1#32
  let arg11 : BitVec 32 := Scf.iv c0_i32_8 c1_i32_9 k0_t1
  let c8_i32_13 : BitVec 32 := 8#32
  let v39 : BitVec 32 := Scalar.muli arg11 c8_i32_13
  let c1_i32_14 : BitVec 32 := 1#32
  let v40 : BitVec 32 := Scalar.addi v39 c1_i32_14
  let c8_i32_23 : BitVec 32 := 8#32
  let v55 : BitVec 32 := Scalar.muli v40 c8_i32_23
  v55
def k0_mult3 (k0_t1 : Fin k0_t1_loop.trips) : BitVec 32 :=
  let c0_i32_8 : BitVec 32 := 0#32
  let c1_i32_9 : BitVec 32 := 1#32
  let arg11 : BitVec 32 := Scf.iv c0_i32_8 c1_i32_9 k0_t1
  let c8_i32_15 : BitVec 32 := 8#32
  let v41 : BitVec 32 := Scalar.muli arg11 c8_i32_15
  let c2_i32 : BitVec 32 := 2#32
  let v42 : BitVec 32 := Scalar.addi v41 c2_i32
  let c8_i32_24 : BitVec 32 := 8#32
  let v57 : BitVec 32 := Scalar.muli v42 c8_i32_24
  v57
def k0_mult4 (k0_t1 : Fin k0_t1_loop.trips) : BitVec 32 :=
  let c0_i32_8 : BitVec 32 := 0#32
  let c1_i32_9 : BitVec 32 := 1#32
  let arg11 : BitVec 32 := Scf.iv c0_i32_8 c1_i32_9 k0_t1
  let c8_i32_16 : BitVec 32 := 8#32
  let v43 : BitVec 32 := Scalar.muli arg11 c8_i32_16
  let c3_i32 : BitVec 32 := 3#32
  let v44 : BitVec 32 := Scalar.addi v43 c3_i32
  let c8_i32_25 : BitVec 32 := 8#32
  let v59 : BitVec 32 := Scalar.muli v44 c8_i32_25
  v59
def k0_mult5 (k0_t1 : Fin k0_t1_loop.trips) : BitVec 32 :=
  let c0_i32_8 : BitVec 32 := 0#32
  let c1_i32_9 : BitVec 32 := 1#32
  let arg11 : BitVec 32 := Scf.iv c0_i32_8 c1_i32_9 k0_t1
  let c8_i32_17 : BitVec 32 := 8#32
  let v45 : BitVec 32 := Scalar.muli arg11 c8_i32_17
  let c4_i32_18 : BitVec 32 := 4#32
  let v46 : BitVec 32 := Scalar.addi v45 c4_i32_18
  let c8_i32_26 : BitVec 32 := 8#32
  let v61 : BitVec 32 := Scalar.muli v46 c8_i32_26
  v61
def k0_mult6 (k0_t1 : Fin k0_t1_loop.trips) : BitVec 32 :=
  let c0_i32_8 : BitVec 32 := 0#32
  let c1_i32_9 : BitVec 32 := 1#32
  let arg11 : BitVec 32 := Scf.iv c0_i32_8 c1_i32_9 k0_t1
  let c8_i32_19 : BitVec 32 := 8#32
  let v47 : BitVec 32 := Scalar.muli arg11 c8_i32_19
  let c5_i32 : BitVec 32 := 5#32
  let v48 : BitVec 32 := Scalar.addi v47 c5_i32
  let c8_i32_27 : BitVec 32 := 8#32
  let v63 : BitVec 32 := Scalar.muli v48 c8_i32_27
  v63
def k0_mult7 (k0_t1 : Fin k0_t1_loop.trips) : BitVec 32 :=
  let c0_i32_8 : BitVec 32 := 0#32
  let c1_i32_9 : BitVec 32 := 1#32
  let arg11 : BitVec 32 := Scf.iv c0_i32_8 c1_i32_9 k0_t1
  let c8_i32_20 : BitVec 32 := 8#32
  let v49 : BitVec 32 := Scalar.muli arg11 c8_i32_20
  let c6_i32 : BitVec 32 := 6#32
  let v50 : BitVec 32 := Scalar.addi v49 c6_i32
  let c8_i32_28 : BitVec 32 := 8#32
  let v65 : BitVec 32 := Scalar.muli v50 c8_i32_28
  v65
def k0_mult8 (k0_t1 : Fin k0_t1_loop.trips) : BitVec 32 :=
  let c0_i32_8 : BitVec 32 := 0#32
  let c1_i32_9 : BitVec 32 := 1#32
  let arg11 : BitVec 32 := Scf.iv c0_i32_8 c1_i32_9 k0_t1
  let c8_i32_21 : BitVec 32 := 8#32
  let v51 : BitVec 32 := Scalar.muli arg11 c8_i32_21
  let c7_i32 : BitVec 32 := 7#32
  let v52 : BitVec 32 := Scalar.addi v51 c7_i32
  let c8_i32_29 : BitVec 32 := 8#32
  let v67 : BitVec 32 := Scalar.muli v52 c8_i32_29
  v67
def k0_off1 (k0_t1 : Fin k0_t1_loop.trips) (c0_i32_12 : BitVec 32) : Fin 3 → Nat :=
  let c0_i32_8 : BitVec 32 := 0#32
  let c1_i32_9 : BitVec 32 := 1#32
  let arg11 : BitVec 32 := Scf.iv c0_i32_8 c1_i32_9 k0_t1
  let c8_i32_11 : BitVec 32 := 8#32
  let v37 : BitVec 32 := Scalar.muli arg11 c8_i32_11
  let v38 : BitVec 32 := Scalar.addi v37 c0_i32_12
  let v69 : Index := Scalar.indexCast v38
  let c0_30 : Index := 0#32
  let c0_31 : Index := 0#32
  ![v69.toNat, 0, 0]
def k0_off2 (k0_t1 : Fin k0_t1_loop.trips) (c0_i32_12 : BitVec 32) : Fin 2 → Nat :=
  let c0_i32_8 : BitVec 32 := 0#32
  let c1_i32_9 : BitVec 32 := 1#32
  let arg11 : BitVec 32 := Scf.iv c0_i32_8 c1_i32_9 k0_t1
  let c8_i32_11 : BitVec 32 := 8#32
  let v37 : BitVec 32 := Scalar.muli arg11 c8_i32_11
  let v38 : BitVec 32 := Scalar.addi v37 c0_i32_12
  let c8_i32_22 : BitVec 32 := 8#32
  let v53 : BitVec 32 := Scalar.muli v38 c8_i32_22
  let v54 : BitVec 32 := v53
  let v75 : Index := Scalar.indexCast v54
  let c0_34 : Index := 0#32
  ![v75.toNat, 0]
def k0_off3 (k0_t1 : Fin k0_t1_loop.trips) (c0_i32_12 : BitVec 32) : Fin 3 → Nat :=
  let c0_i32_8 : BitVec 32 := 0#32
  let c1_i32_9 : BitVec 32 := 1#32
  let arg11 : BitVec 32 := Scf.iv c0_i32_8 c1_i32_9 k0_t1
  let c8_i32_11 : BitVec 32 := 8#32
  let v37 : BitVec 32 := Scalar.muli arg11 c8_i32_11
  let v38 : BitVec 32 := Scalar.addi v37 c0_i32_12
  let v80 : Index := Scalar.indexCast v38
  let c0_36 : Index := 0#32
  let c0_37 : Index := 0#32
  ![v80.toNat, 0, 0]
def k0_off4 (k0_t1 : Fin k0_t1_loop.trips) (c0_i32_12 : BitVec 32) : Fin 3 → Nat :=
  let c0_i32_8 : BitVec 32 := 0#32
  let c1_i32_9 : BitVec 32 := 1#32
  let arg11 : BitVec 32 := Scf.iv c0_i32_8 c1_i32_9 k0_t1
  let c8_i32_11 : BitVec 32 := 8#32
  let v37 : BitVec 32 := Scalar.muli arg11 c8_i32_11
  let v38 : BitVec 32 := Scalar.addi v37 c0_i32_12
  let v84 : Index := Scalar.indexCast v38
  let c120 : Index := 120#32
  let c0_38 : Index := 0#32
  ![v84.toNat, 120, 0]
def k0_off5 (k0_t1 : Fin k0_t1_loop.trips) (c0_i32_12 : BitVec 32) : Fin 2 → Nat :=
  let c0_i32_8 : BitVec 32 := 0#32
  let c1_i32_9 : BitVec 32 := 1#32
  let arg11 : BitVec 32 := Scf.iv c0_i32_8 c1_i32_9 k0_t1
  let c8_i32_11 : BitVec 32 := 8#32
  let v37 : BitVec 32 := Scalar.muli arg11 c8_i32_11
  let v38 : BitVec 32 := Scalar.addi v37 c0_i32_12
  let c8_i32_22 : BitVec 32 := 8#32
  let v53 : BitVec 32 := Scalar.muli v38 c8_i32_22
  let v54 : BitVec 32 := v53
  let v101 : Index := Scalar.indexCast v54
  let c0_43 : Index := 0#32
  ![v101.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_3 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S32x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelStepIdeal.lean ====
variable {F : FTy → Type} [FloatOps F] [Named F]
def κ : String → Option EReal := fun
  | "log2e" => some (((Real.log 2)⁻¹ : ℝ) : EReal)
  | "scale_log2e" => some (((1 / 8) * (Real.log 2)⁻¹ : ℝ) : EReal)
  | _ => none
-- ==== ReferenceStepIdeal.lean ====
abbrev S1152x4608 : Shape := ⟨2, ![1152, 4608]⟩
abbrev S128x128x4x64 : Shape := ⟨4, ![128, 128, 4, 64]⟩
abbrev S32 : Shape := ⟨1, ![32]⟩
abbrev S1024x4608 : Shape := ⟨2, ![1024, 4608]⟩
abbrev S128x8x4608 : Shape := ⟨3, ![128, 8, 4608]⟩
abbrev S128x8x2048 : Shape := ⟨3, ![128, 8, 2048]⟩
abbrev S128x8x4x8x64 : Shape := ⟨5, ![128, 8, 4, 8, 64]⟩
abbrev S128x8x256 : Shape := ⟨3, ![128, 8, 256]⟩
abbrev S128x8x4x64 : Shape := ⟨4, ![128, 8, 4, 64]⟩
abbrev S128x136x4x64 : Shape := ⟨4, ![128, 136, 4, 64]⟩
abbrev S128x4x136x8x8 : Shape := ⟨5, ![128, 4, 136, 8, 8]⟩
abbrev S128x4x8x8x136 : Shape := ⟨5, ![128, 4, 8, 8, 136]⟩
abbrev S_ : Shape := ⟨0, ![]⟩
abbrev S8x136 : Shape := ⟨2, ![8, 136]⟩
abbrev S1x1x1x8x136 : Shape := ⟨5, ![1, 1, 1, 8, 136]⟩
abbrev S4x8 : Shape := ⟨2, ![4, 8]⟩
abbrev S1x4x8x1x1 : Shape := ⟨5, ![1, 4, 8, 1, 1]⟩
abbrev S128x4x8x8 : Shape := ⟨4, ![128, 4, 8, 8]⟩
abbrev S128x4x8x8x1 : Shape := ⟨5, ![128, 4, 8, 8, 1]⟩
abbrev S128x4x64x8x8 : Shape := ⟨5, ![128, 4, 64, 8, 8]⟩
abbrev S1024x2048 : Shape := ⟨2, ![1024, 2048]⟩
abbrev S128x128x256 : Shape := ⟨3, ![128, 128, 256]⟩

abbrev nBuf : Space → Nat
  | .hbm => 77
  | .vmem => 0
  | .smem => 0
  | _ => 0

abbrev bufTy : (tb : Table) → Fin (tcTables nBuf tb) → BufTy
  | .hbm, ⟨0, _⟩ => ⟨S1152x4608, .f32⟩
  | .hbm, ⟨1, _⟩ => ⟨S128x128x4x64, .f32⟩
  | .hbm, ⟨2, _⟩ => ⟨S128x128x4x64, .f32⟩
  | .hbm, ⟨3, _⟩ => ⟨S32, .f32⟩
  | .hbm, ⟨4, _⟩ => ⟨S1024x4608, .f32⟩
  | .hbm, ⟨5, _⟩ => ⟨S128x8x4608, .f32⟩
  | .hbm, ⟨6, _⟩ => ⟨S128x8x2048, .f32⟩
  | .hbm, ⟨7, _⟩ => ⟨S128x8x4x8x64, .f32⟩
  | .hbm, ⟨8, _⟩ => ⟨S128x8x2048, .f32⟩
  | .hbm, ⟨9, _⟩ => ⟨S128x8x256, .f32⟩
  | .hbm, ⟨10, _⟩ => ⟨S128x8x4x64, .f32⟩
  | .hbm, ⟨11, _⟩ => ⟨S128x8x256, .f32⟩
  | .hbm, ⟨12, _⟩ => ⟨S128x8x4x64, .f32⟩
  | .hbm, ⟨13, _⟩ => ⟨S128x136x4x64, .f32⟩
  | .hbm, ⟨14, _⟩ => ⟨S128x136x4x64, .f32⟩
  | .hbm, ⟨15, _⟩ => ⟨S128x4x136x8x8, .f32⟩
  | .hbm, ⟨16, _⟩ => ⟨S128x4x8x8x136, .f32⟩
  | .hbm, ⟨17, _⟩ => ⟨S_, .f32⟩
  | .hbm, ⟨18, _⟩ => ⟨S128x4x8x8x136, .f32⟩
  | .hbm, ⟨19, _⟩ => ⟨S128x4x8x8x136, .f32⟩
  | .hbm, ⟨20, _⟩ => ⟨S8x136, .i32⟩
  | .hbm, ⟨21, _⟩ => ⟨S_, .i32⟩
  | .hbm, ⟨22, _⟩ => ⟨S8x136, .i32⟩
  | .hbm, ⟨23, _⟩ => ⟨S8x136, .i32⟩
  | .hbm, ⟨24, _⟩ => ⟨S8x136, .i32⟩
  | .hbm, ⟨25, _⟩ => ⟨S8x136, .i32⟩
  | .hbm, ⟨26, _⟩ => ⟨S_, .i32⟩
  | .hbm, ⟨27, _⟩ => ⟨S8x136, .i32⟩
  | .hbm, ⟨28, _⟩ => ⟨S8x136, .i1⟩
  | .hbm, ⟨29, _⟩ => ⟨S_, .i32⟩
  | .hbm, ⟨30, _⟩ => ⟨S8x136, .i32⟩
  | .hbm, ⟨31, _⟩ => ⟨S8x136, .i1⟩
  | .hbm, ⟨32, _⟩ => ⟨S8x136, .i1⟩
  | .hbm, ⟨33, _⟩ => ⟨S1x1x1x8x136, .i1⟩
  | .hbm, ⟨34, _⟩ => ⟨S_, .f32⟩
  | .hbm, ⟨35, _⟩ => ⟨S_, .f32⟩
  | .hbm, ⟨36, _⟩ => ⟨S128x4x8x8x136, .i1⟩
  | .hbm, ⟨37, _⟩ => ⟨S128x4x8x8x136, .f32⟩
  | .hbm, ⟨38, _⟩ => ⟨S128x4x8x8x136, .f32⟩
  | .hbm, ⟨39, _⟩ => ⟨S4x8, .f32⟩
  | .hbm, ⟨40, _⟩ => ⟨S1x4x8x1x1, .f32⟩
  | .hbm, ⟨41, _⟩ => ⟨S_, .f32⟩
  | .hbm, ⟨42, _⟩ => ⟨S128x4x8x8, .f32⟩
  | .hbm, ⟨43, _⟩ => ⟨S128x4x8x8x1, .f32⟩
  | .hbm, ⟨44, _⟩ => ⟨S128x4x8x8x1, .f32⟩
  | .hbm, ⟨45, _⟩ => ⟨S128x4x8x8x1, .f32⟩
  | .hbm, ⟨46, _⟩ => ⟨S128x4x8x8x136, .f32⟩
  | .hbm, ⟨47, _⟩ => ⟨S128x4x8x8x136, .f32⟩
  | .hbm, ⟨48, _⟩ => ⟨S128x4x8x8x136, .f32⟩
  | .hbm, ⟨49, _⟩ => ⟨S_, .f32⟩
  | .hbm, ⟨50, _⟩ => ⟨S128x4x8x8, .f32⟩
  | .hbm, ⟨51, _⟩ => ⟨S128x4x8x8x1, .f32⟩
  | .hbm, ⟨52, _⟩ => ⟨S128x4x8x8x1, .f32⟩
  | .hbm, ⟨53, _⟩ => ⟨S128x4x8x8x1, .f32⟩
  | .hbm, ⟨54, _⟩ => ⟨S128x4x8x8x1, .f32⟩
  | .hbm, ⟨55, _⟩ => ⟨S128x4x8x8x1, .f32⟩
  | .hbm, ⟨56, _⟩ => ⟨S128x4x8x8x136, .f32⟩
  | .hbm, ⟨57, _⟩ => ⟨S128x4x8x8x136, .f32⟩
  | .hbm, ⟨58, _⟩ => ⟨S128x4x64x8x8, .f32⟩
  | .hbm, ⟨59, _⟩ => ⟨S128x8x4x8x64, .f32⟩
  | .hbm, ⟨60, _⟩ => ⟨S128x8x2048, .f32⟩
  | .hbm, ⟨61, _⟩ => ⟨S128x8x2048, .f32⟩
  | .hbm, ⟨62, _⟩ => ⟨S128x8x2048, .f32⟩
  | .hbm, ⟨63, _⟩ => ⟨S_, .f32⟩
  | .hbm, ⟨64, _⟩ => ⟨S128x8x2048, .f32⟩
  | .hbm, ⟨65, _⟩ => ⟨S128x8x2048, .f32⟩
  | .hbm, ⟨66, _⟩ => ⟨S_, .f32⟩
  | .hbm, ⟨67, _⟩ => ⟨S128x8x2048, .f32⟩
  | .hbm, ⟨68, _⟩ => ⟨S128x8x2048, .f32⟩
  | .hbm, ⟨69, _⟩ => ⟨S128x8x2048, .f32⟩
  | .hbm, ⟨70, _⟩ => ⟨S128x8x2048, .f32⟩
  | .hbm, ⟨71, _⟩ => ⟨S1024x2048, .f32⟩
  | .hbm, ⟨72, _⟩ => ⟨S1024x2048, .bf16⟩
  | .hbm, ⟨73, _⟩ => ⟨S128x128x4x64, .f32⟩
  | .hbm, ⟨74, _⟩ => ⟨S128x128x256, .f32⟩
  | .hbm, ⟨75, _⟩ => ⟨S128x128x4x64, .f32⟩
  | .hbm, ⟨76, _⟩ => ⟨S128x128x256, .f32⟩
  | _, _ => ⟨S1152x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_0 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_call1_v0 : Ref sig .tc := ⟨.hbm, 61, rfl⟩
abbrev main_call1_v1 : Ref sig .tc := ⟨.hbm, 62, rfl⟩
abbrev main_call1_cst : Ref sig .tc := ⟨.hbm, 63, rfl⟩
abbrev main_call1_v2 : Ref sig .tc := ⟨.hbm, 64, rfl⟩
abbrev main_call1_v3 : Ref sig .tc := ⟨.hbm, 65, rfl⟩
abbrev main_call1_cst_0 : Ref sig .tc := ⟨.hbm, 66, rfl⟩
abbrev main_call1_v4 : Ref sig .tc := ⟨.hbm, 67, rfl⟩
abbrev main_call1_v5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Proof.AttnMath.lean ====
/- The softmax with a sink, over the extended reals: the kernel's form (powers of two of scores scaled by
   `1 / log 2`, one multiplication by the reciprocal of the denominator) is the reference's form. -/
module

public import Idealize.ShloMosaic.PureOps.Ideal
public import Idealize.ShloMosaic.Lib.Pointwise

@[expose] public section

noncomputable section

namespace Cert.AttnMath

open Idealize.ShloMosaic

/-- The factor between a natural exponent and one of base two. -/
def L : ℝ := (Real.log 2)⁻¹

/-- The factor is positive. -/
theorem L_pos : 0 < L := inv_pos.2 (Real.log_pos (by norm_num))

/-- A power of two at a scaled exponent is the exponential. -/
theorem exp2_scaled (x : ℝ) : Ideal.exp2 ((x * L : ℝ) : EReal) = ((Real.exp x : ℝ) : EReal) := by
  rw [Ideal.exp2_coe]
  congr 1
  show (2 : ℝ) ^ (x * L) = _
  rw [Real.rpow_def_of_pos (by norm_num)]
  congr 1
  unfold L
  have h : Real.log 2 ≠ 0 := (Real.log_pos (by norm_num)).ne'
  field_simp

/-- A maximum taken by folding from the bottom is the supremum. -/
theorem fold_max {ι : Type} [Fintype ι] (f : ι → EReal) : Finset.univ.fold max ⊥ f = Finset.univ.sup f := rfl

/-- Multiplication by a finite non-negative factor distributes over a sum. -/
theorem sum_mul {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (by exact_mod_cast hc) (EReal.coe_ne_top c) _ _

/-- A score that is masked or finite, less a finite maximum, has a finite exponential: a sum of such is finite. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The kernel's row of one head: scores `s` and a sink `k` already scaled, values `v`. -/
def kernelRow {ι : Type} [Fintype ι] (s v : ι → EReal) (k : EReal) : EReal :=
  (∑ j, v j * Ideal.exp2 (s j - max (Finset.univ.fold max ⊥ s) k))
    * Ideal.div 1 ((∑ j, Ideal.exp2 (s j - max (Finset.univ.fold max ⊥ s) k))
      + Ideal.exp2 (k - max (Finset.univ.fold max ⊥ s) k))

/-- The reference's row of one head: scores `s`, sink `k`, values `v`. -/
def referenceRow {ι : Type} [Fintype ι] (s v : ι → EReal) (k : EReal) : EReal :=
  ∑ p, v p * Ideal.div (Ideal.exp (s p - max (Finset.univ.fold max ⊥ s) k))
    ((∑ p, Ideal.exp (s p - max (Finset.univ.fold max ⊥ s) k)) + Ideal.exp (k - max (Finset.univ.fold max ⊥ s) k))

/-- A sum over the band is the sum over all positions, when the terms off the common part are zero. -/
theorem sum_band {ι κ : Type} [Fintype ι] [Fintype κ] (pos : κ → ι) (ok : κ → Prop) (hinj : ∀ a b, ok a → ok b → pos a = pos b → a = b)
    (F : κ → EReal) (G : ι → EReal) (hF : ∀ j, ¬ ok j → F j = 0) (hG : ∀ p, (∀ j, ok j → pos j ≠ p) → G p = 0)
    (hFG : ∀ j, ok j → F j = G (pos j)) : ∑ j, F j = ∑ p, G p := by
  classical
  rw [← Finset.sum_filter_add_sum_filter_not Finset.univ ok F,
    Finset.sum_eq_zero (s := Finset.univ.filter fun j => ¬ ok j) (fun j hj => hF j (Finset.mem_filter.1 hj).2), add_zero,
    ← Finset.sum_subset (Finset.subset_univ ((Finset.univ.filter ok).image pos)) (fun p _ hp => hG p fun j hj e =>
      hp (Finset.mem_image.2 ⟨j, Finset.mem_filter.2 ⟨Finset.mem_univ _, hj⟩, e⟩)),
    Finset.sum_image fun a ha b hb e => hinj a b (Finset.mem_filter.1 ha).2 (Finset.mem_filter.1 hb).2 e]
  exact Finset.sum_congr rfl fun j hj => hFG j (Finset.mem_filter.1 hj).2

/-- The kernel's row over a band of keys is the reference's row over all positions: off the band the mask leaves
    nothing, on it the kernel's scores are the reference's times `1 / log 2`. -/
theorem row_both {ι κ : Type} [Fintype ι] [Fintype κ] (pos : κ → ι) (ok : κ → Prop)
    (hinj : ∀ a b, ok a → ok b → pos a = pos b → a = b)
    (sK vK : κ → EReal) (sR vR : ι → EReal) (kK kR : EReal) (k : ℝ) (x : ι → ℝ)
    (hkK : kK = ((k * L : ℝ) : EReal)) (hkR : kR = (k : EReal))
    (hbot : ∀ j, ¬ ok j → sK j = ⊥) (hbotR : ∀ p, (∀ j, ok j → pos j ≠ p) → sR p = ⊥)
    (hs : ∀ j, ok j → sK j = ((x (pos j) * L : ℝ) : EReal)) (hsR : ∀ j, ok j → sR (pos j) = (x (pos j) : EReal))
    (hv : ∀ j, ok j → vK j = vR (pos j)) : kernelRow sK vK kK = referenceRow sR vR kR ∧ ∃ r : ℝ, 0 ≤ r ∧ Ideal.div 1 ((∑ j, Ideal.exp2 (sK j - max (Finset.univ.fold max ⊥ sK) kK))
      + Ideal.exp2 (kK - max (Finset.univ.fold max ⊥ sK) kK)) = (r : EReal) := by
  classical
  subst hkK hkR
  -- the reference's maximum is a real number
  obtain ⟨M, hM⟩ : ∃ M : ℝ, max (Finset.univ.fold max ⊥ sR) (k : EReal) = (M : EReal) := by
    rw [fold_max]
    have h1 : max (Finset.univ.sup sR) (k : EReal) ≠ ⊤ := by
      refine ne_of_lt (max_lt ((Finset.sup_lt_iff (by simp)).2 fun p _ => ?_) (EReal.coe_lt_top k))
      by_cases h : ∃ j, ok j ∧ pos j = p
      · obtain ⟨j, hj, rfl⟩ := h
        rw [hsR j hj]; exact EReal.coe_lt_top _
      · rw [hbotR p fun j hj e => h ⟨j, hj, e⟩]; exact bot_lt_top
    have h2 : max (Finset.univ.sup sR) (k : EReal) ≠ ⊥ :=
      ne_of_gt (lt_of_lt_of_le (EReal.bot_lt_coe k) (le_max_right _ _))
    exact ⟨_, (EReal.coe_toReal h1 h2).symm⟩
  have hle : ∀ a b : ℝ, ((a * L : ℝ) : EReal) ≤ ((b * L : ℝ) : EReal) ↔ (a : EReal) ≤ (b : EReal) := fun a b => by
    rw [EReal.coe_le_coe_iff, EReal.coe_le_coe_iff]; exact mul_le_mul_iff_left₀ L_pos
  have hMK : max (Finset.univ.fold max ⊥ sK) ((k * L : ℝ) : EReal) = ((M * L : ℝ) : EReal) := by
    rw [fold_max] at hM ⊢
    apply le_antisymm
    · refine max_le (Finset.sup_le fun j _ => ?_) ((hle _ _).2 (hM ▸ le_max_right _ _))
      by_cases hj : ok j
      · rw [hs j hj]
        refine (hle _ _).2 ?_
        rw [← hsR j hj, ← hM]
        exact le_max_of_le_left (Finset.le_sup (Finset.mem_univ _))
      · rw [hbot j hj]; exact bot_le
    · -- the maximum is attained
      by_cases hk : (M : EReal) ≤ (k : EReal)
      · exact le_max_of_le_right ((hle _ _).2 hk)
      · have hs' : Finset.univ.sup sR = (M : EReal) := by
          rcases max_choice (Finset.univ.sup sR) (k : EReal) with h | h
          · rw [← h, hM]
          · exact absurd (le_of_eq (hM.symm.trans h)) hk
        have hne : (Finset.univ : Finset ι).Nonempty := by
          by_contra hemp
          rw [Finset.not_nonempty_iff_eq_empty] at hemp
          rw [hemp] at hs'
          exact EReal.bot_ne_coe M hs'
        obtain ⟨p, -, hp⟩ := Finset.exists_mem_eq_sup Finset.univ hne sR
        rw [hs'] at hp
        by_cases h : ∃ j, ok j ∧ pos j = p
        · obtain ⟨j, hj, rfl⟩ := h
          rw [hsR j hj] at hp
          refine le_max_of_le_left ?_
          have e : sK j = ((M * L : ℝ) : EReal) := by rw [hs j hj, EReal.coe_eq_coe_iff.1 hp]
          rw [← e]
          exact Finset.le_sup (Finset.mem_univ j)
        · exact absurd (hp.trans (hbotR p fun j hj e => h ⟨j, hj, e⟩)) (EReal.coe_ne_bot M)
  -- the weights
  have hbotsub : ∀ r : ℝ, (⊥ : EReal) - (r : EReal) = ⊥ := fun r => by rw [sub_eq_add_neg, EReal.bot_add]
  have hwK : ∀ j, ¬ ok j → Ideal.exp2 (sK j - ((M * L : ℝ) : EReal)) = 0 := fun j hj => by
    rw [hbot j hj, hbotsub, Ideal.exp2_bot]
  have hwR : ∀ p, (∀ j, ok j → pos j ≠ p) → Ideal.exp (sR p - (M : EReal)) = 0 := fun p hp => by
    rw [hbotR p hp, hbotsub, Ideal.exp_bot]
  have hw1 : ∀ a : ℝ, Ideal.exp2 (((a * L : ℝ) : EReal) - ((M * L : ℝ) : EReal)) = ((Real.exp (a - M) : ℝ) : EReal) := fun a => by
    rw [← EReal.coe_sub, ← sub_mul, exp2_scaled]
  have hw2 : ∀ a : ℝ, Ideal.exp ((a : EReal) - (M : EReal)) = ((Real.exp (a - M) : ℝ) : EReal) := fun a => by
    rw [← EReal.coe_sub, Ideal.exp_coe]
  have hw : ∀ j, ok j → Ideal.exp2 (sK j - ((M * L : ℝ) : EReal)) = Ideal.exp (sR (pos j) - (M : EReal)) := fun j hj => by
    rw [hs j hj, hsR j hj, hw1, hw2]
  -- every weight of the reference is a non-negative real
  have hreal : ∀ p, Ideal.exp (sR p - (M : EReal)) = (((Ideal.exp (sR p - (M : EReal))).toReal : ℝ) : EReal)
      ∧ 0 ≤ (Ideal.exp (sR p - (M : EReal))).toReal := fun p => by
    by_cases h : ∃ j, ok j ∧ pos j = p
    · obtain ⟨j, hj, rfl⟩ := h
      rw [hsR j hj, hw2]
      exact ⟨rfl, (Real.exp_pos _).le⟩
    · rw [hwR p fun j hj e => h ⟨j, hj, e⟩]
      simp
  have hden : ∃ D : ℝ, 0 < D ∧ (∑ p, Ideal.exp (sR p - (M : EReal))) + Ideal.exp ((k : EReal) - (M : EReal)) = (D : EReal) := by
    refine ⟨(∑ p, (Ideal.exp (sR p - (M : EReal))).toReal) + Real.exp (k - M),
      add_pos_of_nonneg_of_pos (Finset.sum_nonneg fun p _ => (hreal p).2) (Real.exp_pos _), ?_⟩
    rw [hw2, EReal.coe_add, ← sum_coe]
    exact congrArg (· + _) (Finset.sum_congr rfl fun p _ => (hreal p).1)
  obtain ⟨D, hD, hDe⟩ := hden
  have hdenK : (∑ j, Ideal.exp2 (sK j - ((M * L : ℝ) : EReal))) + Ideal.exp2 (((k * L : ℝ) : EReal) - ((M * L : ℝ) : EReal)) = (D : EReal) := by
    rw [← hDe, hw1, hw2]
    exact congrArg (· + _) (sum_band pos ok hinj _ _ hwK hwR hw)
  refine ⟨?_, 1 / D, (one_div_pos.2 hD).le, by rw [hMK, hdenK, Ideal.div_coe hD.ne', one_mul]⟩
  unfold kernelRow referenceRow
  rw [hM, hMK, hDe, hdenK, Ideal.div_coe hD.ne', one_mul,
    sum_band pos ok hinj (fun j => vK j * Ideal.exp2 (sK j - ((M * L : ℝ) : EReal))) (fun p => vR p * Ideal.exp (sR p - (M : EReal)))
      (fun j hj => by rw [hwK j hj, mul_zero]) (fun p hp => by rw [hwR p hp, mul_zero]) (fun j hj => by rw [hv j hj, hw j hj]),
    sum_mul _ _ _ (one_div_pos.2 hD).le]
  exact Finset.sum_congr rfl fun p _ => by rw [Ideal.div_coe hD.ne', mul_assoc]

/-- The kernel's row over a band of keys is the reference's row over all positions. -/
theorem row_eq {ι κ : Type} [Fintype ι] [Fintype κ] (pos : κ → ι) (ok : κ → Prop)
    (hinj : ∀ a b, ok a → ok b → pos a = pos b → a = b)
    (sK vK : κ → EReal) (sR vR : ι → EReal) (kK kR : EReal) (k : ℝ) (x : ι → ℝ)
    (hkK : kK = ((k * L : ℝ) : EReal)) (hkR : kR = (k : EReal))
    (hbot : ∀ j, ¬ ok j → sK j = ⊥) (hbotR : ∀ p, (∀ j, ok j → pos j ≠ p) → sR p = ⊥)
    (hs : ∀ j, ok j → sK j = ((x (pos j) * L : ℝ) : EReal)) (hsR : ∀ j, ok j → sR (pos j) = (x (pos j) : EReal))
    (hv : ∀ j, ok j → vK j = vR (pos j)) : kernelRow sK vK kK = referenceRow sR vR kR :=
  (row_both pos ok hinj sK vK sR vR kK kR k x hkK hkR hbot hbotR hs hsR hv).1

/-- The kernel's row with every weight multiplied by the reciprocal before the sum. -/
def stepRow {ι : Type} [Fintype ι] (s v : ι → EReal) (k : EReal) : EReal :=
  ∑ j, Ideal.exp2 (s j - max (Finset.univ.fold max ⊥ s) k)
    * Ideal.div 1 ((∑ j, Ideal.exp2 (s j - max (Finset.univ.fold max ⊥ s) k))
      + Ideal.exp2 (k - max (Finset.univ.fold max ⊥ s) k)) * v j

/-- Such a row is the kernel's other row, when the reciprocal is a non-negative real number. -/
theorem stepRow_eq {ι : Type} [Fintype ι] (s v : ι → EReal) (k : EReal)
    (h : ∃ r : ℝ, 0 ≤ r ∧ Ideal.div 1 ((∑ j, Ideal.exp2 (s j - max (Finset.univ.fold max ⊥ s) k))
      + Ideal.exp2 (k - max (Finset.univ.fold max ⊥ s) k)) = (r : EReal)) : stepRow s v k = kernelRow s v k := by
  obtain ⟨r, hr, e⟩ := h
  unfold stepRow kernelRow
  rw [e, sum_mul _ _ _ hr]
  exact Finset.sum_congr rfl fun j _ => by ac_rfl

end Cert.AttnMath
-- ==== Proof.AttnBlock.lean ====
/- The attention of one block of 128 queries: every pair of heads the kernel stores is one formula. -/
module

public import proofs.«01_k».proof.Proof.Gen.KernelIdeal.Skeleton
public import proofs.«01_k».proof.Proof.AttnMath
public import Idealize.ShloMosaic.Lib.Pointwise
public import Idealize.ShloMosaic.Lib.Tactic.WordOmega
public import Idealize.ShloMosaic.Lib.IdealHost

@[expose] public section

set_option maxRecDepth 16384

noncomputable section

namespace Cert.KernelIdeal.Hand

open Cert.KernelIdeal Cert.KernelIdeal.Gen Idealize.ShloMosaic Idealize.ShloMosaic.TcCoe Idealize.SL.Sem

/-- The scores of one key head against the eight query heads of its group, two heads to a column block:
    the keys stand twice on the diagonal of a block matrix. -/
def scores (kh : FVec Ideal S256x64 .bf16) (q0 q1 q2 q3 : FVec Ideal S128x128 .f32) : FVec Ideal S512x512 .f32 :=
  matmul dot_S512x128_S512x128_S512x512_1_1_0_0_n_n none
    (concatenate S512x128 0
      [⟨S256x128, concatenate S256x128 1 [⟨S256x64, kh⟩, ⟨S256x64, k0_pay8 (F := Ideal)⟩] concatenates_S256x64_S256x64_S256x128_d1⟩,
       ⟨S256x128, concatenate S256x128 1 [⟨S256x64, k0_pay8 (F := Ideal)⟩, ⟨S256x64, kh⟩] concatenates_S256x64_S256x64_S256x128_d1⟩]
      concatenates_S256x128_S256x128_S512x128_d0)
    (concatenate S512x128 0
      [⟨S128x128, truncf .bf16 q0 bitsLt_bf16_f32⟩, ⟨S128x128, truncf .bf16 q1 bitsLt_bf16_f32⟩,
       ⟨S128x128, truncf .bf16 q2 bitsLt_bf16_f32⟩, ⟨S128x128, truncf .bf16 q3 bitsLt_bf16_f32⟩]
      concatenates_S128x128_S128x128_S128x128_S128x128_S512x128_d0)
    (constant S512x512 .f32 0x00000000#32)

/-- The transposed values of one key head, twice on the diagonal of a block matrix. -/
def valuesDiag (vt : FVec Ideal S64x256 .bf16) : FVec Ideal S128x512 .bf16 :=
  concatenate S128x512 0
    [⟨S64x512, concatenate S64x512 1 [⟨S64x256, vt⟩, ⟨S64x256, k0_pay6 (F := Ideal)⟩] concatenates_S64x256_S64x256_S64x512_d1⟩,
     ⟨S64x512, concatenate S64x512 1 [⟨S64x256, k0_pay6 (F := Ideal)⟩, ⟨S64x256, vt⟩] concatenates_S64x256_S64x256_S64x512_d1⟩]
    concatenates_S64x512_S64x512_S128x512_d0

/-- The masked scores of a pair of heads. -/
def masked (sl : FVec Ideal S512x128 .f32) (madd : FVec Ideal S256x128 .f32) : FVec Ideal S2x256x128 .f32 :=
  addf (shapeCast S2x256x128 sl shapeCasts_S512x128_S2x256x128)
    (broadcastTo S2x256x128 (shapeCast S1x256x128 madd shapeCasts_S256x128_S1x256x128) broadcasts_S1x256x128_S2x256x128)

/-- The pair's sinks, scaled. -/
def sinkRow (s0 s1 : Ideal .f32) : FVec Ideal S2x1x128 .f32 :=
  concatenate S2x1x128 0
    [⟨S1x1x128, broadcast S1x1x128 (Scalar.mulf s0 (Named.named κ "log2e" 0x3FB8AA3B#32))⟩,
     ⟨S1x1x128, broadcast S1x1x128 (Scalar.mulf s1 (Named.named κ "log2e" 0x3FB8AA3B#32))⟩]
    concatenates_S1x1x128_S1x1x128_S2x1x128_d0

/-- The pair's maxima. -/
def maxRow (s : FVec Ideal S2x256x128 .f32) (k : FVec Ideal S2x1x128 .f32) : FVec Ideal S2x1x128 .f32 :=
  maximumf (shapeCast S2x1x128 (multiReduction .maximumf [1] S2x128 s 0xFF800000#32 reduces_S2x256x128_S2x128 (.inl rfl) rfl)
    shapeCasts_S2x128_S2x1x128) k

/-- The pair's weights. -/
def weights (s : FVec Ideal S2x256x128 .f32) (k : FVec Ideal S2x1x128 .f32) : FVec Ideal S2x256x128 .f32 :=
  exp2 (subf s (broadcastTo S2x256x128 (maxRow s k) broadcasts_S2x1x128_S2x256x128))

/-- The reciprocals of the pair's denominators. -/
def recips (s : FVec Ideal S2x256x128 .f32) (k : FVec Ideal S2x1x128 .f32) : FVec Ideal S2x1x128 .f32 :=
  divf (broadcast S2x1x128 (Scalar.ofBits .f32 0x3F800000#32))
    (addf (shapeCast S2x1x128 (multiReduction .add [1] S2x128 (weights s k) 0x00000000#32 reduces_S2x256x128_S2x128 (.inl rfl) rfl)
      shapeCasts_S2x128_S2x1x128) (exp2 (subf k (maxRow s k))))

/-- The values the kernel stores for one pair of heads. -/
def pairOut (v2t : FVec Ideal S128x512 .bf16) (s : FVec Ideal S2x256x128 .f32) (k : FVec Ideal S2x1x128 .f32)
    (g : FVec Ideal S128x128 .f32) : FVec Ideal S128x128 .bf16 :=
  truncf .bf16 (mulf (transpose S128x128 [1, 0] (shapeCast S128x128 (mulf
    (shapeCast S2x64x128 (matmul dot_S128x512_S512x128_S128x128_1_0_0_1_n_n none v2t
      (shapeCast S512x128 (truncf .bf16 (weights s k) bitsLt_bf16_f32) shapeCasts_S2x256x128_S512x128)
      (constant S128x128 .f32 0x00000000#32)) shapeCasts_S128x128_S2x64x128)
    (broadcastTo S2x64x128 (recips s k) broadcasts_S2x1x128_S2x64x128)) shapeCasts_S2x64x128_S128x128)
    transposes_S128x128_p1_0_S128x128) (mulf g (logistic g))) bitsLt_bf16_f32

/-- The pattern of minus infinity. -/
theorem ofBits_neg_inf : Ideal.ofBits .f32 0xFF800000#32 = ⊥ := by simp [Ideal.ofBits, Ideal.ieee]

/-- A masked score. -/
theorem masked_at (sl : FVec Ideal S512x128 .f32) (madd : FVec Ideal S256x128 .f32) (h : Fin 2) (j : Fin 256) (r : Fin 128) :
    masked sl madd (ix3 h j r) = sl (ix2 ⟨h * 256 + j, by omega⟩ r) + madd (ix2 j r) := by
  pointwise [masked]

/-- What one output element of a pair of heads is: a row of the softmax of its own head, gated. -/
theorem pairOut_at (vt : FVec Ideal S64x256 .bf16) (s : FVec Ideal S2x256x128 .f32) (k : FVec Ideal S2x1x128 .f32)
    (g : FVec Ideal S128x128 .f32) (h : Fin 2) (d : Fin 64) (r : Fin 128) :
    pairOut (valuesDiag vt) s k g (ix2 r ⟨h * 64 + d, by omega⟩)
      = AttnMath.kernelRow (fun j : Fin 256 => s (ix3 h j r)) (fun j => vt (ix2 d j)) (k (ix3 h 0 r))
        * (g (ix2 r ⟨h * 64 + d, by omega⟩) * Ideal.logistic (g (ix2 r ⟨h * 64 + d, by omega⟩))) := by
  have hd := d.isLt
  have a1 : ∀ x : Fin 256, (x : ℕ) / 256 = 0 := fun x => Nat.div_eq_of_lt x.isLt
  have a2 : ∀ x : Fin 256, (x : ℕ) % 256 = x := fun x => Nat.mod_eq_of_lt x.isLt
  have a3 : ∀ x : Fin 256, (256 + (x : ℕ)) / 256 = 1 := fun x => by omega
  have a4 : ∀ x : Fin 256, (256 + (x : ℕ)) % 256 = x := fun x => by omega
  have b1 : (d : ℕ) / 64 = 0 := by omega
  have b2 : (64 + (d : ℕ)) / 64 = 1 := by omega
  match h with
  | 0 =>
    pointwise [pairOut, valuesDiag, weights, recips, maxRow, k0_pay6, ofBits_neg_inf]
    simp only [a1, a2, a3, a4, b1, Nat.mod_eq_of_lt hd, Nat.zero_mul, Nat.zero_add, hd, dite_true, dite_false, zero_mul, Finset.sum_const_zero, add_zero,
      Fin.zero_eta, Fin.mk_one, Fin.eta, AttnMath.kernelRow]
    rfl
  | 1 =>
    pointwise [pairOut, valuesDiag, weights, recips, maxRow, k0_pay6, ofBits_neg_inf]
    have b3 : ¬ 1 * 64 + (d : ℕ) < 64 := by omega
    have b4 : 1 * 64 + (d : ℕ) - 64 = d := by omega
    simp only [a1, a2, a3, a4, b2, b3, b4, dite_true, dite_false, zero_mul, Finset.sum_const_zero, zero_add,
      Fin.zero_eta, Fin.mk_one, Fin.eta, AttnMath.kernelRow]
    rfl

/-- A score of the kernel, pair 0: the row of a key times the row of a query, over the head's 64 columns. -/
theorem scores_at0 (kh : FVec Ideal S256x64 .bf16) (q0 q1 q2 q3 : FVec Ideal S128x128 .f32) (h : Fin 2) (j : Fin 256) (r : Fin 128) :
    extractStridedSlice S512x128 ![0, 0] (scores kh q0 q1 q2 q3) slices_S512x512_o0_0_S512x128 (ix2 ⟨h * 256 + j, by omega⟩ r)
      = ∑ k : Fin 64, kh (ix2 j k) * q0 (ix2 r ⟨h * 64 + k, by omega⟩) := by
  pointwise [scores, k0_pay8]
  match h with
  | 0 =>
    simp only [dite_true, dite_false, Fin.coe_ofNat_eq_mod, Nat.zero_mod, Nat.zero_mul, Nat.zero_add, j.isLt, zero_mul, Finset.sum_const_zero, add_zero, Fin.eta]
  | 1 =>
    have b3 : ¬ 1 * 256 + (j : ℕ) < 256 := by omega
    have b4 : 1 * 256 + (j : ℕ) - 256 = j := by omega
    have e : ((1 : Fin 2) : ℕ) = 1 := rfl
    simp only [dite_true, dite_false, e, b3, b4, Nat.one_mul, zero_mul, Finset.sum_const_zero, zero_add, Fin.eta]

/-- A score of the kernel, pair 1: the row of a key times the row of a query, over the head's 64 columns. -/
theorem scores_at1 (kh : FVec Ideal S256x64 .bf16) (q0 q1 q2 q3 : FVec Ideal S128x128 .f32) (h : Fin 2) (j : Fin 256) (r : Fin 128) :
    extractStridedSlice S512x128 ![0, 128] (scores kh q0 q1 q2 q3) slices_S512x512_o0_128_S512x128 (ix2 ⟨h * 256 + j, by omega⟩ r)
      = ∑ k : Fin 64, kh (ix2 j k) * q1 (ix2 r ⟨h * 64 + k, by omega⟩) := by
  pointwise [scores, k0_pay8]
  match h with
  | 0 =>
    simp only [dite_true, dite_false, Fin.coe_ofNat_eq_mod, Nat.zero_mod, Nat.zero_mul, Nat.zero_add, j.isLt, zero_mul, Finset.sum_const_zero, add_zero, Fin.eta]
  | 1 =>
    have b3 : ¬ 1 * 256 + (j : ℕ) < 256 := by omega
    have b4 : 1 * 256 + (j : ℕ) - 256 = j := by omega
    have e : ((1 : Fin 2) : ℕ) = 1 := rfl
    simp only [dite_true, dite_false, e, b3, b4, Nat.one_mul, zero_mul, Finset.sum_const_zero, zero_add, Fin.eta]

/-- A score of the kernel, pair 2: the row of a key times the row of a query, over the head's 64 columns. -/
theorem scores_at2 (kh : FVec Ideal S256x64 .bf16) (q0 q1 q2 q3 : FVec Ideal S128x128 .f32) (h : Fin 2) (j : Fin 256) (r : Fin 128) :
    extractStridedSlice S512x128 ![0, 256] (scores kh q0 q1 q2 q3) slices_S512x512_o0_256_S512x128 (ix2 ⟨h * 256 + j, by omega⟩ r)
      = ∑ k : Fin 64, kh (ix2 j k) * q2 (ix2 r ⟨h * 64 + k, by omega⟩) := by
  pointwise [scores, k0_pay8]
  have c1 : ¬ 256 + (r : ℕ) < 128 := by omega
  have c2 : 256 + (r : ℕ) - 128 = 128 + r := by omega
  have c3 : ¬ 128 + (r : ℕ) < 128 := by omega
  have c4 : 128 + (r : ℕ) - 128 = r := by omega
  match h with
  | 0 =>
    simp only [dite_true, dite_false, c1, c2, c3, c4, r.isLt, Fin.coe_ofNat_eq_mod, Nat.zero_mod, Nat.zero_mul, Nat.zero_add, j.isLt, zero_mul, Finset.sum_const_zero, add_zero, Fin.eta]
  | 1 =>
    have b3 : ¬ 1 * 256 + (j : ℕ) < 256 := by omega
    have b4 : 1 * 256 + (j : ℕ) - 256 = j := by omega
    have e : ((1 : Fin 2) : ℕ) = 1 := rfl
    simp only [dite_true, dite_false, c1, c2, c3, c4, r.isLt, e, b3, b4, Nat.one_mul, zero_mul, Finset.sum_const_zero, zero_add, Fin.eta]

/-- A score of the kernel, pair 3: the row of a key times the row of a query, over the head's 64 columns. -/
theorem scores_at3 (kh : FVec Ideal S256x64 .bf16) (q0 q1 q2 q3 : FVec Ideal S128x128 .f32) (h : Fin 2) (j : Fin 256) (r : Fin 128) :
    extractStridedSlice S512x128 ![0, 384] (scores kh q0 q1 q2 q3) slices_S512x512_o0_384_S512x128 (ix2 ⟨h * 256 + j, by omega⟩ r)
      = ∑ k : Fin 64, kh (ix2 j k) * q3 (ix2 r ⟨h * 64 + k, by omega⟩) := by
  pointwise [scores, k0_pay8]
  have c1 : ¬ 384 + (r : ℕ) < 128 := by omega
  have c2 : 384 + (r : ℕ) - 128 = 256 + r := by omega
  have c3 : ¬ 256 + (r : ℕ) < 128 := by omega
  have c4 : 256 + (r : ℕ) - 128 = 128 + r := by omega
  have c5 : ¬ 128 + (r : ℕ) < 128 := by omega
  have c6 : 128 + (r : ℕ) - 128 = r := by omega
  match h with
  | 0 =>
    simp only [dite_true, dite_false, c1, c2, c3, c4, c5, c6, r.isLt, Fin.coe_ofNat_eq_mod, Nat.zero_mod, Nat.zero_mul, Nat.zero_add, j.isLt, zero_mul, Finset.sum_const_zero, add_zero, Fin.eta]
  | 1 =>
    have b3 : ¬ 1 * 256 + (j : ℕ) < 256 := by omega
    have b4 : 1 * 256 + (j : ℕ) - 256 = j := by omega
    have e : ((1 : Fin 2) : ℕ) = 1 := rfl
    simp only [dite_true, dite_false, c1, c2, c3, c4, c5, c6, r.isLt, e, b3, b4, Nat.one_mul, zero_mul, Finset.sum_const_zero, zero_add, Fin.eta]

/-- The sink of a head, in the kernel's scale. -/
theorem sinkRow_at (s0 s1 : Elt Ideal .f32) (h : Fin 2) (r : Fin 128) :
    sinkRow s0 s1 (ix3 h 0 r) = (if h = 0 then s0 else s1) * (Named.named κ "log2e" 1069066811#32 : Ideal .f32) := by
  match h with
  | 0 =>
    pointwise [sinkRow]
  | 1 =>
    pointwise [sinkRow]

/-- The conjunction of two bits. -/
theorem bit_and' (a b : Bool) : IntOp.andi (BitVec.ofBool a) (BitVec.ofBool b) = BitVec.ofBool (a && b) := by
  cases a <;> cases b <;> decide

/-- The disjunction of two bits. -/
theorem bit_or (a b : Bool) : IntOp.ori (BitVec.ofBool a) (BitVec.ofBool b) = BitVec.ofBool (a || b) := by
  cases a <;> cases b <;> decide

/-- A bit that is set. -/
theorem bit_one (a : Bool) : BitVec.ofBool a = 1#1 ↔ a = true := by cases a <;> decide

/-- The condition of the mask, on numbers. -/
theorem maskBit (c : BitVec 32) (hc : c.toNat < 16) (r : Fin 128) (j : Fin 256) :
    IntOp.andi
        (IntOp.andi
          (IntOp.cmpi CmpIPredicate.sge (IntOp.subi (IntOp.addi (128#32) (BitVec.ofNat 32 ↑r)) (BitVec.ofNat 32 ↑j)) 0#32)
          (IntOp.cmpi CmpIPredicate.slt (IntOp.subi (IntOp.addi (128#32) (BitVec.ofNat 32 ↑r)) (BitVec.ofNat 32 ↑j)) 128#32))
        (IntOp.ori (Scalar.xori (Scalar.cmpi CmpIPredicate.eq c 0#32) 1#1) (IntOp.cmpi CmpIPredicate.sge (BitVec.ofNat 32 ↑j) 112#32))
      = 1#1 ↔ ((r : ℕ) < j ∧ (j : ℕ) ≤ r + 128) ∧ (c.toNat = 0 → 112 ≤ (j : ℕ)) := by
  have hr := r.isLt
  have hj := j.isLt
  have e : IntOp.subi (IntOp.addi (128#32) (BitVec.ofNat 32 (r : ℕ))) (BitVec.ofNat 32 (j : ℕ)) = BitVec.ofInt 32 (128 + (r : ℤ) - (j : ℤ)) := by
    unfold IntOp.subi IntOp.addi
    apply BitVec.eq_of_toInt_eq
    have w : ∀ n : ℕ, n < 4096 → (BitVec.ofNat 32 n).toInt = (n : ℤ) := fun n h => by rw [BitVec.toInt_ofNat']; simp only [Int.bmod]; omega
    simp [BitVec.toInt_sub, BitVec.toInt_add, w r (by omega), w j (by omega)]
  have e2 : (BitVec.ofInt 32 (128 + (r : ℤ) - (j : ℤ))).toInt = 128 + (r : ℤ) - (j : ℤ) := by
    rw [BitVec.toInt_ofInt]; simp only [Int.bmod]; omega
  have e3 : Scalar.xori (Scalar.cmpi CmpIPredicate.eq c 0#32) 1#1 = IntOp.cmpi CmpIPredicate.ne c 0#32 := by
    rw [show Scalar.cmpi CmpIPredicate.eq c 0#32 = BitVec.ofBool (decide (c = 0#32)) from WordCmp.cmpi_eq_eq _ _, WordCmp.cmpi_ne_eq]
    by_cases h : c = 0#32
    · subst h; rfl
    · rw [decide_eq_false h, decide_eq_true h]; rfl
  have z0 : (0#32 : BitVec 32).toInt = 0 := rfl
  have z1 : (128#32 : BitVec 32).toInt = 128 := rfl
  have e4 : IntOp.cmpi CmpIPredicate.sge (BitVec.ofNat 32 (j : ℕ)) 112#32 = BitVec.ofBool (decide (112 ≤ (j : ℕ))) := by word_cmp
  have e5 : c ≠ 0#32 ↔ ¬ c.toNat = 0 := by
    constructor
    · intro h h'; exact h (BitVec.eq_of_toNat_eq h')
    · intro h h'; exact h (by rw [h']; rfl)
  rw [e, e3, e4, WordCmp.cmpi_sge_eq, WordCmp.cmpi_slt_eq, WordCmp.cmpi_ne_eq, e2, z0, z1, bit_or, bit_and', bit_and', bit_one, Bool.and_eq_true, Bool.or_eq_true, Bool.and_eq_true,
    decide_eq_true_iff, decide_eq_true_iff, decide_eq_true_iff, decide_eq_true_iff, e5]
  omega

/-- The mask of a block of queries: the keys of the last 128 positions, none before the first real one. -/
theorem mask_at (i : grid0.Coords) (j : Fin 256) (r : Fin 128) :
    k0_pay7 (F := Ideal) i (ix2 j r) = if ((r : ℕ) < j ∧ (j : ℕ) ≤ r + 128) ∧ ((i 1 : ℕ) = 0 → 112 ≤ (j : ℕ)) then 0 else ⊥ := by
  have hi : (i 1 : ℕ) < 16 := (i 1).isLt
  have e : (BitVec.ofNat 32 (i 1 : ℕ)).toNat = (i 1 : ℕ) := by rw [BitVec.toNat_ofNat]; omega
  have hb := maskBit (BitVec.ofNat 32 (i 1 : ℕ)) (by omega) r j
  rw [e] at hb
  pointwise [k0_pay7, ofBits_neg_inf]
  exact if_congr hb rfl rfl

/-- The choice between the block before and the meta rows. -/
theorem firstBit (i : grid0.Coords) : Scalar.cmpi CmpIPredicate.eq (BitVec.ofNat 32 (i 1 : ℕ)) 0#32 = 1#1 ↔ (i 1 : ℕ) = 0 := by
  have hi : (i 1 : ℕ) < 16 := (i 1).isLt
  generalize (i 1 : ℕ) = n at hi ⊢
  word_omega

/-- The keys of a block of queries. -/
theorem keys_at (i : grid0.Coords) (a b : Vec Ideal S128x256 .f32) (p : Vec Ideal S128x256 .f32) (j : Fin 256) (k : Fin 256) :
    k0_pay4 (F := Ideal) i a b p (ix2 j k)
      = (if h : (j : ℕ) < 128 then (if (i 1 : ℕ) = 0 then a (ix2 ⟨j, h⟩ k) else b (ix2 ⟨j, h⟩ k)) else p (ix2 ⟨j - 128, by omega⟩ k)) * (Named.named κ "scale_log2e" 0x3E38AA3B#32 : Ideal .f32) := by
  pointwise [k0_pay4]
  exact congrArg (· * _) (dite_congr rfl (fun h => if_congr (firstBit i) rfl rfl) (fun h => rfl))

/-- The values of a block of queries. -/
theorem values_at (i : grid0.Coords) (a b : Vec Ideal S128x256 .f32) (p : Vec Ideal S128x256 .f32) (j : Fin 256) (k : Fin 256) :
    k0_pay5 (F := Ideal) i a b p (ix2 k j)
      = (if h : (j : ℕ) < 128 then (if (i 1 : ℕ) = 0 then a (ix2 ⟨j, h⟩ k) else b (ix2 ⟨j, h⟩ k)) else p (ix2 ⟨j - 128, by omega⟩ k)) := by
  pointwise [k0_pay5]
  exact dite_congr rfl (fun h => if_congr (firstBit i) rfl rfl) (fun h => rfl)

/-- The first pair of heads of the first key head. -/
theorem pair0 (K V : FVec Ideal S256x256 .bf16) (M : FVec Ideal S256x128 .f32) (q0 q1 q2 q3 g : Vec Ideal S128x128 .f32) (s0 s1 : Elt Ideal .f32) :
    k0_pay45 (k0_pay44 (k0_pay16 V k0_pay6) (k0_pay22 (k0_pay20 M (k0_pay9 K q0 q1 q2 q3) s0 s1)) (k0_pay23 (k0_pay18 s0 s1) (k0_pay19 M (k0_pay9 K q0 q1 q2 q3) s0 s1) (k0_pay20 M (k0_pay9 K q0 q1 q2 q3) s0 s1))) g
    = pairOut (valuesDiag (extractStridedSlice S64x256 ![0, 0] V slices_S256x256_o0_0_S64x256))
      (masked (extractStridedSlice S512x128 ![0, 0] (scores (extractStridedSlice S256x64 ![0, 0] K slices_S256x256_o0_0_S256x64) q0 q1 q2 q3) slices_S512x512_o0_0_S512x128) M)
      (sinkRow s0 s1) g := rfl

/-- The second pair of heads of the first key head. -/
theorem pair1 (K V : FVec Ideal S256x256 .bf16) (M : FVec Ideal S256x128 .f32) (q0 q1 q2 q3 g : Vec Ideal S128x128 .f32) (s0 s1 : Elt Ideal .f32) :
    k0_pay46 (k0_pay16 V k0_pay6) (k0_pay28 M (k0_pay9 K q0 q1 q2 q3) s0 s1) (k0_pay29 M (k0_pay9 K q0 q1 q2 q3) s0 s1) g
    = pairOut (valuesDiag (extractStridedSlice S64x256 ![0, 0] V slices_S256x256_o0_0_S64x256))
      (masked (extractStridedSlice S512x128 ![0, 128] (scores (extractStridedSlice S256x64 ![0, 0] K slices_S256x256_o0_0_S256x64) q0 q1 q2 q3) slices_S512x512_o0_128_S512x128) M)
      (sinkRow s0 s1) g := rfl

/-- The third pair of heads of the first key head. -/
theorem pair2 (K V : FVec Ideal S256x256 .bf16) (M : FVec Ideal S256x128 .f32) (q0 q1 q2 q3 g : Vec Ideal S128x128 .f32) (s0 s1 : Elt Ideal .f32) :
    k0_pay47 (k0_pay16 V k0_pay6) (k0_pay36 (k0_pay30 M (k0_pay9 K q0 q1 q2 q3)) (k0_pay31 s0) (k0_pay32 s1)) (k0_pay37 (k0_pay30 M (k0_pay9 K q0 q1 q2 q3)) (k0_pay31 s0) (k0_pay32 s1)) g
    = pairOut (valuesDiag (extractStridedSlice S64x256 ![0, 0] V slices_S256x256_o0_0_S64x256))
      (masked (extractStridedSlice S512x128 ![0, 256] (scores (extractStridedSlice S256x64 ![0, 0] K slices_S256x256_o0_0_S256x64) q0 q1 q2 q3) slices_S512x512_o0_256_S512x128) M)
      (sinkRow s0 s1) g := rfl

/-- The fourth pair of heads of the first key head. -/
theorem pair3 (K V : FVec Ideal S256x256 .bf16) (M : FVec Ideal S256x128 .f32) (q0 q1 q2 q3 g : Vec Ideal S128x128 .f32) (s0 s1 : Elt Ideal .f32) :
    k0_pay50 (k0_pay48 (k0_pay16 V k0_pay6) (k0_pay42 M (k0_pay9 K q0 q1 q2 q3) s0 s1) (k0_pay43 M (k0_pay9 K q0 q1 q2 q3) s0 s1)) (k0_pay49 g)
    = pairOut (valuesDiag (extractStridedSlice S64x256 ![0, 0] V slices_S256x256_o0_0_S64x256))
      (masked (extractStridedSlice S512x128 ![0, 384] (scores (extractStridedSlice S256x64 ![0, 0] K slices_S256x256_o0_0_S256x64) q0 q1 q2 q3) slices_S512x512_o0_384_S512x128) M)
      (sinkRow s0 s1) g := rfl

/-- The first pair of heads of the second key head. -/
theorem pair4 (K V : FVec Ideal S256x256 .bf16) (M : FVec Ideal S256x128 .f32) (q0 q1 q2 q3 g : Vec Ideal S128x128 .f32) (s0 s1 : Elt Ideal .f32) :
    k0_pay76 (k0_pay51 V k0_pay6) (k0_pay56 M (k0_pay10 K q0 q1 q2 q3) s0 s1) (k0_pay57 M (k0_pay10 K q0 q1 q2 q3) s0 s1) g
    = pairOut (valuesDiag (extractStridedSlice S64x256 ![64, 0] V slices_S256x256_o64_0_S64x256))
      (masked (extractStridedSlice S512x128 ![0, 0] (scores (extractStridedSlice S256x64 ![0, 64] K slices_S256x256_o0_64_S256x64) q0 q1 q2 q3) slices_S512x512_o0_0_S512x128) M)
      (sinkRow s0 s1) g := rfl

/-- The second pair of heads of the second key head. -/
theorem pair5 (K V : FVec Ideal S256x256 .bf16) (M : FVec Ideal S256x128 .f32) (q0 q1 q2 q3 g : Vec Ideal S128x128 .f32) (s0 s1 : Elt Ideal .f32) :
    k0_pay77 (k0_pay51 V k0_pay6) (k0_pay62 (k0_pay58 M (k0_pay10 K q0 q1 q2 q3)) (k0_pay59 s0 s1)) (k0_pay63 (k0_pay58 M (k0_pay10 K q0 q1 q2 q3)) (k0_pay59 s0 s1)) g
    = pairOut (valuesDiag (extractStridedSlice S64x256 ![64, 0] V slices_S256x256_o64_0_S64x256))
      (masked (extractStridedSlice S512x128 ![0, 128] (scores (extractStridedSlice S256x64 ![0, 64] K slices_S256x256_o0_64_S256x64) q0 q1 q2 q3) slices_S512x512_o0_128_S512x128) M)
      (sinkRow s0 s1) g := rfl

/-- The third pair of heads of the second key head. -/
theorem pair6 (K V : FVec Ideal S256x256 .bf16) (M : FVec Ideal S256x128 .f32) (q0 q1 q2 q3 g : Vec Ideal S128x128 .f32) (s0 s1 : Elt Ideal .f32) :
    k0_pay78 (k0_pay51 V k0_pay6) (k0_pay68 M (k0_pay10 K q0 q1 q2 q3) s0 s1) (k0_pay69 M (k0_pay10 K q0 q1 q2 q3) s0 s1) g
    = pairOut (valuesDiag (extractStridedSlice S64x256 ![64, 0] V slices_S256x256_o64_0_S64x256))
      (masked (extractStridedSlice S512x128 ![0, 256] (scores (extractStridedSlice S256x64 ![0, 64] K slices_S256x256_o0_64_S256x64) q0 q1 q2 q3) slices_S512x512_o0_256_S512x128) M)
      (sinkRow s0 s1) g := rfl

/-- The fourth pair of heads of the second key head. -/
theorem pair7 (K V : FVec Ideal S256x256 .bf16) (M : FVec Ideal S256x128 .f32) (q0 q1 q2 q3 g : Vec Ideal S128x128 .f32) (s0 s1 : Elt Ideal .f32) :
    k0_pay79 (k0_pay51 V k0_pay6) (k0_pay74 (k0_pay70 M (k0_pay10 K q0 q1 q2 q3)) s0 (Named.named κ "log2e" 1069066811#32) s1) (k0_pay75 (k0_pay70 M (k0_pay10 K q0 q1 q2 q3)) s0 (Named.named κ "log2e" 1069066811#32) s1) g
    = pairOut (valuesDiag (extractStridedSlice S64x256 ![64, 0] V slices_S256x256_o64_0_S64x256))
      (masked (extractStridedSlice S512x128 ![0, 384] (scores (extractStridedSlice S256x64 ![0, 64] K slices_S256x256_o0_64_S256x64) q0 q1 q2 q3) slices_S512x512_o0_384_S512x128) M)
      (sinkRow s0 s1) g := rfl

/-- The first pair of heads of the third key head. -/
theorem pair8 (K V : FVec Ideal S256x256 .bf16) (M : FVec Ideal S256x128 .f32) (q0 q1 q2 q3 g : Vec Ideal S128x128 .f32) (s0 s1 : Elt Ideal .f32) :
    k0_pay108 (k0_pay87 (k0_pay81 M (k0_pay14 K k0_pay8 (k0_pay11 q0) (k0_pay12 q1) (k0_pay13 q2) q3)) (k0_pay82 s0 s1) (k0_pay83 M (k0_pay14 K k0_pay8 (k0_pay11 q0) (k0_pay12 q1) (k0_pay13 q2) q3))) (k0_pay107 (k0_pay80 V k0_pay6) (k0_pay86 (k0_pay81 M (k0_pay14 K k0_pay8 (k0_pay11 q0) (k0_pay12 q1) (k0_pay13 q2) q3)) (k0_pay82 s0 s1) (k0_pay83 M (k0_pay14 K k0_pay8 (k0_pay11 q0) (k0_pay12 q1) (k0_pay13 q2) q3)))) g
    = pairOut (valuesDiag (extractStridedSlice S64x256 ![128, 0] V slices_S256x256_o128_0_S64x256))
      (masked (extractStridedSlice S512x128 ![0, 0] (scores (extractStridedSlice S256x64 ![0, 128] K slices_S256x256_o0_128_S256x64) q0 q1 q2 q3) slices_S512x512_o0_0_S512x128) M)
      (sinkRow s0 s1) g := rfl

/-- The second pair of heads of the third key head. -/
theorem pair9 (K V : FVec Ideal S256x256 .bf16) (M : FVec Ideal S256x128 .f32) (q0 q1 q2 q3 g : Vec Ideal S128x128 .f32) (s0 s1 : Elt Ideal .f32) :
    k0_pay109 (k0_pay80 V k0_pay6) (k0_pay92 M (k0_pay14 K k0_pay8 (k0_pay11 q0) (k0_pay12 q1) (k0_pay13 q2) q3) s0 s1) (k0_pay93 M (k0_pay14 K k0_pay8 (k0_pay11 q0) (k0_pay12 q1) (k0_pay13 q2) q3) s0 s1) g
    = pairOut (valuesDiag (extractStridedSlice S64x256 ![128, 0] V slices_S256x256_o128_0_S64x256))
      (masked (extractStridedSlice S512x128 ![0, 128] (scores (extractStridedSlice S256x64 ![0, 128] K slices_S256x256_o0_128_S256x64) q0 q1 q2 q3) slices_S512x512_o0_128_S512x128) M)
      (sinkRow s0 s1) g := rfl

/-- The third pair of heads of the third key head. -/
theorem pair10 (K V : FVec Ideal S256x256 .bf16) (M : FVec Ideal S256x128 .f32) (q0 q1 q2 q3 g : Vec Ideal S128x128 .f32) (s0 s1 : Elt Ideal .f32) :
    k0_pay110 (k0_pay80 V k0_pay6) (k0_pay99 (k0_pay94 M (k0_pay14 K k0_pay8 (k0_pay11 q0) (k0_pay12 q1) (k0_pay13 q2) q3)) (k0_pay95 s0) s1) (k0_pay100 (k0_pay94 M (k0_pay14 K k0_pay8 (k0_pay11 q0) (k0_pay12 q1) (k0_pay13 q2) q3)) (k0_pay95 s0) s1) g
    = pairOut (valuesDiag (extractStridedSlice S64x256 ![128, 0] V slices_S256x256_o128_0_S64x256))
      (masked (extractStridedSlice S512x128 ![0, 256] (scores (extractStridedSlice S256x64 ![0, 128] K slices_S256x256_o0_128_S256x64) q0 q1 q2 q3) slices_S512x512_o0_256_S512x128) M)
      (sinkRow s0 s1) g := rfl

/-- The fourth pair of heads of the third key head. -/
theorem pair11 (K V : FVec Ideal S256x256 .bf16) (M : FVec Ideal S256x128 .f32) (q0 q1 q2 q3 g : Vec Ideal S128x128 .f32) (s0 s1 : Elt Ideal .f32) :
    k0_pay112 (k0_pay111 (k0_pay80 V k0_pay6) (k0_pay105 M (k0_pay14 K k0_pay8 (k0_pay11 q0) (k0_pay12 q1) (k0_pay13 q2) q3) s0 s1) (k0_pay106 M (k0_pay14 K k0_pay8 (k0_pay11 q0) (k0_pay12 q1) (k0_pay13 q2) q3) s0 s1)) g
    = pairOut (valuesDiag (extractStridedSlice S64x256 ![128, 0] V slices_S256x256_o128_0_S64x256))
      (masked (extractStridedSlice S512x128 ![0, 384] (scores (extractStridedSlice S256x64 ![0, 128] K slices_S256x256_o0_128_S256x64) q0 q1 q2 q3) slices_S512x512_o0_384_S512x128) M)
      (sinkRow s0 s1) g := rfl

/-- The first pair of heads of the fourth key head. -/
theorem pair12 (K V : FVec Ideal S256x256 .bf16) (M : FVec Ideal S256x128 .f32) (q0 q1 q2 q3 g : Vec Ideal S128x128 .f32) (s0 s1 : Elt Ideal .f32) :
    k0_pay141 (k0_pay113 V k0_pay6) (k0_pay118 M (k0_pay15 K k0_pay8 q0 q1 q2 q3) s0 s1) (k0_pay119 M (k0_pay15 K k0_pay8 q0 q1 q2 q3) s0 s1) g
    = pairOut (valuesDiag (extractStridedSlice S64x256 ![192, 0] V slices_S256x256_o192_0_S64x256))
      (masked (extractStridedSlice S512x128 ![0, 0] (scores (extractStridedSlice S256x64 ![0, 192] K slices_S256x256_o0_192_S256x64) q0 q1 q2 q3) slices_S512x512_o0_0_S512x128) M)
      (sinkRow s0 s1) g := rfl

/-- The second pair of heads of the fourth key head. -/
theorem pair13 (K V : FVec Ideal S256x256 .bf16) (M : FVec Ideal S256x128 .f32) (q0 q1 q2 q3 g : Vec Ideal S128x128 .f32) (s0 s1 : Elt Ideal .f32) :
    k0_pay1 (k0_pay142 (k0_pay113 V k0_pay6) (k0_pay125 (k0_pay120 M (k0_pay15 K k0_pay8 q0 q1 q2 q3)) (k0_pay121 s0) s1) (k0_pay126 (k0_pay120 M (k0_pay15 K k0_pay8 q0 q1 q2 q3)) (k0_pay121 s0) s1)) (k0_pay143 g)
    = pairOut (valuesDiag (extractStridedSlice S64x256 ![192, 0] V slices_S256x256_o192_0_S64x256))
      (masked (extractStridedSlice S512x128 ![0, 128] (scores (extractStridedSlice S256x64 ![0, 192] K slices_S256x256_o0_192_S256x64) q0 q1 q2 q3) slices_S512x512_o0_128_S512x128) M)
      (sinkRow s0 s1) g := rfl

/-- The third pair of heads of the fourth key head. -/
theorem pair14 (K V : FVec Ideal S256x256 .bf16) (M : FVec Ideal S256x128 .f32) (q0 q1 q2 q3 g : Vec Ideal S128x128 .f32) (s0 s1 : Elt Ideal .f32) :
    k0_pay2 (k0_pay113 V k0_pay6) (k0_pay131 M (k0_pay15 K k0_pay8 q0 q1 q2 q3) s0 s1) (k0_pay132 M (k0_pay15 K k0_pay8 q0 q1 q2 q3) s0 s1) g
    = pairOut (valuesDiag (extractStridedSlice S64x256 ![192, 0] V slices_S256x256_o192_0_S64x256))
      (masked (extractStridedSlice S512x128 ![0, 256] (scores (extractStridedSlice S256x64 ![0, 192] K slices_S256x256_o0_192_S256x64) q0 q1 q2 q3) slices_S512x512_o0_256_S512x128) M)
      (sinkRow s0 s1) g := rfl

/-- The fourth pair of heads of the fourth key head. -/
theorem pair15 (K V : FVec Ideal S256x256 .bf16) (M : FVec Ideal S256x128 .f32) (q0 q1 q2 q3 g : Vec Ideal S128x128 .f32) (s0 s1 : Elt Ideal .f32) :
    k0_pay3 (k0_pay113 V k0_pay6) (k0_pay139 (k0_pay133 (k0_pay15 K k0_pay8 q0 q1 q2 q3)) (k0_pay134 M) s0 s1) (k0_pay140 (k0_pay133 (k0_pay15 K k0_pay8 q0 q1 q2 q3)) (k0_pay134 M) s0 s1) g
    = pairOut (valuesDiag (extractStridedSlice S64x256 ![192, 0] V slices_S256x256_o192_0_S64x256))
      (masked (extractStridedSlice S512x128 ![0, 384] (scores (extractStridedSlice S256x64 ![0, 192] K slices_S256x256_o0_192_S256x64) q0 q1 q2 q3) slices_S512x512_o0_384_S512x128) M)
      (sinkRow s0 s1) g := rfl

end Cert.KernelIdeal.Hand
-- ==== Proof.AttnRef.lean ====
/- The reference's attention at one index of its result. -/
module

public import proofs.«01_k».proof.Proof.Gen.ReferenceIdeal.Run
public import proofs.«01_k».proof.Proof.AttnMath
public import Idealize.ShloMosaic.Lib.Pointwise
public import Idealize.ShloMosaic.Lib.Tactic.WordOmega
public import Idealize.ShloMosaic.Lib.IdealHost

@[expose] public section

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

/-- The reference's the columns of the meta rows and of a prompt, joined. -/
def H (S : FVec Ideal S1152x4608 .f32) (X : FVec Ideal S8192x4608 .f32) : FVec Ideal S4x2064x4608 .f32 :=
  (concatenate S4x2064x4608 1 [⟨S4x16x4608, (broadcastInDim S4x16x4608 ![0, 1, 2] bcast_S1x16x4608_S4x16x4608_0_1_2 (broadcastInDim S1x16x4608 ![1, 2] bcast_S16x4608_S1x16x4608_1_2 (extractStridedSlice S16x4608 ![1136, 0] S slices_S1152x4608_S16x4608_1136_0)))⟩, ⟨S4x2048x4608, (shapeCast _ X shapeCasts_S8192x4608_S4x2048x4608)⟩] concatenates_S4x16x4608_S4x2048x4608_S4x2064x4608_d1)

/-- The reference's products of queries and keys. -/
def dotR (S : FVec Ideal S1152x4608 .f32) (X : FVec Ideal S8192x4608 .f32) : FVec Ideal S4x4x8x2048x2064 .f32 :=
  (transpose S4x4x8x2048x2064 [0, 1, 4, 3, 2] (Host.dotGeneral dot_S4x2064x4x64_S4x2048x4x8x64_S4x4x2064x2048x8_3_4_1_13_02_02 none (shapeCast _ (extractStridedSlice S4x2064x256 ![0, 0, 4096] (H S X) slices_S4x2064x4608_S4x2064x256_0_0_4096) shapeCasts_S4x2064x256_S4x2064x4x64) (shapeCast _ (extractStridedSlice S4x2048x2048 ![0, 16, 0] (H S X) slices_S4x2064x4608_S4x2048x2048_0_16_0) shapeCasts_S4x2048x2048_S4x2048x4x8x64)) transposes_S4x4x2064x2048x8_S4x4x8x2048x2064_0_1_4_3_2)

/-- The mask and the scale of the reference's scores. -/
def maskScale (D : FVec Ideal S4x4x8x2048x2064 .f32) : FVec Ideal S4x4x8x2048x2064 .f32 :=
  (select (broadcastInDim S4x4x8x2048x2064 ![0, 1, 2, 3, 4] bcast_S1x1x1x2048x2064_S4x4x8x2048x2064_0_1_2_3_4 (broadcastInDim S1x1x1x2048x2064 ![3, 4] bcast_S2048x2064_S1x1x1x2048x2064_3_4 (andi (cmpi .sge (subi (addi (broadcastInDim S2048x2064 ![] bcast_S_S2048x2064 (constantI S_ 32 16#32)) (iotaInDim S2048x2064 32 0)) (iotaInDim S2048x2064 32 1)) (broadcastInDim S2048x2064 ![] bcast_S_S2048x2064 (constantI S_ 32 0#32))) (cmpi .slt (subi (addi (broadcastInDim S2048x2064 ![] bcast_S_S2048x2064 (constantI S_ 32 16#32)) (iotaInDim S2048x2064 32 0)) (iotaInDim S2048x2064 32 1)) (broadcastInDim S2048x2064 ![] bcast_S_S2048x2064 (constantI S_ 32 128#32)))))) (mulf D (broadcastInDim S4x4x8x2048x2064 ![] bcast_S_S4x4x8x2048x2064 (constant S_ .f32 0x3E000000#32))) (broadcastInDim S4x4x8x2048x2064 ![] bcast_S_S4x4x8x2048x2064 (id (constant S_ .f32 0xFF800000#32))))

/-- The reference's scores. -/
def scoresR (S : FVec Ideal S1152x4608 .f32) (X : FVec Ideal S8192x4608 .f32) : FVec Ideal S4x4x8x2048x2064 .f32 := maskScale (dotR S X)

/-- The maximum of every row. -/
def rowMax (s : FVec Ideal S4x4x8x2048x2064 .f32) (c : FVec Ideal S_ .f32) : FVec Ideal S4x4x8x2048 .f32 :=
  Host.reduce FloatOps.maximumf s c reducesTo_S4x4x8x2048x2064_S4x4x8x2048_d4 h_S_

/-- The maximum of a row and the sink of its head. -/
def withSink (M : FVec Ideal S4x4x8x2048 .f32) (K : FVec Ideal S32 .f32) : FVec Ideal S4x4x8x2048x1 .f32 :=
  (maximumf (broadcastInDim S4x4x8x2048x1 ![0, 1, 2, 3] bcast_S4x4x8x2048_S4x4x8x2048x1_0_1_2_3 M) (broadcastInDim S4x4x8x2048x1 ![0, 1, 2, 3, 4] bcast_S1x4x8x1x1_S4x4x8x2048x1_0_1_2_3_4 (broadcastInDim S1x4x8x1x1 ![1, 2] bcast_S4x8_S1x4x8x1x1_1_2 (shapeCast _ K shapeCasts_S32_S4x8))))

/-- The maximum of a row of the reference's scores. -/
def maxR (S : FVec Ideal S1152x4608 .f32) (X : FVec Ideal S8192x4608 .f32) (K : FVec Ideal S32 .f32) : FVec Ideal S4x4x8x2048x1 .f32 :=
  withSink (rowMax (scoresR S X) (constant S_ .f32 0xFF800000#32)) K

/-- The reference's the numerators. -/
def expR (S : FVec Ideal S1152x4608 .f32) (X : FVec Ideal S8192x4608 .f32) (K : FVec Ideal S32 .f32) : FVec Ideal S4x4x8x2048x2064 .f32 :=
  (Host.exp (subf (scoresR S X) (broadcastInDim S4x4x8x2048x2064 ![0, 1, 2, 3, 4] bcast_S4x4x8x2048x1_S4x4x8x2048x2064_0_1_2_3_4 (maxR S X K))))

/-- The reference's the denominators. -/
def denR (S : FVec Ideal S1152x4608 .f32) (X : FVec Ideal S8192x4608 .f32) (K : FVec Ideal S32 .f32) : FVec Ideal S4x4x8x2048x1 .f32 :=
  (addf (broadcastInDim S4x4x8x2048x1 ![0, 1, 2, 3] bcast_S4x4x8x2048_S4x4x8x2048x1_0_1_2_3 (Host.reduceAdd (expR S X K) (constant S_ .f32 0x00000000#32) reducesTo_S4x4x8x2048x2064_S4x4x8x2048_d4 h_S_)) (Host.exp (subf (broadcastInDim S4x4x8x2048x1 ![0, 1, 2, 3, 4] bcast_S1x4x8x1x1_S4x4x8x2048x1_0_1_2_3_4 (broadcastInDim S1x4x8x1x1 ![1, 2] bcast_S4x8_S1x4x8x1x1_1_2 (shapeCast _ K shapeCasts_S32_S4x8))) (maxR S X K))))

/-- The reference's the values. -/
def valR (S : FVec Ideal S1152x4608 .f32) (X : FVec Ideal S8192x4608 .f32) : FVec Ideal S4x2064x4x64 .f32 :=
  (shapeCast _ (extractStridedSlice S4x2064x256 ![0, 0, 4352] (H S X) slices_S4x2064x4608_S4x2064x256_0_0_4352) shapeCasts_S4x2064x256_S4x2064x4x64)

/-- The reference's attention before the gate. -/
def attR (S : FVec Ideal S1152x4608 .f32) (X : FVec Ideal S8192x4608 .f32) (K : FVec Ideal S32 .f32) : FVec Ideal S4x4x64x8x2048 .f32 :=
  (Host.dotGeneral dot_S4x2064x4x64_S4x4x8x2048x2064_S4x4x64x8x2048_1_4_3_23_02_01 none (valR S X) (Host.divf (expR S X K) (broadcastInDim S4x4x8x2048x2064 ![0, 1, 2, 3, 4] bcast_S4x4x8x2048x1_S4x4x8x2048x2064_0_1_2_3_4 (denR S X K))))

/-- The same with the heads joined. -/
def joinR (S : FVec Ideal S1152x4608 .f32) (X : FVec Ideal S8192x4608 .f32) (K : FVec Ideal S32 .f32) : FVec Ideal S4x2048x2048 .f32 :=
  (shapeCast _ (transpose S4x2048x4x8x64 [0, 4, 1, 3, 2] (attR S X K) transposes_S4x4x64x8x2048_S4x2048x4x8x64_0_4_1_3_2) shapeCasts_S4x2048x4x8x64_S4x2048x2048)

/-- The reference's gate. -/
def gateR (S : FVec Ideal S1152x4608 .f32) (X : FVec Ideal S8192x4608 .f32) : FVec Ideal S4x2048x2048 .f32 :=
  (mulf (extractStridedSlice S4x2048x2048 ![0, 16, 2048] (H S X) slices_S4x2064x4608_S4x2048x2048_0_16_2048) (Host.divf (broadcastInDim S4x2048x2048 ![] bcast_S_S4x2048x2048 (constant S_ .f32 0x3F800000#32)) (addf (broadcastInDim S4x2048x2048 ![] bcast_S_S4x2048x2048 (constant S_ .f32 0x3F800000#32)) (Host.exp (Host.negf (extractStridedSlice S4x2048x2048 ![0, 16, 2048] (H S X) slices_S4x2064x4608_S4x2048x2048_0_16_2048))))))

/-- The reference's result. -/
def gated (J G : FVec Ideal S4x2048x2048 .f32) : FVec Ideal S8192x2048 .bf16 :=
  truncf .bf16 (shapeCast _ (mulf J G) shapeCasts_S4x2048x2048_S8192x2048) bitsLt_bf16_f32

/-- The reference's result. -/
def REF (X : FVec Ideal S8192x4608 .f32) (S : FVec Ideal S1152x4608 .f32) (K : FVec Ideal S32 .f32) : FVec Ideal S8192x2048 .bf16 :=
  gated (joinR S X K) (gateR S X)

/-- What the run of the reference leaves is that function of its arguments. -/
theorem res_eq (m : (ℓ : Loc nD τ sig) → Buf (Elt Ideal) ℓ) (c : Dev nD) :
    Cert.ReferenceIdeal.Value.res_main_v51 m c
      = REF (m ((c.tc : Thread nD τ).loc main_arg0)) (m ((c.tc : Thread nD τ).loc main_arg1)) (m ((c.tc : Thread nD τ).loc main_arg2)) := rfl

/-- A row of the joined array: one of the 16 meta rows, or a row of the prompt. -/
def row (X : FVec Ideal S8192x4608 .f32) (S : FVec Ideal S1152x4608 .f32) (b : Fin 4) (p : Fin 2064) (n : Fin 4608) : EReal :=
  if h : (p : ℕ) < 16 then S (ix2 ⟨1136 + p, by omega⟩ n) else X (ix2 ⟨2048 * b + (p - 16), by omega⟩ n)

/-- The joined array at an index. -/
theorem H_at (X : FVec Ideal S8192x4608 .f32) (S : FVec Ideal S1152x4608 .f32) (b : Fin 4) (p : Fin 2064) (n : Fin 4608) :
    H S X (ix3 b p n) = row X S b p n := by
  pointwise [H, row]
  simp only [Nat.mul_comm]

/-- The pattern of minus infinity. -/
theorem ofBits_neg_inf : Ideal.ofBits .f32 0xFF800000#32 = ⊥ := by simp [Ideal.ofBits, Ideal.ieee]

/-- The conjunction of two bits. -/
theorem bit_and (a b : Bool) : IntOp.andi (BitVec.ofBool a) (BitVec.ofBool b) = 1#1 ↔ a = true ∧ b = true := by
  cases a <;> cases b <;> decide

/-- The condition of the reference's mask, on numbers. -/
theorem maskBit (n : Fin 2048) (p : Fin 2064) :
    IntOp.andi
        (IntOp.cmpi CmpIPredicate.sge (IntOp.subi (IntOp.addi (16#32) (BitVec.ofNat 32 ↑n)) (BitVec.ofNat 32 ↑p)) 0#32)
        (IntOp.cmpi CmpIPredicate.slt (IntOp.subi (IntOp.addi (16#32) (BitVec.ofNat 32 ↑n)) (BitVec.ofNat 32 ↑p)) 128#32) = 1#1
      ↔ (n : ℕ) < p + 112 ∧ (p : ℕ) ≤ n + 16 := by
  have hn := n.isLt
  have hp := p.isLt
  have e : IntOp.subi (IntOp.addi (16#32) (BitVec.ofNat 32 (n : ℕ))) (BitVec.ofNat 32 (p : ℕ)) = BitVec.ofInt 32 (16 + (n : ℤ) - (p : ℤ)) := by
    unfold IntOp.subi IntOp.addi
    apply BitVec.eq_of_toInt_eq
    have w : ∀ n : ℕ, n < 4096 → (BitVec.ofNat 32 n).toInt = (n : ℤ) := fun n h => by rw [BitVec.toInt_ofNat']; simp only [Int.bmod]; omega
    simp [BitVec.toInt_sub, BitVec.toInt_add, w n (by omega), w p (by omega)]
  have e2 : (BitVec.ofInt 32 (16 + (n : ℤ) - (p : ℤ))).toInt = 16 + (n : ℤ) - (p : ℤ) := by
    rw [BitVec.toInt_ofInt]; simp only [Int.bmod]; omega
  have z0 : (0#32 : BitVec 32).toInt = 0 := rfl
  have z1 : (128#32 : BitVec 32).toInt = 128 := rfl
  rw [e, WordCmp.cmpi_sge_eq, WordCmp.cmpi_slt_eq, e2, z0, z1, bit_and, decide_eq_true_iff, decide_eq_true_iff]
  omega

/-- A score of the reference before the mask and the scale. -/
def dotRow (X : FVec Ideal S8192x4608 .f32) (S : FVec Ideal S1152x4608 .f32) (b : Fin 4) (a : Fin 4) (e : Fin 8) (n : Fin 2048) (p : Fin 2064) : EReal :=
  ∑ k : Fin 64, row X S b p ⟨4096 + 64 * a + k, by omega⟩ * row X S b ⟨n + 16, by omega⟩ ⟨512 * a + 64 * e + k, by omega⟩

/-- A product of a query and a key. -/
theorem dotR_at (X : FVec Ideal S8192x4608 .f32) (S : FVec Ideal S1152x4608 .f32) (b : Fin 4) (a : Fin 4) (e : Fin 8) (n : Fin 2048) (p : Fin 2064) :
    dotR S X (ix5 b a e n p) = dotRow X S b a e n p := by
  have h1 : ∀ x : Fin 64, (4096 + ((a : ℕ) * 64 + x)) = 4096 + 64 * a + x := fun x => by omega
  have h2 : ∀ x : Fin 64, ((a : ℕ) * 512 + e * 64 + x) = 512 * a + 64 * e + x := fun x => by omega
  have h3 : 16 + (n : ℕ) = n + 16 := by omega
  pointwise [dotR, H_at]
  unfold dotRow
  simp only [h1, h2, h3]

/-- The mask and the scale at an index. -/
theorem maskScale_at (D : FVec Ideal S4x4x8x2048x2064 .f32) (b : Fin 4) (a : Fin 4) (e : Fin 8) (n : Fin 2048) (p : Fin 2064) :
    maskScale D (ix5 b a e n p) = if (n : ℕ) < p + 112 ∧ (p : ℕ) ≤ n + 16 then D (ix5 b a e n p) * Ideal.ofBits .f32 0x3E000000#32 else ⊥ := by
  pointwise [maskScale]
  exact if_congr (maskBit n p) rfl ofBits_neg_inf

/-- A score of the reference. -/
theorem scoresR_at (X : FVec Ideal S8192x4608 .f32) (S : FVec Ideal S1152x4608 .f32) (b : Fin 4) (a : Fin 4) (e : Fin 8) (n : Fin 2048) (p : Fin 2064) :
    scoresR S X (ix5 b a e n p) = if (n : ℕ) < p + 112 ∧ (p : ℕ) ≤ n + 16 then dotRow X S b a e n p * Ideal.ofBits .f32 0x3E000000#32 else ⊥ := by
  unfold scoresR
  rw [maskScale_at, dotR_at]

/-- The maximum of a row, as a fold. -/
theorem rowMax_at (s : FVec Ideal S4x4x8x2048x2064 .f32) (c : FVec Ideal S_ .f32) (b : Fin 4) (a : Fin 4) (e : Fin 8) (n : Fin 2048) :
    rowMax s c (ix4 b a e n) = Finset.univ.fold max (c (Shape.Idx.first h_S_)) fun p : Fin 2064 => s (ix5 b a e n p) := by
  unfold rowMax
  simp only [pointwise]

/-- The maximum with the sink, at an index. -/
theorem withSink_at (M : FVec Ideal S4x4x8x2048 .f32) (K : FVec Ideal S32 .f32) (b : Fin 4) (a : Fin 4) (e : Fin 8) (n : Fin 2048) :
    withSink M K (ix5 b a e n 0) = max (M (ix4 b a e n)) (K (ix1 ⟨8 * a + e, by omega⟩)) := by
  have h1 : (a : ℕ) * 8 + e = 8 * a + e := by omega
  pointwise [withSink]
  simp only [h1]

/-- The maximum of a row of the reference's scores. -/
theorem maxR_at (X : FVec Ideal S8192x4608 .f32) (S : FVec Ideal S1152x4608 .f32) (K : FVec Ideal S32 .f32) (b : Fin 4) (a : Fin 4) (e : Fin 8) (n : Fin 2048) :
    maxR S X K (ix5 b a e n 0) = max (Finset.univ.fold max ⊥ fun p => scoresR S X (ix5 b a e n p)) (K (ix1 ⟨8 * a + e, by omega⟩)) := by
  have hb : (constant (F := Ideal) S_ .f32 0xFF800000#32) (Shape.Idx.first h_S_) = ⊥ := ofBits_neg_inf
  unfold maxR
  rw [withSink_at, rowMax_at, hb]

/-- A numerator of the reference. -/
theorem expR_at (X : FVec Ideal S8192x4608 .f32) (S : FVec Ideal S1152x4608 .f32) (K : FVec Ideal S32 .f32) (b : Fin 4) (a : Fin 4) (e : Fin 8) (n : Fin 2048) (p : Fin 2064) :
    expR S X K (ix5 b a e n p) = Ideal.exp (scoresR S X (ix5 b a e n p) - maxR S X K (ix5 b a e n 0)) := by
  pointwise [expR]

/-- A denominator of the reference. -/
theorem denR_at (X : FVec Ideal S8192x4608 .f32) (S : FVec Ideal S1152x4608 .f32) (K : FVec Ideal S32 .f32) (b : Fin 4) (a : Fin 4) (e : Fin 8) (n : Fin 2048) :
    denR S X K (ix5 b a e n 0) = (∑ p, expR S X K (ix5 b a e n p)) + Ideal.exp (K (ix1 ⟨8 * a + e, by omega⟩) - maxR S X K (ix5 b a e n 0)) := by
  have h1 : (a : ℕ) * 8 + e = 8 * a + e := by omega
  pointwise [denR]
  simp only [h1]

/-- A value of the reference. -/
theorem valR_at (X : FVec Ideal S8192x4608 .f32) (S : FVec Ideal S1152x4608 .f32) (b : Fin 4) (a : Fin 4) (d : Fin 64) (p : Fin 2064) :
    valR S X (ix4 b p a d) = row X S b p ⟨4352 + 64 * a + d, by omega⟩ := by
  have h1 : 4352 + ((a : ℕ) * 64 + d) = 4352 + 64 * a + d := by omega
  pointwise [valR, H_at]
  simp only [h1]

/-- The reference's attention at an index: a row of the softmax. -/
theorem attR_at (X : FVec Ideal S8192x4608 .f32) (S : FVec Ideal S1152x4608 .f32) (K : FVec Ideal S32 .f32) (b : Fin 4) (a : Fin 4) (e : Fin 8) (n : Fin 2048) (d : Fin 64) :
    attR S X K (ix5 b a d e n)
      = AttnMath.referenceRow (fun p => scoresR S X (ix5 b a e n p)) (fun p => row X S b p ⟨4352 + 64 * a + d, by omega⟩) (K (ix1 ⟨8 * a + e, by omega⟩)) := by
  pointwise [attR, valR_at, expR_at, denR_at, maxR_at]
  rfl

/-- The heads joined, at an index. -/
theorem joinR_at (X : FVec Ideal S8192x4608 .f32) (S : FVec Ideal S1152x4608 .f32) (K : FVec Ideal S32 .f32) (b : Fin 4) (a : Fin 4) (e : Fin 8) (n : Fin 2048) (d : Fin 64) :
    joinR S X K (ix3 b n ⟨512 * a + 64 * e + d, by omega⟩) = attR S X K (ix5 b a d e n) := by
  pointwise [joinR]

/-- The gate at an index. -/
theorem gateR_at (X : FVec Ideal S8192x4608 .f32) (S : FVec Ideal S1152x4608 .f32) (b : Fin 4) (n : Fin 2048) (q : Fin 2048) :
    gateR S X (ix3 b n q)
      = row X S b ⟨n + 16, by omega⟩ ⟨2048 + q, by omega⟩ * Ideal.logistic (row X S b ⟨n + 16, by omega⟩ ⟨2048 + q, by omega⟩) := by
  have h3 : 16 + (n : ℕ) = n + 16 := by omega
  pointwise [gateR, H_at]
  simp only [h3]
  rfl

/-- The last product at an index. -/
theorem gated_at (J G : FVec Ideal S4x2048x2048 .f32) (b : Fin 4) (n : Fin 2048) (q : Fin 2048) :
    gated J G (ix2 ⟨2048 * b + n, by omega⟩ q) = J (ix3 b n q) * G (ix3 b n q) := by
  pointwise [gated]

/-- The result at an index, from its factors. -/
theorem REF_at (X : FVec Ideal S8192x4608 .f32) (S : FVec Ideal S1152x4608 .f32) (K : FVec Ideal S32 .f32) (b : Fin 4) (n : Fin 2048) (q : Fin 2048) :
    REF X S K (ix2 ⟨2048 * b + n, by omega⟩ q) = joinR S X K (ix3 b n q) * gateR S X (ix3 b n q) := gated_at _ _ _ _ _

end Cert.ReferenceIdeal.Hand
-- ==== Proof.AttnEq.lean ====
/- The kernel's softmax row over a band of 256 keys is the reference's row over all keys. -/
module

public import proofs.«01_k».proof.Proof.AttnBlock
public import proofs.«01_k».proof.Proof.AttnRef

@[expose] public section

set_option maxRecDepth 16384

noncomputable section

namespace Cert.AttnEq

open Idealize.ShloMosaic Cert.ReferenceIdeal Cert.ReferenceIdeal.Hand

/-- An extended real that is a real. -/
def IsReal (x : EReal) : Prop := x ≠ ⊥ ∧ x ≠ ⊤

/-- A real extended real is the coercion of its real part. -/
theorem IsReal.coe {x : EReal} (h : IsReal x) : ((x.toReal : ℝ) : EReal) = x := EReal.coe_toReal h.2 h.1

/-- A key or value of the band of a block of queries: the block before (the meta rows before the first block) and the block itself. -/
def band (X : FVec Ideal S8192x4608 .f32) (S : FVec Ideal S1152x4608 .f32) (b : Fin 4) (jb : Fin 16) (j : Fin 256) (n : Fin 4608) : EReal :=
  if h : (j : ℕ) < 128 then
    (if (jb : ℕ) = 0 then S (ix2 ⟨1024 + j, by omega⟩ n) else X (ix2 ⟨128 * (16 * b + jb - 1) + j, by omega⟩ n))
  else X (ix2 ⟨128 * (16 * b + jb) + (j - 128), by omega⟩ n)

/-- Whether a query of a block sees a key of its band. -/
abbrev ok (jb : Fin 16) (r : Fin 128) (j : Fin 256) : Prop := ((r : ℕ) < j ∧ (j : ℕ) ≤ r + 128) ∧ ((jb : ℕ) = 0 → 112 ≤ (j : ℕ))

/-- The position of a key of the band among all keys. -/
def pos (jb : Fin 16) (j : Fin 256) : Fin 2064 := ⟨128 * jb + j - 112, by omega⟩

/-- A key that is seen is the key at its position. -/
theorem band_eq (X : FVec Ideal S8192x4608 .f32) (S : FVec Ideal S1152x4608 .f32) (b : Fin 4) (jb : Fin 16) (j : Fin 256) (n : Fin 4608)
    (h : (jb : ℕ) = 0 → 112 ≤ (j : ℕ)) : band X S b jb j n = row X S b (pos jb j) n := by
  have hb := b.isLt
  have hjb := jb.isLt
  have hj := j.isLt
  unfold band row pos
  by_cases h1 : (j : ℕ) < 128
  · by_cases h2 : (jb : ℕ) = 0
    · have h3 := h h2
      rw [dif_pos h1, if_pos h2, dif_pos (by dsimp only; omega)]
      congr 2; apply Fin.ext; dsimp only; omega
    · rw [dif_pos h1, if_neg h2, dif_neg (by dsimp only; omega)]
      congr 2; apply Fin.ext; dsimp only; omega
  · rw [dif_neg h1, dif_neg (by dsimp only; omega)]
    congr 2; apply Fin.ext; dsimp only; omega

/-- The pattern of one eighth. -/
theorem ofBits_eighth : Ideal.ofBits .f32 0x3E000000#32 = ((1 / 8 : ℝ) : EReal) := by
  simp [Ideal.ofBits, Ideal.ieee]
  rw [← EReal.coe_mul]
  norm_num

/-- The scale of the kernel's scores. -/
theorem scale_val : (Named.named Cert.KernelIdeal.κ "scale_log2e" 0x3E38AA3B#32 : Ideal .f32) = (((1 / 8) * AttnMath.L : ℝ) : EReal) := rfl

/-- The scale of the kernel's sinks. -/
theorem log_val : (Named.named Cert.KernelIdeal.κ "log2e" 1069066811#32 : Ideal .f32) = ((AttnMath.L : ℝ) : EReal) := rfl

/-- A scaled sum of products of reals. -/
theorem sum_scaled {n : ℕ} (f g : Fin n → EReal) (hf : ∀ k, IsReal (f k)) (hg : ∀ k, IsReal (g k)) (c : ℝ) :
    ∑ k, (f k * (c : EReal)) * g k = (((∑ k, (f k).toReal * (g k).toReal) * c : ℝ) : EReal) := by
  rw [Finset.sum_mul, ← AttnMath.sum_coe]
  refine Finset.sum_congr rfl fun k _ => ?_
  rw [EReal.coe_mul, EReal.coe_mul, (hf k).coe, (hg k).coe]
  ac_rfl

/-- A sum of products of reals. -/
theorem sum_real {n : ℕ} (f g : Fin n → EReal) (hf : ∀ k, IsReal (f k)) (hg : ∀ k, IsReal (g k)) :
    ∑ k, f k * g k = ((∑ k, (f k).toReal * (g k).toReal : ℝ) : EReal) := by
  rw [← AttnMath.sum_coe]
  refine Finset.sum_congr rfl fun k _ => ?_
  rw [EReal.coe_mul, (hf k).coe, (hg k).coe]

/-- What the claim's precondition says of the arguments, element by element. -/
structure Fin3 (X : FVec Ideal S8192x4608 .f32) (S : FVec Ideal S1152x4608 .f32) (K : FVec Ideal S32 .f32) : Prop where
  q : ∀ (R : Fin 8192) (n : Fin 4608), (n : ℕ) < 2048 → IsReal (X (ix2 R n))
  k : ∀ (R : Fin 8192) (n : Fin 4608), 4096 ≤ (n : ℕ) → (n : ℕ) < 4352 → IsReal (X (ix2 R n))
  km : ∀ (R : Fin 1152) (n : Fin 4608), 1136 ≤ (R : ℕ) → 4096 ≤ (n : ℕ) → (n : ℕ) < 4352 → IsReal (S (ix2 R n))
  s : ∀ h : Fin 32, IsReal (K (ix1 h))

/-- The kernel's row of scores. -/
def scoreK (X : FVec Ideal S8192x4608 .f32) (S : FVec Ideal S1152x4608 .f32) (b : Fin 4) (jb : Fin 16) (r : Fin 128) (a : Fin 4) (e : Fin 8) (j : Fin 256) : EReal :=
  (∑ k : Fin 64, (band X S b jb j ⟨4096 + 64 * a + k, by omega⟩ * (Named.named Cert.KernelIdeal.κ "scale_log2e" 0x3E38AA3B#32 : Ideal .f32))
      * X (ix2 ⟨128 * (16 * b + jb) + r, by omega⟩ ⟨512 * a + 64 * e + k, by omega⟩))
    + (if ok jb r j then 0 else ⊥)

/-- The kernel's row is the reference's row. -/
theorem cell (X : FVec Ideal S8192x4608 .f32) (S : FVec Ideal S1152x4608 .f32) (K : FVec Ideal S32 .f32) (F : Fin3 X S K)
    (b : Fin 4) (jb : Fin 16) (r : Fin 128) (a : Fin 4) (e : Fin 8) (d : Fin 64) :
    AttnMath.kernelRow (scoreK X S b jb r a e) (fun j => band X S b jb j ⟨4352 + 64 * a + d, by omega⟩)
      (K (ix1 ⟨8 * a + e, by omega⟩) * (Named.named Cert.KernelIdeal.κ "log2e" 1069066811#32 : Ideal .f32))
    = AttnMath.referenceRow (fun p => scoresR S X (ix5 b a e ⟨128 * jb + r, by omega⟩ p)) (fun p => row X S b p ⟨4352 + 64 * a + d, by omega⟩)
      (K (ix1 ⟨8 * a + e, by omega⟩)) := by
  have hjb := jb.isLt
  have hr := r.isLt
  have hrow : ∀ (p : Fin 2064) (k : Fin 64), IsReal (row X S b p ⟨4096 + 64 * a + k, by omega⟩) := fun p k => by
    unfold row
    by_cases hp : (p : ℕ) < 16
    · rw [dif_pos hp]; exact F.km _ _ (by dsimp only; omega) (by dsimp only; omega) (by dsimp only; omega)
    · rw [dif_neg hp]; exact F.k _ _ (by dsimp only; omega) (by dsimp only; omega)
  have hq : ∀ k : Fin 64, IsReal (X (ix2 ⟨128 * (16 * b + jb) + r, by omega⟩ ⟨512 * a + 64 * e + k, by omega⟩)) := fun k => F.q _ _ (by dsimp only; omega)
  have hqr : ∀ k : Fin 64, row X S b ⟨128 * jb + r + 16, by omega⟩ ⟨512 * a + 64 * e + k, by omega⟩
      = X (ix2 ⟨128 * (16 * b + jb) + r, by omega⟩ ⟨512 * a + 64 * e + k, by omega⟩) := fun k => by
    unfold row
    rw [dif_neg (by dsimp only; omega)]
    congr 2; apply Fin.ext; dsimp only; omega
  refine AttnMath.row_eq (pos jb) (ok jb r) ?_ _ _ _ _ _ _ (K (ix1 ⟨8 * a + e, by omega⟩)).toReal
    (fun p => (∑ k : Fin 64, (row X S b p ⟨4096 + 64 * a + k, by omega⟩).toReal
      * (X (ix2 ⟨128 * (16 * b + jb) + r, by omega⟩ ⟨512 * a + 64 * e + k, by omega⟩)).toReal) * (1 / 8)) ?_ ?_ ?_ ?_ ?_ ?_ ?_
  · intro j j' hj hj' h
    have := congrArg Fin.val h
    have h1 := hj.2
    have h2 := hj'.2
    simp only [pos] at this
    apply Fin.ext
    omega
  · rw [log_val, EReal.coe_mul, (F.s _).coe]
  · exact ((F.s _).coe).symm
  · intro j hj
    unfold scoreK
    rw [if_neg hj, EReal.add_bot]
  · intro p hp
    rw [scoresR_at, if_neg]
    rintro ⟨h1, h2⟩
    dsimp only at h1 h2
    refine hp ⟨(p : ℕ) + 112 - 128 * jb, by omega⟩ ⟨⟨?_, ?_⟩, ?_⟩ ?_
    · dsimp only; omega
    · dsimp only; omega
    · intro h; dsimp only; omega
    · apply Fin.ext; simp only [pos]; omega
  · intro j hj
    unfold scoreK
    rw [if_pos hj, add_zero, scale_val]
    simp only [band_eq X S b jb j _ hj.2]
    rw [sum_scaled _ _ (hrow (pos jb j)) hq, mul_assoc]
  · intro j hj
    have h1 := hj.1.1
    have h2 := hj.1.2
    have h3 := hj.2
    rw [scoresR_at, if_pos ⟨by simp only [pos]; omega, by simp only [pos]; omega⟩, ofBits_eighth]
    unfold dotRow
    simp only [hqr]
    rw [sum_real _ _ (hrow (pos jb j)) hq, ← EReal.coe_mul]
  · intro j hj
    exact band_eq X S b jb j _ hj.2

end Cert.AttnEq
-- ==== Proof.AttnPieces.lean ====
/- One pair of heads of one block of the kernel's attention is the reference's result there. -/
module

public import proofs.«01_k».proof.Proof.AttnEq

@[expose] public section

set_option maxRecDepth 16384

noncomputable section

namespace Cert.AttnEq

open Idealize.ShloMosaic Cert.KernelIdeal Cert.KernelIdeal.Gen Cert.KernelIdeal.Hand
open Cert.ReferenceIdeal.Hand (REF row scoresR REF_at joinR_at attR_at gateR_at)

/-- The reference's result at an index of a pair of heads. -/
theorem ref_cell (X : FVec Ideal S8192x4608 .f32) (S : FVec Ideal S1152x4608 .f32) (K : FVec Ideal S32 .f32)
    (b : Fin 4) (jb : Fin 16) (r : Fin 128) (a : Fin 4) (e : Fin 8) (d : Fin 64) :
    REF X S K (ix2 ⟨128 * (16 * b + jb) + r, by omega⟩ ⟨512 * a + 64 * e + d, by omega⟩)
      = AttnMath.referenceRow (fun p => scoresR S X (ix5 b a e ⟨128 * jb + r, by omega⟩ p)) (fun p => row X S b p ⟨4352 + 64 * a + d, by omega⟩)
          (K (ix1 ⟨8 * a + e, by omega⟩))
        * (X (ix2 ⟨128 * (16 * b + jb) + r, by omega⟩ ⟨2048 + (512 * a + 64 * e + d), by omega⟩)
          * Ideal.logistic (X (ix2 ⟨128 * (16 * b + jb) + r, by omega⟩ ⟨2048 + (512 * a + 64 * e + d), by omega⟩))) := by
  have hjb := jb.isLt
  have hr := r.isLt
  have h1 : (⟨128 * (16 * b + jb) + r, by omega⟩ : Fin 8192) = ⟨2048 * b + (128 * jb + r), by omega⟩ := Fin.ext (by dsimp only; omega)
  have h2 : ∀ n : Fin 4608, row X S b ⟨128 * jb + r + 16, by omega⟩ n = X (ix2 ⟨2048 * b + (128 * jb + r), by omega⟩ n) := fun n => by
    unfold row
    rw [dif_neg (by dsimp only; omega)]
    rfl
  rw [h1, REF_at X S K b ⟨128 * jb + r, by omega⟩, joinR_at, attR_at, gateR_at]
  simp only [h2]

/-- A pair of heads at an index, from what its operands hold. -/
theorem pair_cell (X : FVec Ideal S8192x4608 .f32) (S : FVec Ideal S1152x4608 .f32) (Kk : FVec Ideal S32 .f32) (F : Fin3 X S Kk)
    (b : Fin 4) (jb : Fin 16) (a : Fin 4) (pr : Fin 4)
    (kh : FVec Ideal S256x64 .bf16) (vt : FVec Ideal S64x256 .bf16) (sl : FVec Ideal S512x128 .f32) (M : FVec Ideal S256x128 .f32)
    (q g : FVec Ideal S128x128 .f32) (s0 s1 : Elt Ideal .f32)
    (hk : ∀ (j : Fin 256) (k : Fin 64), kh (ix2 j k) = band X S b jb j ⟨4096 + 64 * a + k, by omega⟩ * (Named.named Cert.KernelIdeal.κ "scale_log2e" 0x3E38AA3B#32 : Ideal .f32))
    (hv : ∀ (d : Fin 64) (j : Fin 256), vt (ix2 d j) = band X S b jb j ⟨4352 + 64 * a + d, by omega⟩)
    (hsl : ∀ (h : Fin 2) (j : Fin 256) (r : Fin 128), sl (ix2 ⟨h * 256 + j, by omega⟩ r) = ∑ k : Fin 64, kh (ix2 j k) * q (ix2 r ⟨h * 64 + k, by omega⟩))
    (hM : ∀ (j : Fin 256) (r : Fin 128), M (ix2 j r) = if ok jb r j then 0 else ⊥)
    (hq : ∀ r k : Fin 128, q (ix2 r k) = X (ix2 ⟨128 * (16 * b + jb) + r, by omega⟩ ⟨512 * a + 128 * pr + k, by omega⟩))
    (hg : ∀ r k : Fin 128, g (ix2 r k) = X (ix2 ⟨128 * (16 * b + jb) + r, by omega⟩ ⟨2048 + (512 * a + 128 * pr + k), by omega⟩))
    (h0 : s0 = Kk (ix1 ⟨8 * a + 2 * pr, by omega⟩)) (h1 : s1 = Kk (ix1 ⟨8 * a + 2 * pr + 1, by omega⟩)) (r k : Fin 128) :
    pairOut (valuesDiag vt) (masked sl M) (sinkRow s0 s1) g (ix2 r k)
      = REF X S Kk (ix2 ⟨128 * (16 * b + jb) + r, by omega⟩ ⟨512 * a + 128 * pr + k, by omega⟩) := by
  obtain ⟨h, d, rfl⟩ : ∃ (h : Fin 2) (d : Fin 64), k = ⟨h * 64 + d, by omega⟩ :=
    ⟨⟨k / 64, by omega⟩, ⟨k % 64, by omega⟩, Fin.ext (by dsimp only; omega)⟩
  have hh := h.isLt
  have hsk : sinkRow s0 s1 (ix3 h 0 r) = Kk (ix1 ⟨8 * a + (2 * pr + h), by omega⟩) * (Named.named Cert.KernelIdeal.κ "log2e" 1069066811#32 : Ideal .f32) := by
    rw [sinkRow_at]
    refine congrArg (· * _) ?_
    match h with
    | 0 => exact h0
    | 1 => exact h1
  have hc : (⟨512 * a + 128 * pr + (h * 64 + d), by omega⟩ : Fin 2048) = ⟨512 * a + 64 * (2 * pr + h) + d, by omega⟩ := Fin.ext (by dsimp only; omega)
  have hc2 : (⟨2048 + (512 * a + 128 * pr + (h * 64 + d)), by omega⟩ : Fin 4608) = ⟨2048 + (512 * a + 64 * (2 * pr + h) + d), by omega⟩ := Fin.ext (by dsimp only; omega)
  have hs : (fun j : Fin 256 => masked sl M (ix3 h j r)) = scoreK X S b jb r a ⟨2 * pr + h, by omega⟩ := by
    funext j
    rw [masked_at, hsl, hM]
    unfold scoreK
    refine congrArg (· + _) (Finset.sum_congr rfl fun k _ => ?_)
    rw [hk, hq]
    refine congrArg (_ * X ·) (congrArg (ix2 _) (Fin.ext ?_))
    dsimp only; omega
  have hvv : (fun j : Fin 256 => vt (ix2 d j)) = fun j => band X S b jb j ⟨4352 + 64 * a + d, by omega⟩ := funext fun j => hv d j
  rw [pairOut_at, hs, hvv, hsk, hg, hc, hc2, ref_cell X S Kk b jb r a ⟨2 * pr + h, by omega⟩ d]
  exact congrArg (· * _) (cell X S Kk F b jb r a ⟨2 * pr + h, by omega⟩ d)

/-- The same with the sinks' and the column's numbers given by equations. -/
theorem pair_cell_at (X : FVec Ideal S8192x4608 .f32) (S : FVec Ideal S1152x4608 .f32) (Kk : FVec Ideal S32 .f32) (F : Fin3 X S Kk)
    (b : Fin 4) (jb : Fin 16) (a : Fin 4) (pr : Fin 4)
    (kh : FVec Ideal S256x64 .bf16) (vt : FVec Ideal S64x256 .bf16) (sl : FVec Ideal S512x128 .f32) (M : FVec Ideal S256x128 .f32)
    (q g : FVec Ideal S128x128 .f32) (s0 s1 : Elt Ideal .f32)
    (hk : ∀ (j : Fin 256) (k : Fin 64), kh (ix2 j k) = band X S b jb j ⟨4096 + 64 * a + k, by omega⟩ * (Named.named Cert.KernelIdeal.κ "scale_log2e" 0x3E38AA3B#32 : Ideal .f32))
    (hv : ∀ (d : Fin 64) (j : Fin 256), vt (ix2 d j) = band X S b jb j ⟨4352 + 64 * a + d, by omega⟩)
    (hsl : ∀ (h : Fin 2) (j : Fin 256) (r : Fin 128), sl (ix2 ⟨h * 256 + j, by omega⟩ r) = ∑ k : Fin 64, kh (ix2 j k) * q (ix2 r ⟨h * 64 + k, by omega⟩))
    (hM : ∀ (j : Fin 256) (r : Fin 128), M (ix2 j r) = if ok jb r j then 0 else ⊥)
    (hq : ∀ r k : Fin 128, q (ix2 r k) = X (ix2 ⟨128 * (16 * b + jb) + r, by omega⟩ ⟨512 * a + 128 * pr + k, by omega⟩))
    (hg : ∀ r k : Fin 128, g (ix2 r k) = X (ix2 ⟨128 * (16 * b + jb) + r, by omega⟩ ⟨2048 + (512 * a + 128 * pr + k), by omega⟩))
    (i0 i1 : Fin 32) (hi0 : (i0 : ℕ) = 8 * a + 2 * pr) (hi1 : (i1 : ℕ) = 8 * a + 2 * pr + 1)
    (h0 : s0 = Kk (ix1 i0)) (h1 : s1 = Kk (ix1 i1)) (r k : Fin 128) (n : Fin 2048) (hn : (n : ℕ) = 512 * a + 128 * pr + k) :
    pairOut (valuesDiag vt) (masked sl M) (sinkRow s0 s1) g (ix2 r k)
      = REF X S Kk (ix2 ⟨128 * (16 * b + jb) + r, by omega⟩ n) := by
  rw [show n = ⟨512 * a + 128 * pr + k, by omega⟩ from Fin.ext hn]
  replace h0 : s0 = Kk (ix1 ⟨8 * a + 2 * pr, by omega⟩) := h0.trans (congrArg (fun i => Kk (ix1 i)) (Fin.ext hi0))
  replace h1 : s1 = Kk (ix1 ⟨8 * a + 2 * pr + 1, by omega⟩) := h1.trans (congrArg (fun i => Kk (ix1 i)) (Fin.ext hi1))
  exact pair_cell X S Kk F b jb a pr kh vt sl M q g s0 s1 hk hv hsl hM hq hg h0 h1 r k

/-- The keys of key head 0. -/
theorem key_slice0 (K : FVec Ideal S256x256 .bf16) (j : Fin 256) (k : Fin 64) :
    extractStridedSlice S256x64 ![0, 0] K slices_S256x256_o0_0_S256x64 (ix2 j k) = K (ix2 j ⟨0 + k, by omega⟩) := by
  pointwise

/-- The values of key head 0. -/
theorem value_slice0 (V : FVec Ideal S256x256 .bf16) (d : Fin 64) (j : Fin 256) :
    extractStridedSlice S64x256 ![0, 0] V slices_S256x256_o0_0_S64x256 (ix2 d j) = V (ix2 ⟨0 + d, by omega⟩ j) := by
  pointwise

/-- The keys of key head 1. -/
theorem key_slice1 (K : FVec Ideal S256x256 .bf16) (j : Fin 256) (k : Fin 64) :
    extractStridedSlice S256x64 ![0, 64] K slices_S256x256_o0_64_S256x64 (ix2 j k) = K (ix2 j ⟨64 + k, by omega⟩) := by
  pointwise

/-- The values of key head 1. -/
theorem value_slice1 (V : FVec Ideal S256x256 .bf16) (d : Fin 64) (j : Fin 256) :
    extractStridedSlice S64x256 ![64, 0] V slices_S256x256_o64_0_S64x256 (ix2 d j) = V (ix2 ⟨64 + d, by omega⟩ j) := by
  pointwise

/-- The keys of key head 2. -/
theorem key_slice2 (K : FVec Ideal S256x256 .bf16) (j : Fin 256) (k : Fin 64) :
    extractStridedSlice S256x64 ![0, 128] K slices_S256x256_o0_128_S256x64 (ix2 j k) = K (ix2 j ⟨128 + k, by omega⟩) := by
  pointwise

/-- The values of key head 2. -/
theorem value_slice2 (V : FVec Ideal S256x256 .bf16) (d : Fin 64) (j : Fin 256) :
    extractStridedSlice S64x256 ![128, 0] V slices_S256x256_o128_0_S64x256 (ix2 d j) = V (ix2 ⟨128 + d, by omega⟩ j) := by
  pointwise

/-- The keys of key head 3. -/
theorem key_slice3 (K : FVec Ideal S256x256 .bf16) (j : Fin 256) (k : Fin 64) :
    extractStridedSlice S256x64 ![0, 192] K slices_S256x256_o0_192_S256x64 (ix2 j k) = K (ix2 j ⟨192 + k, by omega⟩) := by
  pointwise

/-- The values of key head 3. -/
theorem value_slice3 (V : FVec Ideal S256x256 .bf16) (d : Fin 64) (j : Fin 256) :
    extractStridedSlice S64x256 ![192, 0] V slices_S256x256_o192_0_S64x256 (ix2 d j) = V (ix2 ⟨192 + d, by omega⟩ j) := by
  pointwise

/-- What a block of queries reads: the band of keys and values, the mask, the queries, the gates. -/
structure Reads (X : FVec Ideal S8192x4608 .f32) (S : FVec Ideal S1152x4608 .f32) (b : Fin 4) (jb : Fin 16)
    (K V : FVec Ideal S256x256 .bf16) (M : FVec Ideal S256x128 .f32) : Prop where
  k : ∀ j n : Fin 256, K (ix2 j n) = band X S b jb j ⟨4096 + n, by omega⟩ * (Named.named Cert.KernelIdeal.κ "scale_log2e" 0x3E38AA3B#32 : Ideal .f32)
  v : ∀ n j : Fin 256, V (ix2 n j) = band X S b jb j ⟨4352 + n, by omega⟩
  m : ∀ (j : Fin 256) (r : Fin 128), M (ix2 j r) = if ok jb r j then 0 else ⊥

/-- A block of 128 columns of the rows of a block of queries. -/
def Cols (X : FVec Ideal S8192x4608 .f32) (b : Fin 4) (jb : Fin 16) (o : ℕ) (q : Vec Ideal S128x128 .f32) : Prop :=
  ∀ (r k : Fin 128) (n : Fin 4608), (n : ℕ) = o + k → q (ix2 r k) = X (ix2 ⟨128 * (16 * b + jb) + r, by omega⟩ n)

/-- Pair 0 of key head 0. -/
theorem piece0 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 0 q0) (hg : Cols X b jb 2048 g)
    (h0 : s0 = Kk (ix1 0)) (h1 : s1 = Kk (ix1 1)) (r k : Fin 128) :
    k0_pay45 (k0_pay44 (k0_pay16 V k0_pay6) (k0_pay22 (k0_pay20 M (k0_pay9 K q0 q1 q2 q3) s0 s1)) (k0_pay23 (k0_pay18 s0 s1) (k0_pay19 M (k0_pay9 K q0 q1 q2 q3) s0 s1) (k0_pay20 M (k0_pay9 K q0 q1 q2 q3) s0 s1))) g (ix2 r k)
      = REF X S Kk (ix2 ⟨128 * (16 * b + jb) + r, by omega⟩ ⟨0 + k, by omega⟩) := by
  refine (congrFun (pair0 K V M q0 q1 q2 q3 g s0 s1) _).trans ?_
  refine (pair_cell_at X S Kk F b jb 0 0
    (extractStridedSlice S256x64 ![0, 0] K slices_S256x256_o0_0_S256x64)
    (extractStridedSlice S64x256 ![0, 0] V slices_S256x256_o0_0_S64x256)
    (extractStridedSlice S512x128 ![0, 0] (scores (extractStridedSlice S256x64 ![0, 0] K slices_S256x256_o0_0_S256x64) q0 q1 q2 q3) slices_S512x512_o0_0_S512x128)
    M q0 g s0 s1 (fun j k => ?_) (fun d j => ?_) (fun h j r => ?_) R.m (fun r k => ?_) (fun r k => ?_) 0 1 rfl rfl h0 h1 r k ⟨0 + k, by omega⟩ ?_)
  · rw [key_slice0, R.k]; refine congrArg (fun n => band X S b jb j n * _) (Fin.ext ?_); show 4096 + (0 + (k : ℕ)) = 4096 + 64 * 0 + k; omega
  · rw [value_slice0, R.v]; refine congrArg (fun n => band X S b jb j n) (Fin.ext ?_); show 4352 + (0 + (d : ℕ)) = 4352 + 64 * 0 + d; omega
  · exact scores_at0 _ _ _ _ _ h j r
  · exact hq r k _ (by show 512 * 0 + 128 * 0 + (k : ℕ) = 0 + k; omega)
  · exact hg r k _ (by show 2048 + (512 * 0 + 128 * 0 + (k : ℕ)) = 2048 + k; omega)
  · show 512 * 0 + 128 * 0 + (k : ℕ) = 0 + k; omega

/-- Pair 1 of key head 0. -/
theorem piece1 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 128 q1) (hg : Cols X b jb 2176 g)
    (h0 : s0 = Kk (ix1 2)) (h1 : s1 = Kk (ix1 3)) (r k : Fin 128) :
    k0_pay46 (k0_pay16 V k0_pay6) (k0_pay28 M (k0_pay9 K q0 q1 q2 q3) s0 s1) (k0_pay29 M (k0_pay9 K q0 q1 q2 q3) s0 s1) g (ix2 r k)
      = REF X S Kk (ix2 ⟨128 * (16 * b + jb) + r, by omega⟩ ⟨128 + k, by omega⟩) := by
  refine (congrFun (pair1 K V M q0 q1 q2 q3 g s0 s1) _).trans ?_
  refine (pair_cell_at X S Kk F b jb 0 1
    (extractStridedSlice S256x64 ![0, 0] K slices_S256x256_o0_0_S256x64)
    (extractStridedSlice S64x256 ![0, 0] V slices_S256x256_o0_0_S64x256)
    (extractStridedSlice S512x128 ![0, 128] (scores (extractStridedSlice S256x64 ![0, 0] K slices_S256x256_o0_0_S256x64) q0 q1 q2 q3) slices_S512x512_o0_128_S512x128)
    M q1 g s0 s1 (fun j k => ?_) (fun d j => ?_) (fun h j r => ?_) R.m (fun r k => ?_) (fun r k => ?_) 2 3 rfl rfl h0 h1 r k ⟨128 + k, by omega⟩ ?_)
  · rw [key_slice0, R.k]; refine congrArg (fun n => band X S b jb j n * _) (Fin.ext ?_); show 4096 + (0 + (k : ℕ)) = 4096 + 64 * 0 + k; omega
  · rw [value_slice0, R.v]; refine congrArg (fun n => band X S b jb j n) (Fin.ext ?_); show 4352 + (0 + (d : ℕ)) = 4352 + 64 * 0 + d; omega
  · exact scores_at1 _ _ _ _ _ h j r
  · exact hq r k _ (by show 512 * 0 + 128 * 1 + (k : ℕ) = 128 + k; omega)
  · exact hg r k _ (by show 2048 + (512 * 0 + 128 * 1 + (k : ℕ)) = 2176 + k; omega)
  · show 512 * 0 + 128 * 1 + (k : ℕ) = 128 + k; omega

/-- Pair 2 of key head 0. -/
theorem piece2 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 256 q2) (hg : Cols X b jb 2304 g)
    (h0 : s0 = Kk (ix1 4)) (h1 : s1 = Kk (ix1 5)) (r k : Fin 128) :
    k0_pay47 (k0_pay16 V k0_pay6) (k0_pay36 (k0_pay30 M (k0_pay9 K q0 q1 q2 q3)) (k0_pay31 s0) (k0_pay32 s1)) (k0_pay37 (k0_pay30 M (k0_pay9 K q0 q1 q2 q3)) (k0_pay31 s0) (k0_pay32 s1)) g (ix2 r k)
      = REF X S Kk (ix2 ⟨128 * (16 * b + jb) + r, by omega⟩ ⟨256 + k, by omega⟩) := by
  refine (congrFun (pair2 K V M q0 q1 q2 q3 g s0 s1) _).trans ?_
  refine (pair_cell_at X S Kk F b jb 0 2
    (extractStridedSlice S256x64 ![0, 0] K slices_S256x256_o0_0_S256x64)
    (extractStridedSlice S64x256 ![0, 0] V slices_S256x256_o0_0_S64x256)
    (extractStridedSlice S512x128 ![0, 256] (scores (extractStridedSlice S256x64 ![0, 0] K slices_S256x256_o0_0_S256x64) q0 q1 q2 q3) slices_S512x512_o0_256_S512x128)
    M q2 g s0 s1 (fun j k => ?_) (fun d j => ?_) (fun h j r => ?_) R.m (fun r k => ?_) (fun r k => ?_) 4 5 rfl rfl h0 h1 r k ⟨256 + k, by omega⟩ ?_)
  · rw [key_slice0, R.k]; refine congrArg (fun n => band X S b jb j n * _) (Fin.ext ?_); show 4096 + (0 + (k : ℕ)) = 4096 + 64 * 0 + k; omega
  · rw [value_slice0, R.v]; refine congrArg (fun n => band X S b jb j n) (Fin.ext ?_); show 4352 + (0 + (d : ℕ)) = 4352 + 64 * 0 + d; omega
  · exact scores_at2 _ _ _ _ _ h j r
  · exact hq r k _ (by show 512 * 0 + 128 * 2 + (k : ℕ) = 256 + k; omega)
  · exact hg r k _ (by show 2048 + (512 * 0 + 128 * 2 + (k : ℕ)) = 2304 + k; omega)
  · show 512 * 0 + 128 * 2 + (k : ℕ) = 256 + k; omega

/-- Pair 3 of key head 0. -/
theorem piece3 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 384 q3) (hg : Cols X b jb 2432 g)
    (h0 : s0 = Kk (ix1 6)) (h1 : s1 = Kk (ix1 7)) (r k : Fin 128) :
    k0_pay50 (k0_pay48 (k0_pay16 V k0_pay6) (k0_pay42 M (k0_pay9 K q0 q1 q2 q3) s0 s1) (k0_pay43 M (k0_pay9 K q0 q1 q2 q3) s0 s1)) (k0_pay49 g) (ix2 r k)
      = REF X S Kk (ix2 ⟨128 * (16 * b + jb) + r, by omega⟩ ⟨384 + k, by omega⟩) := by
  refine (congrFun (pair3 K V M q0 q1 q2 q3 g s0 s1) _).trans ?_
  refine (pair_cell_at X S Kk F b jb 0 3
    (extractStridedSlice S256x64 ![0, 0] K slices_S256x256_o0_0_S256x64)
    (extractStridedSlice S64x256 ![0, 0] V slices_S256x256_o0_0_S64x256)
    (extractStridedSlice S512x128 ![0, 384] (scores (extractStridedSlice S256x64 ![0, 0] K slices_S256x256_o0_0_S256x64) q0 q1 q2 q3) slices_S512x512_o0_384_S512x128)
    M q3 g s0 s1 (fun j k => ?_) (fun d j => ?_) (fun h j r => ?_) R.m (fun r k => ?_) (fun r k => ?_) 6 7 rfl rfl h0 h1 r k ⟨384 + k, by omega⟩ ?_)
  · rw [key_slice0, R.k]; refine congrArg (fun n => band X S b jb j n * _) (Fin.ext ?_); show 4096 + (0 + (k : ℕ)) = 4096 + 64 * 0 + k; omega
  · rw [value_slice0, R.v]; refine congrArg (fun n => band X S b jb j n) (Fin.ext ?_); show 4352 + (0 + (d : ℕ)) = 4352 + 64 * 0 + d; omega
  · exact scores_at3 _ _ _ _ _ h j r
  · exact hq r k _ (by show 512 * 0 + 128 * 3 + (k : ℕ) = 384 + k; omega)
  · exact hg r k _ (by show 2048 + (512 * 0 + 128 * 3 + (k : ℕ)) = 2432 + k; omega)
  · show 512 * 0 + 128 * 3 + (k : ℕ) = 384 + k; omega

/-- Pair 0 of key head 1. -/
theorem piece4 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 512 q0) (hg : Cols X b jb 2560 g)
    (h0 : s0 = Kk (ix1 8)) (h1 : s1 = Kk (ix1 9)) (r k : Fin 128) :
    k0_pay76 (k0_pay51 V k0_pay6) (k0_pay56 M (k0_pay10 K q0 q1 q2 q3) s0 s1) (k0_pay57 M (k0_pay10 K q0 q1 q2 q3) s0 s1) g (ix2 r k)
      = REF X S Kk (ix2 ⟨128 * (16 * b + jb) + r, by omega⟩ ⟨512 + k, by omega⟩) := by
  refine (congrFun (pair4 K V M q0 q1 q2 q3 g s0 s1) _).trans ?_
  refine (pair_cell_at X S Kk F b jb 1 0
    (extractStridedSlice S256x64 ![0, 64] K slices_S256x256_o0_64_S256x64)
    (extractStridedSlice S64x256 ![64, 0] V slices_S256x256_o64_0_S64x256)
    (extractStridedSlice S512x128 ![0, 0] (scores (extractStridedSlice S256x64 ![0, 64] K slices_S256x256_o0_64_S256x64) q0 q1 q2 q3) slices_S512x512_o0_0_S512x128)
    M q0 g s0 s1 (fun j k => ?_) (fun d j => ?_) (fun h j r => ?_) R.m (fun r k => ?_) (fun r k => ?_) 8 9 rfl rfl h0 h1 r k ⟨512 + k, by omega⟩ ?_)
  · rw [key_slice1, R.k]; refine congrArg (fun n => band X S b jb j n * _) (Fin.ext ?_); show 4096 + (64 + (k : ℕ)) = 4096 + 64 * 1 + k; omega
  · rw [value_slice1, R.v]; refine congrArg (fun n => band X S b jb j n) (Fin.ext ?_); show 4352 + (64 + (d : ℕ)) = 4352 + 64 * 1 + d; omega
  · exact scores_at0 _ _ _ _ _ h j r
  · exact hq r k _ (by show 512 * 1 + 128 * 0 + (k : ℕ) = 512 + k; omega)
  · exact hg r k _ (by show 2048 + (512 * 1 + 128 * 0 + (k : ℕ)) = 2560 + k; omega)
  · show 512 * 1 + 128 * 0 + (k : ℕ) = 512 + k; omega

/-- Pair 1 of key head 1. -/
theorem piece5 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 640 q1) (hg : Cols X b jb 2688 g)
    (h0 : s0 = Kk (ix1 10)) (h1 : s1 = Kk (ix1 11)) (r k : Fin 128) :
    k0_pay77 (k0_pay51 V k0_pay6) (k0_pay62 (k0_pay58 M (k0_pay10 K q0 q1 q2 q3)) (k0_pay59 s0 s1)) (k0_pay63 (k0_pay58 M (k0_pay10 K q0 q1 q2 q3)) (k0_pay59 s0 s1)) g (ix2 r k)
      = REF X S Kk (ix2 ⟨128 * (16 * b + jb) + r, by omega⟩ ⟨640 + k, by omega⟩) := by
  refine (congrFun (pair5 K V M q0 q1 q2 q3 g s0 s1) _).trans ?_
  refine (pair_cell_at X S Kk F b jb 1 1
    (extractStridedSlice S256x64 ![0, 64] K slices_S256x256_o0_64_S256x64)
    (extractStridedSlice S64x256 ![64, 0] V slices_S256x256_o64_0_S64x256)
    (extractStridedSlice S512x128 ![0, 128] (scores (extractStridedSlice S256x64 ![0, 64] K slices_S256x256_o0_64_S256x64) q0 q1 q2 q3) slices_S512x512_o0_128_S512x128)
    M q1 g s0 s1 (fun j k => ?_) (fun d j => ?_) (fun h j r => ?_) R.m (fun r k => ?_) (fun r k => ?_) 10 11 rfl rfl h0 h1 r k ⟨640 + k, by omega⟩ ?_)
  · rw [key_slice1, R.k]; refine congrArg (fun n => band X S b jb j n * _) (Fin.ext ?_); show 4096 + (64 + (k : ℕ)) = 4096 + 64 * 1 + k; omega
  · rw [value_slice1, R.v]; refine congrArg (fun n => band X S b jb j n) (Fin.ext ?_); show 4352 + (64 + (d : ℕ)) = 4352 + 64 * 1 + d; omega
  · exact scores_at1 _ _ _ _ _ h j r
  · exact hq r k _ (by show 512 * 1 + 128 * 1 + (k : ℕ) = 640 + k; omega)
  · exact hg r k _ (by show 2048 + (512 * 1 + 128 * 1 + (k : ℕ)) = 2688 + k; omega)
  · show 512 * 1 + 128 * 1 + (k : ℕ) = 640 + k; omega

/-- Pair 2 of key head 1. -/
theorem piece6 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 768 q2) (hg : Cols X b jb 2816 g)
    (h0 : s0 = Kk (ix1 12)) (h1 : s1 = Kk (ix1 13)) (r k : Fin 128) :
    k0_pay78 (k0_pay51 V k0_pay6) (k0_pay68 M (k0_pay10 K q0 q1 q2 q3) s0 s1) (k0_pay69 M (k0_pay10 K q0 q1 q2 q3) s0 s1) g (ix2 r k)
      = REF X S Kk (ix2 ⟨128 * (16 * b + jb) + r, by omega⟩ ⟨768 + k, by omega⟩) := by
  refine (congrFun (pair6 K V M q0 q1 q2 q3 g s0 s1) _).trans ?_
  refine (pair_cell_at X S Kk F b jb 1 2
    (extractStridedSlice S256x64 ![0, 64] K slices_S256x256_o0_64_S256x64)
    (extractStridedSlice S64x256 ![64, 0] V slices_S256x256_o64_0_S64x256)
    (extractStridedSlice S512x128 ![0, 256] (scores (extractStridedSlice S256x64 ![0, 64] K slices_S256x256_o0_64_S256x64) q0 q1 q2 q3) slices_S512x512_o0_256_S512x128)
    M q2 g s0 s1 (fun j k => ?_) (fun d j => ?_) (fun h j r => ?_) R.m (fun r k => ?_) (fun r k => ?_) 12 13 rfl rfl h0 h1 r k ⟨768 + k, by omega⟩ ?_)
  · rw [key_slice1, R.k]; refine congrArg (fun n => band X S b jb j n * _) (Fin.ext ?_); show 4096 + (64 + (k : ℕ)) = 4096 + 64 * 1 + k; omega
  · rw [value_slice1, R.v]; refine congrArg (fun n => band X S b jb j n) (Fin.ext ?_); show 4352 + (64 + (d : ℕ)) = 4352 + 64 * 1 + d; omega
  · exact scores_at2 _ _ _ _ _ h j r
  · exact hq r k _ (by show 512 * 1 + 128 * 2 + (k : ℕ) = 768 + k; omega)
  · exact hg r k _ (by show 2048 + (512 * 1 + 128 * 2 + (k : ℕ)) = 2816 + k; omega)
  · show 512 * 1 + 128 * 2 + (k : ℕ) = 768 + k; omega

/-- Pair 3 of key head 1. -/
theorem piece7 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 896 q3) (hg : Cols X b jb 2944 g)
    (h0 : s0 = Kk (ix1 14)) (h1 : s1 = Kk (ix1 15)) (r k : Fin 128) :
    k0_pay79 (k0_pay51 V k0_pay6) (k0_pay74 (k0_pay70 M (k0_pay10 K q0 q1 q2 q3)) s0 (Named.named κ "log2e" 1069066811#32) s1) (k0_pay75 (k0_pay70 M (k0_pay10 K q0 q1 q2 q3)) s0 (Named.named κ "log2e" 1069066811#32) s1) g (ix2 r k)
      = REF X S Kk (ix2 ⟨128 * (16 * b + jb) + r, by omega⟩ ⟨896 + k, by omega⟩) := by
  refine (congrFun (pair7 K V M q0 q1 q2 q3 g s0 s1) _).trans ?_
  refine (pair_cell_at X S Kk F b jb 1 3
    (extractStridedSlice S256x64 ![0, 64] K slices_S256x256_o0_64_S256x64)
    (extractStridedSlice S64x256 ![64, 0] V slices_S256x256_o64_0_S64x256)
    (extractStridedSlice S512x128 ![0, 384] (scores (extractStridedSlice S256x64 ![0, 64] K slices_S256x256_o0_64_S256x64) q0 q1 q2 q3) slices_S512x512_o0_384_S512x128)
    M q3 g s0 s1 (fun j k => ?_) (fun d j => ?_) (fun h j r => ?_) R.m (fun r k => ?_) (fun r k => ?_) 14 15 rfl rfl h0 h1 r k ⟨896 + k, by omega⟩ ?_)
  · rw [key_slice1, R.k]; refine congrArg (fun n => band X S b jb j n * _) (Fin.ext ?_); show 4096 + (64 + (k : ℕ)) = 4096 + 64 * 1 + k; omega
  · rw [value_slice1, R.v]; refine congrArg (fun n => band X S b jb j n) (Fin.ext ?_); show 4352 + (64 + (d : ℕ)) = 4352 + 64 * 1 + d; omega
  · exact scores_at3 _ _ _ _ _ h j r
  · exact hq r k _ (by show 512 * 1 + 128 * 3 + (k : ℕ) = 896 + k; omega)
  · exact hg r k _ (by show 2048 + (512 * 1 + 128 * 3 + (k : ℕ)) = 2944 + k; omega)
  · show 512 * 1 + 128 * 3 + (k : ℕ) = 896 + k; omega

/-- Pair 0 of key head 2. -/
theorem piece8 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 1024 q0) (hg : Cols X b jb 3072 g)
    (h0 : s0 = Kk (ix1 16)) (h1 : s1 = Kk (ix1 17)) (r k : Fin 128) :
    k0_pay108 (k0_pay87 (k0_pay81 M (k0_pay14 K k0_pay8 (k0_pay11 q0) (k0_pay12 q1) (k0_pay13 q2) q3)) (k0_pay82 s0 s1) (k0_pay83 M (k0_pay14 K k0_pay8 (k0_pay11 q0) (k0_pay12 q1) (k0_pay13 q2) q3))) (k0_pay107 (k0_pay80 V k0_pay6) (k0_pay86 (k0_pay81 M (k0_pay14 K k0_pay8 (k0_pay11 q0) (k0_pay12 q1) (k0_pay13 q2) q3)) (k0_pay82 s0 s1) (k0_pay83 M (k0_pay14 K k0_pay8 (k0_pay11 q0) (k0_pay12 q1) (k0_pay13 q2) q3)))) g (ix2 r k)
      = REF X S Kk (ix2 ⟨128 * (16 * b + jb) + r, by omega⟩ ⟨1024 + k, by omega⟩) := by
  refine (congrFun (pair8 K V M q0 q1 q2 q3 g s0 s1) _).trans ?_
  refine (pair_cell_at X S Kk F b jb 2 0
    (extractStridedSlice S256x64 ![0, 128] K slices_S256x256_o0_128_S256x64)
    (extractStridedSlice S64x256 ![128, 0] V slices_S256x256_o128_0_S64x256)
    (extractStridedSlice S512x128 ![0, 0] (scores (extractStridedSlice S256x64 ![0, 128] K slices_S256x256_o0_128_S256x64) q0 q1 q2 q3) slices_S512x512_o0_0_S512x128)
    M q0 g s0 s1 (fun j k => ?_) (fun d j => ?_) (fun h j r => ?_) R.m (fun r k => ?_) (fun r k => ?_) 16 17 rfl rfl h0 h1 r k ⟨1024 + k, by omega⟩ ?_)
  · rw [key_slice2, R.k]; refine congrArg (fun n => band X S b jb j n * _) (Fin.ext ?_); show 4096 + (128 + (k : ℕ)) = 4096 + 64 * 2 + k; omega
  · rw [value_slice2, R.v]; refine congrArg (fun n => band X S b jb j n) (Fin.ext ?_); show 4352 + (128 + (d : ℕ)) = 4352 + 64 * 2 + d; omega
  · exact scores_at0 _ _ _ _ _ h j r
  · exact hq r k _ (by show 512 * 2 + 128 * 0 + (k : ℕ) = 1024 + k; omega)
  · exact hg r k _ (by show 2048 + (512 * 2 + 128 * 0 + (k : ℕ)) = 3072 + k; omega)
  · show 512 * 2 + 128 * 0 + (k : ℕ) = 1024 + k; omega

/-- Pair 1 of key head 2. -/
theorem piece9 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 1152 q1) (hg : Cols X b jb 3200 g)
    (h0 : s0 = Kk (ix1 18)) (h1 : s1 = Kk (ix1 19)) (r k : Fin 128) :
    k0_pay109 (k0_pay80 V k0_pay6) (k0_pay92 M (k0_pay14 K k0_pay8 (k0_pay11 q0) (k0_pay12 q1) (k0_pay13 q2) q3) s0 s1) (k0_pay93 M (k0_pay14 K k0_pay8 (k0_pay11 q0) (k0_pay12 q1) (k0_pay13 q2) q3) s0 s1) g (ix2 r k)
      = REF X S Kk (ix2 ⟨128 * (16 * b + jb) + r, by omega⟩ ⟨1152 + k, by omega⟩) := by
  refine (congrFun (pair9 K V M q0 q1 q2 q3 g s0 s1) _).trans ?_
  refine (pair_cell_at X S Kk F b jb 2 1
    (extractStridedSlice S256x64 ![0, 128] K slices_S256x256_o0_128_S256x64)
    (extractStridedSlice S64x256 ![128, 0] V slices_S256x256_o128_0_S64x256)
    (extractStridedSlice S512x128 ![0, 128] (scores (extractStridedSlice S256x64 ![0, 128] K slices_S256x256_o0_128_S256x64) q0 q1 q2 q3) slices_S512x512_o0_128_S512x128)
    M q1 g s0 s1 (fun j k => ?_) (fun d j => ?_) (fun h j r => ?_) R.m (fun r k => ?_) (fun r k => ?_) 18 19 rfl rfl h0 h1 r k ⟨1152 + k, by omega⟩ ?_)
  · rw [key_slice2, R.k]; refine congrArg (fun n => band X S b jb j n * _) (Fin.ext ?_); show 4096 + (128 + (k : ℕ)) = 4096 + 64 * 2 + k; omega
  · rw [value_slice2, R.v]; refine congrArg (fun n => band X S b jb j n) (Fin.ext ?_); show 4352 + (128 + (d : ℕ)) = 4352 + 64 * 2 + d; omega
  · exact scores_at1 _ _ _ _ _ h j r
  · exact hq r k _ (by show 512 * 2 + 128 * 1 + (k : ℕ) = 1152 + k; omega)
  · exact hg r k _ (by show 2048 + (512 * 2 + 128 * 1 + (k : ℕ)) = 3200 + k; omega)
  · show 512 * 2 + 128 * 1 + (k : ℕ) = 1152 + k; omega

/-- Pair 2 of key head 2. -/
theorem piece10 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 1280 q2) (hg : Cols X b jb 3328 g)
    (h0 : s0 = Kk (ix1 20)) (h1 : s1 = Kk (ix1 21)) (r k : Fin 128) :
    k0_pay110 (k0_pay80 V k0_pay6) (k0_pay99 (k0_pay94 M (k0_pay14 K k0_pay8 (k0_pay11 q0) (k0_pay12 q1) (k0_pay13 q2) q3)) (k0_pay95 s0) s1) (k0_pay100 (k0_pay94 M (k0_pay14 K k0_pay8 (k0_pay11 q0) (k0_pay12 q1) (k0_pay13 q2) q3)) (k0_pay95 s0) s1) g (ix2 r k)
      = REF X S Kk (ix2 ⟨128 * (16 * b + jb) + r, by omega⟩ ⟨1280 + k, by omega⟩) := by
  refine (congrFun (pair10 K V M q0 q1 q2 q3 g s0 s1) _).trans ?_
  refine (pair_cell_at X S Kk F b jb 2 2
    (extractStridedSlice S256x64 ![0, 128] K slices_S256x256_o0_128_S256x64)
    (extractStridedSlice S64x256 ![128, 0] V slices_S256x256_o128_0_S64x256)
    (extractStridedSlice S512x128 ![0, 256] (scores (extractStridedSlice S256x64 ![0, 128] K slices_S256x256_o0_128_S256x64) q0 q1 q2 q3) slices_S512x512_o0_256_S512x128)
    M q2 g s0 s1 (fun j k => ?_) (fun d j => ?_) (fun h j r => ?_) R.m (fun r k => ?_) (fun r k => ?_) 20 21 rfl rfl h0 h1 r k ⟨1280 + k, by omega⟩ ?_)
  · rw [key_slice2, R.k]; refine congrArg (fun n => band X S b jb j n * _) (Fin.ext ?_); show 4096 + (128 + (k : ℕ)) = 4096 + 64 * 2 + k; omega
  · rw [value_slice2, R.v]; refine congrArg (fun n => band X S b jb j n) (Fin.ext ?_); show 4352 + (128 + (d : ℕ)) = 4352 + 64 * 2 + d; omega
  · exact scores_at2 _ _ _ _ _ h j r
  · exact hq r k _ (by show 512 * 2 + 128 * 2 + (k : ℕ) = 1280 + k; omega)
  · exact hg r k _ (by show 2048 + (512 * 2 + 128 * 2 + (k : ℕ)) = 3328 + k; omega)
  · show 512 * 2 + 128 * 2 + (k : ℕ) = 1280 + k; omega

/-- Pair 3 of key head 2. -/
theorem piece11 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 1408 q3) (hg : Cols X b jb 3456 g)
    (h0 : s0 = Kk (ix1 22)) (h1 : s1 = Kk (ix1 23)) (r k : Fin 128) :
    k0_pay112 (k0_pay111 (k0_pay80 V k0_pay6) (k0_pay105 M (k0_pay14 K k0_pay8 (k0_pay11 q0) (k0_pay12 q1) (k0_pay13 q2) q3) s0 s1) (k0_pay106 M (k0_pay14 K k0_pay8 (k0_pay11 q0) (k0_pay12 q1) (k0_pay13 q2) q3) s0 s1)) g (ix2 r k)
      = REF X S Kk (ix2 ⟨128 * (16 * b + jb) + r, by omega⟩ ⟨1408 + k, by omega⟩) := by
  refine (congrFun (pair11 K V M q0 q1 q2 q3 g s0 s1) _).trans ?_
  refine (pair_cell_at X S Kk F b jb 2 3
    (extractStridedSlice S256x64 ![0, 128] K slices_S256x256_o0_128_S256x64)
    (extractStridedSlice S64x256 ![128, 0] V slices_S256x256_o128_0_S64x256)
    (extractStridedSlice S512x128 ![0, 384] (scores (extractStridedSlice S256x64 ![0, 128] K slices_S256x256_o0_128_S256x64) q0 q1 q2 q3) slices_S512x512_o0_384_S512x128)
    M q3 g s0 s1 (fun j k => ?_) (fun d j => ?_) (fun h j r => ?_) R.m (fun r k => ?_) (fun r k => ?_) 22 23 rfl rfl h0 h1 r k ⟨1408 + k, by omega⟩ ?_)
  · rw [key_slice2, R.k]; refine congrArg (fun n => band X S b jb j n * _) (Fin.ext ?_); show 4096 + (128 + (k : ℕ)) = 4096 + 64 * 2 + k; omega
  · rw [value_slice2, R.v]; refine congrArg (fun n => band X S b jb j n) (Fin.ext ?_); show 4352 + (128 + (d : ℕ)) = 4352 + 64 * 2 + d; omega
  · exact scores_at3 _ _ _ _ _ h j r
  · exact hq r k _ (by show 512 * 2 + 128 * 3 + (k : ℕ) = 1408 + k; omega)
  · exact hg r k _ (by show 2048 + (512 * 2 + 128 * 3 + (k : ℕ)) = 3456 + k; omega)
  · show 512 * 2 + 128 * 3 + (k : ℕ) = 1408 + k; omega

/-- Pair 0 of key head 3. -/
theorem piece12 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 1536 q0) (hg : Cols X b jb 3584 g)
    (h0 : s0 = Kk (ix1 24)) (h1 : s1 = Kk (ix1 25)) (r k : Fin 128) :
    k0_pay141 (k0_pay113 V k0_pay6) (k0_pay118 M (k0_pay15 K k0_pay8 q0 q1 q2 q3) s0 s1) (k0_pay119 M (k0_pay15 K k0_pay8 q0 q1 q2 q3) s0 s1) g (ix2 r k)
      = REF X S Kk (ix2 ⟨128 * (16 * b + jb) + r, by omega⟩ ⟨1536 + k, by omega⟩) := by
  refine (congrFun (pair12 K V M q0 q1 q2 q3 g s0 s1) _).trans ?_
  refine (pair_cell_at X S Kk F b jb 3 0
    (extractStridedSlice S256x64 ![0, 192] K slices_S256x256_o0_192_S256x64)
    (extractStridedSlice S64x256 ![192, 0] V slices_S256x256_o192_0_S64x256)
    (extractStridedSlice S512x128 ![0, 0] (scores (extractStridedSlice S256x64 ![0, 192] K slices_S256x256_o0_192_S256x64) q0 q1 q2 q3) slices_S512x512_o0_0_S512x128)
    M q0 g s0 s1 (fun j k => ?_) (fun d j => ?_) (fun h j r => ?_) R.m (fun r k => ?_) (fun r k => ?_) 24 25 rfl rfl h0 h1 r k ⟨1536 + k, by omega⟩ ?_)
  · rw [key_slice3, R.k]; refine congrArg (fun n => band X S b jb j n * _) (Fin.ext ?_); show 4096 + (192 + (k : ℕ)) = 4096 + 64 * 3 + k; omega
  · rw [value_slice3, R.v]; refine congrArg (fun n => band X S b jb j n) (Fin.ext ?_); show 4352 + (192 + (d : ℕ)) = 4352 + 64 * 3 + d; omega
  · exact scores_at0 _ _ _ _ _ h j r
  · exact hq r k _ (by show 512 * 3 + 128 * 0 + (k : ℕ) = 1536 + k; omega)
  · exact hg r k _ (by show 2048 + (512 * 3 + 128 * 0 + (k : ℕ)) = 3584 + k; omega)
  · show 512 * 3 + 128 * 0 + (k : ℕ) = 1536 + k; omega

/-- Pair 1 of key head 3. -/
theorem piece13 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 1664 q1) (hg : Cols X b jb 3712 g)
    (h0 : s0 = Kk (ix1 26)) (h1 : s1 = Kk (ix1 27)) (r k : Fin 128) :
    k0_pay1 (k0_pay142 (k0_pay113 V k0_pay6) (k0_pay125 (k0_pay120 M (k0_pay15 K k0_pay8 q0 q1 q2 q3)) (k0_pay121 s0) s1) (k0_pay126 (k0_pay120 M (k0_pay15 K k0_pay8 q0 q1 q2 q3)) (k0_pay121 s0) s1)) (k0_pay143 g) (ix2 r k)
      = REF X S Kk (ix2 ⟨128 * (16 * b + jb) + r, by omega⟩ ⟨1664 + k, by omega⟩) := by
  refine (congrFun (pair13 K V M q0 q1 q2 q3 g s0 s1) _).trans ?_
  refine (pair_cell_at X S Kk F b jb 3 1
    (extractStridedSlice S256x64 ![0, 192] K slices_S256x256_o0_192_S256x64)
    (extractStridedSlice S64x256 ![192, 0] V slices_S256x256_o192_0_S64x256)
    (extractStridedSlice S512x128 ![0, 128] (scores (extractStridedSlice S256x64 ![0, 192] K slices_S256x256_o0_192_S256x64) q0 q1 q2 q3) slices_S512x512_o0_128_S512x128)
    M q1 g s0 s1 (fun j k => ?_) (fun d j => ?_) (fun h j r => ?_) R.m (fun r k => ?_) (fun r k => ?_) 26 27 rfl rfl h0 h1 r k ⟨1664 + k, by omega⟩ ?_)
  · rw [key_slice3, R.k]; refine congrArg (fun n => band X S b jb j n * _) (Fin.ext ?_); show 4096 + (192 + (k : ℕ)) = 4096 + 64 * 3 + k; omega
  · rw [value_slice3, R.v]; refine congrArg (fun n => band X S b jb j n) (Fin.ext ?_); show 4352 + (192 + (d : ℕ)) = 4352 + 64 * 3 + d; omega
  · exact scores_at1 _ _ _ _ _ h j r
  · exact hq r k _ (by show 512 * 3 + 128 * 1 + (k : ℕ) = 1664 + k; omega)
  · exact hg r k _ (by show 2048 + (512 * 3 + 128 * 1 + (k : ℕ)) = 3712 + k; omega)
  · show 512 * 3 + 128 * 1 + (k : ℕ) = 1664 + k; omega

/-- Pair 2 of key head 3. -/
theorem piece14 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 1792 q2) (hg : Cols X b jb 3840 g)
    (h0 : s0 = Kk (ix1 28)) (h1 : s1 = Kk (ix1 29)) (r k : Fin 128) :
    k0_pay2 (k0_pay113 V k0_pay6) (k0_pay131 M (k0_pay15 K k0_pay8 q0 q1 q2 q3) s0 s1) (k0_pay132 M (k0_pay15 K k0_pay8 q0 q1 q2 q3) s0 s1) g (ix2 r k)
      = REF X S Kk (ix2 ⟨128 * (16 * b + jb) + r, by omega⟩ ⟨1792 + k, by omega⟩) := by
  refine (congrFun (pair14 K V M q0 q1 q2 q3 g s0 s1) _).trans ?_
  refine (pair_cell_at X S Kk F b jb 3 2
    (extractStridedSlice S256x64 ![0, 192] K slices_S256x256_o0_192_S256x64)
    (extractStridedSlice S64x256 ![192, 0] V slices_S256x256_o192_0_S64x256)
    (extractStridedSlice S512x128 ![0, 256] (scores (extractStridedSlice S256x64 ![0, 192] K slices_S256x256_o0_192_S256x64) q0 q1 q2 q3) slices_S512x512_o0_256_S512x128)
    M q2 g s0 s1 (fun j k => ?_) (fun d j => ?_) (fun h j r => ?_) R.m (fun r k => ?_) (fun r k => ?_) 28 29 rfl rfl h0 h1 r k ⟨1792 + k, by omega⟩ ?_)
  · rw [key_slice3, R.k]; refine congrArg (fun n => band X S b jb j n * _) (Fin.ext ?_); show 4096 + (192 + (k : ℕ)) = 4096 + 64 * 3 + k; omega
  · rw [value_slice3, R.v]; refine congrArg (fun n => band X S b jb j n) (Fin.ext ?_); show 4352 + (192 + (d : ℕ)) = 4352 + 64 * 3 + d; omega
  · exact scores_at2 _ _ _ _ _ h j r
  · exact hq r k _ (by show 512 * 3 + 128 * 2 + (k : ℕ) = 1792 + k; omega)
  · exact hg r k _ (by show 2048 + (512 * 3 + 128 * 2 + (k : ℕ)) = 3840 + k; omega)
  · show 512 * 3 + 128 * 2 + (k : ℕ) = 1792 + k; omega

/-- Pair 3 of key head 3. -/
theorem piece15 (X : FVec Ideal S8192x4608 .f32) (S : FVec Ideal S1152x4608 .f32) (Kk : FVec Ideal S32 .f32) (F : Fin3 X S Kk)
    (b : Fin 4) (jb : Fin 16) (K V : FVec Ideal S256x256 .bf16) (M : FVec Ideal S256x128 .f32) (q0 q1 q2 q3 g : Vec Ideal S128x128 .f32) (s0 s1 : Elt Ideal .f32)
    (R : Reads X S b jb K V M) (hq : Cols X b jb 1920 q3) (hg : Cols X b jb 3968 g)
    (h0 : s0 = Kk (ix1 30)) (h1 : s1 = Kk (ix1 31)) (r k : Fin 128) :
    k0_pay3 (k0_pay113 V k0_pay6) (k0_pay139 (k0_pay133 (k0_pay15 K k0_pay8 q0 q1 q2 q3)) (k0_pay134 M) s0 s1) (k0_pay140 (k0_pay133 (k0_pay15 K k0_pay8 q0 q1 q2 q3)) (k0_pay134 M) s0 s1) g (ix2 r k)
      = REF X S Kk (ix2 ⟨128 * (16 * b + jb) + r, by omega⟩ ⟨1920 + k, by omega⟩) := by
  refine (congrFun (pair15 K V M q0 q1 q2 q3 g s0 s1) _).trans ?_
  refine (pair_cell_at X S Kk F b jb 3 3
    (extractStridedSlice S256x64 ![0, 192] K slices_S256x256_o0_192_S256x64)
    (extractStridedSlice S64x256 ![192, 0] V slices_S256x256_o192_0_S64x256)
    (extractStridedSlice S512x128 ![0, 384] (scores (extractStridedSlice S256x64 ![0, 192] K slices_S256x256_o0_192_S256x64) q0 q1 q2 q3) slices_S512x512_o0_384_S512x128)
    M q3 g s0 s1 (fun j k => ?_) (fun d j => ?_) (fun h j r => ?_) R.m (fun r k => ?_) (fun r k => ?_) 30 31 rfl rfl h0 h1 r k ⟨1920 + k, by omega⟩ ?_)
  · rw [key_slice3, R.k]; refine congrArg (fun n => band X S b jb j n * _) (Fin.ext ?_); show 4096 + (192 + (k : ℕ)) = 4096 + 64 * 3 + k; omega
  · rw [value_slice3, R.v]; refine congrArg (fun n => band X S b jb j n) (Fin.ext ?_); show 4352 + (192 + (d : ℕ)) = 4352 + 64 * 3 + d; omega
  · exact scores_at3 _ _ _ _ _ h j r
  · exact hq r k _ (by show 512 * 3 + 128 * 3 + (k : ℕ) = 1920 + k; omega)
  · exact hg r k _ (by show 2048 + (512 * 3 + 128 * 3 + (k : ℕ)) = 3968 + k; omega)
  · show 512 * 3 + 128 * 3 + (k : ℕ) = 1920 + k; omega

end Cert.AttnEq
-- ==== Proof.ValueAttn.lean ====
/- The attention (`Kernel`): every block of the kernel's result is the reference's result there. -/
module

public import proofs.«01_k».proof.Proof.Gen.KernelIdeal.Frame
public import proofs.«01_k».proof.Proof.AttnPieces
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen Cert.AttnEq Idealize.ShloMosaic Idealize.ShloMosaic.TcCoe Idealize.SL.Sem
open Idealize.ShloMosaic.Pipeline (Dat)
open Cert.ReferenceIdeal.Hand (REF)

variable (m : (ℓ : Loc nD τ sig) → Buf (Elt Ideal) ℓ)

/-- Every window's block index in closed form, over the 64 grid points. -/
theorem idx : ∀ t : Fin cfg0.N, win0_0.index t = ![t.val, 0] ∧ win0_1.index t = ![t.val, 1]
    ∧ win0_2.index t = ![t.val, 16] ∧ win0_3.index t = ![t.val, 17]
    ∧ win0_4.index t = ![t.val - (if t.val % 16 = 0 then 0 else 1), 16] ∧ win0_5.index t = ![t.val - (if t.val % 16 = 0 then 0 else 1), 17]
    ∧ win0_6.index t = ![8, 8] ∧ win0_7.index t = ![0]
    ∧ win0_8.index t = ![t.val, 0] :=
  (by decide +kernel : ∀ t : Fin grid0.N, _)

/-- The second grid coordinate: the block within its prompt. -/
theorem coord1 : ∀ t : Fin cfg0.N, (grid0.coords t 1 : ℕ) = t.val % 16 :=
  (by decide +kernel : ∀ t : Fin grid0.N, _)

/-- There are 64 grid points. -/
theorem tlt (t : Fin cfg0.N) : (t : ℕ) < 64 := lt_of_lt_of_eq t.isLt N_0

/-- The block of queries holds the rows of its point. -/
theorem read_q (c : Dev nD) (t : Fin cfg0.N) (r : Fin 128) (k : Fin 2048) :
    X0_0 m c t (ix2 r k) = m ((c : Thread nD τ).loc main_arg0) (ix2 ⟨128 * t + r, by have := tlt t; omega⟩ ⟨k, by omega⟩) := by
  unfold X0_0 Pipeline.Window.fill
  rw [dif_pos (moved0_0 t _)]
  blk_point [iblk, V, idx t]

/-- The block of gates holds the rows of its point. -/
theorem read_g (c : Dev nD) (t : Fin cfg0.N) (r : Fin 128) (k : Fin 2048) :
    X0_1 m c t (ix2 r k) = m ((c : Thread nD τ).loc main_arg0) (ix2 ⟨128 * t + r, by have := tlt t; omega⟩ ⟨2048 + k, by omega⟩) := by
  unfold X0_1 Pipeline.Window.fill
  rw [dif_pos (moved0_1 t _)]
  blk_point [iblk, V, idx t]

/-- The block of keys. -/
theorem read_kc (c : Dev nD) (t : Fin cfg0.N) (r : Fin 128) (k : Fin 256) :
    iblk m c 2 t (ix2 r k) = m ((c : Thread nD τ).loc main_arg0) (ix2 ⟨128 * t + r, by have := tlt t; omega⟩ ⟨4096 + k, by omega⟩) := by
  blk_point [iblk, V, idx t]

/-- The block of values. -/
theorem read_vc (c : Dev nD) (t : Fin cfg0.N) (r : Fin 128) (k : Fin 256) :
    iblk m c 3 t (ix2 r k) = m ((c : Thread nD τ).loc main_arg0) (ix2 ⟨128 * t + r, by have := tlt t; omega⟩ ⟨4352 + k, by omega⟩) := by
  blk_point [iblk, V, idx t]

/-- The block of keys before. -/
theorem read_kp (c : Dev nD) (t : Fin cfg0.N) (h : ¬ (t : ℕ) % 16 = 0) (r : Fin 128) (k : Fin 256) :
    iblk m c 4 t (ix2 r k) = m ((c : Thread nD τ).loc main_arg0) (ix2 ⟨128 * (t - 1) + r, by have := tlt t; omega⟩ ⟨4096 + k, by omega⟩) := by
  have hx := idx t
  rw [if_neg h] at hx
  blk_point [iblk, V, hx]

/-- The block of values before. -/
theorem read_vp (c : Dev nD) (t : Fin cfg0.N) (h : ¬ (t : ℕ) % 16 = 0) (r : Fin 128) (k : Fin 256) :
    iblk m c 5 t (ix2 r k) = m ((c : Thread nD τ).loc main_arg0) (ix2 ⟨128 * (t - 1) + r, by have := tlt t; omega⟩ ⟨4352 + k, by omega⟩) := by
  have hx := idx t
  rw [if_neg h] at hx
  blk_point [iblk, V, hx]

/-- The block of the meta rows: their keys and their values. -/
theorem read_meta (c : Dev nD) (t : Fin cfg0.N) (r : Fin 128) (k : Fin 512) :
    iblk m c 6 t (ix2 r k) = m ((c : Thread nD τ).loc main_arg1) (ix2 ⟨1024 + r, by omega⟩ ⟨4096 + k, by omega⟩) := by
  blk_point [iblk, V, idx t]

/-- The sinks. -/
theorem read_s (c : Dev nD) (t : Fin cfg0.N) (h : Fin 32) :
    iblk m c 7 t (ix1 h) = m ((c : Thread nD τ).loc main_arg2) (ix1 h) := by
  blk_point [iblk, V, idx t]

/-- The prompt of a point. -/
def bq (t : Fin cfg0.N) : Fin 4 := ⟨t.val / 16, by have := tlt t; omega⟩

/-- The block of a point within its prompt. -/
def jq (t : Fin cfg0.N) : Fin 16 := ⟨t.val % 16, by omega⟩

/-- The prompt and the block of a point make its number. -/
theorem bj (t : Fin cfg0.N) : 16 * (bq t : ℕ) + (jq t : ℕ) = t.val := by
  show 16 * (t.val / 16) + t.val % 16 = t.val
  omega

/-- The band that a point reads, from a column `n` of the projected rows. -/
theorem band_read (X : FVec Ideal S8192x4608 .f32) (S : FVec Ideal S1152x4608 .f32) (t : Fin cfg0.N) (n : Fin 4608) (k : Fin 256)
    (a b p : Vec Ideal S128x256 .f32) (ha : ∀ r : Fin 128, a (ix2 r k) = S (ix2 ⟨1024 + r, by omega⟩ n))
    (hb : ∀ r : Fin 128, ¬ t.val % 16 = 0 → b (ix2 r k) = X (ix2 ⟨128 * (t - 1) + r, by have := tlt t; omega⟩ n))
    (hp : ∀ r : Fin 128, p (ix2 r k) = X (ix2 ⟨128 * t + r, by have := tlt t; omega⟩ n)) (j : Fin 256) :
    (if h : (j : ℕ) < 128 then (if (grid0.coords t 1 : ℕ) = 0 then a (ix2 ⟨j, h⟩ k) else b (ix2 ⟨j, h⟩ k)) else p (ix2 ⟨j - 128, by omega⟩ k))
      = band X S (bq t) (jq t) j n := by
  unfold band
  by_cases h : (j : ℕ) < 128
  · rw [dif_pos h, dif_pos h, coord1 t]
    by_cases h0 : t.val % 16 = 0
    · rw [if_pos h0, if_pos (show ((jq t : Fin 16) : ℕ) = 0 from h0), ha]
    · rw [if_neg h0, if_neg (show ¬ ((jq t : Fin 16) : ℕ) = 0 from h0), hb _ h0]
      exact congrArg (fun i => X (ix2 i n)) (Fin.ext (by show 128 * (t.val - 1) + (j : ℕ) = 128 * (16 * (bq t : ℕ) + (jq t : ℕ) - 1) + j; rw [bj]))
  · rw [dif_neg h, dif_neg h, hp]
    exact congrArg (fun i => X (ix2 i n)) (Fin.ext (by show 128 * t.val + ((j : ℕ) - 128) = 128 * (16 * (bq t : ℕ) + (jq t : ℕ)) + (j - 128); rw [bj]))

/-- The keys, the values and the mask of a point, from the meta rows' keys `a` and values `a'`. -/
theorem reads (c : Dev nD) (t : Fin cfg0.N) (a a' : Vec Ideal S128x256 .f32)
    (ha : ∀ (r : Fin 128) (k : Fin 256), a (ix2 r k) = m ((c : Thread nD τ).loc main_arg1) (ix2 ⟨1024 + r, by omega⟩ ⟨4096 + k, by omega⟩))
    (ha' : ∀ (r : Fin 128) (k : Fin 256), a' (ix2 r k) = m ((c : Thread nD τ).loc main_arg1) (ix2 ⟨1024 + r, by omega⟩ ⟨4352 + k, by omega⟩)) :
    Reads (m ((c : Thread nD τ).loc main_arg0)) (m ((c : Thread nD τ).loc main_arg1)) (bq t) (jq t)
      (k0_pay4 (grid0.coords t) a (iblk m c 4 t) (iblk m c 2 t)) (k0_pay5 (grid0.coords t) a' (iblk m c 5 t) (iblk m c 3 t))
      (k0_pay7 (grid0.coords t)) where
  k j n := by
    refine (_root_.Cert.KernelIdeal.Hand.keys_at (grid0.coords t) a _ _ j n).trans (congrArg (· * _) ?_)
    exact band_read _ _ t ⟨4096 + n, by omega⟩ n a _ _ (fun r => ha r n) (fun r h => read_kp m c t h r n) (fun r => read_kc m c t r n) j
  v n j := by
    refine (_root_.Cert.KernelIdeal.Hand.values_at (grid0.coords t) a' _ _ j n).trans ?_
    exact band_read _ _ t ⟨4352 + n, by omega⟩ n a' _ _ (fun r => ha' r n) (fun r h => read_vp m c t h r n) (fun r => read_vc m c t r n) j
  m j r := by
    refine (_root_.Cert.KernelIdeal.Hand.mask_at (grid0.coords t) j r).trans ?_
    exact if_congr (by rw [coord1 t]; exact Iff.rfl) rfl rfl

/-- A block of columns of the queries or the gates. -/
theorem cols (c : Dev nD) (t : Fin cfg0.N) (o : ℕ) (q : Vec Ideal S128x128 .f32)
    (h : ∀ (r k : Fin 128) (n : Fin 4608), (n : ℕ) = o + k → q (ix2 r k) = m ((c : Thread nD τ).loc main_arg0) (ix2 ⟨128 * t + r, by have := tlt t; omega⟩ n)) :
    Cols (m ((c : Thread nD τ).loc main_arg0)) (bq t) (jq t) o q := fun r k n hn =>
  (h r k n hn).trans (congrArg (fun i => m ((c : Thread nD τ).loc main_arg0) (ix2 i n)) (Fin.ext (by show 128 * t.val + (r : ℕ) = 128 * (16 * (bq t : ℕ) + (jq t : ℕ)) + r; rw [bj])))

/-- A query of a point, at the reference's column. -/
theorem q_at (c : Dev nD) (t : Fin cfg0.N) (r : Fin 128) (k : Fin 2048) (n : Fin 4608) (h : (n : ℕ) = k) :
    X0_0 m c t (ix2 r k) = m ((c : Thread nD τ).loc main_arg0) (ix2 ⟨128 * t + r, by have := tlt t; omega⟩ n) :=
  (read_q m c t r k).trans (congrArg (fun n => m ((c : Thread nD τ).loc main_arg0) (ix2 _ n)) (Fin.ext h.symm))

/-- A gate of a point, at the reference's column. -/
theorem g_at (c : Dev nD) (t : Fin cfg0.N) (r : Fin 128) (k : Fin 2048) (n : Fin 4608) (h : (n : ℕ) = 2048 + k) :
    X0_1 m c t (ix2 r k) = m ((c : Thread nD τ).loc main_arg0) (ix2 ⟨128 * t + r, by have := tlt t; omega⟩ n) :=
  (read_g m c t r k).trans (congrArg (fun n => m ((c : Thread nD τ).loc main_arg0) (ix2 _ n)) (Fin.ext h.symm))

/-- A result of a point, at the reference's row and column. -/
theorem place (X : FVec Ideal S8192x4608 .f32) (S : FVec Ideal S1152x4608 .f32) (Kk : FVec Ideal S32 .f32) (t : Fin cfg0.N) (R : Fin 8192) (n : Fin 2048)
    (r : Fin 128) (k : Fin 2048) (hR : (R : ℕ) = 128 * t + r) (hn : (n : ℕ) = k) :
    REF X S Kk (ix2 ⟨128 * (16 * (bq t : ℕ) + (jq t : ℕ)) + r, by have := tlt t; have := bj t; omega⟩ k) = REF X S Kk (ix2 R n) := by
  exact congrArg₂ (fun R n => REF X S Kk (ix2 R n)) (Fin.ext (by show 128 * (16 * (bq t : ℕ) + (jq t : ℕ)) + (r : ℕ) = R; rw [bj, hR])) (Fin.ext hn.symm)

/-- A column of the meta rows, by its number. -/
theorem meta_col (c : Dev nD) (r : Fin 128) (n n' : Fin 4608) (h : (n : ℕ) = n') :
    m ((c : Thread nD τ).loc main_arg1) (ix2 ⟨1024 + r, by omega⟩ n) = m ((c : Thread nD τ).loc main_arg1) (ix2 ⟨1024 + r, by omega⟩ n') :=
  congrArg (fun n => m ((c : Thread nD τ).loc main_arg1) (ix2 _ n)) (Fin.ext h)

/-- What a point of the grid writes is the reference's result on its rows. -/
theorem point (c : Dev nD) (t : Fin cfg0.N) (F : Fin3 (m ((c : Thread nD τ).loc main_arg0)) (m ((c : Thread nD τ).loc main_arg1)) (m ((c : Thread nD τ).loc main_arg2)))
    (y : S128x2048.Idx) (R : Fin 8192) (n : Fin 2048) (hR : (R : ℕ) = 128 * t + (y 0 : ℕ)) (hn : (n : ℕ) = (y 1 : ℕ)) : outsAt0 m c t y = REF (m ((c : Thread nD τ).loc main_arg0)) (m ((c : Thread nD τ).loc main_arg1)) (m ((c : Thread nD τ).loc main_arg2)) (ix2 R n) := by
  unfold outsAt0; frame_out
  canon_tiles x h
  · obtain ⟨r, k, rfl⟩ : ∃ (r k : Fin 128), x = ix2 r k := ⟨x 0, x 1, eq_ix2 x⟩
    refine (piece15 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨1920 + k, by omega⟩) by pointwise).trans (q_at m c t r ⟨1920 + k, by omega⟩ n hn)
    · exact (show _ = X0_1 m c t (ix2 r ⟨1920 + k, by omega⟩) by pointwise).trans (g_at m c t r ⟨1920 + k, by omega⟩ n (hn.trans (by show _ = 2048 + (1920 + (k : ℕ)); omega)))
    · exact (show _ = iblk m c 7 t (ix1 30) by pointwise).trans (read_s m c t 30)
    · exact (show _ = iblk m c 7 t (ix1 31) by pointwise).trans (read_s m c t 31)
  · obtain ⟨r, k, rfl⟩ : ∃ (r k : Fin 128), x = ix2 r k := ⟨x 0, x 1, eq_ix2 x⟩
    refine (piece14 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨1792 + k, by omega⟩) by pointwise).trans (q_at m c t r ⟨1792 + k, by omega⟩ n hn)
    · exact (show _ = X0_1 m c t (ix2 r ⟨1792 + k, by omega⟩) by pointwise).trans (g_at m c t r ⟨1792 + k, by omega⟩ n (hn.trans (by show _ = 2048 + (1792 + (k : ℕ)); omega)))
    · exact (show _ = iblk m c 7 t (ix1 28) by pointwise).trans (read_s m c t 28)
    · exact (show _ = iblk m c 7 t (ix1 29) by pointwise).trans (read_s m c t 29)
  · obtain ⟨r, k, rfl⟩ : ∃ (r k : Fin 128), x = ix2 r k := ⟨x 0, x 1, eq_ix2 x⟩
    refine (piece13 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨1664 + k, by omega⟩) by pointwise).trans (q_at m c t r ⟨1664 + k, by omega⟩ n hn)
    · exact (show _ = X0_1 m c t (ix2 r ⟨1664 + k, by omega⟩) by pointwise).trans (g_at m c t r ⟨1664 + k, by omega⟩ n (hn.trans (by show _ = 2048 + (1664 + (k : ℕ)); omega)))
    · exact (show _ = iblk m c 7 t (ix1 26) by pointwise).trans (read_s m c t 26)
    · exact (show _ = iblk m c 7 t (ix1 27) by pointwise).trans (read_s m c t 27)
  · obtain ⟨r, k, rfl⟩ : ∃ (r k : Fin 128), x = ix2 r k := ⟨x 0, x 1, eq_ix2 x⟩
    refine (piece12 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨1536 + k, by omega⟩) by pointwise).trans (q_at m c t r ⟨1536 + k, by omega⟩ n hn)
    · exact (show _ = X0_1 m c t (ix2 r ⟨1536 + k, by omega⟩) by pointwise).trans (g_at m c t r ⟨1536 + k, by omega⟩ n (hn.trans (by show _ = 2048 + (1536 + (k : ℕ)); omega)))
    · exact (show _ = iblk m c 7 t (ix1 24) by pointwise).trans (read_s m c t 24)
    · exact (show _ = iblk m c 7 t (ix1 25) by pointwise).trans (read_s m c t 25)
  · obtain ⟨r, k, rfl⟩ : ∃ (r k : Fin 128), x = ix2 r k := ⟨x 0, x 1, eq_ix2 x⟩
    refine (piece11 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨1408 + k, by omega⟩) by pointwise).trans (q_at m c t r ⟨1408 + k, by omega⟩ n hn)
    · exact (show _ = X0_1 m c t (ix2 r ⟨1408 + k, by omega⟩) by pointwise).trans (g_at m c t r ⟨1408 + k, by omega⟩ n (hn.trans (by show _ = 2048 + (1408 + (k : ℕ)); omega)))
    · exact (show _ = iblk m c 7 t (ix1 22) by pointwise).trans (read_s m c t 22)
    · exact (show _ = iblk m c 7 t (ix1 23) by pointwise).trans (read_s m c t 23)
  · obtain ⟨r, k, rfl⟩ : ∃ (r k : Fin 128), x = ix2 r k := ⟨x 0, x 1, eq_ix2 x⟩
    refine (piece10 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨1280 + k, by omega⟩) by pointwise).trans (q_at m c t r ⟨1280 + k, by omega⟩ n hn)
    · exact (show _ = X0_1 m c t (ix2 r ⟨1280 + k, by omega⟩) by pointwise).trans (g_at m c t r ⟨1280 + k, by omega⟩ n (hn.trans (by show _ = 2048 + (1280 + (k : ℕ)); omega)))
    · exact (show _ = iblk m c 7 t (ix1 20) by pointwise).trans (read_s m c t 20)
    · exact (show _ = iblk m c 7 t (ix1 21) by pointwise).trans (read_s m c t 21)
  · obtain ⟨r, k, rfl⟩ : ∃ (r k : Fin 128), x = ix2 r k := ⟨x 0, x 1, eq_ix2 x⟩
    refine (piece9 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨1152 + k, by omega⟩) by pointwise).trans (q_at m c t r ⟨1152 + k, by omega⟩ n hn)
    · exact (show _ = X0_1 m c t (ix2 r ⟨1152 + k, by omega⟩) by pointwise).trans (g_at m c t r ⟨1152 + k, by omega⟩ n (hn.trans (by show _ = 2048 + (1152 + (k : ℕ)); omega)))
    · exact (show _ = iblk m c 7 t (ix1 18) by pointwise).trans (read_s m c t 18)
    · exact (show _ = iblk m c 7 t (ix1 19) by pointwise).trans (read_s m c t 19)
  · obtain ⟨r, k, rfl⟩ : ∃ (r k : Fin 128), x = ix2 r k := ⟨x 0, x 1, eq_ix2 x⟩
    refine (piece8 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨1024 + k, by omega⟩) by pointwise).trans (q_at m c t r ⟨1024 + k, by omega⟩ n hn)
    · exact (show _ = X0_1 m c t (ix2 r ⟨1024 + k, by omega⟩) by pointwise).trans (g_at m c t r ⟨1024 + k, by omega⟩ n (hn.trans (by show _ = 2048 + (1024 + (k : ℕ)); omega)))
    · exact (show _ = iblk m c 7 t (ix1 16) by pointwise).trans (read_s m c t 16)
    · exact (show _ = iblk m c 7 t (ix1 17) by pointwise).trans (read_s m c t 17)
  · obtain ⟨r, k, rfl⟩ : ∃ (r k : Fin 128), x = ix2 r k := ⟨x 0, x 1, eq_ix2 x⟩
    refine (piece7 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨896 + k, by omega⟩) by pointwise).trans (q_at m c t r ⟨896 + k, by omega⟩ n hn)
    · exact (show _ = X0_1 m c t (ix2 r ⟨896 + k, by omega⟩) by pointwise).trans (g_at m c t r ⟨896 + k, by omega⟩ n (hn.trans (by show _ = 2048 + (896 + (k : ℕ)); omega)))
    · exact (show _ = iblk m c 7 t (ix1 14) by pointwise).trans (read_s m c t 14)
    · exact (show _ = iblk m c 7 t (ix1 15) by pointwise).trans (read_s m c t 15)
  · obtain ⟨r, k, rfl⟩ : ∃ (r k : Fin 128), x = ix2 r k := ⟨x 0, x 1, eq_ix2 x⟩
    refine (piece6 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨768 + k, by omega⟩) by pointwise).trans (q_at m c t r ⟨768 + k, by omega⟩ n hn)
    · exact (show _ = X0_1 m c t (ix2 r ⟨768 + k, by omega⟩) by pointwise).trans (g_at m c t r ⟨768 + k, by omega⟩ n (hn.trans (by show _ = 2048 + (768 + (k : ℕ)); omega)))
    · exact (show _ = iblk m c 7 t (ix1 12) by pointwise).trans (read_s m c t 12)
    · exact (show _ = iblk m c 7 t (ix1 13) by pointwise).trans (read_s m c t 13)
  · obtain ⟨r, k, rfl⟩ : ∃ (r k : Fin 128), x = ix2 r k := ⟨x 0, x 1, eq_ix2 x⟩
    refine (piece5 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨640 + k, by omega⟩) by pointwise).trans (q_at m c t r ⟨640 + k, by omega⟩ n hn)
    · exact (show _ = X0_1 m c t (ix2 r ⟨640 + k, by omega⟩) by pointwise).trans (g_at m c t r ⟨640 + k, by omega⟩ n (hn.trans (by show _ = 2048 + (640 + (k : ℕ)); omega)))
    · exact (show _ = iblk m c 7 t (ix1 10) by pointwise).trans (read_s m c t 10)
    · exact (show _ = iblk m c 7 t (ix1 11) by pointwise).trans (read_s m c t 11)
  · obtain ⟨r, k, rfl⟩ : ∃ (r k : Fin 128), x = ix2 r k := ⟨x 0, x 1, eq_ix2 x⟩
    refine (piece4 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨512 + k, by omega⟩) by pointwise).trans (q_at m c t r ⟨512 + k, by omega⟩ n hn)
    · exact (show _ = X0_1 m c t (ix2 r ⟨512 + k, by omega⟩) by pointwise).trans (g_at m c t r ⟨512 + k, by omega⟩ n (hn.trans (by show _ = 2048 + (512 + (k : ℕ)); omega)))
    · exact (show _ = iblk m c 7 t (ix1 8) by pointwise).trans (read_s m c t 8)
    · exact (show _ = iblk m c 7 t (ix1 9) by pointwise).trans (read_s m c t 9)
  · obtain ⟨r, k, rfl⟩ : ∃ (r k : Fin 128), x = ix2 r k := ⟨x 0, x 1, eq_ix2 x⟩
    refine (piece3 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨384 + k, by omega⟩) by pointwise).trans (q_at m c t r ⟨384 + k, by omega⟩ n hn)
    · exact (show _ = X0_1 m c t (ix2 r ⟨384 + k, by omega⟩) by pointwise).trans (g_at m c t r ⟨384 + k, by omega⟩ n (hn.trans (by show _ = 2048 + (384 + (k : ℕ)); omega)))
    · exact (show _ = iblk m c 7 t (ix1 6) by pointwise).trans (read_s m c t 6)
    · exact (show _ = iblk m c 7 t (ix1 7) by pointwise).trans (read_s m c t 7)
  · obtain ⟨r, k, rfl⟩ : ∃ (r k : Fin 128), x = ix2 r k := ⟨x 0, x 1, eq_ix2 x⟩
    refine (piece2 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨256 + k, by omega⟩) by pointwise).trans (q_at m c t r ⟨256 + k, by omega⟩ n hn)
    · exact (show _ = X0_1 m c t (ix2 r ⟨256 + k, by omega⟩) by pointwise).trans (g_at m c t r ⟨256 + k, by omega⟩ n (hn.trans (by show _ = 2048 + (256 + (k : ℕ)); omega)))
    · exact (show _ = iblk m c 7 t (ix1 4) by pointwise).trans (read_s m c t 4)
    · exact (show _ = iblk m c 7 t (ix1 5) by pointwise).trans (read_s m c t 5)
  · obtain ⟨r, k, rfl⟩ : ∃ (r k : Fin 128), x = ix2 r k := ⟨x 0, x 1, eq_ix2 x⟩
    refine (piece1 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans h1))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨128 + k, by omega⟩) by pointwise).trans (q_at m c t r ⟨128 + k, by omega⟩ n hn)
    · exact (show _ = X0_1 m c t (ix2 r ⟨128 + k, by omega⟩) by pointwise).trans (g_at m c t r ⟨128 + k, by omega⟩ n (hn.trans (by show _ = 2048 + (128 + (k : ℕ)); omega)))
    · exact (show _ = iblk m c 7 t (ix1 2) by pointwise).trans (read_s m c t 2)
    · exact (show _ = iblk m c 7 t (ix1 3) by pointwise).trans (read_s m c t 3)
  · obtain ⟨r, k, rfl⟩ : ∃ (r k : Fin 128), x = ix2 r k := ⟨x 0, x 1, eq_ix2 x⟩
    refine (piece0 _ _ _ F (bq t) (jq t) _ _ _ _ _ _ _ _ _ _ (reads m c t _ _ (fun r k => ?_) (fun r k => ?_)) (cols m c t _ _ (fun r k n hn => ?_)) (cols m c t _ _ (fun r k n hn => ?_)) ?_ ?_ r k).trans
      (place _ _ _ t R n r _ (hR.trans (congrArg (128 * (t : ℕ) + ·) h0)) (hn.trans (h1.trans (Nat.zero_add _).symm)))
    · exact (show _ = iblk m c 6 t (ix2 r ⟨k, by omega⟩) by pointwise).trans (read_meta m c t r _)
    · exact (show _ = iblk m c 6 t (ix2 r ⟨256 + k, by omega⟩) by pointwise).trans ((read_meta m c t r _).trans (meta_col m c r _ _ (by show 4096 + (256 + (k : ℕ)) = 4352 + k; omega)))
    · exact (show _ = X0_0 m c t (ix2 r ⟨0 + k, by omega⟩) by pointwise).trans (q_at m c t r ⟨0 + k, by omega⟩ n hn)
    · exact (show _ = X0_1 m c t (ix2 r ⟨0 + k, by omega⟩) by pointwise).trans (g_at m c t r ⟨0 + k, by omega⟩ n (hn.trans (by show _ = 2048 + (0 + (k : ℕ)); omega)))
    · exact (show _ = iblk m c 7 t (ix1 0) by pointwise).trans (read_s m c t 0)
    · exact (show _ = iblk m c 7 t (ix1 1) by pointwise).trans (read_s m c t 1)

/-- The program's result array is the reference's result, where the queries, the keys and the sinks are finite. -/
theorem final (c : Dev nD) (F : Fin3 (m ((c : Thread nD τ).loc main_arg0)) (m ((c : Thread nD τ).loc main_arg1)) (m ((c : Thread nD τ).loc main_arg2))) :
    (dats m 0 c).arrAt 8 (cfgs 0).N = REF (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  refine (point m c t F y ((win0_8.blk t).view.emb y 0) ((win0_8.blk t).view.emb y 1) ?_ ?_).trans (congrArg _ (eq_ix2 _).symm)
  · blk_simp [idx t]
    omega
  · blk_simp [idx t]

end Cert.KernelIdeal.Hand

end
-- ==== Proof.AttnPre.lean ====
/- What the precondition of the attention says: the queries, the keys and the sinks are finite. -/
module

public import proofs.«01_k».proof.Proof.AttnEq
public import proofs.«01_k».proof.Proof.Gen.Pre_finite
public import Idealize.ShloMosaic.Lib.ReduceAll
public import Idealize.ShloMosaic.Lib.Pointwise

@[expose] public section

noncomputable section

namespace Cert.AttnPre

open Idealize.ShloMosaic Cert.Pre_finite Cert.AttnEq

/-- A number whose absolute value is below infinity is finite. -/
theorem real_of (x : Ideal .f32) (h : FloatOps.cmpf (F := Ideal) .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1 := h
  rw [htop, Ideal.cmp_olt_eq_one, max_lt_iff] at h'
  refine ⟨fun e => ?_, fun e => ?_⟩
  · subst e; exact absurd h'.2 (by simp)
  · subst e; exact absurd h'.1 (by simp)

/-- The precondition gives finite queries, keys and sinks. -/
theorem fin3 (X : FVec Ideal S8192x4608 .f32) (S : FVec Ideal S1152x4608 .f32) (K : FVec Ideal S32 .f32)
    (h : Cert.Pre_finite.fn (F := Ideal) X S K = fun _ => 1#1) : Fin3 X S K := by
  have h0 := congrFun h (Shape.Idx.first Cert.Pre_finite.Facts.h_S_)
  unfold Cert.Pre_finite.fn Cert.Pre_finite.fn_part1 at h0
  simp only [andi] at h0
  obtain ⟨h1, hs⟩ := IntOp.andi_eq_one.1 h0
  obtain ⟨h2, hm⟩ := IntOp.andi_eq_one.1 h1
  obtain ⟨hq, hk⟩ := IntOp.andi_eq_one.1 h2
  refine ⟨fun R n hn => ?_, fun R n hn hn' => ?_, fun R n hR hn hn' => ?_, fun h => ?_⟩
  · have e := real_of _ (Host.reduce_andi_all _ _ _ _ _ hq (ix2 R ⟨n, hn⟩))
    rwa [show extractStridedSlice S8192x2048 ![0, 0] X Cert.Pre_finite.Facts.slices_S8192x4608_S8192x2048_0_0 (ix2 R ⟨n, hn⟩) = X (ix2 R n) by pointwise] at e
  · have e := real_of _ (Host.reduce_andi_all _ _ _ _ _ hk (ix2 R ⟨n - 4096, by omega⟩))
    rwa [show extractStridedSlice S8192x256 ![0, 4096] X Cert.Pre_finite.Facts.slices_S8192x4608_S8192x256_0_4096 (ix2 R ⟨n - 4096, by omega⟩) = X (ix2 R n) by
      pointwise
      exact congrArg (fun n => X (ix2 R n)) (Fin.ext (Nat.add_sub_cancel' hn))] at e
  · have e := real_of _ (Host.reduce_andi_all _ _ _ _ _ hm (ix2 ⟨R - 1136, by omega⟩ ⟨n - 4096, by omega⟩))
    rwa [show extractStridedSlice S16x256 ![1136, 4096] S Cert.Pre_finite.Facts.slices_S1152x4608_S16x256_1136_4096 (ix2 ⟨R - 1136, by omega⟩ ⟨n - 4096, by omega⟩) = S (ix2 R n) by
      pointwise
      exact congrArg₂ (fun R n => S (ix2 R n)) (Fin.ext (Nat.add_sub_cancel' hR)) (Fin.ext (Nat.add_sub_cancel' hn))] at e
  · exact real_of _ (Host.reduce_andi_all _ _ _ _ _ hs (ix1 h))

end Cert.AttnPre

end
-- ==== Proof.ValueOut.lean ====
/- The output projection with its DeepNorm residual (`KernelOut`): the four row sub-blocks of every tile are rows of the reference. -/
module

public import proofs.«01_k».proof.Proof.Gen.KernelOutIdeal.Frame
public import proofs.«01_k».proof.Proof.Gen.ReferenceOutIdeal.Run
public import Idealize.ShloMosaic.Lib.Pipeline.ValueKit
public import Idealize.ShloMosaic.Lib.Pointwise
public import Idealize.ShloMosaic.Lib.Claim

@[expose] public section

set_option maxRecDepth 16384

noncomputable section

namespace Cert.KernelOutIdeal.Hand

open Cert.KernelOutIdeal Cert.KernelOutIdeal.Gen Idealize.ShloMosaic Idealize.ShloMosaic.TcCoe Idealize.SL.Sem
open Idealize.ShloMosaic.Pipeline (Dat)

variable (m : (ℓ : Loc nD τ sig) → Buf (Elt Ideal) ℓ)

/-- The residual sum `alpha * x + og @ w_out` of the reference. -/
def refZ (OG : FVec Ideal S8192x2048 .bf16) (W : FVec Ideal S2048x2048 .bf16) (X : FVec Ideal S8192x2048 .f32) :
    FVec Ideal S8192x2048 .f32 :=
  addf (mulf (broadcastInDim S8192x2048 ![] Cert.ReferenceOutIdeal.Gen.bcast_S_S8192x2048 (constant Cert.ReferenceOutIdeal.S_ .f32 0x3FB504F3#32)) X)
    (Host.dotGeneral Cert.ReferenceOutIdeal.dot_S8192x2048_S2048x2048_S8192x2048_1_0_0_1_n_n none (extf .f32 OG Cert.ReferenceOutIdeal.Gen.bitsLt_bf16_f32) (extf .f32 W Cert.ReferenceOutIdeal.Gen.bitsLt_bf16_f32))

/-- The mean of every row, as the reference takes it. -/
def refM (Z : FVec Ideal S8192x2048 .f32) : FVec Ideal Cert.ReferenceOutIdeal.S8192x1 .f32 :=
  Host.divf (broadcastInDim Cert.ReferenceOutIdeal.S8192x1 ![0] Cert.ReferenceOutIdeal.Gen.bcast_S8192_S8192x1_0 (Host.reduceAdd Z (constant Cert.ReferenceOutIdeal.S_ .f32 0x00000000#32) Cert.ReferenceOutIdeal.Gen.reducesTo_S8192x2048_S8192_d1 Cert.ReferenceOutIdeal.Gen.h_S_)) (broadcastInDim Cert.ReferenceOutIdeal.S8192x1 ![] Cert.ReferenceOutIdeal.Gen.bcast_S_S8192x1 (constant Cert.ReferenceOutIdeal.S_ .f32 0x45000000#32))

/-- The layer norm of the reference. -/
def refLN (Z : FVec Ideal S8192x2048 .f32) (G B : FVec Ideal S1x2048 .f32) : FVec Ideal S8192x2048 .f32 :=
  addf (mulf (mulf (subf Z (broadcastInDim S8192x2048 ![0, 1] Cert.ReferenceOutIdeal.Gen.bcast_S8192x1_S8192x2048_0_1 (refM Z))) (broadcastInDim S8192x2048 ![0, 1] Cert.ReferenceOutIdeal.Gen.bcast_S8192x1_S8192x2048_0_1 (Host.rsqrt (addf (refM (mulf (subf Z (broadcastInDim S8192x2048 ![0, 1] Cert.ReferenceOutIdeal.Gen.bcast_S8192x1_S8192x2048_0_1 (refM Z))) (subf Z (broadcastInDim S8192x2048 ![0, 1] Cert.ReferenceOutIdeal.Gen.bcast_S8192x1_S8192x2048_0_1 (refM Z))))) (broadcastInDim Cert.ReferenceOutIdeal.S8192x1 ![] Cert.ReferenceOutIdeal.Gen.bcast_S_S8192x1 (constant Cert.ReferenceOutIdeal.S_ .f32 0x3727C5AC#32)))))) (broadcastInDim S8192x2048 ![0, 1] Cert.ReferenceOutIdeal.Gen.bcast_S1x2048_S8192x2048_0_1 G)) (broadcastInDim S8192x2048 ![0, 1] Cert.ReferenceOutIdeal.Gen.bcast_S1x2048_S8192x2048_0_1 B)

/-- The reference's result over typed arrays. -/
def REF (OG : FVec Ideal S8192x2048 .bf16) (W : FVec Ideal S2048x2048 .bf16) (X : FVec Ideal S8192x2048 .f32)
    (G B : FVec Ideal S1x2048 .f32) : FVec Ideal S8192x2048 .f32 :=
  refLN (refZ OG W X) G B

/-- Every window's block index in closed form, over the 16 grid points. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- What a grid point leaves at an index of its block is the reference's value at the index of the array. -/
theorem point (c : Dev nD) (t : Fin cfg0.N) (y) :
    out0_5 (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 5).blk t).view.emb y) := by
  unfold out0_5
  canon_tiles x h
  all_goals
    pointwise [k0_pay1, k0_pay2, k0_pay3, k0_pay4, k0_pay5, k0_pay6, k0_pay7, k0_pay8, k0_pay9, k0_pay10, REF, refLN, refM, refZ]
    blk_point [iblk, V, idx t]

/-- The result array after the run is the reference's result of the arguments. -/
theorem final (c : Dev nD) : (dats m 0 c).arrAt 5 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.KernelOutIdeal.Hand

end
-- ==== Proof.ValueIn1.lean ====
/- The projection into the second layer (`KernelIn1`): the tiled product is the whole product, and the two caches are its last key and value rows. -/
module

public import proofs.«01_k».proof.Proof.Gen.KernelIn1Ideal.Frame
public import proofs.«01_k».proof.Proof.Gen.ReferenceIn1Ideal.Run
public import Idealize.ShloMosaic.Lib.Pipeline.FrameTail
public import Idealize.ShloMosaic.Lib.Pipeline.ValueKit
public import Idealize.ShloMosaic.Lib.Pointwise
public import Idealize.ShloMosaic.Lib.Claim

@[expose] public section

set_option maxRecDepth 16384

noncomputable section

namespace Cert.KernelIn1Ideal.Hand

open Cert.KernelIn1Ideal Cert.KernelIn1Ideal.Gen Idealize.ShloMosaic Idealize.ShloMosaic.TcCoe Idealize.SL.Sem
open Idealize.ShloMosaic.Pipeline (Dat)

variable (m : (ℓ : Loc nD τ sig) → Buf (Elt Ideal) ℓ)

/-- The reference's product over typed arrays. -/
def REF (X : FVec Ideal S8192x2048 .f32) (W : FVec Ideal S2048x4608 .bf16) : FVec Ideal S8192x4608 .f32 :=
  Host.dotGeneral Cert.ReferenceIn1Ideal.dot_S8192x2048_S2048x4608_S8192x4608_1_0_0_1_n_n none X
    (extf .f32 W Cert.ReferenceIn1Ideal.Gen.bitsLt_bf16_f32)

/-- Every window's block index in closed form, over the 16 grid points. -/
theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

/-- What a grid point stores at an index of its block is the reference's product at the index of the array. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run is the reference's product of the arguments. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The reference's key cache, from its product. -/
def refK (H : FVec Ideal S8192x4608 .f32) : FVec Ideal S1x4x128x4x64 .f32 :=
  broadcastInDim S1x4x128x4x64 ![1, 2, 3, 4] Cert.ReferenceIn1Ideal.Gen.bcast_S4x128x4x64_S1x4x128x4x64_1_2_3_4 (extractStridedSlice Cert.ReferenceIn1Ideal.S4x128x4x64 ![0, 1920, 0, 0] (shapeCast Cert.ReferenceIn1Ideal.S4x2048x4x64 (extractStridedSlice Cert.ReferenceIn1Ideal.S4x2048x256 ![0, 0, 4096] (shapeCast Cert.ReferenceIn1Ideal.S4x2048x4608 H Cert.ReferenceIn1Ideal.Gen.shapeCasts_S8192x4608_S4x2048x4608) Cert.ReferenceIn1Ideal.Gen.slices_S4x2048x4608_S4x2048x256_0_0_4096) Cert.ReferenceIn1Ideal.Gen.shapeCasts_S4x2048x256_S4x2048x4x64) Cert.ReferenceIn1Ideal.Gen.slices_S4x2048x4x64_S4x128x4x64_0_1920_0_0)

/-- The reference's value cache, from its product. -/
def refV (H : FVec Ideal S8192x4608 .f32) : FVec Ideal S1x4x128x4x64 .f32 :=
  broadcastInDim S1x4x128x4x64 ![1, 2, 3, 4] Cert.ReferenceIn1Ideal.Gen.bcast_S4x128x4x64_S1x4x128x4x64_1_2_3_4 (extractStridedSlice Cert.ReferenceIn1Ideal.S4x128x4x64 ![0, 1920, 0, 0] (shapeCast Cert.ReferenceIn1Ideal.S4x2048x4x64 (extractStridedSlice Cert.ReferenceIn1Ideal.S4x2048x256 ![0, 0, 4352] (shapeCast Cert.ReferenceIn1Ideal.S4x2048x4608 H Cert.ReferenceIn1Ideal.Gen.shapeCasts_S8192x4608_S4x2048x4608) Cert.ReferenceIn1Ideal.Gen.slices_S4x2048x4608_S4x2048x256_0_0_4352) Cert.ReferenceIn1Ideal.Gen.shapeCasts_S4x2048x256_S4x2048x4x64) Cert.ReferenceIn1Ideal.Gen.slices_S4x2048x4x64_S4x128x4x64_0_1920_0_0)

/-- The product as the lines after the region find it. -/
theorem found (c : Dev nD) : Pipeline.withArrays (cfgs 0).spec c (V0 m c) (fun w => (dats m 0 c).arrAt w (cfgs 0).N) (Proc.tc.devRef main_v0)
    = REF (m ((c : Thread nD τ).loc main_arg0)) (m ((c : Thread nD τ).loc main_arg1)) :=
  (Pipeline.withArrays_arr (cfgs 0).spec launch0.win.arr_inj c (V0 m c) (fun w => (dats m 0 c).arrAt w (cfgs 0).N) 2).trans (final m c)

/-- The key cache the host lines after the region cut out of the product. -/
theorem finalK (c : Dev nD) : Pipeline.afterTail₀ cfgs (dats m) 0 (V0 m) [hostOps1] c main_v4
    = refK (REF (m ((c : Thread nD τ).loc main_arg0)) (m ((c : Thread nD τ).loc main_arg1))) := by
  unfold Pipeline.afterTail₀
  simp only [List.flatten_cons, List.flatten_nil, List.append_nil]
  unfold hostOps1
  after_results
  rw [found m c]
  generalize REF (m ((c : Thread nD τ).loc main_arg0)) (m ((c : Thread nD τ).loc main_arg1)) = H
  funext i
  show shapeCast S1x4x128x4x64 (extractStridedSlice S4x128x256 ![0, 0, 0] (extractStridedSlice S4x128x512 ![0, 1920, 4096] (shapeCast S4x2048x4608 H shapeCasts_S8192x4608_S4x2048x4608) slices_S4x2048x4608_S4x128x512_0_1920_4096) slices_S4x128x512_S4x128x256_0_0_0) shapeCasts_S4x128x256_S1x4x128x4x64 i = refK H i
  pointwise [refK]
  try blk_point []

/-- The value cache the host lines after the region cut out of the product. -/
theorem finalV (c : Dev nD) : Pipeline.afterTail₀ cfgs (dats m) 0 (V0 m) [hostOps1] c main_v6
    = refV (REF (m ((c : Thread nD τ).loc main_arg0)) (m ((c : Thread nD τ).loc main_arg1))) := by
  unfold Pipeline.afterTail₀
  simp only [List.flatten_cons, List.flatten_nil, List.append_nil]
  unfold hostOps1
  after_results
  rw [found m c]
  generalize REF (m ((c : Thread nD τ).loc main_arg0)) (m ((c : Thread nD τ).loc main_arg1)) = H
  funext i
  show shapeCast S1x4x128x4x64 (extractStridedSlice S4x128x256 ![0, 0, 256] (extractStridedSlice S4x128x512 ![0, 1920, 4096] (shapeCast S4x2048x4608 H shapeCasts_S8192x4608_S4x2048x4608) slices_S4x2048x4608_S4x128x512_0_1920_4096) slices_S4x128x512_S4x128x256_0_0_256) shapeCasts_S4x128x256_S1x4x128x4x64 i = refV H i
  pointwise [refV]
  try blk_point []

end Cert.KernelIn1Ideal.Hand

end
-- ==== Proof.ValueIn0.lean ====
/- The projection into the first layer (`KernelIn0`): the tiled product is the whole product. -/
module

public import proofs.«01_k».proof.Proof.Gen.KernelIn0Ideal.Frame
public import proofs.«01_k».proof.Proof.Gen.ReferenceIn0Ideal.Run
public import Idealize.ShloMosaic.Lib.Pipeline.ValueKit
public import Idealize.ShloMosaic.Lib.Pointwise
public import Idealize.ShloMosaic.Lib.Claim

@[expose] public section

set_option maxRecDepth 16384

noncomputable section

namespace Cert.KernelIn0Ideal.Hand

open Cert.KernelIn0Ideal Cert.KernelIn0Ideal.Gen Idealize.ShloMosaic Idealize.ShloMosaic.TcCoe Idealize.SL.Sem
open Idealize.ShloMosaic.Pipeline (Dat)

variable (m : (ℓ : Loc nD τ sig) → Buf (Elt Ideal) ℓ)

/-- The reference's product over typed arrays. -/
def REF (X : FVec Ideal S8192x2048 .f32) (W : FVec Ideal S2048x8192 .bf16) : FVec Ideal S8192x8192 .f32 :=
  Host.dotGeneral Cert.ReferenceIn0Ideal.dot_S8192x2048_S2048x8192_S8192x8192_1_0_0_1_n_n none X
    (extf .f32 W Cert.ReferenceIn0Ideal.Gen.bitsLt_bf16_f32)

/-- The cast of a weight, as the reference states it. -/
def REFC (W : FVec Ideal S2048x2048 .f32) : FVec Ideal S2048x2048 .bf16 :=
  truncf .bf16 W Cert.ReferenceIn0Ideal.Gen.bitsLt_bf16_f32

/-- Every window's block index in closed form, over the 32 grid points. -/
theorem idx : ∀ t : Fin cfg0.N, win0_0.index t = ![t.val / 4, 0] ∧ win0_1.index t = ![0, t.val % 4]
    ∧ win0_2.index t = ![t.val, 0] ∧ win0_3.index t = ![t.val, 0]
    ∧ win0_4.index t = ![t.val / 4, t.val % 4] ∧ win0_5.index t = ![t.val, 0] ∧ win0_6.index t = ![t.val, 0] :=
  (by decide +kernel : ∀ t : Fin grid0.N, _)

/-- The result array after the run is the reference's product of the arguments. -/
theorem final (c : Dev nD) : (dats m 0 c).arrAt 4 (cfgs 0).N
    = REF (m ((c : Thread nD τ).loc main_arg0)) (m ((c : Thread nD τ).loc main_arg1)) := by
  refine (dats m 0 c).arrAt_eq_of_covers 4 _ (by decide +kernel) fun t _ y => ?_
  blk_simp
  rw [after0_4]; frame_out
  pointwise [k0_pay1, REF]
  blk_point [iblk, V, idx t]

/-- The first cast weight after the run is the reference's cast. -/
theorem final5 (c : Dev nD) : (dats m 0 c).arrAt 5 (cfgs 0).N = REFC (m ((c : Thread nD τ).loc main_arg2)) := by
  refine (dats m 0 c).arrAt_eq_of_covers 5 _ (by decide +kernel) fun t _ y => ?_
  blk_simp
  rw [after0_5]; frame_out
  pointwise [k0_pay2, REFC]
  blk_point [iblk, V, idx t]

/-- The second cast weight after the run is the reference's cast. -/
theorem final6 (c : Dev nD) : (dats m 0 c).arrAt 6 (cfgs 0).N = REFC (m ((c : Thread nD τ).loc main_arg3)) := by
  refine (dats m 0 c).arrAt_eq_of_covers 6 _ (by decide +kernel) fun t _ y => ?_
  blk_simp
  rw [after0_6]; frame_out
  pointwise [k0_pay3, REFC]
  blk_point [iblk, V, idx t]

end Cert.KernelIn0Ideal.Hand

end
-- ==== Proof.ValueOutS.lean ====
/- The output projection of the sampled tokens with its DeepNorm residual (`KernelOutS`): the four row sub-blocks of every tile are rows of the reference. -/
module

public import proofs.«01_k».proof.Proof.Gen.KernelOutSIdeal.Frame
public import proofs.«01_k».proof.Proof.Gen.ReferenceOutSIdeal.Run
public import Idealize.ShloMosaic.Lib.Pipeline.ValueKit
public import Idealize.ShloMosaic.Lib.Pointwise
public import Idealize.ShloMosaic.Lib.Claim

@[expose] public section

set_option maxRecDepth 16384

noncomputable section

namespace Cert.KernelOutSIdeal.Hand

open Cert.KernelOutSIdeal Cert.KernelOutSIdeal.Gen Idealize.ShloMosaic Idealize.ShloMosaic.TcCoe Idealize.SL.Sem
open Idealize.ShloMosaic.Pipeline (Dat)

variable (m : (ℓ : Loc nD τ sig) → Buf (Elt Ideal) ℓ)

/-- The residual sum `alpha * x + og @ w_out` of the reference. -/
def refZ (OG : FVec Ideal S1024x2048 .bf16) (W : FVec Ideal S2048x2048 .bf16) (X : FVec Ideal S1024x2048 .f32) :
    FVec Ideal S1024x2048 .f32 :=
  addf (mulf (broadcastInDim S1024x2048 ![] Cert.ReferenceOutSIdeal.Gen.bcast_S_S1024x2048 (constant Cert.ReferenceOutSIdeal.S_ .f32 0x3FB504F3#32)) X)
    (Host.dotGeneral Cert.ReferenceOutSIdeal.dot_S1024x2048_S2048x2048_S1024x2048_1_0_0_1_n_n none (extf .f32 OG Cert.ReferenceOutSIdeal.Gen.bitsLt_bf16_f32) (extf .f32 W Cert.ReferenceOutSIdeal.Gen.bitsLt_bf16_f32))

/-- The mean of every row, as the reference takes it. -/
def refM (Z : FVec Ideal S1024x2048 .f32) : FVec Ideal Cert.ReferenceOutSIdeal.S1024x1 .f32 :=
  Host.divf (broadcastInDim Cert.ReferenceOutSIdeal.S1024x1 ![0] Cert.ReferenceOutSIdeal.Gen.bcast_S1024_S1024x1_0 (Host.reduceAdd Z (constant Cert.ReferenceOutSIdeal.S_ .f32 0x00000000#32) Cert.ReferenceOutSIdeal.Gen.reducesTo_S1024x2048_S1024_d1 Cert.ReferenceOutSIdeal.Gen.h_S_)) (broadcastInDim Cert.ReferenceOutSIdeal.S1024x1 ![] Cert.ReferenceOutSIdeal.Gen.bcast_S_S1024x1 (constant Cert.ReferenceOutSIdeal.S_ .f32 0x45000000#32))

/-- The layer norm of the reference. -/
def refLN (Z : FVec Ideal S1024x2048 .f32) (G B : FVec Ideal S1x2048 .f32) : FVec Ideal S1024x2048 .f32 :=
  addf (mulf (mulf (subf Z (broadcastInDim S1024x2048 ![0, 1] Cert.ReferenceOutSIdeal.Gen.bcast_S1024x1_S1024x2048_0_1 (refM Z))) (broadcastInDim S1024x2048 ![0, 1] Cert.ReferenceOutSIdeal.Gen.bcast_S1024x1_S1024x2048_0_1 (Host.rsqrt (addf (refM (mulf (subf Z (broadcastInDim S1024x2048 ![0, 1] Cert.ReferenceOutSIdeal.Gen.bcast_S1024x1_S1024x2048_0_1 (refM Z))) (subf Z (broadcastInDim S1024x2048 ![0, 1] Cert.ReferenceOutSIdeal.Gen.bcast_S1024x1_S1024x2048_0_1 (refM Z))))) (broadcastInDim Cert.ReferenceOutSIdeal.S1024x1 ![] Cert.ReferenceOutSIdeal.Gen.bcast_S_S1024x1 (constant Cert.ReferenceOutSIdeal.S_ .f32 0x3727C5AC#32)))))) (broadcastInDim S1024x2048 ![0, 1] Cert.ReferenceOutSIdeal.Gen.bcast_S1x2048_S1024x2048_0_1 G)) (broadcastInDim S1024x2048 ![0, 1] Cert.ReferenceOutSIdeal.Gen.bcast_S1x2048_S1024x2048_0_1 B)

/-- The reference's result over typed arrays. -/
def REF (OG : FVec Ideal S1024x2048 .bf16) (W : FVec Ideal S2048x2048 .bf16) (X : FVec Ideal S1024x2048 .f32)
    (G B : FVec Ideal S1x2048 .f32) : FVec Ideal S1024x2048 .f32 :=
  refLN (refZ OG W X) G B

/-- Every window's block index in closed form, over the 2 grid points. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] :=
  (by decide +kernel : ∀ t : Fin grid0.N, _)

/-- What a grid point leaves at an index of its block is the reference's value at the index of the array. -/
theorem point (c : Dev nD) (t : Fin cfg0.N) (y) :
    out0_5 (iblk m c 0 t) (iblk m c 1 t) (iblk m c 2 t) (iblk m c 3 t) (iblk m c 4 t) y
    = REF (m ((c : Thread nD τ).loc main_arg0)) (m ((c : Thread nD τ).loc main_arg1)) (m ((c : Thread nD τ).loc main_arg2))
      (m ((c : Thread nD τ).loc main_arg3)) (m ((c : Thread nD τ).loc main_arg4)) (((cfg0.win 5).blk t).view.emb y) := by
  unfold out0_5
  canon_tiles x h
  all_goals
    pointwise [k0_pay1, k0_pay2, k0_pay3, k0_pay4, k0_pay5, k0_pay6, k0_pay7, k0_pay8, k0_pay9, k0_pay10, REF, refLN, refM, refZ]
    blk_point [iblk, V, idx t]

/-- The result array after the run is the reference's result of the arguments. -/
theorem final (c : Dev nD) : (dats m 0 c).arrAt 5 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t _ y => ?_
  blk_simp
  rw [after0_5]
  exact point m c t y

end Cert.KernelOutSIdeal.Hand

end
-- ==== Proof.ValueTail.lean ====
/- The output projection of the samples and the meta block with its DeepNorm residual (`KernelTail`): the last grid point takes the meta block, the others rows of the samples. -/
module

public import proofs.«01_k».proof.Proof.Gen.KernelTailIdeal.Frame
public import proofs.«01_k».proof.Proof.Gen.ReferenceTailIdeal.Run
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

namespace Cert.KernelTailIdeal.Hand

open Cert.KernelTailIdeal Cert.KernelTailIdeal.Gen Idealize.ShloMosaic Idealize.ShloMosaic.TcCoe Idealize.SL.Sem
open Idealize.ShloMosaic.Pipeline (Dat)

variable (m : (ℓ : Loc nD τ sig) → Buf (Elt Ideal) ℓ)

/-- The residual sum `alpha * x + og @ w_out` of the reference, the rows of the samples and of the meta block stacked. -/
def refZ (OGS : FVec Ideal S1024x2048 .bf16) (OGM : FVec Ideal S128x2048 .bf16) (W : FVec Ideal S2048x2048 .bf16)
    (XS : FVec Ideal S1024x2048 .f32) (XM : FVec Ideal S128x2048 .f32) : FVec Ideal S1152x2048 .f32 :=
  addf (mulf (broadcastInDim S1152x2048 ![] Cert.ReferenceTailIdeal.Gen.bcast_S_S1152x2048 (constant Cert.ReferenceTailIdeal.S_ .f32 0x3FB504F3#32))
      (concatenate S1152x2048 0 [⟨S1024x2048, XS⟩, ⟨S128x2048, XM⟩] Cert.ReferenceTailIdeal.Gen.concatenates_S1024x2048_S128x2048_S1152x2048_d0))
    (Host.dotGeneral Cert.ReferenceTailIdeal.dot_S1152x2048_S2048x2048_S1152x2048_1_0_0_1_n_n none
      (concatenate S1152x2048 0 [⟨S1024x2048, extf .f32 OGS Cert.ReferenceTailIdeal.Gen.bitsLt_bf16_f32⟩, ⟨S128x2048, extf .f32 OGM Cert.ReferenceTailIdeal.Gen.bitsLt_bf16_f32⟩] Cert.ReferenceTailIdeal.Gen.concatenates_S1024x2048_S128x2048_S1152x2048_d0)
      (extf .f32 W Cert.ReferenceTailIdeal.Gen.bitsLt_bf16_f32))

/-- The mean of every row, as the reference takes it. -/
def refM (Z : FVec Ideal S1152x2048 .f32) : FVec Ideal Cert.ReferenceTailIdeal.S1152x1 .f32 :=
  Host.divf (broadcastInDim Cert.ReferenceTailIdeal.S1152x1 ![0] Cert.ReferenceTailIdeal.Gen.bcast_S1152_S1152x1_0 (Host.reduceAdd Z (constant Cert.ReferenceTailIdeal.S_ .f32 0x00000000#32) Cert.ReferenceTailIdeal.Gen.reducesTo_S1152x2048_S1152_d1 Cert.ReferenceTailIdeal.Gen.h_S_)) (broadcastInDim Cert.ReferenceTailIdeal.S1152x1 ![] Cert.ReferenceTailIdeal.Gen.bcast_S_S1152x1 (constant Cert.ReferenceTailIdeal.S_ .f32 0x45000000#32))

/-- The layer norm of the reference. -/
def refLN (Z : FVec Ideal S1152x2048 .f32) (G B : FVec Ideal S1x2048 .f32) : FVec Ideal S1152x2048 .f32 :=
  addf (mulf (mulf (subf Z (broadcastInDim S1152x2048 ![0, 1] Cert.ReferenceTailIdeal.Gen.bcast_S1152x1_S1152x2048_0_1 (refM Z))) (broadcastInDim S1152x2048 ![0, 1] Cert.ReferenceTailIdeal.Gen.bcast_S1152x1_S1152x2048_0_1 (Host.rsqrt (addf (refM (mulf (subf Z (broadcastInDim S1152x2048 ![0, 1] Cert.ReferenceTailIdeal.Gen.bcast_S1152x1_S1152x2048_0_1 (refM Z))) (subf Z (broadcastInDim S1152x2048 ![0, 1] Cert.ReferenceTailIdeal.Gen.bcast_S1152x1_S1152x2048_0_1 (refM Z))))) (broadcastInDim Cert.ReferenceTailIdeal.S1152x1 ![] Cert.ReferenceTailIdeal.Gen.bcast_S_S1152x1 (constant Cert.ReferenceTailIdeal.S_ .f32 0x3727C5AC#32)))))) (broadcastInDim S1152x2048 ![0, 1] Cert.ReferenceTailIdeal.Gen.bcast_S1x2048_S1152x2048_0_1 G)) (broadcastInDim S1152x2048 ![0, 1] Cert.ReferenceTailIdeal.Gen.bcast_S1x2048_S1152x2048_0_1 B)

/-- The reference's result over typed arrays. -/
def REF (OGS : FVec Ideal S1024x2048 .bf16) (OGM : FVec Ideal S128x2048 .bf16) (W : FVec Ideal S2048x2048 .bf16)
    (XS : FVec Ideal S1024x2048 .f32) (XM : FVec Ideal S128x2048 .f32) (G B : FVec Ideal S1x2048 .f32) : FVec Ideal S1152x2048 .f32 :=
  refLN (refZ OGS OGM W XS XM) G B

/-- Every window's block index in closed form, over the 9 grid points. -/
theorem idx : ∀ t : Fin cfg0.N, win0_0.index t = ![min t.val 7, 0] ∧ win0_1.index t = ![0, 0] ∧ win0_2.index t = ![0, 0]
    ∧ win0_3.index t = ![min t.val 7, 0] ∧ win0_4.index t = ![0, 0] ∧ win0_5.index t = ![0, 0] ∧ win0_6.index t = ![0, 0]
    ∧ win0_7.index t = ![t.val, 0] ∧ ((grid0.coords t) 0).val = t.val :=
  (by decide +kernel : ∀ t : Fin grid0.N, _)

/-- The rows a grid point takes: the meta block's at the last point, the samples' at the others. -/
def rows {φ : EltTy} (i : grid0.Coords) (M S : Vec Ideal S128x2048 φ) : Vec Ideal S128x2048 φ :=
  Scalar.select (Scalar.cmpi .eq (BitVec.ofNat 32 (i 0).val) 8#32) M S

/-- The residual sum of a grid point. -/
def tileZ (OG : FVec Ideal S128x2048 .bf16) (X : FVec Ideal S128x2048 .f32) (W : FVec Ideal S2048x2048 .bf16) : FVec Ideal S128x2048 .f32 :=
  addf (mulf (broadcast S128x2048 (Scalar.ofBits .f32 0x3FB504F3#32)) X)
    (matmul dot_S128x2048_S2048x2048_S128x2048_1_0_0_1_n_n none OG W (constant S128x2048 .f32 0x00000000#32))

/-- The layer norm of a grid point. -/
def tileLN (Z : FVec Ideal S128x2048 .f32) (G B : Vec Ideal S1x2048 .f32) : FVec Ideal S128x2048 .f32 :=
  let mean := fun X : FVec Ideal S128x2048 .f32 => divf (shapeCast S128x1 (multiReduction .add [1] S128 X 0x00000000#32 reduces_S128x2048_S128 (.inl rfl) rfl) shapeCasts_S128_S128x1) (broadcast S128x1 (Scalar.ofBits .f32 0x45000000#32))
  let d := subf Z (broadcastTo S128x2048 (mean Z) broadcasts_S128x1_S128x2048)
  addf (mulf (mulf d (broadcastTo S128x2048 (rsqrt (addf (mean (mulf d d)) (broadcast S128x1 (Scalar.ofBits .f32 0x3727C5AC#32)))) broadcasts_S128x1_S128x2048)) (broadcastTo S128x2048 G broadcasts_S1x2048_S128x2048)) (broadcastTo S128x2048 B broadcasts_S1x2048_S128x2048)

/-- What a grid point stores, in these pieces. -/
theorem pay (i : grid0.Coords) (v1 v2 : Vec Ideal S128x2048 .bf16) (v4 v5 : Vec Ideal S128x2048 .f32) (w : Vec Ideal S2048x2048 .bf16) (g b : Vec Ideal S1x2048 .f32) :
    k0_pay1 i v1 v2 v4 v5 w g b = tileLN (tileZ (rows i v1 v2) (rows i v4 v5) w) g b := rfl

/-- The residual sum of a grid point is the reference's at the array's row. -/
theorem pointZ (c : Dev nD) (t : Fin cfg0.N) (y : S128x2048.Idx) (j : S1152x2048.Idx) (hj0 : (j 0 : ℕ) = t.val * 128 + y 0) (hj1 : (j 1 : ℕ) = y 1) :
    tileZ (rows (grid0.coords t) (iblk m c 1 t) (iblk m c 0 t)) (rows (grid0.coords t) (iblk m c 4 t) (iblk m c 3 t)) (iblk m c 2 t) y
    = refZ (m ((c : Thread nD τ).loc main_arg0)) (m ((c : Thread nD τ).loc main_arg1)) (m ((c : Thread nD τ).loc main_arg2)) (m ((c : Thread nD τ).loc main_arg3)) (m ((c : Thread nD τ).loc main_arg4)) j := by
  have ht : t.val < 9 := lt_of_lt_of_eq t.isLt N_0
  have hc : ((grid0.coords t) 0).val = t.val := (idx t).2.2.2.2.2.2.2.2
  have hy : (y 0 : ℕ) < 128 := (y 0).isLt
  by_cases h : t.val = 8
  · have hs : Scalar.cmpi .eq (BitVec.ofNat 32 ((grid0.coords t) 0).val) 8#32 = 1#1 := by rw [hc, h]; rfl
    have e : ∀ {φ : EltTy} (M S : Vec Ideal S128x2048 φ), rows (grid0.coords t) M S = M := fun M S => by unfold rows; rw [hs]; rfl
    rw [e, e]
    pointwise [tileZ, refZ]
    blk_point [iblk, V, idx t]
    all_goals (exfalso; omega)
  · have hs : Scalar.cmpi .eq (BitVec.ofNat 32 ((grid0.coords t) 0).val) 8#32 = 0#1 := by rw [hc]; word_cmp
    have e : ∀ {φ : EltTy} (M S : Vec Ideal S128x2048 φ), rows (grid0.coords t) M S = S := fun M S => by unfold rows; rw [hs]; rfl
    rw [e, e]
    pointwise [tileZ, refZ]
    blk_point [iblk, V, idx t]
    all_goals (exfalso; omega)

/-- The layer norm of a row of a grid point is the reference's of the array's row. -/
theorem pointLN (Z : FVec Ideal S128x2048 .f32) (Z' : FVec Ideal S1152x2048 .f32) (G B : FVec Ideal S1x2048 .f32) (y : S128x2048.Idx) (j : S1152x2048.Idx)
    (hj1 : (j 1 : ℕ) = y 1) (hz : ∀ e : Fin 2048, Z (ix2 (y 0) e) = Z' (ix2 (j 0) e)) : tileLN Z G B y = refLN Z' G B j := by
  have hy : Z y = Z (ix2 (y 0) (y 1)) := by pointwise
  have hj : Z' j = Z' (ix2 (j 0) (y 1)) := by pointwise; blk_ext
  pointwise [tileLN, refLN, refM]
  blk_point [hz]
  exact hy.trans ((hz _).trans hj.symm)

/-- What a grid point stores at an index of its block is the reference's value at the index of the array. -/
theorem point (c : Dev nD) (t : Fin cfg0.N) (y) :
    k0_pay1 (grid0.coords t) (iblk m c 1 t) (iblk m c 0 t) (iblk m c 4 t) (iblk m c 3 t) (iblk m c 2 t) (iblk m c 5 t) (iblk m c 6 t) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  have e5 : iblk m c 5 t = (m ((c : Thread nD τ).loc main_arg5)) := by funext k; pointwise; blk_point [iblk, V, idx t]
  have e6 : iblk m c 6 t = (m ((c : Thread nD τ).loc main_arg6)) := by funext k; pointwise; blk_point [iblk, V, idx t]
  rw [pay, e5, e6]
  unfold REF
  refine pointLN _ _ _ _ y _ ?_ fun e => pointZ m c t _ _ ?_ ?_
  all_goals (blk_simp [idx t] <;> try omega)

/-- The result array after the run is the reference's result of the arguments. -/
theorem final (c : Dev nD) : (dats m 0 c).arrAt 7 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 7 _ (by decide +kernel) fun t _ y => ?_
  blk_simp
  rw [after0_7]; frame_out
  exact point m c t y

end Cert.KernelTailIdeal.Hand

end
-- ==== Proof.ValueCast0.lean ====
/- The projection of the samples and the meta block into the first layer (`KernelCast0`): one grid point per column block; the input rows are cast and kept in scratch at the first one. -/
module

public import proofs.«01_k».proof.Proof.Gen.KernelCast0Ideal.Frame
public import proofs.«01_k».proof.Proof.Gen.ReferenceCast0Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.KernelCast0Ideal.Hand

open Idealize.ShloMosaic.Tactic Cert.KernelCast0Ideal Cert.KernelCast0Ideal.Gen Idealize.ShloMosaic Idealize.ShloMosaic.TcCoe Idealize.SL.Sem
open Idealize.ShloMosaic.Pipeline (Dat)

variable (m : (ℓ : Loc nD τ sig) → Buf (Elt Ideal) ℓ)

/-- The reference's product, the rows of the samples and of the meta block stacked. -/
def REF (XS : FVec Ideal S1024x2048 .f32) (XM : FVec Ideal S128x2048 .f32) (W : FVec Ideal S2048x8192 .f32) : FVec Ideal S1152x8192 .f32 :=
  Host.dotGeneral Cert.ReferenceCast0Ideal.dot_S1152x2048_S2048x8192_S1152x8192_1_0_0_1_n_n none (concatenate Cert.ReferenceCast0Ideal.S1152x2048 0 [⟨Cert.ReferenceCast0Ideal.S1024x2048, XS⟩, ⟨Cert.ReferenceCast0Ideal.S128x2048, XM⟩] Cert.ReferenceCast0Ideal.Gen.concatenates_S1024x2048_S128x2048_S1152x2048_d0) W

/-- The reference's cast weight. -/
def REFW (W : FVec Ideal S2048x8192 .f32) : FVec Ideal S2048x8192 .bf16 := truncf .bf16 W Cert.ReferenceCast0Ideal.Gen.bitsLt_bf16_f32

/-- Every window's block index in closed form, over the 8 grid points. -/
theorem idx : ∀ t : Fin cfg0.N, win0_0.index t = ![0, 0] ∧ win0_1.index t = ![0, 0]
    ∧ win0_2.index t = ![0, t.val] ∧ win0_3.index t = ![0, t.val] ∧ win0_4.index t = ![0, t.val] :=
  (by decide +kernel : ∀ t : Fin grid0.N, _)

/-- The rows the first grid point casts into scratch. -/
def SC (XS : FVec Ideal S1024x2048 .f32) (XM : FVec Ideal S128x2048 .f32) : FVec Ideal S1152x2048 .bf16 :=
  truncf .bf16 (concatenate S1152x2048 0 [⟨S1024x2048, XS⟩, ⟨S128x2048, XM⟩] Cert.ReferenceCast0Ideal.Gen.concatenates_S1024x2048_S128x2048_S1152x2048_d0) Cert.ReferenceCast0Ideal.Gen.bitsLt_bf16_f32

/-- The two stores into scratch cover it. -/
theorem cov (p : Vec Ideal S128x2048 .bf16) (q : Vec Ideal S1024x2048 .bf16) (y : S1152x2048.Idx) :
    ∃ pc ∈ ([⟨Rect.unit (s := S1152x2048) ![1024, 0] S128x2048.size inb_S1152x2048_S128x2048_1024_0, p⟩,
      ⟨Rect.unit (s := S1152x2048) ![0, 0] S1024x2048.size inb_S1152x2048_S1024x2048_0_0, q⟩] : List (View.Piece (Elt Ideal) S1152x2048 .bf16)), y ∈ pc.1.set :=
  View.cover_of_tiledBy _ ![128, 2048] (by sl_kernel_rfl) y

/-- The first grid point leaves the stacked rows in scratch. -/
theorem scrA (c : Dev nD) (t : Fin cfg0.N) (h : t.val % 8 = 0) : (outsAt0 m c t.val t.isLt).2.2 = SC (m ((c : Thread nD τ).loc main_arg0)) (m ((c : Thread nD τ).loc main_arg1)) := by
  rw [outsAt0_A m c t h]
  funext y
  frame_out
  canon_tiles x hx using cov ..
  all_goals
    (pointwise [k0_pay1, k0_pay2, SC]
     blk_point [iblk, V, idx t]
     all_goals (exfalso; omega))

/-- The stacked rows stay in scratch from the first grid point on. -/
theorem scr (c : Dev nD) (n : ℕ) (h : n < cfg0.N) : (outsAt0 m c n h).2.2 = SC (m ((c : Thread nD τ).loc main_arg0)) (m ((c : Thread nD τ).loc main_arg1)) := by
  induction n with
  | zero => exact scrA m c ⟨0, h⟩ rfl
  | succ n ih =>
    have hn : ¬ (⟨n + 1, h⟩ : Fin cfg0.N).val % 8 = 0 := by
      have := lt_of_lt_of_eq h N_0
      dsimp only; omega
    have e := congrArg (fun p => p.2.2) (outsAt0_B m c ⟨n + 1, h⟩ hn)
    simp only [sout0_B_0, Nat.add_sub_cancel] at e
    exact e.trans (ih _)

/-- What every grid point stores, over the rows in scratch. -/
theorem stored (c : Dev nD) (t : Fin cfg0.N) : (outsAt0 m c t.val t.isLt).1 = k0_pay4 (iblk m c 2 t) (SC (m ((c : Thread nD τ).loc main_arg0)) (m ((c : Thread nD τ).loc main_arg1)))
    ∧ (outsAt0 m c t.val t.isLt).2.1 = k0_pay3 (iblk m c 2 t) := by
  have ht : t.val < 8 := lt_of_lt_of_eq t.isLt N_0
  constructor
  · by_cases h : t.val % 8 = 0
    · rw [outsAt0_A m c t h]
      frame_out
      rw [View.readCov_eq_canon_ld _ _ _ (fun y => cov ..)]
      refine congrArg (k0_pay4 (F := Ideal) (iblk m c 2 t)) (funext fun y => ?_)
      frame_out
      canon_tiles x hx using cov ..
      all_goals
        (pointwise [k0_pay1, k0_pay2, SC]
         blk_point [iblk, V, idx t]
         all_goals (exfalso; omega))
    · rw [outsAt0_B m c t h, scr m c]
      frame_out
      rw [Idealize.ShloMosaic.read_unread_whole]
  · by_cases h : t.val % 8 = 0
    · rw [outsAt0_A m c t h]; frame_out
    · rw [outsAt0_B m c t h]; frame_out

/-- A stored entry of the product is the reference's. -/
theorem core (c : Dev nD) (t : Fin cfg0.N) (y : S1152x1024.Idx) (j : S1152x8192.Idx) (hj0 : (j 0 : ℕ) = y 0) (hj1 : (j 1 : ℕ) = t.val * 1024 + y 1) :
    k0_pay4 (iblk m c 2 t) (SC (m ((c : Thread nD τ).loc main_arg0)) (m ((c : Thread nD τ).loc main_arg1))) y = REF (m ((c : Thread nD τ).loc main_arg0)) (m ((c : Thread nD τ).loc main_arg1)) (m ((c : Thread nD τ).loc main_arg2)) j := by
  have ht : t.val < 8 := lt_of_lt_of_eq t.isLt N_0
  pointwise [k0_pay4, k0_pay3, SC, REF]
  blk_point [iblk, V, idx t]
  all_goals (exfalso; omega)

/-- A stored entry of the cast weight is the reference's. -/
theorem coreW (c : Dev nD) (t : Fin cfg0.N) (y : S2048x1024.Idx) (j : S2048x8192.Idx) (hj0 : (j 0 : ℕ) = y 0) (hj1 : (j 1 : ℕ) = t.val * 1024 + y 1) :
    k0_pay3 (iblk m c 2 t) y = REFW (m ((c : Thread nD τ).loc main_arg2)) j := by
  have ht : t.val < 8 := lt_of_lt_of_eq t.isLt N_0
  pointwise [k0_pay3, REFW]
  blk_point [iblk, V, idx t]

/-- The product after the run is the reference's. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3, (stored m c t).1]
  refine core m c t y _ ?_ ?_
  all_goals (blk_simp [idx t] <;> try omega)

/-- The cast weight after the run is the reference's. -/
theorem finalW (c : Dev nD) : (dats m 0 c).arrAt 4 (cfgs 0).N = REFW (m ((c : Thread nD τ).loc main_arg2)) := by
  refine (dats m 0 c).arrAt_eq_of_covers 4 _ (by decide +kernel) fun t _ y => ?_
  blk_simp
  rw [after0_4, (stored m c t).2]
  refine coreW m c t y _ ?_ ?_
  all_goals (blk_simp [idx t] <;> try omega)

end Cert.KernelCast0Ideal.Hand

end
-- ==== Proof.ValueCast1.lean ====
/- The projection of the samples and the meta block into the second layer (`KernelCast1`): one grid point per column block; the input rows are cast and kept in scratch at the first one. -/
module

public import proofs.«01_k».proof.Proof.Gen.KernelCast1Ideal.Frame
public import proofs.«01_k».proof.Proof.Gen.ReferenceCast1Ideal.Run
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

namespace Cert.KernelCast1Ideal.Hand

open Idealize.ShloMosaic.Tactic Cert.KernelCast1Ideal Cert.KernelCast1Ideal.Gen Idealize.ShloMosaic Idealize.ShloMosaic.TcCoe Idealize.SL.Sem
open Idealize.ShloMosaic.Pipeline (Dat)

variable (m : (ℓ : Loc nD τ sig) → Buf (Elt Ideal) ℓ)

/-- The reference's product with its columns regrouped from q, k, v, g to q, g, k, v. -/
def REF (X : FVec Ideal S1152x2048 .f32) (W : FVec Ideal S2048x4608 .f32) : FVec Ideal S1152x4608 .f32 :=
  (concatenate S1152x4608 1 [⟨S1152x2048, ((extractStridedSlice S1152x2048 ![0, 0] (Host.dotGeneral Cert.ReferenceCast1Ideal.dot_S1152x2048_S2048x4608_S1152x4608_1_0_0_1_n_n none X W) Cert.ReferenceCast1Ideal.Gen.slices_S1152x4608_S1152x2048_0_0) : (⟨S1152x2048, .f32⟩ : BufTy).Contents (Elt Ideal))⟩, ⟨S1152x2048, ((extractStridedSlice S1152x2048 ![0, 2560] (Host.dotGeneral Cert.ReferenceCast1Ideal.dot_S1152x2048_S2048x4608_S1152x4608_1_0_0_1_n_n none X W) Cert.ReferenceCast1Ideal.Gen.slices_S1152x4608_S1152x2048_0_2560) : (⟨S1152x2048, .f32⟩ : BufTy).Contents (Elt Ideal))⟩, ⟨Cert.ReferenceCast1Ideal.S1152x256, ((extractStridedSlice Cert.ReferenceCast1Ideal.S1152x256 ![0, 2048] (Host.dotGeneral Cert.ReferenceCast1Ideal.dot_S1152x2048_S2048x4608_S1152x4608_1_0_0_1_n_n none X W) Cert.ReferenceCast1Ideal.Gen.slices_S1152x4608_S1152x256_0_2048) : (⟨Cert.ReferenceCast1Ideal.S1152x256, .f32⟩ : BufTy).Contents (Elt Ideal))⟩, ⟨Cert.ReferenceCast1Ideal.S1152x256, ((extractStridedSlice Cert.ReferenceCast1Ideal.S1152x256 ![0, 2304] (Host.dotGeneral Cert.ReferenceCast1Ideal.dot_S1152x2048_S2048x4608_S1152x4608_1_0_0_1_n_n none X W) Cert.ReferenceCast1Ideal.Gen.slices_S1152x4608_S1152x256_0_2304) : (⟨Cert.ReferenceCast1Ideal.S1152x256, .f32⟩ : BufTy).Contents (Elt Ideal))⟩] Cert.ReferenceCast1Ideal.Gen.concatenates_S1152x2048_S1152x2048_S1152x256_S1152x256_S1152x4608_d1 : (⟨S1152x4608, .f32⟩ : BufTy).Contents (Elt Ideal))

/-- The reference's cast weight, its columns regrouped from q, k, v, g to q, g, k, v. -/
def REFW (W : FVec Ideal S2048x4608 .f32) : FVec Ideal S2048x4608 .bf16 :=
  truncf .bf16 ((concatenate S2048x4608 1 [⟨Cert.ReferenceCast1Ideal.S2048x2048, ((extractStridedSlice Cert.ReferenceCast1Ideal.S2048x2048 ![0, 0] W Cert.ReferenceCast1Ideal.Gen.slices_S2048x4608_S2048x2048_0_0) : (⟨Cert.ReferenceCast1Ideal.S2048x2048, .f32⟩ : BufTy).Contents (Elt Ideal))⟩, ⟨Cert.ReferenceCast1Ideal.S2048x2048, ((extractStridedSlice Cert.ReferenceCast1Ideal.S2048x2048 ![0, 2560] W Cert.ReferenceCast1Ideal.Gen.slices_S2048x4608_S2048x2048_0_2560) : (⟨Cert.ReferenceCast1Ideal.S2048x2048, .f32⟩ : BufTy).Contents (Elt Ideal))⟩, ⟨Cert.ReferenceCast1Ideal.S2048x256, ((extractStridedSlice Cert.ReferenceCast1Ideal.S2048x256 ![0, 2048] W Cert.ReferenceCast1Ideal.Gen.slices_S2048x4608_S2048x256_0_2048) : (⟨Cert.ReferenceCast1Ideal.S2048x256, .f32⟩ : BufTy).Contents (Elt Ideal))⟩, ⟨Cert.ReferenceCast1Ideal.S2048x256, ((extractStridedSlice Cert.ReferenceCast1Ideal.S2048x256 ![0, 2304] W Cert.ReferenceCast1Ideal.Gen.slices_S2048x4608_S2048x256_0_2304) : (⟨Cert.ReferenceCast1Ideal.S2048x256, .f32⟩ : BufTy).Contents (Elt Ideal))⟩] Cert.ReferenceCast1Ideal.Gen.concatenates_S2048x2048_S2048x2048_S2048x256_S2048x256_S2048x4608_d1 : (⟨S2048x4608, .f32⟩ : BufTy).Contents (Elt Ideal))) Cert.ReferenceCast1Ideal.Gen.bitsLt_bf16_f32

/-- Every window's block index in closed form, over the 9 grid points. -/
theorem idx : ∀ t : Fin cfg0.N, win0_0.index t = ![0, 0] ∧ win0_1.index t = ![8, 0]
    ∧ (t.val < 4 → win0_2.index t = ![0, t.val]) ∧ (4 ≤ t.val → t.val < 8 → win0_2.index t = ![0, t.val + 1]) ∧ (8 ≤ t.val → win0_2.index t = ![0, 4])
    ∧ win0_3.index t = ![0, t.val] ∧ win0_4.index t = ![0, t.val] :=
  (by decide +kernel : ∀ t : Fin grid0.N, _)

/-- The rows the first grid point casts into scratch. -/
def SC (X : FVec Ideal S1152x2048 .f32) : FVec Ideal S1152x2048 .bf16 := fun i => X i

/-- The two stores into scratch cover it. -/
theorem cov (p : Vec Ideal S128x2048 .bf16) (q : Vec Ideal S1024x2048 .bf16) (y : S1152x2048.Idx) :
    ∃ pc ∈ ([⟨Rect.unit (s := S1152x2048) ![1024, 0] S128x2048.size inb_S1152x2048_S128x2048_1024_0, p⟩,
      ⟨Rect.unit (s := S1152x2048) ![0, 0] S1024x2048.size inb_S1152x2048_S1024x2048_0_0, q⟩] : List (View.Piece (Elt Ideal) S1152x2048 .bf16)), y ∈ pc.1.set :=
  View.cover_of_tiledBy _ ![128, 2048] (by sl_kernel_rfl) y

/-- The first grid point leaves the stacked rows in scratch. -/
theorem scrA (c : Dev nD) (t : Fin cfg0.N) (h : t.val % 9 = 0) : (outsAt0 m c t.val t.isLt).2.2 = SC (m ((c : Thread nD τ).loc main_arg0)) := by
  rw [outsAt0_A m c t h]
  funext y
  frame_out
  canon_tiles x hx using cov ..
  all_goals
    (pointwise [k0_pay1, k0_pay2, SC]
     try (unfold X0_0 Pipeline.Window.fill; rw [dif_pos (moved0_0 t _)])
     blk_point [iblk, V, idx t]
     all_goals (exfalso; omega))

/-- The stacked rows stay in scratch from the first grid point on. -/
theorem scr (c : Dev nD) (n : ℕ) (h : n < cfg0.N) : (outsAt0 m c n h).2.2 = SC (m ((c : Thread nD τ).loc main_arg0)) := by
  induction n with
  | zero => exact scrA m c ⟨0, h⟩ rfl
  | succ n ih =>
    have hn : ¬ (⟨n + 1, h⟩ : Fin cfg0.N).val % 9 = 0 := by
      have := lt_of_lt_of_eq h N_0
      dsimp only; omega
    have e := congrArg (fun p => p.2.2) (outsAt0_B m c ⟨n + 1, h⟩ hn)
    simp only [sout0_B_0, Nat.add_sub_cancel] at e
    exact e.trans (ih _)

/-- What every grid point stores, over the rows in scratch. -/
theorem stored (c : Dev nD) (t : Fin cfg0.N) : (outsAt0 m c t.val t.isLt).1 = k0_pay4 (iblk m c 2 t) (SC (m ((c : Thread nD τ).loc main_arg0)))
    ∧ (outsAt0 m c t.val t.isLt).2.1 = k0_pay3 (iblk m c 2 t) := by
  have ht : t.val < 9 := lt_of_lt_of_eq t.isLt N_0
  constructor
  · by_cases h : t.val % 9 = 0
    · rw [outsAt0_A m c t h]
      frame_out
      rw [View.readCov_eq_canon_ld _ _ _ (fun y => cov ..)]
      refine congrArg (k0_pay4 (F := Ideal) (iblk m c 2 t)) (funext fun y => ?_)
      frame_out
      canon_tiles x hx using cov ..
      all_goals
        (pointwise [k0_pay1, k0_pay2, SC]
         try (unfold X0_0 Pipeline.Window.fill; rw [dif_pos (moved0_0 t _)])
         blk_point [iblk, V, idx t]
         all_goals (exfalso; omega))
    · rw [outsAt0_B m c t h, scr m c]
      frame_out
      rw [Idealize.ShloMosaic.read_unread_whole]
  · by_cases h : t.val % 9 = 0
    · rw [outsAt0_A m c t h]; frame_out
    · rw [outsAt0_B m c t h]; frame_out

/-- A stored entry of the product is the reference's. -/
theorem core (c : Dev nD) (t : Fin cfg0.N) (y : S1152x512.Idx) (j : S1152x4608.Idx) (hj0 : (j 0 : ℕ) = y 0) (hj1 : (j 1 : ℕ) = t.val * 512 + y 1) :
    k0_pay4 (iblk m c 2 t) (SC (m ((c : Thread nD τ).loc main_arg0))) y = REF (m ((c : Thread nD τ).loc main_arg0)) (m ((c : Thread nD τ).loc main_arg1)) j := by
  have ht : t.val < 9 := lt_of_lt_of_eq t.isLt N_0
  pointwise [k0_pay4, k0_pay3, SC, REF]
  have h2 := (idx t).2.2
  by_cases h4 : t.val < 4
  · blk_point [iblk, V, h2.1 h4]
  · by_cases h8 : t.val < 8
    · blk_point [iblk, V, h2.2.1 (by omega) h8]
    · blk_point [iblk, V, h2.2.2.1 (by omega)]

/-- A stored entry of the cast weight is the reference's. -/
theorem coreW (c : Dev nD) (t : Fin cfg0.N) (y : S2048x512.Idx) (j : S2048x4608.Idx) (hj0 : (j 0 : ℕ) = y 0) (hj1 : (j 1 : ℕ) = t.val * 512 + y 1) :
    k0_pay3 (iblk m c 2 t) y = REFW (m ((c : Thread nD τ).loc main_arg1)) j := by
  have ht : t.val < 9 := lt_of_lt_of_eq t.isLt N_0
  pointwise [k0_pay3, REFW]
  have h2 := (idx t).2.2
  by_cases h4 : t.val < 4
  · blk_point [iblk, V, h2.1 h4]
  · by_cases h8 : t.val < 8
    · blk_point [iblk, V, h2.2.1 (by omega) h8]
    · blk_point [iblk, V, h2.2.2.1 (by omega)]

/-- The product after the run is the reference's. -/
theorem final (c : Dev nD) : (dats m 0 c).arrAt 3 (cfgs 0).N = REF (m ((c : Thread nD τ).loc main_arg0)) (m ((c : Thread nD τ).loc main_arg1)) := by
  refine (dats m 0 c).arrAt_eq_of_covers 3 _ (by decide +kernel) fun t _ y => ?_
  blk_simp
  rw [after0_3, (stored m c t).1]
  refine core m c t y _ ?_ ?_
  all_goals (blk_simp [idx t] <;> try omega)

/-- The cast weight after the run is the reference's. -/
theorem finalW (c : Dev nD) : (dats m 0 c).arrAt 4 (cfgs 0).N = REFW (m ((c : Thread nD τ).loc main_arg1)) := by
  refine (dats m 0 c).arrAt_eq_of_covers 4 _ (by decide +kernel) fun t _ y => ?_
  blk_simp
  rw [after0_4, (stored m c t).2]
  refine coreW m c t y _ ?_ ?_
  all_goals (blk_simp [idx t] <;> try omega)

end Cert.KernelCast1Ideal.Hand

end
-- ==== Proof.StepPieces.lean ====
/- What one grid point of the samples' attention in the second layer (`KernelStep`) leaves in the two caches. The body's loop stores sixteen pieces into each cache per trip, two for each of eight sequences. -/
module

public import proofs.«01_k».proof.Proof.Gen.KernelStepIdeal.Frame
public import Idealize.ShloMosaic.Lib.Pipeline.ValueKit
public import Idealize.ShloMosaic.Lib.Pipeline.Value
public import Idealize.ShloMosaic.Lib.Pointwise
public import Idealize.ShloMosaic.Lib.WholeRead
public import Idealize.ShloMosaic.Lib.Claim
public import Idealize.ShloMosaic.Lib.Pipeline.ReadBack

@[expose] public section

set_option maxRecDepth 16384

noncomputable section

namespace Cert.KernelStepIdeal.Hand

open Idealize.ShloMosaic.Tactic Cert.KernelStepIdeal Cert.KernelStepIdeal.Gen Idealize.ShloMosaic Idealize.ShloMosaic.TcCoe Idealize.SL.Sem
open Idealize.ShloMosaic.Pipeline (Dat)

/-- A block of a cache moved on: positions 8 to 127 of the old block, then the block's eight new rows per sequence. -/
def MOVED (x : Vec Ideal S32x128x256 .f32) (n : Vec Ideal S256x256 .f32) : S32x128x256.Idx → Elt Ideal .f32 := fun y =>
  if h : (y 1 : ℕ) < 120 then x (ix3 (y 0) ⟨(y 1 : ℕ) + 8, by omega⟩ (y 2))
  else n (ix2 ⟨8 * (y 0 : ℕ) + ((y 1 : ℕ) - 120), by have h0 : (y 0 : ℕ) < 32 := (y 0).isLt; have h1 : (y 1 : ℕ) < 128 := (y 1).isLt; omega⟩ (y 2))

/-- A moved cache at one of its first 120 positions. -/
theorem moved_old (x : Vec Ideal S32x128x256 .f32) (n : Vec Ideal S256x256 .f32) (y z : S32x128x256.Idx) (h : (y 1 : ℕ) < 120)
    (h0 : (z 0 : ℕ) = y 0) (h1 : (z 1 : ℕ) = y 1 + 8) (h2 : (z 2 : ℕ) = y 2) : MOVED x n y = x z := by
  unfold MOVED
  rw [dif_pos h]
  congr 1
  funext i
  fin_cases i <;> apply Fin.ext
  · exact h0.symm
  · exact h1.symm
  · exact h2.symm

/-- A moved cache at one of its last eight positions. -/
theorem moved_new (x : Vec Ideal S32x128x256 .f32) (n : Vec Ideal S256x256 .f32) (y : S32x128x256.Idx) (z : S256x256.Idx) (h : 120 ≤ (y 1 : ℕ))
    (h0 : (z 0 : ℕ) = 8 * (y 0 : ℕ) + ((y 1 : ℕ) - 120)) (h1 : (z 1 : ℕ) = y 2) : MOVED x n y = n z := by
  unfold MOVED
  rw [dif_neg (by omega)]
  congr 1
  funext i
  fin_cases i <;> apply Fin.ext
  · exact h0.symm
  · exact h1.symm

/-- The new rows of a sequence, as stored. -/
theorem piece_new (a : Memref sig .tc .vmem S256x256 .f32) (ha : a.IsWhole) (x : Vec Ideal S32x128x256 .f32) (n : Vec Ideal S256x256 .f32) (b : ℕ)
    (o2 : Fin 2 → ℕ) (o4 : Fin 3 → ℕ) (h2 : ∀ i, o2 i + S8x256.size i ≤ S256x256.size i) (h4 : ∀ i, o4 i + S1x8x256.size i ≤ S32x128x256.size i)
    (e2 : o2 = ![8 * b, 0]) (e4 : o4 = ![b, 120, 0]) (y : S1x8x256.Idx) :
    k0_pay9 (a.view.readAt (Elt Ideal) (Rect.unit (s := S256x256) o2 S8x256.size h2).toLoadRect (ha.unread n)) y = MOVED x n ((Rect.unit (s := S32x128x256) o4 S1x8x256.size h4).emb y) := by
  subst e2 e4
  have hb : 8 * b + 8 ≤ 256 := h2 0
  have hy : (y 0 : ℕ) < 1 := (y 0).isLt
  have hy1 : (y 1 : ℕ) < 8 := (y 1).isLt
  refine Eq.trans ?_ (moved_new x n _ (ix2 ⟨8 * b + (y 1 : ℕ), by omega⟩ (y 2)) ?_ ?_ ?_).symm
  · pointwise [k0_pay9]
    rw [ha.readAt_unread]
    pointwise
  all_goals simp only [ValueKit.rect_emb_unit_val]
  · show 120 ≤ 120 + (y 1 : ℕ); omega
  · show 8 * b + (y 1 : ℕ) = 8 * (b + (y 0 : ℕ)) + (120 + (y 1 : ℕ) - 120); omega
  · show (y 2 : ℕ) = 0 + (y 2 : ℕ); omega

/-- The old positions of a sequence, as stored. -/
theorem piece_old (a : Memref sig .tc .vmem S32x128x256 .f32) (ha : a.IsWhole) (x : Vec Ideal S32x128x256 .f32) (n : Vec Ideal S256x256 .f32) (b : ℕ)
    (o1 : Fin 3 → ℕ) (o3 : Fin 3 → ℕ) (h1 : ∀ i, o1 i + S1x128x256.size i ≤ S32x128x256.size i) (h3 : ∀ i, o3 i + S1x120x256.size i ≤ S32x128x256.size i)
    (e1 : o1 = ![b, 0, 0]) (e3 : o3 = ![b, 0, 0]) (y : S1x120x256.Idx) :
    k0_pay8 (a.view.readAt (Elt Ideal) (Rect.unit (s := S32x128x256) o1 S1x128x256.size h1).toLoadRect (ha.unread x)) y = MOVED x n ((Rect.unit (s := S32x128x256) o3 S1x120x256.size h3).emb y) := by
  subst e1 e3
  have hb : b + 1 ≤ 32 := h1 0
  have hy : (y 0 : ℕ) < 1 := (y 0).isLt
  have hy1 : (y 1 : ℕ) < 120 := (y 1).isLt
  refine Eq.trans ?_ (moved_old x n _ (ix3 ⟨b, by omega⟩ ⟨8 + (y 1 : ℕ), by omega⟩ (y 2)) ?_ ?_ ?_ ?_).symm
  · pointwise [k0_pay8, k0_pay6]
    erw [ha.readAt_unread]
    pointwise
  all_goals simp only [ValueKit.rect_emb_unit_val]
  · show 0 + (y 1 : ℕ) < 120; omega
  · show b = b + (y 0 : ℕ); omega
  · show 8 + (y 1 : ℕ) = 0 + (y 1 : ℕ) + 8; omega
  · show (y 2 : ℕ) = 0 + (y 2 : ℕ); omega

/-- Where a trip's loads and stores lie, over the trips and the eight sequences of one. -/
theorem off1 (k : Fin k0_t1_loop.trips) (r : Fin 8) : k0_off1 k (BitVec.ofNat 32 r.val) = ![8 * k.val + r.val, 0, 0] := k0_off1_eq k r
/-- The rows of a sequence's new keys and values. -/
theorem off2 (k : Fin k0_t1_loop.trips) (r : Fin 8) : k0_off2 k (BitVec.ofNat 32 r.val) = ![8 * (8 * k.val + r.val), 0] := by
  rw [k0_off2_eq k r, show 64 * k.val + 8 * r.val = 8 * (8 * k.val + r.val) by omega]
/-- Where a sequence's old positions are stored. -/
theorem off3 (k : Fin k0_t1_loop.trips) (r : Fin 8) : k0_off3 k (BitVec.ofNat 32 r.val) = ![8 * k.val + r.val, 0, 0] := k0_off3_eq k r
/-- Where a sequence's new positions are stored. -/
theorem off4 (k : Fin k0_t1_loop.trips) (r : Fin 8) : k0_off4 k (BitVec.ofNat 32 r.val) = ![8 * k.val + r.val, 120, 0] := k0_off4_eq k r

section
variable (𝒱 : Variants) (c : Dev nD) (bd : Option 𝒱.V) (i : grid0.Coords) (arg1 : Memref sig .tc .vmem S256x2048 .f32) (harg1 : arg1.IsWhole) (arg2 : Memref sig .tc .vmem S256x2048 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S32x128x256 .f32) (harg5 : arg5.IsWhole) (arg6 : Memref sig .tc .vmem S32x128x256 .f32) (harg6 : arg6.IsWhole) (arg7 : Memref sig .tc .vmem S1x256 .f32) (harg7 : arg7.IsWhole) (arg8 : Memref sig .tc .vmem S256x2048 .bf16) (harg8 : arg8.IsWhole) (arg9 : Memref sig .tc .vmem S32x128x256 .f32) (harg9 : arg9.IsWhole) (arg10 : Memref sig .tc .vmem S32x128x256 .f32) (harg10 : arg10.IsWhole) (v32 : Vec Ideal S1x256 .f32)
  (x0 : Vec Ideal S256x2048 .f32) (x1 : Vec Ideal S256x2048 .f32) (x2 : Vec Ideal S256x256 .f32) (x3 : Vec Ideal S256x256 .f32) (x4 : Vec Ideal S32x128x256 .f32) (x5 : Vec Ideal S32x128x256 .f32)

set_option maxHeartbeats 4000000 in
/-- What one trip stores into the keys' cache is a part of the moved cache. -/
theorem trip_keys (k : Fin k0_t1_loop.trips) : ∀ p ∈ (trip_k0_t1 (F := Ideal) 𝒱 c bd i arg1 harg1 arg2 harg2 arg3 harg3 arg4 harg4 arg5 harg5 arg6 harg6 arg7 harg7 arg8 harg8 arg9 harg9 arg10 harg10 v32 (harg1.unread x0) (harg2.unread x1) (harg3.unread x2) (harg4.unread x3) (harg5.unread x4) (harg6.unread x5) k).2.1, ∀ x, p.2 x = MOVED x4 x2 (p.1.emb x) := by
  unfold trip_k0_t1
  dsimp only
  refine List.forall_mem_cons.2 ⟨piece_new arg3 harg3 x4 x2 (8 * k.val + 7) (k0_off2 k (BitVec.ofNat 32 7)) (k0_off4 k (BitVec.ofNat 32 7)) (k0_off2_inb k 7) (k0_off4_inb k 7) (off2 k 7) (off4 k 7), List.forall_mem_cons.2 ⟨piece_old arg5 harg5 x4 x2 (8 * k.val + 7) (k0_off1 k (BitVec.ofNat 32 7)) (k0_off3 k (BitVec.ofNat 32 7)) (k0_off1_inb k 7) (k0_off3_inb k 7) (off1 k 7) (off3 k 7), ?_⟩⟩
  refine List.forall_mem_cons.2 ⟨piece_new arg3 harg3 x4 x2 (8 * k.val + 6) (k0_off2 k (BitVec.ofNat 32 6)) (k0_off4 k (BitVec.ofNat 32 6)) (k0_off2_inb k 6) (k0_off4_inb k 6) (off2 k 6) (off4 k 6), List.forall_mem_cons.2 ⟨piece_old arg5 harg5 x4 x2 (8 * k.val + 6) (k0_off1 k (BitVec.ofNat 32 6)) (k0_off3 k (BitVec.ofNat 32 6)) (k0_off1_inb k 6) (k0_off3_inb k 6) (off1 k 6) (off3 k 6), ?_⟩⟩
  refine List.forall_mem_cons.2 ⟨piece_new arg3 harg3 x4 x2 (8 * k.val + 5) (k0_off2 k (BitVec.ofNat 32 5)) (k0_off4 k (BitVec.ofNat 32 5)) (k0_off2_inb k 5) (k0_off4_inb k 5) (off2 k 5) (off4 k 5), List.forall_mem_cons.2 ⟨piece_old arg5 harg5 x4 x2 (8 * k.val + 5) (k0_off1 k (BitVec.ofNat 32 5)) (k0_off3 k (BitVec.ofNat 32 5)) (k0_off1_inb k 5) (k0_off3_inb k 5) (off1 k 5) (off3 k 5), ?_⟩⟩
  refine List.forall_mem_cons.2 ⟨piece_new arg3 harg3 x4 x2 (8 * k.val + 4) (k0_off2 k (BitVec.ofNat 32 4)) (k0_off4 k (BitVec.ofNat 32 4)) (k0_off2_inb k 4) (k0_off4_inb k 4) (off2 k 4) (off4 k 4), List.forall_mem_cons.2 ⟨piece_old arg5 harg5 x4 x2 (8 * k.val + 4) (k0_off1 k (BitVec.ofNat 32 4)) (k0_off3 k (BitVec.ofNat 32 4)) (k0_off1_inb k 4) (k0_off3_inb k 4) (off1 k 4) (off3 k 4), ?_⟩⟩
  refine List.forall_mem_cons.2 ⟨piece_new arg3 harg3 x4 x2 (8 * k.val + 3) (k0_off2 k (BitVec.ofNat 32 3)) (k0_off4 k (BitVec.ofNat 32 3)) (k0_off2_inb k 3) (k0_off4_inb k 3) (off2 k 3) (off4 k 3), List.forall_mem_cons.2 ⟨piece_old arg5 harg5 x4 x2 (8 * k.val + 3) (k0_off1 k (BitVec.ofNat 32 3)) (k0_off3 k (BitVec.ofNat 32 3)) (k0_off1_inb k 3) (k0_off3_inb k 3) (off1 k 3) (off3 k 3), ?_⟩⟩
  refine List.forall_mem_cons.2 ⟨piece_new arg3 harg3 x4 x2 (8 * k.val + 2) (k0_off2 k (BitVec.ofNat 32 2)) (k0_off4 k (BitVec.ofNat 32 2)) (k0_off2_inb k 2) (k0_off4_inb k 2) (off2 k 2) (off4 k 2), List.forall_mem_cons.2 ⟨piece_old arg5 harg5 x4 x2 (8 * k.val + 2) (k0_off1 k (BitVec.ofNat 32 2)) (k0_off3 k (BitVec.ofNat 32 2)) (k0_off1_inb k 2) (k0_off3_inb k 2) (off1 k 2) (off3 k 2), ?_⟩⟩
  refine List.forall_mem_cons.2 ⟨piece_new arg3 harg3 x4 x2 (8 * k.val + 1) (k0_off2 k (BitVec.ofNat 32 1)) (k0_off4 k (BitVec.ofNat 32 1)) (k0_off2_inb k 1) (k0_off4_inb k 1) (off2 k 1) (off4 k 1), List.forall_mem_cons.2 ⟨piece_old arg5 harg5 x4 x2 (8 * k.val + 1) (k0_off1 k (BitVec.ofNat 32 1)) (k0_off3 k (BitVec.ofNat 32 1)) (k0_off1_inb k 1) (k0_off3_inb k 1) (off1 k 1) (off3 k 1), ?_⟩⟩
  refine List.forall_mem_cons.2 ⟨piece_new arg3 harg3 x4 x2 (8 * k.val + 0) (k0_off2 k (BitVec.ofNat 32 0)) (k0_off4 k (BitVec.ofNat 32 0)) (k0_off2_inb k 0) (k0_off4_inb k 0) (off2 k 0) (off4 k 0), List.forall_mem_cons.2 ⟨piece_old arg5 harg5 x4 x2 (8 * k.val + 0) (k0_off1 k (BitVec.ofNat 32 0)) (k0_off3 k (BitVec.ofNat 32 0)) (k0_off1_inb k 0) (k0_off3_inb k 0) (off1 k 0) (off3 k 0), ?_⟩⟩
  exact fun p hp => absurd hp List.not_mem_nil

set_option maxHeartbeats 4000000 in
/-- What one trip stores into the values' cache is a part of the moved cache. -/
theorem trip_vals (k : Fin k0_t1_loop.trips) : ∀ p ∈ (trip_k0_t1 (F := Ideal) 𝒱 c bd i arg1 harg1 arg2 harg2 arg3 harg3 arg4 harg4 arg5 harg5 arg6 harg6 arg7 harg7 arg8 harg8 arg9 harg9 arg10 harg10 v32 (harg1.unread x0) (harg2.unread x1) (harg3.unread x2) (harg4.unread x3) (harg5.unread x4) (harg6.unread x5) k).2.2.1, ∀ x, p.2 x = MOVED x5 x3 (p.1.emb x) := by
  unfold trip_k0_t1
  dsimp only
  refine List.forall_mem_cons.2 ⟨piece_new arg4 harg4 x5 x3 (8 * k.val + 7) (k0_off2 k (BitVec.ofNat 32 7)) (k0_off4 k (BitVec.ofNat 32 7)) (k0_off2_inb k 7) (k0_off4_inb k 7) (off2 k 7) (off4 k 7), List.forall_mem_cons.2 ⟨piece_old arg6 harg6 x5 x3 (8 * k.val + 7) (k0_off1 k (BitVec.ofNat 32 7)) (k0_off3 k (BitVec.ofNat 32 7)) (k0_off1_inb k 7) (k0_off3_inb k 7) (off1 k 7) (off3 k 7), ?_⟩⟩
  refine List.forall_mem_cons.2 ⟨piece_new arg4 harg4 x5 x3 (8 * k.val + 6) (k0_off2 k (BitVec.ofNat 32 6)) (k0_off4 k (BitVec.ofNat 32 6)) (k0_off2_inb k 6) (k0_off4_inb k 6) (off2 k 6) (off4 k 6), List.forall_mem_cons.2 ⟨piece_old arg6 harg6 x5 x3 (8 * k.val + 6) (k0_off1 k (BitVec.ofNat 32 6)) (k0_off3 k (BitVec.ofNat 32 6)) (k0_off1_inb k 6) (k0_off3_inb k 6) (off1 k 6) (off3 k 6), ?_⟩⟩
  refine List.forall_mem_cons.2 ⟨piece_new arg4 harg4 x5 x3 (8 * k.val + 5) (k0_off2 k (BitVec.ofNat 32 5)) (k0_off4 k (BitVec.ofNat 32 5)) (k0_off2_inb k 5) (k0_off4_inb k 5) (off2 k 5) (off4 k 5), List.forall_mem_cons.2 ⟨piece_old arg6 harg6 x5 x3 (8 * k.val + 5) (k0_off1 k (BitVec.ofNat 32 5)) (k0_off3 k (BitVec.ofNat 32 5)) (k0_off1_inb k 5) (k0_off3_inb k 5) (off1 k 5) (off3 k 5), ?_⟩⟩
  refine List.forall_mem_cons.2 ⟨piece_new arg4 harg4 x5 x3 (8 * k.val + 4) (k0_off2 k (BitVec.ofNat 32 4)) (k0_off4 k (BitVec.ofNat 32 4)) (k0_off2_inb k 4) (k0_off4_inb k 4) (off2 k 4) (off4 k 4), List.forall_mem_cons.2 ⟨piece_old arg6 harg6 x5 x3 (8 * k.val + 4) (k0_off1 k (BitVec.ofNat 32 4)) (k0_off3 k (BitVec.ofNat 32 4)) (k0_off1_inb k 4) (k0_off3_inb k 4) (off1 k 4) (off3 k 4), ?_⟩⟩
  refine List.forall_mem_cons.2 ⟨piece_new arg4 harg4 x5 x3 (8 * k.val + 3) (k0_off2 k (BitVec.ofNat 32 3)) (k0_off4 k (BitVec.ofNat 32 3)) (k0_off2_inb k 3) (k0_off4_inb k 3) (off2 k 3) (off4 k 3), List.forall_mem_cons.2 ⟨piece_old arg6 harg6 x5 x3 (8 * k.val + 3) (k0_off1 k (BitVec.ofNat 32 3)) (k0_off3 k (BitVec.ofNat 32 3)) (k0_off1_inb k 3) (k0_off3_inb k 3) (off1 k 3) (off3 k 3), ?_⟩⟩
  refine List.forall_mem_cons.2 ⟨piece_new arg4 harg4 x5 x3 (8 * k.val + 2) (k0_off2 k (BitVec.ofNat 32 2)) (k0_off4 k (BitVec.ofNat 32 2)) (k0_off2_inb k 2) (k0_off4_inb k 2) (off2 k 2) (off4 k 2), List.forall_mem_cons.2 ⟨piece_old arg6 harg6 x5 x3 (8 * k.val + 2) (k0_off1 k (BitVec.ofNat 32 2)) (k0_off3 k (BitVec.ofNat 32 2)) (k0_off1_inb k 2) (k0_off3_inb k 2) (off1 k 2) (off3 k 2), ?_⟩⟩
  refine List.forall_mem_cons.2 ⟨piece_new arg4 harg4 x5 x3 (8 * k.val + 1) (k0_off2 k (BitVec.ofNat 32 1)) (k0_off4 k (BitVec.ofNat 32 1)) (k0_off2_inb k 1) (k0_off4_inb k 1) (off2 k 1) (off4 k 1), List.forall_mem_cons.2 ⟨piece_old arg6 harg6 x5 x3 (8 * k.val + 1) (k0_off1 k (BitVec.ofNat 32 1)) (k0_off3 k (BitVec.ofNat 32 1)) (k0_off1_inb k 1) (k0_off3_inb k 1) (off1 k 1) (off3 k 1), ?_⟩⟩
  refine List.forall_mem_cons.2 ⟨piece_new arg4 harg4 x5 x3 (8 * k.val + 0) (k0_off2 k (BitVec.ofNat 32 0)) (k0_off4 k (BitVec.ofNat 32 0)) (k0_off2_inb k 0) (k0_off4_inb k 0) (off2 k 0) (off4 k 0), List.forall_mem_cons.2 ⟨piece_old arg6 harg6 x5 x3 (8 * k.val + 0) (k0_off1 k (BitVec.ofNat 32 0)) (k0_off3 k (BitVec.ofNat 32 0)) (k0_off1_inb k 0) (k0_off3_inb k 0) (off1 k 0) (off3 k 0), ?_⟩⟩
  exact fun p hp => absurd hp List.not_mem_nil

/-- What the trips before `n` store into both caches is a part of the moved caches. -/
theorem trips_moved : ∀ n ≤ k0_t1_loop.trips, (∀ p ∈ (pb_k0_t1 (F := Ideal) 𝒱 c bd i arg1 harg1 arg2 harg2 arg3 harg3 arg4 harg4 arg5 harg5 arg6 harg6 arg7 harg7 arg8 harg8 arg9 harg9 arg10 harg10 v32 (harg1.unread x0) (harg2.unread x1) (harg3.unread x2) (harg4.unread x3) (harg5.unread x4) (harg6.unread x5) n).2.1, ∀ x, p.2 x = MOVED x4 x2 (p.1.emb x)) ∧ (∀ p ∈ (pb_k0_t1 (F := Ideal) 𝒱 c bd i arg1 harg1 arg2 harg2 arg3 harg3 arg4 harg4 arg5 harg5 arg6 harg6 arg7 harg7 arg8 harg8 arg9 harg9 arg10 harg10 v32 (harg1.unread x0) (harg2.unread x1) (harg3.unread x2) (harg4.unread x3) (harg5.unread x4) (harg6.unread x5) n).2.2, ∀ x, p.2 x = MOVED x5 x3 (p.1.emb x))
  | 0, _ => ⟨fun p hp => absurd hp List.not_mem_nil, fun p hp => absurd hp List.not_mem_nil⟩
  | n + 1, h => by
    have ih := trips_moved n (by omega)
    have e := pb_k0_t1_succ (F := Ideal) 𝒱 c bd i arg1 harg1 arg2 harg2 arg3 harg3 arg4 harg4 arg5 harg5 arg6 harg6 arg7 harg7 arg8 harg8 arg9 harg9 arg10 harg10 v32 (harg1.unread x0) (harg2.unread x1) (harg3.unread x2) (harg4.unread x3) (harg5.unread x4) (harg6.unread x5) ⟨n, by omega⟩
    dsimp only at e
    rw [e]
    constructor
    · intro p hp
      rcases List.mem_append.1 hp with hp | hp
      · exact trip_keys 𝒱 c bd i arg1 harg1 arg2 harg2 arg3 harg3 arg4 harg4 arg5 harg5 arg6 harg6 arg7 harg7 arg8 harg8 arg9 harg9 arg10 harg10 v32 x0 x1 x2 x3 x4 x5 ⟨n, by omega⟩ p hp
      · exact ih.1 p hp
    · intro p hp
      rcases List.mem_append.1 hp with hp | hp
      · exact trip_vals 𝒱 c bd i arg1 harg1 arg2 harg2 arg3 harg3 arg4 harg4 arg5 harg5 arg6 harg6 arg7 harg7 arg8 harg8 arg9 harg9 arg10 harg10 v32 x0 x1 x2 x3 x4 x5 ⟨n, by omega⟩ p hp
      · exact ih.2 p hp

/-- The keys' cache after the body is the moved cache. -/
theorem out_keys (x6 : Vec Ideal S1x256 .f32) : out0_A_8 c i arg1 harg1 arg2 harg2 arg3 harg3 arg4 harg4 arg5 harg5 arg6 harg6 arg7 harg7 arg8 harg8 arg9 harg9 arg10 harg10 x0 x1 x2 x3 x4 x5 x6 = MOVED x4 x2 := by
  unfold out0_A_8
  rw [View.read_writes_junk_eq_canon]
  funext y
  exact View.canon_apply_of_pieces (MOVED x4 x2) _ (trips_moved Variants.none c none i arg1 harg1 arg2 harg2 arg3 harg3 arg4 harg4 arg5 harg5 arg6 harg6 arg7 harg7 arg8 harg8 arg9 harg9 arg10 harg10 _ x0 x1 x2 x3 x4 x5 _ le_rfl).1 y (cover0_A_8 c i arg1 harg1 arg2 harg2 arg3 harg3 arg4 harg4 arg5 harg5 arg6 harg6 arg7 harg7 arg8 harg8 arg9 harg9 arg10 harg10 x0 x1 x2 x3 x4 x5 x6 y)

/-- The values' cache after the body is the moved cache. -/
theorem out_vals (x6 : Vec Ideal S1x256 .f32) : out0_A_9 c i arg1 harg1 arg2 harg2 arg3 harg3 arg4 harg4 arg5 harg5 arg6 harg6 arg7 harg7 arg8 harg8 arg9 harg9 arg10 harg10 x0 x1 x2 x3 x4 x5 x6 = MOVED x5 x3 := by
  unfold out0_A_9
  rw [View.read_writes_junk_eq_canon]
  funext y
  exact View.canon_apply_of_pieces (MOVED x5 x3) _ (trips_moved Variants.none c none i arg1 harg1 arg2 harg2 arg3 harg3 arg4 harg4 arg5 harg5 arg6 harg6 arg7 harg7 arg8 harg8 arg9 harg9 arg10 harg10 _ x0 x1 x2 x3 x4 x5 _ le_rfl).2 y (cover0_A_9 c i arg1 harg1 arg2 harg2 arg3 harg3 arg4 harg4 arg5 harg5 arg6 harg6 arg7 harg7 arg8 harg8 arg9 harg9 arg10 harg10 x0 x1 x2 x3 x4 x5 x6 y)
end

end Cert.KernelStepIdeal.Hand

end
-- ==== Proof.ValueStep.lean ====
/- The caches of the samples' attention in the second layer (`KernelStep`): every sequence's window of keys and values moves on by its eight new positions. -/
module

public import proofs.«01_k».proof.Proof.StepPieces
public import proofs.«01_k».proof.Proof.Gen.ReferenceStepIdeal.Run
public import Idealize.ShloMosaic.Lib.Pipeline.ValueKit
public import Idealize.ShloMosaic.Lib.Pipeline.Value
public import Idealize.ShloMosaic.Lib.Pointwise
public import Idealize.ShloMosaic.Lib.WholeRead
public import Idealize.ShloMosaic.Lib.Claim
public import Idealize.ShloMosaic.Lib.Pipeline.ReadBack

@[expose] public section

set_option maxRecDepth 16384

noncomputable section

namespace Cert.KernelStepIdeal.Hand

open Idealize.ShloMosaic.Tactic Cert.KernelStepIdeal Cert.KernelStepIdeal.Gen Idealize.ShloMosaic Idealize.ShloMosaic.TcCoe Idealize.SL.Sem
open Idealize.ShloMosaic.Pipeline (Dat)

variable (m : (ℓ : Loc nD τ sig) → Buf (Elt Ideal) ℓ)

/-- The reference's new keys: the old window and the samples' key columns, the last 128 positions. -/
def REFK (H : FVec Ideal S1152x4608 .f32) (K : FVec Ideal S128x128x4x64 .f32) : FVec Ideal S128x128x256 .f32 :=
  shapeCast _ (extractStridedSlice S128x128x4x64 ![0, 8, 0, 0] (concatenate Cert.ReferenceStepIdeal.S128x136x4x64 1 [⟨S128x128x4x64, K⟩, ⟨Cert.ReferenceStepIdeal.S128x8x4x64, (shapeCast _ (extractStridedSlice Cert.ReferenceStepIdeal.S128x8x256 ![0, 0, 4096] (shapeCast _ (extractStridedSlice Cert.ReferenceStepIdeal.S1024x4608 ![0, 0] H Cert.ReferenceStepIdeal.Gen.slices_S1152x4608_S1024x4608_0_0) Cert.ReferenceStepIdeal.Gen.shapeCasts_S1024x4608_S128x8x4608) Cert.ReferenceStepIdeal.Gen.slices_S128x8x4608_S128x8x256_0_0_4096) Cert.ReferenceStepIdeal.Gen.shapeCasts_S128x8x256_S128x8x4x64)⟩] Cert.ReferenceStepIdeal.Gen.concatenates_S128x128x4x64_S128x8x4x64_S128x136x4x64_d1) Cert.ReferenceStepIdeal.Gen.slices_S128x136x4x64_S128x128x4x64_0_8_0_0) Cert.ReferenceStepIdeal.Gen.shapeCasts_S128x128x4x64_S128x128x256

/-- The reference's new values, likewise from the samples' value columns. -/
def REFV (H : FVec Ideal S1152x4608 .f32) (K : FVec Ideal S128x128x4x64 .f32) : FVec Ideal S128x128x256 .f32 :=
  shapeCast _ (extractStridedSlice S128x128x4x64 ![0, 8, 0, 0] (concatenate Cert.ReferenceStepIdeal.S128x136x4x64 1 [⟨S128x128x4x64, K⟩, ⟨Cert.ReferenceStepIdeal.S128x8x4x64, (shapeCast _ (extractStridedSlice Cert.ReferenceStepIdeal.S128x8x256 ![0, 0, 4352] (shapeCast _ (extractStridedSlice Cert.ReferenceStepIdeal.S1024x4608 ![0, 0] H Cert.ReferenceStepIdeal.Gen.slices_S1152x4608_S1024x4608_0_0) Cert.ReferenceStepIdeal.Gen.shapeCasts_S1024x4608_S128x8x4608) Cert.ReferenceStepIdeal.Gen.slices_S128x8x4608_S128x8x256_0_0_4352) Cert.ReferenceStepIdeal.Gen.shapeCasts_S128x8x256_S128x8x4x64)⟩] Cert.ReferenceStepIdeal.Gen.concatenates_S128x128x4x64_S128x8x4x64_S128x136x4x64_d1) Cert.ReferenceStepIdeal.Gen.slices_S128x136x4x64_S128x128x4x64_0_8_0_0) Cert.ReferenceStepIdeal.Gen.shapeCasts_S128x128x4x64_S128x128x256

/-- Every window's block index in closed form, over the four grid points. -/
theorem idx : ∀ t : Fin cfg0.N, win0_2.index t = ![t.val, 16] ∧ win0_3.index t = ![t.val, 17] ∧ win0_4.index t = ![t.val, 0, 0]
    ∧ win0_5.index t = ![t.val, 0, 0] ∧ win0_8.index t = ![t.val, 0, 0] ∧ win0_9.index t = ![t.val, 0, 0] :=
  (by decide +kernel : ∀ t : Fin grid0.N, _)

/-- Each index in its own type. -/
theorem coord (j : S128x128x256.Idx) : (j 0 : ℕ) < 128 ∧ (j 1 : ℕ) < 128 ∧ (j 2 : ℕ) < 256 := ⟨(j 0).isLt, (j 1).isLt, (j 2).isLt⟩

/-- A block of the old keys, as the launch's argument holds it. -/
theorem blkK (c : Dev nD) (t : Fin cfg0.N) (z : S32x128x256.Idx) (j : S128x128x4x64.Idx) (h0 : (j 0 : ℕ) = t.val * 32 + z 0) (h1 : (j 1 : ℕ) = z 1)
    (h2 : 64 * (j 2 : ℕ) + j 3 = z 2) : iblk m c 4 t z = m ((c : Thread nD τ).loc main_arg1) j := by
  have ht : t.val < 4 := lt_of_lt_of_eq t.isLt N_0
  blk_point [iblk, V, idx t]

/-- A block of the new keys, as the launch's argument holds it. -/
theorem rowK (c : Dev nD) (t : Fin cfg0.N) (z : S256x256.Idx) (j : S1152x4608.Idx) (h0 : (j 0 : ℕ) = t.val * 256 + z 0) (h1 : (j 1 : ℕ) = 4096 + z 1) :
    X0_2 m c t z = m ((c : Thread nD τ).loc main_arg0) j := by
  have ht : t.val < 4 := lt_of_lt_of_eq t.isLt N_0
  unfold X0_2 Pipeline.Window.fill
  rw [dif_pos (moved0_2 t _)]
  blk_point [iblk, V, idx t]

/-- A stored key is the reference's. -/
theorem coreK (c : Dev nD) (t : Fin cfg0.N) (y : S32x128x256.Idx) (j : S128x128x256.Idx) (hj0 : (j 0 : ℕ) = t.val * 32 + y 0) (hj1 : (j 1 : ℕ) = y 1) (hj2 : (j 2 : ℕ) = y 2) :
    MOVED (iblk m c 4 t) (X0_2 m c t) y = REFK (m ((c : Thread nD τ).loc main_arg0)) (m ((c : Thread nD τ).loc main_arg1)) j := by
  have ht : t.val < 4 := lt_of_lt_of_eq t.isLt N_0
  obtain ⟨hl0, hl1, hl2⟩ := coord j
  by_cases h : (y 1 : ℕ) < 120
  · rw [moved_old _ _ y (ix3 (y 0) ⟨(y 1 : ℕ) + 8, by omega⟩ (y 2)) h rfl rfl rfl]
    pointwise [REFK]
    rw [dif_pos (by omega)]
    refine blkK m c t _ _ hj0 ?_ ?_
    · show 8 + (j 1 : ℕ) = (y 1 : ℕ) + 8; omega
    · show 64 * ((j 2 : ℕ) / 64) + (j 2 : ℕ) % 64 = (y 2 : ℕ); omega
  · rw [moved_new _ _ y (ix2 ⟨8 * (y 0 : ℕ) + ((y 1 : ℕ) - 120), by have h0 : (y 0 : ℕ) < 32 := (y 0).isLt; omega⟩ (y 2)) (by omega) rfl rfl]
    pointwise [REFK]
    rw [dif_neg (by omega)]
    refine rowK m c t _ _ ?_ ?_
    · show (j 0 : ℕ) * 8 + (8 + (j 1 : ℕ) - 128) = t.val * 256 + (8 * (y 0 : ℕ) + ((y 1 : ℕ) - 120)); omega
    · show 4096 + (j 2 : ℕ) = 4096 + (y 2 : ℕ); omega

/-- A block of the old values, as the launch's argument holds it. -/
theorem blkV (c : Dev nD) (t : Fin cfg0.N) (z : S32x128x256.Idx) (j : S128x128x4x64.Idx) (h0 : (j 0 : ℕ) = t.val * 32 + z 0) (h1 : (j 1 : ℕ) = z 1)
    (h2 : 64 * (j 2 : ℕ) + j 3 = z 2) : iblk m c 5 t z = m ((c : Thread nD τ).loc main_arg2) j := by
  have ht : t.val < 4 := lt_of_lt_of_eq t.isLt N_0
  blk_point [iblk, V, idx t]

/-- A block of the new values, as the launch's argument holds it. -/
theorem rowV (c : Dev nD) (t : Fin cfg0.N) (z : S256x256.Idx) (j : S1152x4608.Idx) (h0 : (j 0 : ℕ) = t.val * 256 + z 0) (h1 : (j 1 : ℕ) = 4352 + z 1) :
    X0_3 m c t z = m ((c : Thread nD τ).loc main_arg0) j := by
  have ht : t.val < 4 := lt_of_lt_of_eq t.isLt N_0
  unfold X0_3 Pipeline.Window.fill
  rw [dif_pos (moved0_3 t _)]
  blk_point [iblk, V, idx t]

/-- A stored value is the reference's. -/
theorem coreV (c : Dev nD) (t : Fin cfg0.N) (y : S32x128x256.Idx) (j : S128x128x256.Idx) (hj0 : (j 0 : ℕ) = t.val * 32 + y 0) (hj1 : (j 1 : ℕ) = y 1) (hj2 : (j 2 : ℕ) = y 2) :
    MOVED (iblk m c 5 t) (X0_3 m c t) y = REFV (m ((c : Thread nD τ).loc main_arg0)) (m ((c : Thread nD τ).loc main_arg2)) j := by
  have ht : t.val < 4 := lt_of_lt_of_eq t.isLt N_0
  obtain ⟨hl0, hl1, hl2⟩ := coord j
  by_cases h : (y 1 : ℕ) < 120
  · rw [moved_old _ _ y (ix3 (y 0) ⟨(y 1 : ℕ) + 8, by omega⟩ (y 2)) h rfl rfl rfl]
    pointwise [REFV]
    rw [dif_pos (by omega)]
    refine blkV m c t _ _ hj0 ?_ ?_
    · show 8 + (j 1 : ℕ) = (y 1 : ℕ) + 8; omega
    · show 64 * ((j 2 : ℕ) / 64) + (j 2 : ℕ) % 64 = (y 2 : ℕ); omega
  · rw [moved_new _ _ y (ix2 ⟨8 * (y 0 : ℕ) + ((y 1 : ℕ) - 120), by have h0 : (y 0 : ℕ) < 32 := (y 0).isLt; omega⟩ (y 2)) (by omega) rfl rfl]
    pointwise [REFV]
    rw [dif_neg (by omega)]
    refine rowV m c t _ _ ?_ ?_
    · show (j 0 : ℕ) * 8 + (8 + (j 1 : ℕ) - 128) = t.val * 256 + (8 * (y 0 : ℕ) + ((y 1 : ℕ) - 120)); omega
    · show 4352 + (j 2 : ℕ) = 4352 + (y 2 : ℕ); omega

/-- The keys' cache after the run is the reference's. -/
theorem finalK (c : Dev nD) : (dats m 0 c).arrAt 8 (cfgs 0).N = REFK (m ((c : Thread nD τ).loc main_arg0)) (m ((c : Thread nD τ).loc main_arg1)) := by
  refine (dats m 0 c).arrAt_eq_of_covers 8 _ (by decide +kernel) fun t _ y => ?_
  blk_simp
  rw [after0_8]
  unfold outsAt0
  dsimp only
  rw [out_keys]
  refine coreK m c t y _ ?_ ?_ ?_
  all_goals (blk_simp [idx t] <;> try omega)

/-- The values' cache after the run is the reference's. -/
theorem finalV (c : Dev nD) : (dats m 0 c).arrAt 9 (cfgs 0).N = REFV (m ((c : Thread nD τ).loc main_arg0)) (m ((c : Thread nD τ).loc main_arg2)) := by
  refine (dats m 0 c).arrAt_eq_of_covers 9 _ (by decide +kernel) fun t _ y => ?_
  blk_simp
  rw [after0_9]
  unfold outsAt0
  dsimp only
  rw [out_vals]
  refine coreV m c t y _ ?_ ?_ ?_
  all_goals (blk_simp [idx t] <;> try omega)

end Cert.KernelStepIdeal.Hand

end
-- ==== Proof.StepBlock.lean ====
/- The samples' attention of one sequence: what the kernel stores for its eight positions, as one formula of the sequence's keys, values, queries and gates. -/
module

public import proofs.«01_k».proof.Proof.Gen.KernelStepIdeal.Skeleton
public import proofs.«01_k».proof.Proof.AttnMath
public import Idealize.ShloMosaic.Lib.Pointwise
public import Idealize.ShloMosaic.Lib.Pipeline.Value
public import Idealize.ShloMosaic.Lib.Tactic.WordOmega
public import Idealize.ShloMosaic.Lib.IdealHost

@[expose] public section

set_option maxRecDepth 16384

noncomputable section

namespace Cert.KernelStepIdeal.Hand

open Cert.KernelStepIdeal Cert.KernelStepIdeal.Gen Idealize.ShloMosaic Idealize.ShloMosaic.TcCoe Idealize.SL.Sem

/-- A pair of heads' columns turned by one head. -/
def turn (x : FVec Ideal S8x128 .f32) : FVec Ideal S8x128 .f32 := dynamicRotate 1 64#32 none x rotates_S8x128_d1

/-- The columns of a pair of heads lie in the queries. -/
theorem tile_in : ∀ j : Fin 16, Shape.Slices S8x2048 ![0, 128 * (j : ℕ)] S8x128 := by decide

/-- A pair of heads' columns of the queries. -/
def tile (q : FVec Ideal S8x2048 .f32) (j : Fin 16) : FVec Ideal S8x128 .f32 := extractStridedSlice S8x128 ![0, 128 * (j : ℕ)] q (tile_in j)

/-- The zeros beside a head's columns. -/
def zeros : FVec Ideal S8x128 .f32 := broadcast S8x128 (Scalar.ofBits .f32 0x00000000#32)

/-- A head's queries at the columns of its key head, and zeros at the others. -/
def grp (q : FVec Ideal S8x2048 .f32) (h : Fin 32) : FVec Ideal S8x256 .f32 :=
  let src := if (h : ℕ) % 2 = h / 8 % 2 then tile q ⟨h / 2, by omega⟩ else turn (tile q ⟨h / 2, by omega⟩)
  let half := if (h : ℕ) / 8 % 2 = 0 then select (k0_pay2) src zeros else select (k0_pay2) zeros src
  if (h : ℕ) / 16 = 0 then concatenate S8x256 1 [⟨S8x128, half⟩, ⟨S8x128, k0_pay3 (F := Ideal)⟩] concatenates_S8x128_S8x128_S8x256_d1
  else concatenate S8x256 1 [⟨S8x128, k0_pay3 (F := Ideal)⟩, ⟨S8x128, half⟩] concatenates_S8x128_S8x128_S8x256_d1

/-- The queries of all heads, one below the other. -/
def rows (q : FVec Ideal S8x2048 .f32) : FVec Ideal S256x256 .bf16 :=
  truncf .bf16 (concatenate S256x256 0 (List.ofFn fun h : Fin 32 => ⟨S8x256, grp q h⟩)
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0) bitsLt_bf16_f32

/-- The scores of a sequence: all keys against all heads and positions. -/
def scoresS (k : FVec Ideal S136x256 .bf16) (q : FVec Ideal S8x2048 .f32) : FVec Ideal S136x256 .f32 :=
  matmul dot_S136x256_S256x256_S136x256_1_1_0_0_n_n none k (rows q) (constant S136x256 .f32 0x00000000#32)

/-- The masked scores. -/
def maskedS (s : FVec Ideal S136x256 .f32) : FVec Ideal S136x256 .f32 := addf s (k0_pay1 (F := Ideal))

/-- The maxima over the keys and the sink. -/
def maxS (s : FVec Ideal S136x256 .f32) (k : FVec Ideal S1x256 .f32) : FVec Ideal S1x256 .f32 :=
  maximumf (shapeCast S1x256 (multiReduction .maximumf [0] S256 s 0xFF800000#32 reduces_S136x256_S256 (.inl rfl) rfl) shapeCasts_S256_S1x256) k

/-- The powers of two. -/
def expS (s : FVec Ideal S136x256 .f32) (k : FVec Ideal S1x256 .f32) : FVec Ideal S136x256 .f32 :=
  exp2 (subf s (broadcastTo S136x256 (maxS s k) broadcasts_S1x256_S136x256))

/-- The reciprocals of the denominators. -/
def recS (s : FVec Ideal S136x256 .f32) (k : FVec Ideal S1x256 .f32) : FVec Ideal S1x256 .f32 :=
  divf (broadcast S1x256 (Scalar.ofBits .f32 0x3F800000#32))
    (addf (shapeCast S1x256 (multiReduction .add [0] S256 (expS s k) 0x00000000#32 reduces_S136x256_S256 (.inl rfl) rfl) shapeCasts_S256_S1x256)
      (exp2 (subf k (maxS s k))))

/-- The weights of the keys. -/
def weightS (s : FVec Ideal S136x256 .f32) (k : FVec Ideal S1x256 .f32) : FVec Ideal S136x256 .bf16 :=
  truncf .bf16 (mulf (expS s k) (broadcastTo S136x256 (recS s k) broadcasts_S1x256_S136x256)) bitsLt_bf16_f32

/-- The weighted values: every head and position against the columns of all key heads. -/
def sumS (w v : FVec Ideal S136x256 .bf16) : FVec Ideal S256x256 .f32 :=
  matmul dot_S136x256_S136x256_S256x256_0_0_1_1_n_n none w v (constant S256x256 .f32 0x00000000#32)

/-- The rows and columns of the first head of a pair. -/
theorem cut_in0 : ∀ j : Fin 16, Shape.Slices S256x256 ![16 * (j : ℕ), 128 * ((j : ℕ) / 8)] S8x128 := by decide
/-- The rows and columns of the second head of a pair. -/
theorem cut_in1 : ∀ j : Fin 16, Shape.Slices S256x256 ![16 * (j : ℕ) + 8, 128 * ((j : ℕ) / 8)] S8x128 := by decide

/-- A pair of heads' columns of the result. -/
def pair (o : FVec Ideal S256x256 .f32) (j : Fin 16) : FVec Ideal S8x128 .f32 :=
  let a := extractStridedSlice S8x128 ![16 * (j : ℕ), 128 * ((j : ℕ) / 8)] o (cut_in0 j)
  let b := extractStridedSlice S8x128 ![16 * (j : ℕ) + 8, 128 * ((j : ℕ) / 8)] o (cut_in1 j)
  if (j : ℕ) / 4 % 2 = 0 then select (k0_pay2) a (turn b) else select (k0_pay2) (turn a) b

/-- The result with its gate. -/
def outS (o : FVec Ideal S256x256 .f32) (g : FVec Ideal S8x2048 .f32) : FVec Ideal S8x2048 .bf16 :=
  truncf .bf16 (mulf (concatenate S8x2048 1 (List.ofFn fun j : Fin 16 => ⟨S8x128, pair o j⟩)
    concatenates_S8x128_S8x128_S8x128_S8x128_S8x128_S8x128_S8x128_S8x128_S8x128_S8x128_S8x128_S8x128_S8x128_S8x128_S8x128_S8x128_S8x2048_d1)
    (mulf g (logistic g))) bitsLt_bf16_f32

/-- The keys or values of a sequence: the cache's, then the new ones. -/
def allS (c : Vec Ideal S1x128x256 .f32) (n : Vec Ideal S8x256 .f32) : FVec Ideal S136x256 .bf16 :=
  truncf .bf16 (concatenate S136x256 0 [⟨S128x256, shapeCast S128x256 c shapeCasts_S1x128x256_S128x256⟩, ⟨S8x256, n⟩] concatenates_S128x256_S8x256_S136x256_d0) bitsLt_bf16_f32

/-- The scaled queries. -/
def scaled (q : FVec Ideal S8x2048 .f32) : FVec Ideal S8x2048 .f32 := mulf q (broadcast S8x2048 (Named.named κ "scale_log2e" 0x3E38AA3B#32))

/-- What the kernel stores for a sequence. -/
def seqS (ck cv : Vec Ideal S1x128x256 .f32) (kn vn : Vec Ideal S8x256 .f32) (q g : FVec Ideal S8x2048 .f32) (k : FVec Ideal S1x256 .f32) : FVec Ideal S8x2048 .bf16 :=
  outS (sumS (weightS (maskedS (scoresS (allS ck kn) (scaled q))) k) (allS cv vn)) g

end Cert.KernelStepIdeal.Hand
-- ==== Proof.StepRows.lean ====
/- What one trip of the samples' attention stores into its gated output: for each of eight sequences, the one formula of `StepBlock`. -/
module

public import proofs.«01_k».proof.Proof.StepBlock
public import proofs.«01_k».proof.Proof.StepPieces

@[expose] public section

set_option maxRecDepth 16384

noncomputable section
namespace Cert.KernelStepIdeal.Hand
open Idealize.ShloMosaic.Tactic Cert.KernelStepIdeal Cert.KernelStepIdeal.Gen Idealize.ShloMosaic Idealize.ShloMosaic.TcCoe Idealize.SL.Sem
variable (𝒱 : Variants) (c : Dev nD) (bd : Option 𝒱.V) (i : grid0.Coords) (arg1 : Memref sig .tc .vmem S256x2048 .f32) (harg1 : arg1.IsWhole) (arg2 : Memref sig .tc .vmem S256x2048 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S32x128x256 .f32) (harg5 : arg5.IsWhole) (arg6 : Memref sig .tc .vmem S32x128x256 .f32) (harg6 : arg6.IsWhole) (arg7 : Memref sig .tc .vmem S1x256 .f32) (harg7 : arg7.IsWhole) (arg8 : Memref sig .tc .vmem S256x2048 .bf16) (harg8 : arg8.IsWhole) (arg9 : Memref sig .tc .vmem S32x128x256 .f32) (harg9 : arg9.IsWhole) (arg10 : Memref sig .tc .vmem S32x128x256 .f32) (harg10 : arg10.IsWhole) (v32 : Vec Ideal S1x256 .f32)
  (x0 : Vec Ideal S256x2048 .f32) (x1 : Vec Ideal S256x2048 .f32) (x2 : Vec Ideal S256x256 .f32) (x3 : Vec Ideal S256x256 .f32) (x4 : Vec Ideal S32x128x256 .f32) (x5 : Vec Ideal S32x128x256 .f32)

/-- The rows of a block's sequence. -/
def seqOf (k : Fin k0_t1_loop.trips) (r : Fin 8) : FVec Ideal S8x2048 .bf16 :=
  seqS (arg5.view.readAt (Elt Ideal) (Rect.unit (s := S32x128x256) (k0_off1 k (BitVec.ofNat 32 r.val)) S1x128x256.size (k0_off1_inb k r)).toLoadRect (harg5.unread x4))
    (arg6.view.readAt (Elt Ideal) (Rect.unit (s := S32x128x256) (k0_off1 k (BitVec.ofNat 32 r.val)) S1x128x256.size (k0_off1_inb k r)).toLoadRect (harg6.unread x5))
    (arg3.view.readAt (Elt Ideal) (Rect.unit (s := S256x256) (k0_off2 k (BitVec.ofNat 32 r.val)) S8x256.size (k0_off2_inb k r)).toLoadRect (harg3.unread x2))
    (arg4.view.readAt (Elt Ideal) (Rect.unit (s := S256x256) (k0_off2 k (BitVec.ofNat 32 r.val)) S8x256.size (k0_off2_inb k r)).toLoadRect (harg4.unread x3))
    (arg1.view.readAt (Elt Ideal) (Rect.unit (s := S256x2048) (k0_off5 k (BitVec.ofNat 32 r.val)) S8x2048.size (k0_off5_inb k r)).toLoadRect (harg1.unread x0))
    (arg2.view.readAt (Elt Ideal) (Rect.unit (s := S256x2048) (k0_off5 k (BitVec.ofNat 32 r.val)) S8x2048.size (k0_off5_inb k r)).toLoadRect (harg2.unread x1))
    (k0_pay4 v32)

set_option maxHeartbeats 200000000 in
/-- A property of every sequence's rows holds of everything that one trip stores into the output. -/
theorem trip_seq (k : Fin k0_t1_loop.trips) (P : View.Piece (Elt Ideal) S256x2048 .bf16 → Prop)
    (hP : ∀ r : Fin 8, P ⟨Rect.unit (s := S256x2048) (k0_off5 k (BitVec.ofNat 32 r.val)) S8x2048.size (k0_off5_inb k r), seqOf arg1 harg1 arg2 harg2 arg3 harg3 arg4 harg4 arg5 harg5 arg6 harg6 v32 x0 x1 x2 x3 x4 x5 k r⟩) :
    ∀ p ∈ (trip_k0_t1 (F := Ideal) 𝒱 c bd i arg1 harg1 arg2 harg2 arg3 harg3 arg4 harg4 arg5 harg5 arg6 harg6 arg7 harg7 arg8 harg8 arg9 harg9 arg10 harg10 v32 (harg1.unread x0) (harg2.unread x1) (harg3.unread x2) (harg4.unread x3) (harg5.unread x4) (harg6.unread x5) k).1, P p := by
  have key : ∀ (r : Fin 8) (f : FVec Ideal S8x2048 .bf16), f = seqOf arg1 harg1 arg2 harg2 arg3 harg3 arg4 harg4 arg5 harg5 arg6 harg6 v32 x0 x1 x2 x3 x4 x5 k r →
      P ⟨Rect.unit (s := S256x2048) (k0_off5 k (BitVec.ofNat 32 r.val)) S8x2048.size (k0_off5_inb k r), f⟩ := fun r f e => e ▸ hP r
  unfold trip_k0_t1
  dsimp only
  refine List.forall_mem_cons.2 ⟨key 7 _ ?_, List.forall_mem_cons.2 ⟨key 6 _ ?_, List.forall_mem_cons.2 ⟨key 5 _ ?_, List.forall_mem_cons.2 ⟨key 4 _ ?_, List.forall_mem_cons.2 ⟨key 3 _ ?_, List.forall_mem_cons.2 ⟨key 2 _ ?_, List.forall_mem_cons.2 ⟨key 1 _ ?_, List.forall_mem_cons.2 ⟨key 0 _ ?_, fun p hp => absurd hp List.not_mem_nil⟩⟩⟩⟩⟩⟩⟩⟩
  all_goals
    clear key hP P
    unfold seqOf seqS
    refine (show _ = outS _ _ from rfl).trans ?_
    refine congrArg₂ outS ?_ rfl
    refine (show _ = sumS _ _ from rfl).trans ?_
    refine congrArg₂ sumS ?_ rfl
    refine (show _ = weightS _ _ from rfl).trans ?_
    refine congrArg (fun s => weightS s (k0_pay4 v32)) ?_
    refine (show _ = maskedS _ from rfl).trans ?_
    refine congrArg maskedS ?_
    refine (show _ = matmul dot_S136x256_S256x256_S136x256_1_1_0_0_n_n none _ _ (constant S136x256 .f32 0x00000000#32) from rfl).trans ?_
    refine congrArg₂ (fun a b => matmul dot_S136x256_S256x256_S136x256_1_1_0_0_n_n none a b (constant S136x256 .f32 0x00000000#32)) rfl ?_
    refine (show _ = rows _ from rfl).trans ?_
    rfl

end Cert.KernelStepIdeal.Hand

end
-- ==== Proof.StepRef.lean ====
/- The reference's attention of the samples at one index of its result. -/
module

public import proofs.«01_k».proof.Proof.Gen.ReferenceStepIdeal.Run
public import proofs.«01_k».proof.Proof.AttnMath
public import Idealize.ShloMosaic.Lib.Pointwise
public import Idealize.ShloMosaic.Lib.Tactic.WordOmega
public import Idealize.ShloMosaic.Lib.IdealHost

@[expose] public section

set_option maxRecDepth 16384

noncomputable section

namespace Cert.ReferenceStepIdeal.Hand

open Cert.ReferenceStepIdeal Cert.ReferenceStepIdeal.Gen Idealize.ShloMosaic Idealize.ShloMosaic.TcCoe Idealize.SL.Sem Idealize.ShloMosaic.StableHlo

/-- The samples' rows, a sequence at a time. -/
def H (S : FVec Ideal S1152x4608 .f32) : FVec Ideal S128x8x4608 .f32 :=
  shapeCast _ (extractStridedSlice S1024x4608 ![0, 0] S slices_S1152x4608_S1024x4608_0_0) shapeCasts_S1024x4608_S128x8x4608

/-- The keys: the cache's and the samples'. -/
def keyR (S : FVec Ideal S1152x4608 .f32) (C : FVec Ideal S128x128x4x64 .f32) : FVec Ideal S128x136x4x64 .f32 :=
  concatenate S128x136x4x64 1 [⟨S128x128x4x64, C⟩, ⟨S128x8x4x64, (shapeCast _ (extractStridedSlice S128x8x256 ![0, 0, 4096] (H S) slices_S128x8x4608_S128x8x256_0_0_4096) shapeCasts_S128x8x256_S128x8x4x64)⟩] concatenates_S128x128x4x64_S128x8x4x64_S128x136x4x64_d1

/-- The values: the cache's and the samples'. -/
def valR (S : FVec Ideal S1152x4608 .f32) (C : FVec Ideal S128x128x4x64 .f32) : FVec Ideal S128x136x4x64 .f32 :=
  concatenate S128x136x4x64 1 [⟨S128x128x4x64, C⟩, ⟨S128x8x4x64, (shapeCast _ (extractStridedSlice S128x8x256 ![0, 0, 4352] (H S) slices_S128x8x4608_S128x8x256_0_0_4352) shapeCasts_S128x8x256_S128x8x4x64)⟩] concatenates_S128x128x4x64_S128x8x4x64_S128x136x4x64_d1

/-- The products of queries and keys. -/
def dotR (S : FVec Ideal S1152x4608 .f32) (C : FVec Ideal S128x128x4x64 .f32) : FVec Ideal S128x4x8x8x136 .f32 :=
  (transpose S128x4x8x8x136 [0, 1, 4, 3, 2] (Host.dotGeneral dot_S128x136x4x64_S128x8x4x8x64_S128x4x136x8x8_3_4_1_13_02_02 none (keyR S C) (shapeCast _ (extractStridedSlice S128x8x2048 ![0, 0, 0] (H S) slices_S128x8x4608_S128x8x2048_0_0_0) shapeCasts_S128x8x2048_S128x8x4x8x64)) transposes_S128x4x136x8x8_S128x4x8x8x136_0_1_4_3_2)

/-- The mask and the scale of the scores. -/
def maskScale (D : FVec Ideal S128x4x8x8x136 .f32) : FVec Ideal S128x4x8x8x136 .f32 :=
  (select (broadcastInDim S128x4x8x8x136 ![0, 1, 2, 3, 4] bcast_S1x1x1x8x136_S128x4x8x8x136_0_1_2_3_4 (broadcastInDim S1x1x1x8x136 ![3, 4] bcast_S8x136_S1x1x1x8x136_3_4 (andi (cmpi .sge (subi (addi (broadcastInDim S8x136 ![] bcast_S_S8x136 (constantI S_ 32 128#32)) (iotaInDim S8x136 32 0)) (iotaInDim S8x136 32 1)) (broadcastInDim S8x136 ![] bcast_S_S8x136 (constantI S_ 32 0#32))) (cmpi .slt (subi (addi (broadcastInDim S8x136 ![] bcast_S_S8x136 (constantI S_ 32 128#32)) (iotaInDim S8x136 32 0)) (iotaInDim S8x136 32 1)) (broadcastInDim S8x136 ![] bcast_S_S8x136 (constantI S_ 32 128#32)))))) (mulf D (broadcastInDim S128x4x8x8x136 ![] bcast_S_S128x4x8x8x136 (constant S_ .f32 0x3E000000#32))) (broadcastInDim S128x4x8x8x136 ![] bcast_S_S128x4x8x8x136 (id (constant S_ .f32 0xFF800000#32))))

/-- The scores. -/
def scoresR (S : FVec Ideal S1152x4608 .f32) (C : FVec Ideal S128x128x4x64 .f32) : FVec Ideal S128x4x8x8x136 .f32 := maskScale (dotR S C)

/-- The maximum of every row. -/
def rowMax (s : FVec Ideal S128x4x8x8x136 .f32) (c : FVec Ideal S_ .f32) : FVec Ideal S128x4x8x8 .f32 :=
  Host.reduce FloatOps.maximumf s c reducesTo_S128x4x8x8x136_S128x4x8x8_d4 h_S_

/-- The maximum of a row and the sink of its head. -/
def withSink (M : FVec Ideal S128x4x8x8 .f32) (K : FVec Ideal S32 .f32) : FVec Ideal S128x4x8x8x1 .f32 :=
  (maximumf (broadcastInDim S128x4x8x8x1 ![0, 1, 2, 3] bcast_S128x4x8x8_S128x4x8x8x1_0_1_2_3 M) (broadcastInDim S128x4x8x8x1 ![0, 1, 2, 3, 4] bcast_S1x4x8x1x1_S128x4x8x8x1_0_1_2_3_4 (broadcastInDim S1x4x8x1x1 ![1, 2] bcast_S4x8_S1x4x8x1x1_1_2 (shapeCast _ K shapeCasts_S32_S4x8))))

/-- The maximum of a row of the scores. -/
def maxR (S : FVec Ideal S1152x4608 .f32) (C : FVec Ideal S128x128x4x64 .f32) (K : FVec Ideal S32 .f32) : FVec Ideal S128x4x8x8x1 .f32 :=
  withSink (rowMax (scoresR S C) (constant S_ .f32 0xFF800000#32)) K

/-- The numerators. -/
def expR (S : FVec Ideal S1152x4608 .f32) (C : FVec Ideal S128x128x4x64 .f32) (K : FVec Ideal S32 .f32) : FVec Ideal S128x4x8x8x136 .f32 :=
  (Host.exp (subf (scoresR S C) (broadcastInDim S128x4x8x8x136 ![0, 1, 2, 3, 4] bcast_S128x4x8x8x1_S128x4x8x8x136_0_1_2_3_4 (maxR S C K))))

/-- The denominators. -/
def denR (S : FVec Ideal S1152x4608 .f32) (C : FVec Ideal S128x128x4x64 .f32) (K : FVec Ideal S32 .f32) : FVec Ideal S128x4x8x8x1 .f32 :=
  (addf (broadcastInDim S128x4x8x8x1 ![0, 1, 2, 3] bcast_S128x4x8x8_S128x4x8x8x1_0_1_2_3 (Host.reduceAdd (expR S C K) (constant S_ .f32 0x00000000#32) reducesTo_S128x4x8x8x136_S128x4x8x8_d4 h_S_)) (Host.exp (subf (broadcastInDim S128x4x8x8x1 ![0, 1, 2, 3, 4] bcast_S1x4x8x1x1_S128x4x8x8x1_0_1_2_3_4 (broadcastInDim S1x4x8x1x1 ![1, 2] bcast_S4x8_S1x4x8x1x1_1_2 (shapeCast _ K shapeCasts_S32_S4x8))) (maxR S C K))))

/-- The attention before the gate. -/
def attR (S : FVec Ideal S1152x4608 .f32) (C V : FVec Ideal S128x128x4x64 .f32) (K : FVec Ideal S32 .f32) : FVec Ideal S128x4x64x8x8 .f32 :=
  (Host.dotGeneral dot_S128x136x4x64_S128x4x8x8x136_S128x4x64x8x8_1_4_3_23_02_01 none (valR S V) (Host.divf (expR S C K) (broadcastInDim S128x4x8x8x136 ![0, 1, 2, 3, 4] bcast_S128x4x8x8x1_S128x4x8x8x136_0_1_2_3_4 (denR S C K))))

/-- The same with the heads joined. -/
def joinR (S : FVec Ideal S1152x4608 .f32) (C V : FVec Ideal S128x128x4x64 .f32) (K : FVec Ideal S32 .f32) : FVec Ideal S128x8x2048 .f32 :=
  (shapeCast _ (transpose S128x8x4x8x64 [0, 4, 1, 3, 2] (attR S C V K) transposes_S128x4x64x8x8_S128x8x4x8x64_0_4_1_3_2) shapeCasts_S128x8x4x8x64_S128x8x2048)

/-- The gate. -/
def gateR (S : FVec Ideal S1152x4608 .f32) : FVec Ideal S128x8x2048 .f32 :=
  (mulf (extractStridedSlice S128x8x2048 ![0, 0, 2048] (H S) slices_S128x8x4608_S128x8x2048_0_0_2048) (Host.divf (broadcastInDim S128x8x2048 ![] bcast_S_S128x8x2048 (constant S_ .f32 0x3F800000#32)) (addf (broadcastInDim S128x8x2048 ![] bcast_S_S128x8x2048 (constant S_ .f32 0x3F800000#32)) (Host.exp (Host.negf (extractStridedSlice S128x8x2048 ![0, 0, 2048] (H S) slices_S128x8x4608_S128x8x2048_0_0_2048))))))

/-- The product of the attention and the gate. -/
def gated (J G : FVec Ideal S128x8x2048 .f32) : FVec Ideal S1024x2048 .bf16 :=
  truncf .bf16 (shapeCast _ (mulf J G) shapeCasts_S128x8x2048_S1024x2048) bitsLt_bf16_f32

/-- The reference's gated attention of the samples. -/
def REFO (S : FVec Ideal S1152x4608 .f32) (C V : FVec Ideal S128x128x4x64 .f32) (K : FVec Ideal S32 .f32) : FVec Ideal S1024x2048 .bf16 :=
  gated (joinR S C V K) (gateR S)

/-- What the run of the reference leaves is that function of its arguments. -/
theorem res_eq (m : (ℓ : Loc nD τ sig) → Buf (Elt Ideal) ℓ) (c : Dev nD) :
    Cert.ReferenceStepIdeal.Value.res_out0 m c
      = REFO (m ((c.tc : Thread nD τ).loc main_arg0)) (m ((c.tc : Thread nD τ).loc main_arg1)) (m ((c.tc : Thread nD τ).loc main_arg2)) (m ((c.tc : Thread nD τ).loc main_arg3)) := rfl

/-- A key or value of a sequence: one of the cache's 128, or one of the eight new ones at a column of the samples' rows. -/
def row (S : FVec Ideal S1152x4608 .f32) (C : FVec Ideal S128x128x4x64 .f32) (o : Fin 4353) (b : Fin 128) (p : Fin 136) (a : Fin 4) (d : Fin 64) : EReal :=
  if h : (p : ℕ) < 128 then C (ix4 b ⟨p, h⟩ a d) else S (ix2 ⟨8 * b + (p - 128), by omega⟩ ⟨o + 64 * a + d, by omega⟩)

/-- A sample's row at an index. -/
theorem H_at (S : FVec Ideal S1152x4608 .f32) (b : Fin 128) (p : Fin 8) (n : Fin 4608) :
    H S (ix3 b p n) = S (ix2 ⟨8 * b + p, by omega⟩ n) := by
  pointwise [H]
  simp only [Nat.mul_comm]

/-- A key at an index. -/
theorem keyR_at (S : FVec Ideal S1152x4608 .f32) (C : FVec Ideal S128x128x4x64 .f32) (b : Fin 128) (p : Fin 136) (a : Fin 4) (d : Fin 64) :
    keyR S C (ix4 b p a d) = row S C 4096 b p a d := by
  have h2 : 4096 + ((a : ℕ) * 64 + d) = 4096 + 64 * a + d := by omega
  pointwise [keyR, row, H_at]
  simp only [h2]

/-- A value at an index. -/
theorem valR_at (S : FVec Ideal S1152x4608 .f32) (C : FVec Ideal S128x128x4x64 .f32) (b : Fin 128) (p : Fin 136) (a : Fin 4) (d : Fin 64) :
    valR S C (ix4 b p a d) = row S C 4352 b p a d := by
  have h2 : 4352 + ((a : ℕ) * 64 + d) = 4352 + 64 * a + d := by omega
  pointwise [valR, row, H_at]
  simp only [h2]

/-- The pattern of minus infinity. -/
theorem ofBits_neg_inf : Ideal.ofBits .f32 0xFF800000#32 = ⊥ := by simp [Ideal.ofBits, Ideal.ieee]

/-- The conjunction of two bits. -/
theorem bit_and (a b : Bool) : IntOp.andi (BitVec.ofBool a) (BitVec.ofBool b) = 1#1 ↔ a = true ∧ b = true := by
  cases a <;> cases b <;> decide

/-- The condition of the reference's mask, on numbers. -/
theorem maskBit (n : Fin 8) (p : Fin 136) :
    IntOp.andi
        (IntOp.cmpi CmpIPredicate.sge (IntOp.subi (IntOp.addi (128#32) (BitVec.ofNat 32 ↑n)) (BitVec.ofNat 32 ↑p)) 0#32)
        (IntOp.cmpi CmpIPredicate.slt (IntOp.subi (IntOp.addi (128#32) (BitVec.ofNat 32 ↑n)) (BitVec.ofNat 32 ↑p)) 128#32) = 1#1
      ↔ (n : ℕ) < p ∧ (p : ℕ) ≤ n + 128 := by
  have hn := n.isLt
  have hp := p.isLt
  have e : IntOp.subi (IntOp.addi (128#32) (BitVec.ofNat 32 (n : ℕ))) (BitVec.ofNat 32 (p : ℕ)) = BitVec.ofInt 32 (128 + (n : ℤ) - (p : ℤ)) := by
    unfold IntOp.subi IntOp.addi
    apply BitVec.eq_of_toInt_eq
    have w : ∀ n : ℕ, n < 4096 → (BitVec.ofNat 32 n).toInt = (n : ℤ) := fun n h => by rw [BitVec.toInt_ofNat']; simp only [Int.bmod]; omega
    simp [BitVec.toInt_sub, BitVec.toInt_add, w n (by omega), w p (by omega)]
  have e2 : (BitVec.ofInt 32 (128 + (n : ℤ) - (p : ℤ))).toInt = 128 + (n : ℤ) - (p : ℤ) := by
    rw [BitVec.toInt_ofInt]; simp only [Int.bmod]; omega
  have z0 : (0#32 : BitVec 32).toInt = 0 := rfl
  have z1 : (128#32 : BitVec 32).toInt = 128 := rfl
  rw [e, WordCmp.cmpi_sge_eq, WordCmp.cmpi_slt_eq, e2, z0, z1, bit_and, decide_eq_true_iff, decide_eq_true_iff]
  omega

/-- A score before the mask and the scale. -/
def dotRow (S : FVec Ideal S1152x4608 .f32) (C : FVec Ideal S128x128x4x64 .f32) (b : Fin 128) (a : Fin 4) (e : Fin 8) (n : Fin 8) (p : Fin 136) : EReal :=
  ∑ k : Fin 64, row S C 4096 b p a k * S (ix2 ⟨8 * b + n, by omega⟩ ⟨512 * a + 64 * e + k, by omega⟩)

/-- A product of a query and a key. -/
theorem dotR_at (S : FVec Ideal S1152x4608 .f32) (C : FVec Ideal S128x128x4x64 .f32) (b : Fin 128) (a : Fin 4) (e : Fin 8) (n : Fin 8) (p : Fin 136) :
    dotR S C (ix5 b a e n p) = dotRow S C b a e n p := by
  have h2 : ∀ x : Fin 64, ((a : ℕ) * 512 + e * 64 + x) = 512 * a + 64 * e + x := fun x => by omega
  pointwise [dotR, H_at, keyR_at]
  unfold dotRow
  simp only [h2]

/-- The mask and the scale at an index. -/
theorem maskScale_at (D : FVec Ideal S128x4x8x8x136 .f32) (b : Fin 128) (a : Fin 4) (e : Fin 8) (n : Fin 8) (p : Fin 136) :
    maskScale D (ix5 b a e n p) = if (n : ℕ) < p ∧ (p : ℕ) ≤ n + 128 then D (ix5 b a e n p) * Ideal.ofBits .f32 0x3E000000#32 else ⊥ := by
  pointwise [maskScale]
  exact if_congr (maskBit n p) rfl ofBits_neg_inf

/-- A score of the reference. -/
theorem scoresR_at (S : FVec Ideal S1152x4608 .f32) (C : FVec Ideal S128x128x4x64 .f32) (b : Fin 128) (a : Fin 4) (e : Fin 8) (n : Fin 8) (p : Fin 136) :
    scoresR S C (ix5 b a e n p) = if (n : ℕ) < p ∧ (p : ℕ) ≤ n + 128 then dotRow S C b a e n p * Ideal.ofBits .f32 0x3E000000#32 else ⊥ := by
  unfold scoresR
  rw [maskScale_at, dotR_at]

/-- The maximum of a row, as a fold. -/
theorem rowMax_at (s : FVec Ideal S128x4x8x8x136 .f32) (c : FVec Ideal S_ .f32) (b : Fin 128) (a : Fin 4) (e : Fin 8) (n : Fin 8) :
    rowMax s c (ix4 b a e n) = Finset.univ.fold max (c (Shape.Idx.first h_S_)) fun p : Fin 136 => s (ix5 b a e n p) := by
  unfold rowMax
  simp only [pointwise]

/-- The maximum with the sink, at an index. -/
theorem withSink_at (M : FVec Ideal S128x4x8x8 .f32) (K : FVec Ideal S32 .f32) (b : Fin 128) (a : Fin 4) (e : Fin 8) (n : Fin 8) :
    withSink M K (ix5 b a e n 0) = max (M (ix4 b a e n)) (K (ix1 ⟨8 * a + e, by omega⟩)) := by
  have h1 : (a : ℕ) * 8 + e = 8 * a + e := by omega
  pointwise [withSink]
  simp only [h1]

/-- The maximum of a row of the reference's scores. -/
theorem maxR_at (S : FVec Ideal S1152x4608 .f32) (C : FVec Ideal S128x128x4x64 .f32) (K : FVec Ideal S32 .f32) (b : Fin 128) (a : Fin 4) (e : Fin 8) (n : Fin 8) :
    maxR S C K (ix5 b a e n 0) = max (Finset.univ.fold max ⊥ fun p => scoresR S C (ix5 b a e n p)) (K (ix1 ⟨8 * a + e, by omega⟩)) := by
  have hb : (constant (F := Ideal) S_ .f32 0xFF800000#32) (Shape.Idx.first h_S_) = ⊥ := ofBits_neg_inf
  unfold maxR
  rw [withSink_at, rowMax_at, hb]

/-- A numerator of the reference. -/
theorem expR_at (S : FVec Ideal S1152x4608 .f32) (C : FVec Ideal S128x128x4x64 .f32) (K : FVec Ideal S32 .f32) (b : Fin 128) (a : Fin 4) (e : Fin 8) (n : Fin 8) (p : Fin 136) :
    expR S C K (ix5 b a e n p) = Ideal.exp (scoresR S C (ix5 b a e n p) - maxR S C K (ix5 b a e n 0)) := by
  pointwise [expR]

/-- A denominator of the reference. -/
theorem denR_at (S : FVec Ideal S1152x4608 .f32) (C : FVec Ideal S128x128x4x64 .f32) (K : FVec Ideal S32 .f32) (b : Fin 128) (a : Fin 4) (e : Fin 8) (n : Fin 8) :
    denR S C K (ix5 b a e n 0) = (∑ p, expR S C K (ix5 b a e n p)) + Ideal.exp (K (ix1 ⟨8 * a + e, by omega⟩) - maxR S C K (ix5 b a e n 0)) := by
  have h1 : (a : ℕ) * 8 + e = 8 * a + e := by omega
  pointwise [denR]
  simp only [h1]

/-- The reference's attention at an index: a row of the softmax. -/
theorem attR_at (S : FVec Ideal S1152x4608 .f32) (C V : FVec Ideal S128x128x4x64 .f32) (K : FVec Ideal S32 .f32) (b : Fin 128) (a : Fin 4) (e : Fin 8) (n : Fin 8) (d : Fin 64) :
    attR S C V K (ix5 b a d e n)
      = AttnMath.referenceRow (fun p => scoresR S C (ix5 b a e n p)) (fun p => row S V 4352 b p a d) (K (ix1 ⟨8 * a + e, by omega⟩)) := by
  pointwise [attR, valR_at, expR_at, denR_at, maxR_at]
  rfl

/-- The heads joined, at an index. -/
theorem joinR_at (S : FVec Ideal S1152x4608 .f32) (C V : FVec Ideal S128x128x4x64 .f32) (K : FVec Ideal S32 .f32) (b : Fin 128) (a : Fin 4) (e : Fin 8) (n : Fin 8) (d : Fin 64) :
    joinR S C V K (ix3 b n ⟨512 * a + 64 * e + d, by omega⟩) = attR S C V K (ix5 b a d e n) := by
  pointwise [joinR]

/-- The gate at an index. -/
theorem gateR_at (S : FVec Ideal S1152x4608 .f32) (b : Fin 128) (n : Fin 8) (q : Fin 2048) :
    gateR S (ix3 b n q)
      = S (ix2 ⟨8 * b + n, by omega⟩ ⟨2048 + q, by omega⟩) * Ideal.logistic (S (ix2 ⟨8 * b + n, by omega⟩ ⟨2048 + q, by omega⟩)) := by
  pointwise [gateR, H_at]
  rfl

/-- The last product at an index. -/
theorem gated_at (J G : FVec Ideal S128x8x2048 .f32) (b : Fin 128) (n : Fin 8) (q : Fin 2048) :
    gated J G (ix2 ⟨8 * b + n, by omega⟩ q) = J (ix3 b n q) * G (ix3 b n q) := by
  pointwise [gated]

end Cert.ReferenceStepIdeal.Hand

end
-- ==== Proof.StepEq.lean ====
/- The kernel's softmax row of a sample over its 136 keys is the reference's. -/
module

public import proofs.«01_k».proof.Proof.AttnEq
public import proofs.«01_k».proof.Proof.StepRef
public import proofs.«01_k».proof.Proof.Gen.KernelStepIdeal.Skeleton

@[expose] public section

set_option maxRecDepth 16384

noncomputable section

namespace Cert.StepEq

open Idealize.ShloMosaic Cert.ReferenceStepIdeal Cert.ReferenceStepIdeal.Hand Cert.AttnEq

/-- Whether a position sees a key. -/
abbrev ok (n : Fin 8) (j : Fin 136) : Prop := (n : ℕ) < j ∧ (j : ℕ) ≤ n + 128

/-- The scale of the kernel's scores. -/
theorem scale_val : (Named.named Cert.KernelStepIdeal.κ "scale_log2e" 0x3E38AA3B#32 : Ideal .f32) = (((1 / 8) * AttnMath.L : ℝ) : EReal) := rfl

/-- The scale of the kernel's sinks. -/
theorem log_val : (Named.named Cert.KernelStepIdeal.κ "log2e" 0x3FB8AA3B#32 : Ideal .f32) = ((AttnMath.L : ℝ) : EReal) := rfl

/-- What the claim's precondition says of the arguments, element by element. -/
structure FinStep (S : FVec Ideal S1152x4608 .f32) (C : FVec Ideal S128x128x4x64 .f32) (K : FVec Ideal S32 .f32) : Prop where
  q : ∀ (R : Fin 1152) (n : Fin 4608), (R : ℕ) < 1024 → (n : ℕ) < 2048 → IsReal (S (ix2 R n))
  k : ∀ (R : Fin 1152) (n : Fin 4608), (R : ℕ) < 1024 → 4096 ≤ (n : ℕ) → (n : ℕ) < 4352 → IsReal (S (ix2 R n))
  c : ∀ (b p : Fin 128) (a : Fin 4) (d : Fin 64), 0 < (p : ℕ) → IsReal (C (ix4 b p a d))
  s : ∀ h : Fin 32, IsReal (K (ix1 h))

/-- The kernel's row of scores. -/
def scoreS (S : FVec Ideal S1152x4608 .f32) (C : FVec Ideal S128x128x4x64 .f32) (b : Fin 128) (a : Fin 4) (e : Fin 8) (n : Fin 8) (j : Fin 136) : EReal :=
  (∑ k : Fin 64, row S C 4096 b j a k * (S (ix2 ⟨8 * b + n, by omega⟩ ⟨512 * a + 64 * e + k, by omega⟩) * (Named.named Cert.KernelStepIdeal.κ "scale_log2e" 0x3E38AA3B#32 : Ideal .f32)))
    + (if ok n j then 0 else ⊥)

/-- The kernel's row is the reference's row. -/
theorem cell (S : FVec Ideal S1152x4608 .f32) (C V : FVec Ideal S128x128x4x64 .f32) (K : FVec Ideal S32 .f32) (F : FinStep S C K)
    (b : Fin 128) (a : Fin 4) (e : Fin 8) (n : Fin 8) (d : Fin 64) :
    AttnMath.stepRow (scoreS S C b a e n) (fun j => row S V 4352 b j a d)
      (K (ix1 ⟨8 * a + e, by omega⟩) * (Named.named Cert.KernelStepIdeal.κ "log2e" 0x3FB8AA3B#32 : Ideal .f32))
    = AttnMath.referenceRow (fun p => scoresR S C (ix5 b a e n p)) (fun p => row S V 4352 b p a d) (K (ix1 ⟨8 * a + e, by omega⟩)) := by
  have hrow : ∀ (p : Fin 136) (k : Fin 64), ok n p → IsReal (row S C 4096 b p a k) := fun p k h0 => by
    unfold row
    by_cases hp : (p : ℕ) < 128
    · rw [dif_pos hp]; exact F.c _ _ _ _ (Nat.lt_of_le_of_lt (Nat.zero_le _) h0.1)
    · rw [dif_neg hp]; exact F.k _ _ (by dsimp only; omega) (Nat.le_trans (Nat.le_add_right 4096 _) (Nat.le_add_right _ _)) (show 4096 + 64 * (a : ℕ) + k < 4352 by omega)
  have hq : ∀ k : Fin 64, IsReal (S (ix2 ⟨8 * b + n, by omega⟩ ⟨512 * a + 64 * e + k, by omega⟩)) := fun k => F.q _ _ (by dsimp only; omega) (by dsimp only; omega)
  have both := AttnMath.row_both id (ok n) (fun _ _ _ _ h => h) (scoreS S C b a e n) (fun j => row S V 4352 b j a d)
    (fun p => scoresR S C (ix5 b a e n p)) (fun p => row S V 4352 b p a d)
    (K (ix1 ⟨8 * a + e, by omega⟩) * (Named.named Cert.KernelStepIdeal.κ "log2e" 0x3FB8AA3B#32 : Ideal .f32)) (K (ix1 ⟨8 * a + e, by omega⟩))
    (K (ix1 ⟨8 * a + e, by omega⟩)).toReal
    (fun p => (∑ k : Fin 64, (row S C 4096 b p a k).toReal * (S (ix2 ⟨8 * b + n, by omega⟩ ⟨512 * a + 64 * e + k, by omega⟩)).toReal) * (1 / 8))
    ?_ ?_ ?_ ?_ ?_ ?_ ?_
  · rw [AttnMath.stepRow_eq _ _ _ both.2]
    exact both.1
  · rw [log_val, EReal.coe_mul, (F.s _).coe]
  · exact ((F.s _).coe).symm
  · intro j hj
    unfold scoreS
    rw [if_neg hj, EReal.add_bot]
  · intro p hp
    rw [scoresR_at, if_neg fun h => hp p h rfl]
  · intro j hj
    unfold scoreS
    rw [if_pos hj, add_zero, scale_val]
    have e1 : ∀ k : Fin 64, row S C 4096 b j a k * (S (ix2 ⟨8 * b + n, by omega⟩ ⟨512 * a + 64 * e + k, by omega⟩) * (((1 / 8) * AttnMath.L : ℝ) : EReal))
        = (row S C 4096 b j a k * (((1 / 8) * AttnMath.L : ℝ) : EReal)) * S (ix2 ⟨8 * b + n, by omega⟩ ⟨512 * a + 64 * e + k, by omega⟩) := fun k => by ac_rfl
    rw [Finset.sum_congr rfl fun k _ => e1 k, sum_scaled _ _ (fun k => hrow j k hj) hq, mul_assoc]
    rfl
  · intro j hj
    show scoresR S C (ix5 b a e n j) = _
    rw [scoresR_at, if_pos hj, ofBits_eighth]
    unfold dotRow
    rw [sum_real _ _ (fun k => hrow j k hj) hq, ← EReal.coe_mul]
    rfl
  · intro j hj
    rfl

end Cert.StepEq

end
-- ==== Proof.StepAt.lean ====
/- The samples' attention of one sequence at one index of its result. -/
module

public import proofs.«01_k».proof.Proof.StepBlock
public import proofs.«01_k».proof.Proof.StepEq

@[expose] public section

set_option maxRecDepth 16384

noncomputable section

namespace Cert.KernelStepIdeal.Hand

open Cert.KernelStepIdeal Cert.KernelStepIdeal.Gen Idealize.ShloMosaic Idealize.ShloMosaic.TcCoe Idealize.SL.Sem

/-- A turned pair of heads at an index. -/
theorem turn_at (x : FVec Ideal S8x128 .f32) (n : Fin 8) (l : Fin 128) : turn x (ix2 n l) = x (ix2 n ⟨(l + 64) % 128, by omega⟩) := by
  have e : ((l : ℕ) + 128 - 64) % 128 = (l + 64) % 128 := by omega
  pointwise [turn]
  simp only [e]

/-- A pair of heads' columns of the queries at an index. -/
theorem tile_at (q : FVec Ideal S8x2048 .f32) (j : Fin 16) (n : Fin 8) (l : Fin 128) : tile q j (ix2 n l) = q (ix2 n ⟨128 * j + l, by omega⟩) := by
  pointwise [tile]

/-- Whether a column belongs to the first head of a pair, as a bit. -/
theorem lane_bit : ∀ l : Fin 128, IntOp.cmpi CmpIPredicate.slt (BitVec.ofNat 32 (l : ℕ)) 64#32 = if (l : ℕ) < 64 then 1#1 else 0#1 := by decide +kernel

/-- A choice between two arrays by the head of a pair. -/
theorem lane_at (x y : FVec Ideal S8x128 .f32) (n : Fin 8) (l : Fin 128) : select k0_pay2 x y (ix2 n l) = if (l : ℕ) < 64 then x (ix2 n l) else y (ix2 n l) := by
  pointwise [k0_pay2]
  rw [lane_bit]
  by_cases h : (l : ℕ) < 64
  · rw [if_pos h, if_pos h]; rfl
  · rw [if_neg h, if_neg h]; rfl

/-- The zeros beside a head. -/
theorem zeros_at (n : Fin 8) (l : Fin 128) : zeros (ix2 n l) = 0 := by
  pointwise [zeros]

/-- The zeros beside a pair of heads' columns. -/
theorem pay3_at (n : Fin 8) (l : Fin 128) : k0_pay3 (F := Ideal) (ix2 n l) = 0 := by
  pointwise [k0_pay3]

/-- The position of a score's column, from the remainder the kernel takes of it. -/
theorem posBit : ∀ c : Fin 256, Scalar.select (IntOp.andi (IntOp.xori (IntOp.cmpi CmpIPredicate.slt (IntOp.remsi ArithUnit.vector (BitVec.ofNat 32 (c : ℕ)) (Scalar.select (Scalar.cmpi CmpIPredicate.eq 8#32 0#32) 1#32 8#32)) 0#32) (Scalar.cmpi CmpIPredicate.slt (Scalar.select (Scalar.cmpi CmpIPredicate.eq 8#32 0#32) 1#32 8#32) 0#32))
      (IntOp.cmpi CmpIPredicate.ne (IntOp.remsi ArithUnit.vector (BitVec.ofNat 32 (c : ℕ)) (Scalar.select (Scalar.cmpi CmpIPredicate.eq 8#32 0#32) 1#32 8#32)) 0#32)) (IntOp.addi (IntOp.remsi ArithUnit.vector (BitVec.ofNat 32 (c : ℕ)) (Scalar.select (Scalar.cmpi CmpIPredicate.eq 8#32 0#32) 1#32 8#32)) (Scalar.select (Scalar.cmpi CmpIPredicate.eq 8#32 0#32) 1#32 8#32)) (IntOp.remsi ArithUnit.vector (BitVec.ofNat 32 (c : ℕ)) (Scalar.select (Scalar.cmpi CmpIPredicate.eq 8#32 0#32) 1#32 8#32)) = BitVec.ofNat 32 ((c : ℕ) % 8) := by decide +kernel

/-- Whether a position sees a key, as a bit. -/
theorem seenBit : ∀ (j : Fin 136) (n : Fin 8), IntOp.andi (IntOp.cmpi CmpIPredicate.sge (BitVec.ofNat 32 (j : ℕ)) (IntOp.addi (BitVec.ofNat 32 (n : ℕ)) 1#32))
      (IntOp.cmpi CmpIPredicate.sle (BitVec.ofNat 32 (j : ℕ)) (IntOp.addi (128#32) (BitVec.ofNat 32 (n : ℕ)))) = if (n : ℕ) < j ∧ (j : ℕ) ≤ n + 128 then 1#1 else 0#1 := by decide +kernel

/-- The kernel's mask at an index. -/
theorem mask_at (j : Fin 136) (c : Fin 256) :
    k0_pay1 (F := Ideal) (ix2 j c) = if ((c : ℕ) % 8) < j ∧ (j : ℕ) ≤ (c : ℕ) % 8 + 128 then 0 else ⊥ := by
  have hb : Ideal.ofBits .f32 0xFF800000#32 = ⊥ := by simp [Ideal.ofBits, Ideal.ieee]
  have hs := seenBit j ⟨(c : ℕ) % 8, by omega⟩
  dsimp only at hs
  pointwise [k0_pay1]
  rw [posBit c, hs, hb]
  by_cases h : (c : ℕ) % 8 < j ∧ (j : ℕ) ≤ (c : ℕ) % 8 + 128
  · rw [if_pos h, if_pos h]; rfl
  · rw [if_neg h, if_neg h]; rfl

/-- The maximum of a column of scores and its sink. -/
theorem max_at (s : FVec Ideal S136x256 .f32) (k : FVec Ideal S1x256 .f32) (c : Fin 256) :
    maxS s k (ix2 0 c) = max (Finset.univ.fold max ⊥ fun j : Fin 136 => s (ix2 j c)) (k (ix2 0 c)) := by
  have hb : Ideal.ofBits .f32 0xFF800000#32 = ⊥ := by simp [Ideal.ofBits, Ideal.ieee]
  pointwise [maxS]
  rw [hb]

/-- A power of two at an index. -/
theorem exp_at (s : FVec Ideal S136x256 .f32) (k : FVec Ideal S1x256 .f32) (j : Fin 136) (c : Fin 256) :
    expS s k (ix2 j c) = Ideal.exp2 (s (ix2 j c) - maxS s k (ix2 0 c)) := by
  pointwise [expS]
  rfl

/-- A reciprocal at an index. -/
theorem rec_at (s : FVec Ideal S136x256 .f32) (k : FVec Ideal S1x256 .f32) (c : Fin 256) :
    recS s k (ix2 0 c) = Ideal.div 1 ((∑ j : Fin 136, expS s k (ix2 j c)) + Ideal.exp2 (k (ix2 0 c) - maxS s k (ix2 0 c))) := by
  pointwise [recS]
  rfl

/-- A weight at an index. -/
theorem weight_at (s : FVec Ideal S136x256 .f32) (k : FVec Ideal S1x256 .f32) (j : Fin 136) (c : Fin 256) :
    weightS s k (ix2 j c) = expS s k (ix2 j c) * recS s k (ix2 0 c) := by
  pointwise [weightS]

/-- A weighted sum of values. -/
theorem sum_at (w v : FVec Ideal S136x256 .bf16) (r c : Fin 256) :
    sumS w v (ix2 r c) = ∑ j : Fin 136, w (ix2 j r) * v (ix2 j c) := by
  pointwise [sumS]

/-- A key or value of a sequence at an index. -/
theorem all_at (c : Vec Ideal S1x128x256 .f32) (n : Vec Ideal S8x256 .f32) (j : Fin 136) (k : Fin 256) :
    allS c n (ix2 j k) = if h : (j : ℕ) < 128 then c (ix3 0 ⟨j, h⟩ k) else n (ix2 ⟨j - 128, by omega⟩ k) := by
  pointwise [allS]

/-- A score over the columns of all key heads. -/
theorem scores_at (k : FVec Ideal S136x256 .bf16) (q : FVec Ideal S8x2048 .f32) (j : Fin 136) (c : Fin 256) :
    scoresS k q (ix2 j c) = ∑ l : Fin 256, k (ix2 j l) * rows q (ix2 c l) := by
  pointwise [scoresS]

/-- A scaled query. -/
theorem scaled_at (q : FVec Ideal S8x2048 .f32) (n : Fin 8) (l : Fin 2048) : scaled q (ix2 n l) = q (ix2 n l) * (Named.named κ "scale_log2e" 0x3E38AA3B#32 : Ideal .f32) := by
  pointwise [scaled]

/-- A masked score. -/
theorem masked_at (s : FVec Ideal S136x256 .f32) (j : Fin 136) (c : Fin 256) : maskedS s (ix2 j c) = s (ix2 j c) + k0_pay1 (F := Ideal) (ix2 j c) := by
  pointwise [maskedS]

/-- A head's queries, turned where its key head lies in the other half. -/
theorem src_at (q : FVec Ideal S8x2048 .f32) (h : Fin 32) (n : Fin 8) (l : Fin 128) :
    (if (h : ℕ) % 2 = h / 8 % 2 then tile q ⟨h / 2, by omega⟩ else turn (tile q ⟨h / 2, by omega⟩)) (ix2 n l)
      = q (ix2 n ⟨128 * (h / 2) + (l + 64 * ((h + h / 8) % 2)) % 128, by omega⟩) := by
  by_cases hh : (h : ℕ) % 2 = h / 8 % 2
  · rw [if_pos hh, tile_at]
    congr 2; apply Fin.ext; dsimp only; omega
  · rw [if_neg hh, turn_at, tile_at]
    congr 2; apply Fin.ext; dsimp only; omega

/-- A pair of columns followed by zeros. -/
theorem cat0_at (x : FVec Ideal S8x128 .f32) (n : Fin 8) (l : Fin 256) :
    concatenate S8x256 1 [⟨S8x128, x⟩, ⟨S8x128, k0_pay3 (F := Ideal)⟩] concatenates_S8x128_S8x128_S8x256_d1 (ix2 n l)
      = if h : (l : ℕ) < 128 then x (ix2 n ⟨l, h⟩) else 0 := by
  pointwise [pay3_at]

/-- A pair of columns after zeros. -/
theorem cat1_at (x : FVec Ideal S8x128 .f32) (n : Fin 8) (l : Fin 256) :
    concatenate S8x256 1 [⟨S8x128, k0_pay3 (F := Ideal)⟩, ⟨S8x128, x⟩] concatenates_S8x128_S8x128_S8x256_d1 (ix2 n l)
      = if h : (l : ℕ) < 128 then 0 else x (ix2 n ⟨l - 128, by omega⟩) := by
  pointwise [pay3_at]

/-- A head's queries in the half of its key head. -/
theorem half_at (x : FVec Ideal S8x128 .f32) (h : Fin 32) (n : Fin 8) (l : Fin 128) :
    (if (h : ℕ) / 8 % 2 = 0 then select k0_pay2 x zeros else select k0_pay2 zeros x) (ix2 n l)
      = if (l : ℕ) / 64 = h / 8 % 2 then x (ix2 n l) else 0 := by
  by_cases hh : (h : ℕ) / 8 % 2 = 0
  · rw [if_pos hh, lane_at, zeros_at]
    exact if_congr (by omega) rfl rfl
  · rw [if_neg hh, lane_at, zeros_at]
    by_cases hl : (l : ℕ) < 64
    · rw [if_pos hl, if_neg (by omega)]
    · rw [if_neg hl, if_pos (by omega)]

/-- A head's queries at the columns of its key head, zeros elsewhere. -/
theorem grp_at (q : FVec Ideal S8x2048 .f32) (h : Fin 32) (n : Fin 8) (l : Fin 256) :
    grp q h (ix2 n l) = if (l : ℕ) / 64 = h / 8 then q (ix2 n ⟨64 * h + l % 64, by omega⟩) else 0 := by
  have hl := l.isLt
  have hh := h.isLt
  unfold grp
  by_cases h1 : (h : ℕ) / 16 = 0
  · rw [if_pos h1, cat0_at]
    by_cases h2 : (l : ℕ) < 128
    · rw [dif_pos h2, half_at, src_at]
      by_cases h3 : (l : ℕ) / 64 = h / 8
      · rw [if_pos h3, if_pos (by dsimp only; omega)]
        congr 2; apply Fin.ext; dsimp only; omega
      · rw [if_neg h3, if_neg (by dsimp only; omega)]
    · rw [dif_neg h2, if_neg (by omega)]
  · rw [if_neg h1, cat1_at]
    by_cases h2 : (l : ℕ) < 128
    · rw [dif_pos h2, if_neg (by omega)]
    · rw [dif_neg h2, half_at, src_at]
      by_cases h3 : (l : ℕ) / 64 = h / 8
      · rw [if_pos h3, if_pos (by dsimp only; omega)]
        congr 2; apply Fin.ext; dsimp only; omega
      · rw [if_neg h3, if_neg (by dsimp only; omega)]

/-- The first head of a pair's rows of the result. -/
theorem cut0_at (o : FVec Ideal S256x256 .f32) (j : Fin 16) (n : Fin 8) (l : Fin 128) :
    extractStridedSlice S8x128 ![16 * (j : ℕ), 128 * ((j : ℕ) / 8)] o (cut_in0 j) (ix2 n l) = o (ix2 ⟨16 * j + n, by omega⟩ ⟨128 * (j / 8) + l, by omega⟩) := by
  pointwise

/-- The second head of a pair's rows of the result. -/
theorem cut1_at (o : FVec Ideal S256x256 .f32) (j : Fin 16) (n : Fin 8) (l : Fin 128) :
    extractStridedSlice S8x128 ![16 * (j : ℕ) + 8, 128 * ((j : ℕ) / 8)] o (cut_in1 j) (ix2 n l) = o (ix2 ⟨16 * j + 8 + n, by omega⟩ ⟨128 * (j / 8) + l, by omega⟩) := by
  pointwise

/-- A pair of heads' columns of the result. -/
theorem pair_at (o : FVec Ideal S256x256 .f32) (j : Fin 16) (n : Fin 8) (l : Fin 128) :
    pair o j (ix2 n l) = o (ix2 ⟨16 * j + 8 * (l / 64) + n, by omega⟩ ⟨64 * (j / 4) + l % 64, by omega⟩) := by
  have hl := l.isLt
  have hj := j.isLt
  unfold pair
  by_cases h1 : (j : ℕ) / 4 % 2 = 0
  · rw [if_pos h1, lane_at]
    by_cases h2 : (l : ℕ) < 64
    · rw [if_pos h2, cut0_at]
      congr 2 <;> apply Fin.ext <;> dsimp only <;> omega
    · rw [if_neg h2, turn_at, cut1_at]
      congr 2 <;> apply Fin.ext <;> dsimp only <;> omega
  · rw [if_neg h1, lane_at]
    by_cases h2 : (l : ℕ) < 64
    · rw [if_pos h2, turn_at, cut0_at]
      congr 2 <;> apply Fin.ext <;> dsimp only <;> omega
    · rw [if_neg h2, cut1_at]
      congr 2 <;> apply Fin.ext <;> dsimp only <;> omega

/-- The queries of all heads at an index. -/
theorem rows_at (q : FVec Ideal S8x2048 .f32) (h : Fin 32) (n : Fin 8) (l : Fin 256) :
    rows q (ix2 ⟨8 * h + n, by omega⟩ l) = if (l : ℕ) / 64 = h / 8 then q (ix2 n ⟨64 * h + l % 64, by omega⟩) else 0 := by
  rw [← grp_at]
  show concatenate S256x256 0 (List.ofFn fun h : Fin 32 => ⟨S8x256, grp q h⟩)
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0 (ix2 ⟨8 * h + n, by omega⟩ l) = _
  refine concatenate_ofFn_apply (t := S256x256) (s₁ := S8x256) 0 (grp q) _ rfl 8 rfl (ix2 ⟨8 * h + n, by omega⟩ l) h ?_ (ix2 n l) ?_ ?_
  · show (8 * (h : ℕ) + n) / 8 = h; omega
  · show (n : ℕ) = (8 * (h : ℕ) + n) % 8; omega
  · intro b hb
    fin_cases b
    · exact absurd rfl hb
    · rfl

/-- A score over the columns of the head's own key head. -/
theorem score_at (k : FVec Ideal S136x256 .bf16) (q : FVec Ideal S8x2048 .f32) (j : Fin 136) (h : Fin 32) (n : Fin 8) :
    scoresS k q (ix2 j ⟨8 * h + n, by omega⟩) = ∑ x : Fin 64, k (ix2 j ⟨64 * (h / 8) + x, by omega⟩) * q (ix2 n ⟨64 * h + x, by omega⟩) := by
  rw [scores_at]
  simp only [rows_at]
  refine AttnMath.sum_band (fun l : Fin 256 => (⟨l % 64, by omega⟩ : Fin 64)) (fun l => (l : ℕ) / 64 = h / 8) ?_ _ _ ?_ ?_ ?_
  · intro a b ha hb e
    have := congrArg Fin.val e
    dsimp only at this ha hb
    apply Fin.ext; omega
  · intro l hl
    rw [if_neg hl]; exact mul_zero _
  · intro p hp
    refine absurd ?_ (hp ⟨64 * (h / 8) + p, by omega⟩ (by dsimp only; omega))
    apply Fin.ext; dsimp only; omega
  · intro l hl
    rw [if_pos hl]
    congr 3
    apply Fin.ext; dsimp only; omega

/-- The heads of the result, joined. -/
theorem joined_at (o : FVec Ideal S256x256 .f32) (n : Fin 8) (j : Fin 16) (l : Fin 128) :
    concatenate S8x2048 1 (List.ofFn fun j : Fin 16 => ⟨S8x128, pair o j⟩)
      concatenates_S8x128_S8x128_S8x128_S8x128_S8x128_S8x128_S8x128_S8x128_S8x128_S8x128_S8x128_S8x128_S8x128_S8x128_S8x128_S8x128_S8x2048_d1 (ix2 n ⟨128 * j + l, by omega⟩)
      = pair o j (ix2 n l) := by
  refine concatenate_ofFn_apply (t := S8x2048) (s₁ := S8x128) 1 (pair o) _ rfl 128 rfl (ix2 n ⟨128 * j + l, by omega⟩) j ?_ (ix2 n l) ?_ ?_
  · show (128 * (j : ℕ) + l) / 128 = j; omega
  · show (l : ℕ) = (128 * (j : ℕ) + l) % 128; omega
  · intro b hb
    fin_cases b
    · rfl
    · exact absurd rfl hb

/-- The gated result at an index. -/
theorem out_at (o : FVec Ideal S256x256 .f32) (g : FVec Ideal S8x2048 .f32) (n : Fin 8) (h : Fin 32) (d : Fin 64) :
    outS o g (ix2 n ⟨64 * h + d, by omega⟩) = o (ix2 ⟨8 * h + n, by omega⟩ ⟨64 * (h / 8) + d, by omega⟩)
      * (g (ix2 n ⟨64 * h + d, by omega⟩) * Ideal.logistic (g (ix2 n ⟨64 * h + d, by omega⟩))) := by
  have e := joined_at o n ⟨h / 2, by omega⟩ ⟨64 * (h % 2) + d, by omega⟩
  rw [pair_at] at e
  have e1 : (⟨128 * ((h : ℕ) / 2) + (64 * (h % 2) + d), by omega⟩ : Fin 2048) = ⟨64 * h + d, by omega⟩ := by apply Fin.ext; dsimp only; omega
  have e2 : (⟨16 * ((h : ℕ) / 2) + 8 * ((64 * (h % 2) + d) / 64) + n, by omega⟩ : Fin 256) = ⟨8 * h + n, by omega⟩ := by apply Fin.ext; dsimp only; omega
  have e3 : (⟨64 * ((h : ℕ) / 2 / 4) + (64 * (h % 2) + d) % 64, by omega⟩ : Fin 256) = ⟨64 * (h / 8) + d, by omega⟩ := by apply Fin.ext; dsimp only; omega
  dsimp only at e
  rw [e1, e2, e3] at e
  rw [← e]
  rfl

/-- What the kernel stores for a sequence, at an index: a row of the softmax times the gate. -/
theorem seq_at (ck cv : Vec Ideal S1x128x256 .f32) (kn vn : Vec Ideal S8x256 .f32) (q g : FVec Ideal S8x2048 .f32) (k : FVec Ideal S1x256 .f32)
    (n : Fin 8) (h : Fin 32) (d : Fin 64) :
    seqS ck cv kn vn q g k (ix2 n ⟨64 * h + d, by omega⟩)
      = AttnMath.stepRow (fun j : Fin 136 => (∑ x : Fin 64, allS ck kn (ix2 j ⟨64 * (h / 8) + x, by omega⟩) * (q (ix2 n ⟨64 * h + x, by omega⟩) * (Named.named κ "scale_log2e" 0x3E38AA3B#32 : Ideal .f32)))
            + if (n : ℕ) < j ∧ (j : ℕ) ≤ n + 128 then 0 else ⊥)
          (fun j => allS cv vn (ix2 j ⟨64 * (h / 8) + d, by omega⟩)) (k (ix2 0 ⟨8 * h + n, by omega⟩))
        * (g (ix2 n ⟨64 * h + d, by omega⟩) * Ideal.logistic (g (ix2 n ⟨64 * h + d, by omega⟩))) := by
  have hn : (8 * (h : ℕ) + n) % 8 = n := by omega
  unfold seqS
  rw [out_at, sum_at]
  simp only [weight_at, rec_at, exp_at, max_at, masked_at, mask_at, score_at, scaled_at, hn]
  rfl

end Cert.KernelStepIdeal.Hand

end
-- ==== Proof.StepOut.lean ====
/- The gated output of a block of the samples' attention, one formula for all its 32 sequences. -/
module

public import proofs.«01_k».proof.Proof.StepRows
public import proofs.«01_k».proof.Proof.StepAt

@[expose] public section

set_option maxRecDepth 16384

noncomputable section

namespace Cert.KernelStepIdeal.Hand

open Idealize.ShloMosaic.Tactic Cert.KernelStepIdeal Cert.KernelStepIdeal.Gen Idealize.ShloMosaic Idealize.ShloMosaic.TcCoe Idealize.SL.Sem

/-- The old positions of a block's sequence. -/
def oldOf (x : Vec Ideal S32x128x256 .f32) (s : Fin 32) : Vec Ideal S1x128x256 .f32 := fun z => x (ix3 s (z 1) (z 2))

/-- The new rows of a block's sequence. -/
def newOf (x : Vec Ideal S256x256 .f32) (s : Fin 32) : Vec Ideal S8x256 .f32 := fun z =>
  x (ix2 ⟨8 * (s : ℕ) + (z 0 : ℕ), by have h0 : (z 0 : ℕ) < 8 := (z 0).isLt; omega⟩ (z 1))

/-- The query rows or gate rows of a block's sequence. -/
def wideOf (x : Vec Ideal S256x2048 .f32) (s : Fin 32) : FVec Ideal S8x2048 .f32 := fun z =>
  x (ix2 ⟨8 * (s : ℕ) + (z 0 : ℕ), by have h0 : (z 0 : ℕ) < 8 := (z 0).isLt; omega⟩ (z 1))

/-- The rows of a block's sequence, as a function of the block's inputs. -/
def seqB (v32 : Vec Ideal S1x256 .f32) (x0 x1 : Vec Ideal S256x2048 .f32) (x2 x3 : Vec Ideal S256x256 .f32) (x4 x5 : Vec Ideal S32x128x256 .f32) (s : Fin 32) : FVec Ideal S8x2048 .bf16 :=
  seqS (oldOf x4 s) (oldOf x5 s) (newOf x2 s) (newOf x3 s) (wideOf x0 s) (wideOf x1 s) (k0_pay4 v32)

/-- The whole block's gated output: each row is one of its sequence's eight. -/
def OG (v32 : Vec Ideal S1x256 .f32) (x0 x1 : Vec Ideal S256x2048 .f32) (x2 x3 : Vec Ideal S256x256 .f32) (x4 x5 : Vec Ideal S32x128x256 .f32) : S256x2048.Idx → Elt Ideal .bf16 := fun y =>
  seqB v32 x0 x1 x2 x3 x4 x5 ⟨(y 0 : ℕ) / 8, by have h0 : (y 0 : ℕ) < 256 := (y 0).isLt; omega⟩ (ix2 ⟨(y 0 : ℕ) % 8, Nat.mod_lt _ (by omega)⟩ (y 1))

/-- The block's output at a row of a known sequence. -/
theorem og_at (v32 : Vec Ideal S1x256 .f32) (x0 x1 : Vec Ideal S256x2048 .f32) (x2 x3 : Vec Ideal S256x256 .f32) (x4 x5 : Vec Ideal S32x128x256 .f32) (y : S256x2048.Idx) (s : Fin 32) (z : S8x2048.Idx)
    (h0 : (y 0 : ℕ) = 8 * (s : ℕ) + z 0) (h1 : (y 1 : ℕ) = z 1) : OG v32 x0 x1 x2 x3 x4 x5 y = seqB v32 x0 x1 x2 x3 x4 x5 s z := by
  have hz : (z 0 : ℕ) < 8 := (z 0).isLt
  unfold OG
  have es : (⟨(y 0 : ℕ) / 8, by have h0 : (y 0 : ℕ) < 256 := (y 0).isLt; omega⟩ : Fin 32) = s := Fin.ext (by show (y 0 : ℕ) / 8 = s; omega)
  rw [es]
  congr 1
  funext i
  fin_cases i <;> apply Fin.ext
  · show (y 0 : ℕ) % 8 = z 0; omega
  · exact h1

/-- A load of a sequence's old positions. -/
theorem read_old (a : Memref sig .tc .vmem S32x128x256 .f32) (ha : a.IsWhole) (x : Vec Ideal S32x128x256 .f32) (s : Fin 32) (o : Fin 3 → ℕ)
    (h : ∀ i, o i + S1x128x256.size i ≤ S32x128x256.size i) (e : o = ![(s : ℕ), 0, 0]) :
    a.view.readAt (Elt Ideal) (Rect.unit (s := S32x128x256) o S1x128x256.size h).toLoadRect (ha.unread x) = oldOf x s := by
  subst e
  funext z
  erw [ha.readAt_unread]
  unfold oldOf
  have hz : (z 0 : ℕ) < 1 := (z 0).isLt
  pointwise

/-- A load of a sequence's new rows. -/
theorem read_new (a : Memref sig .tc .vmem S256x256 .f32) (ha : a.IsWhole) (x : Vec Ideal S256x256 .f32) (s : Fin 32) (o : Fin 2 → ℕ)
    (h : ∀ i, o i + S8x256.size i ≤ S256x256.size i) (e : o = ![8 * (s : ℕ), 0]) :
    a.view.readAt (Elt Ideal) (Rect.unit (s := S256x256) o S8x256.size h).toLoadRect (ha.unread x) = newOf x s := by
  subst e
  funext z
  erw [ha.readAt_unread]
  unfold newOf
  pointwise

/-- A load of a sequence's query rows or gate rows. -/
theorem read_wide (a : Memref sig .tc .vmem S256x2048 .f32) (ha : a.IsWhole) (x : Vec Ideal S256x2048 .f32) (s : Fin 32) (o : Fin 2 → ℕ)
    (h : ∀ i, o i + S8x2048.size i ≤ S256x2048.size i) (e : o = ![8 * (s : ℕ), 0]) :
    a.view.readAt (Elt Ideal) (Rect.unit (s := S256x2048) o S8x2048.size h).toLoadRect (ha.unread x) = wideOf x s := by
  subst e
  funext z
  erw [ha.readAt_unread]
  unfold wideOf
  pointwise

/-- Where a sequence's query rows, gate rows and output rows lie. -/
theorem off5 (k : Fin k0_t1_loop.trips) (r : Fin 8) : k0_off5 k (BitVec.ofNat 32 r.val) = ![8 * (8 * k.val + r.val), 0] := by
  rw [k0_off5_eq k r, show 64 * k.val + 8 * r.val = 8 * (8 * k.val + r.val) by omega]

section
variable (𝒱 : Variants) (c : Dev nD) (bd : Option 𝒱.V) (i : grid0.Coords) (arg1 : Memref sig .tc .vmem S256x2048 .f32) (harg1 : arg1.IsWhole) (arg2 : Memref sig .tc .vmem S256x2048 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S32x128x256 .f32) (harg5 : arg5.IsWhole) (arg6 : Memref sig .tc .vmem S32x128x256 .f32) (harg6 : arg6.IsWhole) (arg7 : Memref sig .tc .vmem S1x256 .f32) (harg7 : arg7.IsWhole) (arg8 : Memref sig .tc .vmem S256x2048 .bf16) (harg8 : arg8.IsWhole) (arg9 : Memref sig .tc .vmem S32x128x256 .f32) (harg9 : arg9.IsWhole) (arg10 : Memref sig .tc .vmem S32x128x256 .f32) (harg10 : arg10.IsWhole) (v32 : Vec Ideal S1x256 .f32)
  (x0 : Vec Ideal S256x2048 .f32) (x1 : Vec Ideal S256x2048 .f32) (x2 : Vec Ideal S256x256 .f32) (x3 : Vec Ideal S256x256 .f32) (x4 : Vec Ideal S32x128x256 .f32) (x5 : Vec Ideal S32x128x256 .f32)

/-- What a trip computes for a sequence depends on the sequence's parts of the block only. -/
theorem seqOf_eq (k : Fin k0_t1_loop.trips) (r : Fin 8) (s : Fin 32) (e : (s : ℕ) = 8 * k.val + r.val) :
    seqOf arg1 harg1 arg2 harg2 arg3 harg3 arg4 harg4 arg5 harg5 arg6 harg6 v32 x0 x1 x2 x3 x4 x5 k r = seqB v32 x0 x1 x2 x3 x4 x5 s := by
  unfold seqOf seqB
  rw [read_old arg5 harg5 x4 s _ _ (e ▸ off1 k r), read_old arg6 harg6 x5 s _ _ (e ▸ off1 k r), read_new arg3 harg3 x2 s _ _ (e ▸ off2 k r),
    read_new arg4 harg4 x3 s _ _ (e ▸ off2 k r), read_wide arg1 harg1 x0 s _ _ (e ▸ off5 k r), read_wide arg2 harg2 x1 s _ _ (e ▸ off5 k r)]

/-- What one trip stores into the gated output is a part of the block's formula. -/
theorem trip_og (k : Fin k0_t1_loop.trips) : ∀ p ∈ (trip_k0_t1 (F := Ideal) 𝒱 c bd i arg1 harg1 arg2 harg2 arg3 harg3 arg4 harg4 arg5 harg5 arg6 harg6 arg7 harg7 arg8 harg8 arg9 harg9 arg10 harg10 v32 (harg1.unread x0) (harg2.unread x1) (harg3.unread x2) (harg4.unread x3) (harg5.unread x4) (harg6.unread x5) k).1, ∀ x, p.2 x = OG v32 x0 x1 x2 x3 x4 x5 (p.1.emb x) := by
  refine trip_seq 𝒱 c bd i arg1 harg1 arg2 harg2 arg3 harg3 arg4 harg4 arg5 harg5 arg6 harg6 arg7 harg7 arg8 harg8 arg9 harg9 arg10 harg10 v32 x0 x1 x2 x3 x4 x5 k
    (fun p => ∀ x, p.2 x = OG v32 x0 x1 x2 x3 x4 x5 (p.1.emb x)) fun r x => ?_
  have hk : k.val < 4 := lt_of_lt_of_eq k.isLt (by decide +kernel)
  show seqOf arg1 harg1 arg2 harg2 arg3 harg3 arg4 harg4 arg5 harg5 arg6 harg6 v32 x0 x1 x2 x3 x4 x5 k r x = _
  rw [seqOf_eq (e := (rfl : ((⟨8 * k.val + r.val, by omega⟩ : Fin 32) : ℕ) = 8 * k.val + r.val))]
  refine (og_at _ _ _ _ _ _ _ _ _ _ ?_ ?_).symm
  all_goals simp only [ValueKit.rect_emb_unit_val, off5 k r]
  · rfl
  · show 0 + (x 1 : ℕ) = x 1; omega

/-- What the trips before `n` store into the gated output is a part of the block's formula. -/
theorem trips_og : ∀ n ≤ k0_t1_loop.trips, ∀ p ∈ (pb_k0_t1 (F := Ideal) 𝒱 c bd i arg1 harg1 arg2 harg2 arg3 harg3 arg4 harg4 arg5 harg5 arg6 harg6 arg7 harg7 arg8 harg8 arg9 harg9 arg10 harg10 v32 (harg1.unread x0) (harg2.unread x1) (harg3.unread x2) (harg4.unread x3) (harg5.unread x4) (harg6.unread x5) n).1, ∀ x, p.2 x = OG v32 x0 x1 x2 x3 x4 x5 (p.1.emb x)
  | 0, _ => fun p hp => absurd hp List.not_mem_nil
  | n + 1, h => by
    have ih := trips_og n (by omega)
    have e := pb_k0_t1_succ (F := Ideal) 𝒱 c bd i arg1 harg1 arg2 harg2 arg3 harg3 arg4 harg4 arg5 harg5 arg6 harg6 arg7 harg7 arg8 harg8 arg9 harg9 arg10 harg10 v32 (harg1.unread x0) (harg2.unread x1) (harg3.unread x2) (harg4.unread x3) (harg5.unread x4) (harg6.unread x5) ⟨n, by omega⟩
    dsimp only at e
    rw [e]
    intro p hp
    rcases List.mem_append.1 hp with hp | hp
    · exact trip_og 𝒱 c bd i arg1 harg1 arg2 harg2 arg3 harg3 arg4 harg4 arg5 harg5 arg6 harg6 arg7 harg7 arg8 harg8 arg9 harg9 arg10 harg10 v32 x0 x1 x2 x3 x4 x5 ⟨n, by omega⟩ p hp
    · exact ih p hp

/-- The gated output after the body is the block's formula. -/
theorem out_og (x6 : Vec Ideal S1x256 .f32) : out0_A_7 c i arg1 harg1 arg2 harg2 arg3 harg3 arg4 harg4 arg5 harg5 arg6 harg6 arg7 harg7 arg8 harg8 arg9 harg9 arg10 harg10 x0 x1 x2 x3 x4 x5 x6 = OG x6 x0 x1 x2 x3 x4 x5 := by
  unfold out0_A_7
  rw [View.read_writes_junk_eq_canon]
  funext y
  refine (View.canon_apply_of_pieces (OG _ x0 x1 x2 x3 x4 x5) _ (trips_og Variants.none c none i arg1 harg1 arg2 harg2 arg3 harg3 arg4 harg4 arg5 harg5 arg6 harg6 arg7 harg7 arg8 harg8 arg9 harg9 arg10 harg10 _ x0 x1 x2 x3 x4 x5 _ le_rfl) y (cover0_A_7 c i arg1 harg1 arg2 harg2 arg3 harg3 arg4 harg4 arg5 harg5 arg6 harg6 arg7 harg7 arg8 harg8 arg9 harg9 arg10 harg10 x0 x1 x2 x3 x4 x5 x6 y)).trans ?_
  refine congrArg (fun v => OG v x0 x1 x2 x3 x4 x5 y) ?_
  funext z
  erw [harg7.readAt_unread]
  pointwise
  refine congrArg x6 ?_
  funext i
  fin_cases i <;> apply Fin.ext
  · have hz : (z 0 : ℕ) < 1 := (z 0).isLt
    show 0 = (z 0 : ℕ); omega
  · rfl
end

end Cert.KernelStepIdeal.Hand

end
-- ==== Proof.ValueStepOut.lean ====
/- The gated output of the samples' attention in the second layer (`KernelStep`) is the reference's: an attention over each sequence's window, its sinks and its gate. -/
module

public import proofs.«01_k».proof.Proof.StepOut
public import proofs.«01_k».proof.Proof.StepEq
public import proofs.«01_k».proof.Proof.ValueStep

@[expose] public section

set_option maxRecDepth 16384

noncomputable section

namespace Cert.KernelStepIdeal.Hand

open Idealize.ShloMosaic.Tactic Cert.KernelStepIdeal Cert.KernelStepIdeal.Gen Idealize.ShloMosaic Idealize.ShloMosaic.TcCoe Idealize.SL.Sem
open Idealize.ShloMosaic.Pipeline (Dat)
open Cert.ReferenceStepIdeal.Hand (REFO row gated_at joinR_at attR_at gateR_at)
open Cert.StepEq (FinStep scoreS)

variable (m : (ℓ : Loc nD τ sig) → Buf (Elt Ideal) ℓ)

/-- The block indices of the queries, the gates, the sinks and the gated output, over the four grid points. -/
theorem idxO : ∀ t : Fin cfg0.N, win0_0.index t = ![t.val, 0] ∧ win0_1.index t = ![t.val, 1] ∧ win0_6.index t = ![0, 0] ∧ win0_7.index t = ![t.val, 0] :=
  (by decide +kernel : ∀ t : Fin grid0.N, _)

/-- A block of the queries, as the launch's argument holds it. -/
theorem rowQ (c : Dev nD) (t : Fin cfg0.N) (z : S256x2048.Idx) (j : S1152x4608.Idx) (h0 : (j 0 : ℕ) = t.val * 256 + z 0) (h1 : (j 1 : ℕ) = z 1) :
    X0_0 m c t z = m ((c : Thread nD τ).loc main_arg0) j := by
  have ht : t.val < 4 := lt_of_lt_of_eq t.isLt N_0
  unfold X0_0 Pipeline.Window.fill
  rw [dif_pos (moved0_0 t _)]
  blk_point [iblk, V, idxO t]

/-- A block of the gates, as the launch's argument holds it. -/
theorem rowG (c : Dev nD) (t : Fin cfg0.N) (z : S256x2048.Idx) (j : S1152x4608.Idx) (h0 : (j 0 : ℕ) = t.val * 256 + z 0) (h1 : (j 1 : ℕ) = 2048 + z 1) :
    X0_1 m c t z = m ((c : Thread nD τ).loc main_arg0) j := by
  have ht : t.val < 4 := lt_of_lt_of_eq t.isLt N_0
  unfold X0_1 Pipeline.Window.fill
  rw [dif_pos (moved0_1 t _)]
  blk_point [iblk, V, idxO t]

/-- The column of a head and a position holds the head's sink. -/
theorem blkS (c : Dev nD) (t : Fin cfg0.N) (z : S1x256.Idx) (j : S32.Idx) (h0 : (j 0 : ℕ) = (z 1 : ℕ) / 8) :
    iblk m c 6 t z = m ((c : Thread nD τ).loc main_arg3) j := by
  have hz : (z 0 : ℕ) < 1 := (z 0).isLt
  blk_point [iblk, V, idxO t]

/-- The scaled sinks at an index. -/
theorem sinks_at (v : Vec Ideal S1x256 .f32) (z : S1x256.Idx) :
    k0_pay4 v z = v z * (Named.named κ "log2e" 0x3FB8AA3B#32 : Ideal .f32) := by
  pointwise [k0_pay4]

/-- A sequence's keys in a block are the reference's. -/
theorem keys_row (c : Dev nD) (t : Fin cfg0.N) (s : Fin 32) (b : Fin 128) (hb : (b : ℕ) = t.val * 32 + s) (j : Fin 136) (a : Fin 4) (x : Fin 64) (k : Fin 256) (hk : (k : ℕ) = 64 * (a : ℕ) + x) :
    allS (oldOf (iblk m c 4 t) s) (newOf (X0_2 m c t) s) (ix2 j k) = row (m ((c : Thread nD τ).loc main_arg0)) (m ((c : Thread nD τ).loc main_arg1)) 4096 b j a x := by
  rw [all_at]
  unfold row
  by_cases h : (j : ℕ) < 128
  · rw [dif_pos h, dif_pos h]
    exact blkK m c t _ _ hb rfl hk.symm
  · rw [dif_neg h, dif_neg h]
    refine rowK m c t _ _ ?_ ?_
    · show 8 * (b : ℕ) + ((j : ℕ) - 128) = t.val * 256 + (8 * (s : ℕ) + ((j : ℕ) - 128)); omega
    · show 4096 + 64 * (a : ℕ) + (x : ℕ) = 4096 + (k : ℕ); omega

/-- A sequence's values in a block are the reference's. -/
theorem vals_row (c : Dev nD) (t : Fin cfg0.N) (s : Fin 32) (b : Fin 128) (hb : (b : ℕ) = t.val * 32 + s) (j : Fin 136) (a : Fin 4) (x : Fin 64) (k : Fin 256) (hk : (k : ℕ) = 64 * (a : ℕ) + x) :
    allS (oldOf (iblk m c 5 t) s) (newOf (X0_3 m c t) s) (ix2 j k) = row (m ((c : Thread nD τ).loc main_arg0)) (m ((c : Thread nD τ).loc main_arg2)) 4352 b j a x := by
  rw [all_at]
  unfold row
  by_cases h : (j : ℕ) < 128
  · rw [dif_pos h, dif_pos h]
    exact blkV m c t _ _ hb rfl hk.symm
  · rw [dif_neg h, dif_neg h]
    refine rowV m c t _ _ ?_ ?_
    · show 8 * (b : ℕ) + ((j : ℕ) - 128) = t.val * 256 + (8 * (s : ℕ) + ((j : ℕ) - 128)); omega
    · show 4352 + 64 * (a : ℕ) + (x : ℕ) = 4352 + (k : ℕ); omega

/-- A gated output of a block at a position of a sequence and a column of a head is the reference's. -/
theorem cellO (c : Dev nD) (F : FinStep (m ((c : Thread nD τ).loc main_arg0)) (m ((c : Thread nD τ).loc main_arg1)) (m ((c : Thread nD τ).loc main_arg3)))
    (t : Fin cfg0.N) (s : Fin 32) (b : Fin 128) (hb : (b : ℕ) = t.val * 32 + s) (n : Fin 8) (a : Fin 4) (e : Fin 8) (d : Fin 64) :
    seqB (iblk m c 6 t) (X0_0 m c t) (X0_1 m c t) (X0_2 m c t) (X0_3 m c t) (iblk m c 4 t) (iblk m c 5 t) s (ix2 n ⟨64 * (8 * (a : ℕ) + e) + d, by omega⟩)
      = REFO (m ((c : Thread nD τ).loc main_arg0)) (m ((c : Thread nD τ).loc main_arg1)) (m ((c : Thread nD τ).loc main_arg2)) (m ((c : Thread nD τ).loc main_arg3))
          (ix2 ⟨8 * (b : ℕ) + n, by omega⟩ ⟨512 * (a : ℕ) + 64 * e + d, by omega⟩) := by
  unfold seqB REFO
  rw [gated_at, joinR_at, attR_at, gateR_at, ← StepEq.cell _ _ _ _ F]
  refine (seq_at _ _ _ _ _ _ _ n ⟨8 * (a : ℕ) + e, by omega⟩ d).trans ?_
  have gate : wideOf (X0_1 m c t) s (ix2 n ⟨64 * (8 * (a : ℕ) + e) + d, by omega⟩)
      = (m ((c : Thread nD τ).loc main_arg0)) (ix2 ⟨8 * (b : ℕ) + n, by omega⟩ ⟨2048 + (512 * (a : ℕ) + 64 * e + d), by omega⟩) := by
    refine rowG m c t _ _ ?_ ?_
    · show 8 * (b : ℕ) + (n : ℕ) = t.val * 256 + (8 * (s : ℕ) + (n : ℕ)); omega
    · show 2048 + (512 * (a : ℕ) + 64 * (e : ℕ) + (d : ℕ)) = 2048 + (64 * (8 * (a : ℕ) + (e : ℕ)) + (d : ℕ)); omega
  have sink : k0_pay4 (iblk m c 6 t) (ix2 0 ⟨8 * (8 * (a : ℕ) + e) + n, by omega⟩)
      = HMul.hMul (α := EReal) (β := EReal) (γ := EReal) ((m ((c : Thread nD τ).loc main_arg3)) (ix1 ⟨8 * (a : ℕ) + e, by omega⟩)) (Named.named κ "log2e" 0x3FB8AA3B#32 : Ideal .f32) := by
    rw [sinks_at, blkS m c t _ (ix1 ⟨8 * (a : ℕ) + e, by omega⟩)]
    show 8 * (a : ℕ) + (e : ℕ) = (8 * (8 * (a : ℕ) + (e : ℕ)) + (n : ℕ)) / 8
    omega
  have vals : (fun j : Fin 136 => allS (oldOf (iblk m c 5 t) s) (newOf (X0_3 m c t) s) (ix2 j ⟨64 * ((8 * (a : ℕ) + e) / 8) + d, by omega⟩))
      = fun j => row (m ((c : Thread nD τ).loc main_arg0)) (m ((c : Thread nD τ).loc main_arg2)) 4352 b j a d := by
    funext j
    refine vals_row m c t s b hb j a d _ ?_
    show 64 * ((8 * (a : ℕ) + (e : ℕ)) / 8) + (d : ℕ) = 64 * (a : ℕ) + d
    omega
  have scores : (fun j : Fin 136 => (∑ x : Fin 64, allS (oldOf (iblk m c 4 t) s) (newOf (X0_2 m c t) s) (ix2 j ⟨64 * ((8 * (a : ℕ) + e) / 8) + x, by omega⟩)
        * (wideOf (X0_0 m c t) s (ix2 n ⟨64 * (8 * (a : ℕ) + e) + x, by omega⟩) * (Named.named κ "scale_log2e" 0x3E38AA3B#32 : Ideal .f32)))
            + if (n : ℕ) < j ∧ (j : ℕ) ≤ n + 128 then (0 : EReal) else ⊥)
      = scoreS (m ((c : Thread nD τ).loc main_arg0)) (m ((c : Thread nD τ).loc main_arg1)) b a e n := by
    funext j
    unfold scoreS
    refine congrArg₂ (fun u v : EReal => u + v) (Finset.sum_congr rfl fun x _ => ?_) rfl
    rw [keys_row m c t s b hb j a x _ (by show 64 * ((8 * (a : ℕ) + (e : ℕ)) / 8) + (x : ℕ) = 64 * (a : ℕ) + x; omega)]
    refine congrArg (fun u : EReal => _ * (u * _)) (rowQ m c t _ _ ?_ ?_)
    · show 8 * (b : ℕ) + (n : ℕ) = t.val * 256 + (8 * (s : ℕ) + (n : ℕ)); omega
    · show 512 * (a : ℕ) + 64 * (e : ℕ) + (x : ℕ) = 64 * (8 * (a : ℕ) + (e : ℕ)) + (x : ℕ); omega
  refine congrArg₂ (fun u v : EReal => u * v) ?_ ?_
  · refine (congrArg₂ (fun f g => AttnMath.stepRow f g _) scores vals).trans (congrArg (AttnMath.stepRow _ _) sink)
  · exact congrArg (fun u : EReal => u * Ideal.logistic u) gate

/-- A stored gated output is the reference's. -/
theorem coreO (c : Dev nD) (F : FinStep (m ((c : Thread nD τ).loc main_arg0)) (m ((c : Thread nD τ).loc main_arg1)) (m ((c : Thread nD τ).loc main_arg3)))
    (t : Fin cfg0.N) (y : S256x2048.Idx) (j : S1024x2048.Idx) (hj0 : (j 0 : ℕ) = t.val * 256 + y 0) (hj1 : (j 1 : ℕ) = y 1) :
    OG (iblk m c 6 t) (X0_0 m c t) (X0_1 m c t) (X0_2 m c t) (X0_3 m c t) (iblk m c 4 t) (iblk m c 5 t) y
      = REFO (m ((c : Thread nD τ).loc main_arg0)) (m ((c : Thread nD τ).loc main_arg1)) (m ((c : Thread nD τ).loc main_arg2)) (m ((c : Thread nD τ).loc main_arg3)) j := by
  have ht : t.val < 4 := lt_of_lt_of_eq t.isLt N_0
  have h0 : (y 0 : ℕ) < 256 := (y 0).isLt
  have h1 : (y 1 : ℕ) < 2048 := (y 1).isLt
  obtain ⟨s, hs⟩ : ∃ s : Fin 32, (s : ℕ) = (y 0 : ℕ) / 8 := ⟨⟨_, by omega⟩, rfl⟩
  obtain ⟨n, hn⟩ : ∃ n : Fin 8, (n : ℕ) = (y 0 : ℕ) % 8 := ⟨⟨_, by omega⟩, rfl⟩
  obtain ⟨a, ha⟩ : ∃ a : Fin 4, (a : ℕ) = (y 1 : ℕ) / 512 := ⟨⟨_, by omega⟩, rfl⟩
  obtain ⟨e, he⟩ : ∃ e : Fin 8, (e : ℕ) = (y 1 : ℕ) % 512 / 64 := ⟨⟨_, by omega⟩, rfl⟩
  obtain ⟨d, hd⟩ : ∃ d : Fin 64, (d : ℕ) = (y 1 : ℕ) % 64 := ⟨⟨_, by omega⟩, rfl⟩
  obtain ⟨b, hb⟩ : ∃ b : Fin 128, (b : ℕ) = t.val * 32 + s := ⟨⟨t.val * 32 + s, by omega⟩, rfl⟩
  have ej : j = ix2 ⟨8 * (b : ℕ) + n, by omega⟩ ⟨512 * (a : ℕ) + 64 * e + d, by omega⟩ := by
    funext i
    fin_cases i <;> apply Fin.ext
    · show (j 0 : ℕ) = 8 * (b : ℕ) + n; omega
    · show (j 1 : ℕ) = 512 * (a : ℕ) + 64 * e + d; omega
  rw [ej, ← cellO m c F t s b hb n a e d]
  refine og_at _ _ _ _ _ _ _ _ _ _ ?_ ?_
  · show (y 0 : ℕ) = 8 * (s : ℕ) + n; omega
  · show (y 1 : ℕ) = 64 * (8 * (a : ℕ) + e) + d; omega

/-- The gated output after the run is the reference's. -/
theorem finalO (c : Dev nD) (F : FinStep (m ((c : Thread nD τ).loc main_arg0)) (m ((c : Thread nD τ).loc main_arg1)) (m ((c : Thread nD τ).loc main_arg3))) :
    (dats m 0 c).arrAt 7 (cfgs 0).N
      = REFO (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t _ y => ?_
  blk_simp
  rw [after0_7]
  unfold outsAt0
  dsimp only
  rw [out_og]
  refine coreO m c F t y _ ?_ ?_
  all_goals (blk_simp [idxO t] <;> try omega)

end Cert.KernelStepIdeal.Hand

end
-- ==== Proof.StepPre.lean ====
/- What the precondition of the samples' attention says: the queries, the keys, the old keys and the sinks are finite. -/
module

public import proofs.«01_k».proof.Proof.StepEq
public import proofs.«01_k».proof.Proof.AttnPre
public import proofs.«01_k».proof.Proof.Gen.Pre_finite_step
public import Idealize.ShloMosaic.Lib.ReduceAll
public import Idealize.ShloMosaic.Lib.Pointwise

@[expose] public section

noncomputable section

namespace Cert.StepPre

open Idealize.ShloMosaic Cert.Pre_finite_step Cert.AttnEq Cert.AttnPre Cert.StepEq

/-- The precondition gives finite queries, keys, old keys (a window's first one, which no position sees, apart) and sinks. -/
theorem finStep (S : FVec Ideal S1152x4608 .f32) (C V : FVec Ideal S128x128x4x64 .f32) (K : FVec Ideal S32 .f32)
    (h : Cert.Pre_finite_step.fn (F := Ideal) S C V K = fun _ => 1#1) : FinStep S C K := by
  have h0 := congrFun h (Shape.Idx.first Cert.Pre_finite_step.Facts.h_S_)
  unfold Cert.Pre_finite_step.fn Cert.Pre_finite_step.fn_part1 at h0
  simp only [andi] at h0
  obtain ⟨h1, hs⟩ := IntOp.andi_eq_one.1 h0
  obtain ⟨h2, hc⟩ := IntOp.andi_eq_one.1 h1
  obtain ⟨hq, hk⟩ := IntOp.andi_eq_one.1 h2
  refine ⟨fun R n hR hn => ?_, fun R n hR hn hn' => ?_, fun b p a d hp => ?_, fun h => ?_⟩
  · have e := real_of _ (Host.reduce_andi_all _ _ _ _ _ hq (ix2 ⟨R, hR⟩ ⟨n, hn⟩))
    rwa [show extractStridedSlice S1024x2048 ![0, 0] S Cert.Pre_finite_step.Facts.slices_S1152x4608_S1024x2048_0_0 (ix2 ⟨R, hR⟩ ⟨n, hn⟩) = S (ix2 R n) by pointwise] at e
  · have e := real_of _ (Host.reduce_andi_all _ _ _ _ _ hk (ix2 ⟨R, hR⟩ ⟨n - 4096, by omega⟩))
    rwa [show extractStridedSlice S1024x256 ![0, 4096] S Cert.Pre_finite_step.Facts.slices_S1152x4608_S1024x256_0_4096 (ix2 ⟨R, hR⟩ ⟨n - 4096, by omega⟩) = S (ix2 R n) by
      pointwise
      exact congrArg (fun n => S (ix2 R n)) (Fin.ext (Nat.add_sub_cancel' hn))] at e
  · have e := real_of _ (Host.reduce_andi_all _ _ _ _ _ hc (ix4 b ⟨p - 1, by omega⟩ a d))
    rwa [show extractStridedSlice S128x127x4x64 ![0, 1, 0, 0] C Cert.Pre_finite_step.Facts.slices_S128x128x4x64_S128x127x4x64_0_1_0_0 (ix4 b ⟨p - 1, by omega⟩ a d) = C (ix4 b p a d) by
      pointwise
      exact congrArg (fun p => C (ix4 b p a d)) (Fin.ext (Nat.add_sub_cancel' hp))] at e
  · exact real_of _ (Host.reduce_andi_all _ _ _ _ _ hs (ix1 h))

end Cert.StepPre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.ReferenceOutIdeal
public import proofs.«01_k».proof.Proof.Gen.KernelIn1
public import proofs.«01_k».proof.Proof.Gen.KernelIn1.Skeleton
public import proofs.«01_k».proof.Proof.Gen.KernelIn1.Launch
public import proofs.«01_k».proof.Proof.Gen.KernelIn1.Points
public import proofs.«01_k».proof.Proof.Gen.KernelIn1.Frame
public import proofs.«01_k».proof.Proof.Gen.KernelIn1Ideal
public import proofs.«01_k».proof.Proof.Gen.KernelIn1Ideal.Skeleton
public import proofs.«01_k».proof.Proof.Gen.KernelIn1Ideal.Launch
public import proofs.«01_k».proof.Proof.Gen.KernelIn1Ideal.Points
public import proofs.«01_k».proof.Proof.Gen.KernelIn1Ideal.Frame
public import proofs.«01_k».proof.Proof.Gen.ReferenceIn1Ideal
public import proofs.«01_k».proof.Proof.Gen.KernelIn0
public import proofs.«01_k».proof.Proof.Gen.KernelIn0.Skeleton
public import proofs.«01_k».proof.Proof.Gen.KernelIn0.Launch
public import proofs.«01_k».proof.Proof.Gen.KernelIn0.Points
public import proofs.«01_k».proof.Proof.Gen.KernelIn0.Frame
public import proofs.«01_k».proof.Proof.Gen.KernelIn0Ideal
public import proofs.«01_k».proof.Proof.Gen.KernelIn0Ideal.Skeleton
public import proofs.«01_k».proof.Proof.Gen.KernelIn0Ideal.Launch
public import proofs.«01_k».proof.Proof.Gen.KernelIn0Ideal.Points
public import proofs.«01_k».proof.Proof.Gen.KernelIn0Ideal.Frame
public import proofs.«01_k».proof.Proof.Gen.ReferenceIn0Ideal
public import proofs.«01_k».proof.Proof.Gen.Pre_finite
public import proofs.«01_k».proof.Proof.Gen.Pre_finite_step
public import proofs.«01_k».proof.Proof.Gen.KernelIdeal.Value
public import proofs.«01_k».proof.Proof.Gen.KernelOutIdeal.Value
public import proofs.«01_k».proof.Proof.Gen.KernelIn0Ideal.Value
public import proofs.«01_k».proof.Proof.Gen.ReferenceIdeal.Run
public import proofs.«01_k».proof.Proof.Gen.ReferenceOutIdeal.Run
public import proofs.«01_k».proof.Proof.Gen.ReferenceIn0Ideal.Run
public import proofs.«01_k».proof.Proof.Gen.ReferenceIn1Ideal.Run
public import proofs.«01_k».proof.Proof.Gen.KernelOutSIdeal.Value
public import proofs.«01_k».proof.Proof.Gen.ReferenceOutSIdeal.Run
public import proofs.«01_k».proof.Proof.Gen.KernelTailIdeal.Value
public import proofs.«01_k».proof.Proof.Gen.ReferenceTailIdeal.Run
public import proofs.«01_k».proof.Proof.Gen.KernelCast0Ideal.Value
public import proofs.«01_k».proof.Proof.Gen.ReferenceCast0Ideal.Run
public import proofs.«01_k».proof.Proof.Gen.KernelCast1Ideal.Value
public import proofs.«01_k».proof.Proof.Gen.ReferenceCast1Ideal.Run
public import proofs.«01_k».proof.Proof.ValueAttn
public import proofs.«01_k».proof.Proof.AttnPre
public import proofs.«01_k».proof.Proof.ValueOut
public import proofs.«01_k».proof.Proof.ValueIn1
public import proofs.«01_k».proof.Proof.ValueIn0
public import proofs.«01_k».proof.Proof.Gen.KernelOutS.Frame
public import proofs.«01_k».proof.Proof.ValueOutS
public import proofs.«01_k».proof.Proof.Gen.KernelTail.Frame
public import proofs.«01_k».proof.Proof.ValueTail
public import proofs.«01_k».proof.Proof.Gen.KernelCast0.Frame
public import proofs.«01_k».proof.Proof.ValueCast0
public import proofs.«01_k».proof.Proof.Gen.KernelCast1.Frame
public import proofs.«01_k».proof.Proof.ValueCast1
public import Idealize.ShloMosaic.Lib.Claim
public import proofs.«01_k».proof.Proof.Gen.KernelStep
public import proofs.«01_k».proof.Proof.Gen.KernelStep.Skeleton
public import proofs.«01_k».proof.Proof.Gen.KernelStep.Launch
public import proofs.«01_k».proof.Proof.Gen.KernelStep.Points
public import proofs.«01_k».proof.Proof.Gen.KernelStep.Frame
public import proofs.«01_k».proof.Proof.Gen.KernelStepIdeal
public import proofs.«01_k».proof.Proof.Gen.KernelStepIdeal.Skeleton
public import proofs.«01_k».proof.Proof.Gen.KernelStepIdeal.Launch
public import proofs.«01_k».proof.Proof.Gen.KernelStepIdeal.Points
public import proofs.«01_k».proof.Proof.Gen.KernelStepIdeal.Frame
public import proofs.«01_k».proof.Proof.Gen.ReferenceStepIdeal
public import proofs.«01_k».proof.Proof.Gen.ReferenceStepIdeal.Run
public import proofs.«01_k».proof.Proof.ValueStep
public import proofs.«01_k».proof.Proof.ValueStepOut
public import proofs.«01_k».proof.Proof.StepPre
public import Idealize.ShloMosaic.Adequacy
public import Idealize.ShloMosaic.Init

@[expose] public section

noncomputable section

namespace Cert.Proof

open Idealize.ShloMosaic Idealize.SL.Sem

/-- The attention on words runs to its end from every memory, keeps its arguments and ends with every counter at zero. -/
theorem frame_Kernel : Cert.quiescent_Kernel := fun m ρ _ => Cert.Kernel.Gen.frame m ρ

/-- The attention on real numbers runs to its end from every memory, keeps its arguments and ends with every counter at zero. -/
theorem frame_KernelIdeal : Cert.quiescent_KernelIdeal := fun m ρ _ => Cert.KernelIdeal.Gen.frame m ρ

/-- The attention on finite numbers runs to its end from every memory, keeps its arguments and ends with every counter at zero. -/
theorem frame_KernelIdeal_pre_finite : Cert.quiescent_KernelIdeal_pre_finite := fun m ρ _ => Cert.KernelIdeal.Gen.frame m ρ

/-- The attention's reference runs to its end from every memory, keeps its arguments and ends with every counter at zero. -/
theorem frame_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run m ρ)

/-- The attention's reference on finite numbers runs to its end from every memory, keeps its arguments and ends with every counter at zero. -/
theorem frame_ReferenceIdeal_pre_finite : Cert.quiescent_ReferenceIdeal_pre_finite := fun m g _ => frame_ReferenceIdeal m g trivial

/-- On real numbers the attention and its reference end with equal results. -/
theorem algebraic_Kernel : Cert.algebraic_KernelIdeal_ReferenceIdeal_pre_finite := by
  pair_intro
  · run_from Cert.KernelIdeal.Gen.run_main m g
  · run_from Cert.ReferenceIdeal.Value.run m' g'
    rw [Cert.KernelIdeal.Hand.final m c (Cert.AttnPre.fin3 _ _ _ (hpre c)), Cert.ReferenceIdeal.Hand.res_eq m' c]
    obtain ⟨h0, h1, h2⟩ := hagree c
    rw [h0, h1, h2]

/-- The output projection on words runs to its end from every memory, keeps its arguments and ends with every counter at zero. -/
theorem frame_KernelOut : Cert.quiescent_KernelOut := fun m ρ _ => Cert.KernelOut.Gen.frame m ρ

/-- The output projection on real numbers runs to its end from every memory, keeps its arguments and ends with every counter at zero. -/
theorem frame_KernelOutIdeal : Cert.quiescent_KernelOutIdeal := fun m ρ _ => Cert.KernelOutIdeal.Gen.frame m ρ

/-- The output projection's reference runs to its end from every memory, keeps its arguments and ends with every counter at zero. -/
theorem frame_ReferenceOutIdeal : Cert.quiescent_ReferenceOutIdeal := fun m ρ _ =>
  (θ_run Cert.ReferenceOutIdeal.defs _ _).mono (fun r h => ⟨fun c => (h c).2, Idealize.ShloMosaic.sem_eq_zero_of_no_sems (by decide) r.2⟩) (Cert.ReferenceOutIdeal.Value.run m ρ)

/-- On real numbers the output projection and its reference end with equal results. -/
theorem algebraic_KernelOut : Cert.algebraic_KernelOutIdeal_ReferenceOutIdeal := by
  pair_intro
  · run_from Cert.KernelOutIdeal.Gen.run_main m g
  · hlo_run
    exact (Cert.KernelOutIdeal.Hand.final m c).symm

/-- The second layer's input projection on words runs to its end from every memory, keeps its arguments and ends with every counter at zero. -/
theorem frame_KernelIn1 : Cert.quiescent_KernelIn1 := fun m ρ _ => Cert.KernelIn1.Gen.frame m ρ

/-- The second layer's input projection on real numbers runs to its end from every memory, keeps its arguments and ends with every counter at zero. -/
theorem frame_KernelIn1Ideal : Cert.quiescent_KernelIn1Ideal := fun m ρ _ => Cert.KernelIn1Ideal.Gen.frame m ρ

/-- The second layer's input projection's reference runs to its end from every memory, keeps its arguments and ends with every counter at zero. -/
theorem frame_ReferenceIn1Ideal : Cert.quiescent_ReferenceIn1Ideal := fun m ρ _ =>
  (θ_run Cert.ReferenceIn1Ideal.defs _ _).mono (fun r h => ⟨fun c => (h c).2.2.2, Idealize.ShloMosaic.sem_eq_zero_of_no_sems (by decide) r.2⟩) (Cert.ReferenceIn1Ideal.Value.run m ρ)

/-- On real numbers the second layer's input projection and its reference end with equal results. -/
theorem algebraic_KernelIn1 : Cert.algebraic_KernelIn1Ideal_ReferenceIn1Ideal := by
  pair_intro
  · run_from Cert.KernelIn1Ideal.Gen.run_main m g
  · hlo_run
    · exact (Cert.KernelIn1Ideal.Hand.final m c).symm
    · exact (Cert.KernelIn1Ideal.Hand.finalK m c).symm
    · exact (Cert.KernelIn1Ideal.Hand.finalV m c).symm

/-- The first layer's input projection on words runs to its end from every memory, keeps its arguments and ends with every counter at zero. -/
theorem frame_KernelIn0 : Cert.quiescent_KernelIn0 := fun m ρ _ => Cert.KernelIn0.Gen.frame m ρ

/-- The first layer's input projection on real numbers runs to its end from every memory, keeps its arguments and ends with every counter at zero. -/
theorem frame_KernelIn0Ideal : Cert.quiescent_KernelIn0Ideal := fun m ρ _ => Cert.KernelIn0Ideal.Gen.frame m ρ

/-- The first layer's input projection's reference runs to its end from every memory, keeps its arguments and ends with every counter at zero. -/
theorem frame_ReferenceIn0Ideal : Cert.quiescent_ReferenceIn0Ideal := fun m ρ _ =>
  (θ_run Cert.ReferenceIn0Ideal.defs _ _).mono (fun r h => ⟨fun c => (h c).2.2.2, Idealize.ShloMosaic.sem_eq_zero_of_no_sems (by decide) r.2⟩) (Cert.ReferenceIn0Ideal.Value.run m ρ)

/-- On real numbers the first layer's input projection and its reference end with equal results. -/
theorem algebraic_KernelIn0 : Cert.algebraic_KernelIn0Ideal_ReferenceIn0Ideal := by
  pair_intro
  · run_from Cert.KernelIn0Ideal.Gen.run_main m g
  · hlo_run
    · exact (Cert.KernelIn0Ideal.Hand.final m c).symm
    · exact (Cert.KernelIn0Ideal.Hand.final5 m c).symm
    · exact (Cert.KernelIn0Ideal.Hand.final6 m c).symm

/-- The output projection of the samples on words runs to its end from every memory, keeps its arguments and ends with every counter at zero. -/
theorem frame_KernelOutS : Cert.quiescent_KernelOutS := fun m ρ _ => Cert.KernelOutS.Gen.frame m ρ

/-- The output projection of the samples on real numbers runs to its end from every memory, keeps its arguments and ends with every counter at zero. -/
theorem frame_KernelOutSIdeal : Cert.quiescent_KernelOutSIdeal := fun m ρ _ => Cert.KernelOutSIdeal.Gen.frame m ρ

/-- The reference of the output projection of the samples runs to its end from every memory, keeps its arguments and ends with every counter at zero. -/
theorem frame_ReferenceOutSIdeal : Cert.quiescent_ReferenceOutSIdeal := fun m ρ _ =>
  (θ_run Cert.ReferenceOutSIdeal.defs _ _).mono (fun r h => ⟨fun c => (h c).2, Idealize.ShloMosaic.sem_eq_zero_of_no_sems (by decide) r.2⟩) (Cert.ReferenceOutSIdeal.Value.run m ρ)

/-- On real numbers the output projection of the samples and its reference end with equal results. -/
theorem algebraic_KernelOutS : Cert.algebraic_KernelOutSIdeal_ReferenceOutSIdeal := by
  pair_intro
  · run_from Cert.KernelOutSIdeal.Gen.run_main m g
  · hlo_run
    exact (Cert.KernelOutSIdeal.Hand.final m c).symm

/-- The output projection of the samples and the meta block on words runs to its end from every memory, keeps its arguments and ends with every counter at zero. -/
theorem frame_KernelTail : Cert.quiescent_KernelTail := fun m ρ _ => Cert.KernelTail.Gen.frame m ρ

/-- The output projection of the samples and the meta block on real numbers runs to its end from every memory, keeps its arguments and ends with every counter at zero. -/
theorem frame_KernelTailIdeal : Cert.quiescent_KernelTailIdeal := fun m ρ _ => Cert.KernelTailIdeal.Gen.frame m ρ

/-- The reference of the output projection of the samples and the meta block runs to its end from every memory, keeps its arguments and ends with every counter at zero. -/
theorem frame_ReferenceTailIdeal : Cert.quiescent_ReferenceTailIdeal := fun m ρ _ =>
  (θ_run Cert.ReferenceTailIdeal.defs _ _).mono (fun r h => ⟨fun c => (h c).2, Idealize.ShloMosaic.sem_eq_zero_of_no_sems (by decide) r.2⟩) (Cert.ReferenceTailIdeal.Value.run m ρ)

/-- What the run of the reference of the output projection of the samples and the meta block leaves is the plain function of its arguments. -/
theorem res_Tail (m : (ℓ : Loc Cert.ReferenceTailIdeal.nD Cert.ReferenceTailIdeal.τ Cert.ReferenceTailIdeal.sig) → Buf (Elt Ideal) ℓ) (c : Dev Cert.ReferenceTailIdeal.nD) :
    Cert.ReferenceTailIdeal.Value.res_main_v30 m c
      = Cert.KernelTailIdeal.Hand.REF (m ((c.tc : Thread Cert.ReferenceTailIdeal.nD Cert.ReferenceTailIdeal.τ).loc Cert.ReferenceTailIdeal.main_arg0)) (m ((c.tc : Thread Cert.ReferenceTailIdeal.nD Cert.ReferenceTailIdeal.τ).loc Cert.ReferenceTailIdeal.main_arg1)) (m ((c.tc : Thread Cert.ReferenceTailIdeal.nD Cert.ReferenceTailIdeal.τ).loc Cert.ReferenceTailIdeal.main_arg2)) (m ((c.tc : Thread Cert.ReferenceTailIdeal.nD Cert.ReferenceTailIdeal.τ).loc Cert.ReferenceTailIdeal.main_arg3)) (m ((c.tc : Thread Cert.ReferenceTailIdeal.nD Cert.ReferenceTailIdeal.τ).loc Cert.ReferenceTailIdeal.main_arg4)) (m ((c.tc : Thread Cert.ReferenceTailIdeal.nD Cert.ReferenceTailIdeal.τ).loc Cert.ReferenceTailIdeal.main_arg5)) (m ((c.tc : Thread Cert.ReferenceTailIdeal.nD Cert.ReferenceTailIdeal.τ).loc Cert.ReferenceTailIdeal.main_arg6)) := rfl

/-- On real numbers the output projection of the samples and the meta block and its reference end with equal results. -/
theorem algebraic_KernelTail : Cert.algebraic_KernelTailIdeal_ReferenceTailIdeal := by
  pair_intro
  · run_from Cert.KernelTailIdeal.Gen.run_main m g
  · run_from Cert.ReferenceTailIdeal.Value.run m' g'
    rw [Cert.KernelTailIdeal.Hand.final m c, res_Tail m' c]
    obtain ⟨h0, h1, h2, h3, h4, h5, h6⟩ := hagree c
    rw [h0, h1, h2, h3, h4, h5, h6]

/-- The first layer's input projection of the samples and the meta block on words runs to its end from every memory, keeps its arguments and ends with every counter at zero. -/
theorem frame_KernelCast0 : Cert.quiescent_KernelCast0 := fun m ρ _ => Cert.KernelCast0.Gen.frame m ρ

/-- The first layer's input projection of the samples and the meta block on real numbers runs to its end from every memory, keeps its arguments and ends with every counter at zero. -/
theorem frame_KernelCast0Ideal : Cert.quiescent_KernelCast0Ideal := fun m ρ _ => Cert.KernelCast0Ideal.Gen.frame m ρ

/-- The reference of the first layer's input projection of the samples and the meta block runs to its end from every memory, keeps its arguments and ends with every counter at zero. -/
theorem frame_ReferenceCast0Ideal : Cert.quiescent_ReferenceCast0Ideal := fun m ρ _ =>
  (θ_run Cert.ReferenceCast0Ideal.defs _ _).mono (fun r h => ⟨fun c => (h c).2.2, Idealize.ShloMosaic.sem_eq_zero_of_no_sems (by decide) r.2⟩) (Cert.ReferenceCast0Ideal.Value.run m ρ)

/-- On real numbers the first layer's input projection of the samples and the meta block and its reference end with equal results. -/
theorem algebraic_KernelCast0 : Cert.algebraic_KernelCast0Ideal_ReferenceCast0Ideal := by
  pair_intro
  · run_from Cert.KernelCast0Ideal.Gen.run_main m g
  · hlo_run
    · exact (Cert.KernelCast0Ideal.Hand.final m c).symm
    · exact (Cert.KernelCast0Ideal.Hand.finalW m c).symm

/-- The second layer's input projection of the samples and the meta block on words runs to its end from every memory, keeps its arguments and ends with every counter at zero. -/
theorem frame_KernelCast1 : Cert.quiescent_KernelCast1 := fun m ρ _ => Cert.KernelCast1.Gen.frame m ρ

/-- The second layer's input projection of the samples and the meta block on real numbers runs to its end from every memory, keeps its arguments and ends with every counter at zero. -/
theorem frame_KernelCast1Ideal : Cert.quiescent_KernelCast1Ideal := fun m ρ _ => Cert.KernelCast1Ideal.Gen.frame m ρ

/-- The reference of the second layer's input projection of the samples and the meta block runs to its end from every memory, keeps its arguments and ends with every counter at zero. -/
theorem frame_ReferenceCast1Ideal : Cert.quiescent_ReferenceCast1Ideal := fun m ρ _ =>
  (θ_run Cert.ReferenceCast1Ideal.defs _ _).mono (fun r h => ⟨fun c => (h c).2.2, Idealize.ShloMosaic.sem_eq_zero_of_no_sems (by decide) r.2⟩) (Cert.ReferenceCast1Ideal.Value.run m ρ)

/-- On real numbers the second layer's input projection of the samples and the meta block and its reference end with equal results. -/
theorem algebraic_KernelCast1 : Cert.algebraic_KernelCast1Ideal_ReferenceCast1Ideal := by
  pair_intro
  · run_from Cert.KernelCast1Ideal.Gen.run_main m g
  · run_from Cert.ReferenceCast1Ideal.Value.run m' g'
    · obtain ⟨h0, h1⟩ := hagree c
      refine Eq.trans ?_ (Cert.KernelCast1Ideal.Hand.final m c).symm
      unfold Cert.KernelCast1Ideal.Hand.REF
      rw [← h0, ← h1]
    · obtain ⟨h0, h1⟩ := hagree c
      refine Eq.trans ?_ (Cert.KernelCast1Ideal.Hand.finalW m c).symm
      unfold Cert.KernelCast1Ideal.Hand.REFW
      rw [← h1]

/-- The second layer's attention of the samples on words runs to its end from every memory, keeps its arguments and ends with every counter at zero. -/
theorem frame_KernelStep : Cert.quiescent_KernelStep := fun m ρ _ => Cert.KernelStep.Gen.frame m ρ

/-- The second layer's attention of the samples on real numbers runs to its end from every memory, keeps its arguments and ends with every counter at zero. -/
theorem frame_KernelStepIdeal : Cert.quiescent_KernelStepIdeal := fun m ρ _ => Cert.KernelStepIdeal.Gen.frame m ρ

/-- The second layer's attention of the samples on finite numbers runs to its end from every memory, keeps its arguments and ends with every counter at zero. -/
theorem frame_KernelStepIdeal_pre_finite_step : Cert.quiescent_KernelStepIdeal_pre_finite_step := fun m ρ _ => Cert.KernelStepIdeal.Gen.frame m ρ

/-- The reference of the samples' attention runs to its end from every memory, keeps its arguments and ends with every counter at zero. -/
theorem frame_ReferenceStepIdeal : Cert.quiescent_ReferenceStepIdeal := fun m ρ _ =>
  (θ_run Cert.ReferenceStepIdeal.defs _ _).mono (fun r h => ⟨fun c => (h c).2.2.2, Idealize.ShloMosaic.sem_eq_zero_of_no_sems (by decide) r.2⟩) (Cert.ReferenceStepIdeal.Value.run m ρ)

/-- The reference of the samples' attention on finite numbers runs to its end from every memory, keeps its arguments and ends with every counter at zero. -/
theorem frame_ReferenceStepIdeal_pre_finite_step : Cert.quiescent_ReferenceStepIdeal_pre_finite_step := fun m g _ => frame_ReferenceStepIdeal m g trivial

/-- On real numbers the second layer's attention of the samples and its reference end with equal gated outputs and equal caches of keys and of values. -/
theorem algebraic_KernelStep : Cert.algebraic_KernelStepIdeal_ReferenceStepIdeal_pre_finite_step := by
  pair_intro
  · run_from Cert.KernelStepIdeal.Gen.run_main m g
  · run_from Cert.ReferenceStepIdeal.Value.run m' g'
    · obtain ⟨h0, h1, h2, h3⟩ := hagree c
      rw [Cert.KernelStepIdeal.Hand.finalO m c (Cert.StepPre.finStep _ _ _ _ (hpre c))]
      refine (Cert.ReferenceStepIdeal.Hand.res_eq m' c).trans ?_
      rw [h0, h1, h2, h3]
    · obtain ⟨h0, h1, h2, h3⟩ := hagree c
      refine Eq.trans ?_ (Cert.KernelStepIdeal.Hand.finalK m c).symm
      unfold Cert.KernelStepIdeal.Hand.REFK
      rw [← h0, ← h1]
    · obtain ⟨h0, h1, h2, h3⟩ := hagree c
      refine Eq.trans ?_ (Cert.KernelStepIdeal.Hand.finalV m c).symm
      unfold Cert.KernelStepIdeal.Hand.REFV
      rw [← h0, ← h2]

/-- The two named constants of the samples' attention have the values of their table. -/
theorem preserves_KernelStep : Cert.preserves_KernelStep_KernelStepIdeal :=
  ⟨IdealRules.named_const.statement _ _ _ _ _ rfl, IdealRules.named_const.statement _ _ _ _ _ rfl⟩

/-- The two named constants have the values of their table. -/
theorem preserves_Kernel : Cert.preserves_Kernel_KernelIdeal :=
  ⟨IdealRules.named_const.statement _ _ _ _ _ rfl, IdealRules.named_const.statement _ _ _ _ _ rfl⟩

/-- All claims. -/
theorem claim : Cert.Claim := ⟨Cert.Kernel.Gen.facts, Cert.KernelIdeal.Gen.facts, Cert.ReferenceIdeal.Gen.facts, Cert.KernelOut.Gen.facts, Cert.KernelOutIdeal.Gen.facts, Cert.ReferenceOutIdeal.Gen.facts, Cert.KernelIn1.Gen.facts, Cert.KernelIn1Ideal.Gen.facts, Cert.ReferenceIn1Ideal.Gen.facts, Cert.KernelIn0.Gen.facts, Cert.KernelIn0Ideal.Gen.facts, Cert.ReferenceIn0Ideal.Gen.facts, Cert.KernelOutS.Gen.facts, Cert.KernelOutSIdeal.Gen.facts, Cert.ReferenceOutSIdeal.Gen.facts, Cert.KernelTail.Gen.facts, Cert.KernelTailIdeal.Gen.facts, Cert.ReferenceTailIdeal.Gen.facts, Cert.KernelCast0.Gen.facts, Cert.KernelCast0Ideal.Gen.facts, Cert.ReferenceCast0Ideal.Gen.facts, Cert.KernelCast1.Gen.facts, Cert.KernelCast1Ideal.Gen.facts, Cert.ReferenceCast1Ideal.Gen.facts, Cert.KernelStep.Gen.facts, Cert.KernelStepIdeal.Gen.facts, Cert.ReferenceStepIdeal.Gen.facts, Cert.Pre_finite.Gen.facts, Cert.Pre_finite_step.Gen.facts,
  frame_Kernel, frame_KernelIdeal, frame_KernelIdeal_pre_finite, frame_ReferenceIdeal, frame_ReferenceIdeal_pre_finite, frame_KernelOut, frame_KernelOutIdeal, frame_ReferenceOutIdeal, frame_KernelIn1, frame_KernelIn1Ideal, frame_ReferenceIn1Ideal, frame_KernelIn0, frame_KernelIn0Ideal, frame_ReferenceIn0Ideal, frame_KernelOutS, frame_KernelOutSIdeal, frame_ReferenceOutSIdeal, frame_KernelTail, frame_KernelTailIdeal, frame_ReferenceTailIdeal, frame_KernelCast0, frame_KernelCast0Ideal, frame_ReferenceCast0Ideal, frame_KernelCast1, frame_KernelCast1Ideal, frame_ReferenceCast1Ideal, frame_KernelStep, frame_KernelStepIdeal, frame_KernelStepIdeal_pre_finite_step, frame_ReferenceStepIdeal, frame_ReferenceStepIdeal_pre_finite_step, preserves_Kernel, algebraic_Kernel, trivial, algebraic_KernelOut, trivial, algebraic_KernelIn1, trivial, algebraic_KernelIn0, trivial, algebraic_KernelOutS, trivial, algebraic_KernelTail, trivial, algebraic_KernelCast0, trivial, algebraic_KernelCast1, preserves_KernelStep, algebraic_KernelStep⟩

end Cert.Proof

end
